-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InRg (m : (ℓ : Loc Cert.InRg.nD Cert.InRg.τ Cert.InRg.sig) → Buf (Elt Bits) ℓ) : Prop :=
  True

def Pre_InRgIdeal (m : (ℓ : Loc Cert.InRgIdeal.nD Cert.InRgIdeal.τ Cert.InRgIdeal.sig) → Buf (Elt Ideal) ℓ) : Prop :=
  True

def Pre_InRgRefIdeal (m : (ℓ : Loc Cert.InRgRefIdeal.nD Cert.InRgRefIdeal.τ Cert.InRgRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvS (m : (ℓ : Loc Cert.KvS.nD Cert.KvS.τ Cert.KvS.sig) → Buf (Elt Bits) ℓ) : Prop :=
  True

def Pre_KvSIdeal (m : (ℓ : Loc Cert.KvSIdeal.nD Cert.KvSIdeal.τ Cert.KvSIdeal.sig) → Buf (Elt Ideal) ℓ) : Prop :=
  True

def Pre_KvSRefIdeal (m : (ℓ : Loc Cert.KvSRefIdeal.nD Cert.KvSRefIdeal.τ Cert.KvSRefIdeal.sig) → Buf (Elt Ideal) ℓ) : Prop :=
  True

def Pre_InRgS (m : (ℓ : Loc Cert.InRgS.nD Cert.InRgS.τ Cert.InRgS.sig) → Buf (Elt Bits) ℓ) : Prop :=
  True

def Pre_InRgSIdeal (m : (ℓ : Loc Cert.InRgSIdeal.nD Cert.InRgSIdeal.τ Cert.InRgSIdeal.sig) → Buf (Elt Ideal) ℓ) : Prop :=
  True

def Pre_InRgSRefIdeal (m : (ℓ : Loc Cert.InRgSRefIdeal.nD Cert.InRgSRefIdeal.τ Cert.InRgSRefIdeal.sig) → Buf (Elt Ideal) ℓ) : Prop :=
  True

def Pre_Qi (m : (ℓ : Loc Cert.Qi.nD Cert.Qi.τ Cert.Qi.sig) → Buf (Elt Bits) ℓ) : Prop :=
  True

def Pre_QiIdeal (m : (ℓ : Loc Cert.QiIdeal.nD Cert.QiIdeal.τ Cert.QiIdeal.sig) → Buf (Elt Ideal) ℓ) : Prop :=
  True

def Pre_QiRefIdeal (m : (ℓ : Loc Cert.QiRefIdeal.nD Cert.QiRefIdeal.τ Cert.QiRefIdeal.sig) → Buf (Elt Ideal) ℓ) : Prop :=
  True

def Pre_IdxKey (m : (ℓ : Loc Cert.IdxKey.nD Cert.IdxKey.τ Cert.IdxKey.sig) → Buf (Elt Bits) ℓ) : Prop :=
  True

def Pre_IdxKeyIdeal (m : (ℓ : Loc Cert.IdxKeyIdeal.nD Cert.IdxKeyIdeal.τ Cert.IdxKeyIdeal.sig) → Buf (Elt Ideal) ℓ) : Prop :=
  True

def Pre_IdxKeyRefIdeal (m : (ℓ : Loc Cert.IdxKeyRefIdeal.nD Cert.IdxKeyRefIdeal.τ Cert.IdxKeyRefIdeal.sig) → Buf (Elt Ideal) ℓ) : Prop :=
  True

def Pre_IdxKeyS (m : (ℓ : Loc Cert.IdxKeyS.nD Cert.IdxKeyS.τ Cert.IdxKeyS.sig) → Buf (Elt Bits) ℓ) : Prop :=
  True

def Pre_IdxKeySIdeal (m : (ℓ : Loc Cert.IdxKeySIdeal.nD Cert.IdxKeySIdeal.τ Cert.IdxKeySIdeal.sig) → Buf (Elt Ideal) ℓ) : Prop :=
  True

def Pre_IdxKeySRefIdeal (m : (ℓ : Loc Cert.IdxKeySRefIdeal.nD Cert.IdxKeySRefIdeal.τ Cert.IdxKeySRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PreS (m : (ℓ : Loc Cert.PreS.nD Cert.PreS.τ Cert.PreS.sig) → Buf (Elt Bits) ℓ) : Prop :=
  True

def Pre_PreSIdeal (m : (ℓ : Loc Cert.PreSIdeal.nD Cert.PreSIdeal.τ Cert.PreSIdeal.sig) → Buf (Elt Ideal) ℓ) : Prop :=
  True

def Pre_PreSRefIdeal (m : (ℓ : Loc Cert.PreSRefIdeal.nD Cert.PreSRefIdeal.τ Cert.PreSRefIdeal.sig) → Buf (Elt Ideal) ℓ) : Prop :=
  True

def Pre_Group (m : (ℓ : Loc Cert.Group.nD Cert.Group.τ Cert.Group.sig) → Buf (Elt Bits) ℓ) : Prop :=
  True

def Pre_GroupIdeal (m : (ℓ : Loc Cert.GroupIdeal.nD Cert.GroupIdeal.τ Cert.GroupIdeal.sig) → Buf (Elt Ideal) ℓ) : Prop :=
  True

def Pre_GroupRefIdeal (m : (ℓ : Loc Cert.GroupRefIdeal.nD Cert.GroupRefIdeal.τ Cert.GroupRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_MidS (m : (ℓ : Loc Cert.MidS.nD Cert.MidS.τ Cert.MidS.sig) → Buf (Elt Bits) ℓ) : Prop :=
  True

def Pre_MidSIdeal (m : (ℓ : Loc Cert.MidSIdeal.nD Cert.MidSIdeal.τ Cert.MidSIdeal.sig) → Buf (Elt Ideal) ℓ) : Prop :=
  True

def Pre_MidSRefIdeal (m : (ℓ : Loc Cert.MidSRefIdeal.nD Cert.MidSRefIdeal.τ Cert.MidSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_InRg [hInRg : Cert.InRg.Facts] : Prop :=
  ∀ (m : (ℓ : Loc Cert.InRg.nD Cert.InRg.τ Cert.InRg.sig) → Buf (Elt Bits) ℓ) (g : Dev Cert.InRg.nD → PrngReg), Pre_InRg m →
    θ_run (Cert.InRg.defs (F := Bits)) (onTc (τ := Cert.InRg.τ) (Cert.InRg.main (F := Bits))) ⟨m, fun _ => 0, g⟩ (fun r => (∀ c : Dev Cert.InRg.nD,
      r.2.mem ((c.tc : Thread Cert.InRg.nD Cert.InRg.τ).loc Cert.InRg.main_arg0) = m ((c.tc : Thread Cert.InRg.nD Cert.InRg.τ).loc Cert.InRg.main_arg0)
      ∧ r.2.mem ((c.tc : Thread Cert.InRg.nD Cert.InRg.τ).loc Cert.InRg.main_arg1) = m ((c.tc : Thread Cert.InRg.nD Cert.InRg.τ).loc Cert.InRg.main_arg1))
      ∧ r.2.sem = fun _ => 0)

def quiescent_InRgIdeal [hInRgIdeal : Cert.InRgIdeal.Facts] : Prop :=
  ∀ (m : (ℓ : Loc Cert.InRgIdeal.nD Cert.InRgIdeal.τ Cert.InRgIdeal.sig) → Buf (Elt Ideal) ℓ) (g : Dev Cert.InRgIdeal.nD → PrngReg), Pre_InRgIdeal m →
    θ_run (Cert.InRgIdeal.defs (F := Ideal)) (onTc (τ := Cert.InRgIdeal.τ) (Cert.InRgIdeal.main (F := Ideal))) ⟨m, fun _ => 0, g⟩ (fun r => (∀ c : Dev Cert.InRgIdeal.nD,
      r.2.mem ((c.tc : Thread Cert.InRgIdeal.nD Cert.InRgIdeal.τ).loc Cert.InRgIdeal.main_arg0) = m ((c.tc : Thread Cert.InRgIdeal.nD Cert.InRgIdeal.τ).loc Cert.InRgIdeal.main_arg0)
      ∧ r.2.mem ((c.tc : Thread Cert.InRgIdeal.nD Cert.InRgIdeal.τ).loc Cert.InRgIdeal.main_arg1) = m ((c.tc : Thread Cert.InRgIdeal.nD Cert.InRgIdeal.τ).loc Cert.InRgIdeal.main_arg1))
      ∧ r.2.sem = fun _ => 0)

def quiescent_InRgRefIdeal [hInRgRefIdeal : Cert.InRgRefIdeal.Facts] : Prop :=
  ∀ (m : (ℓ : Loc Cert.InRgRefIdeal.nD Cert.InRgRefIdeal.τ Cert.InRgRefIdeal.sig) → Buf (Elt Ideal) ℓ) (g : Dev Cert.InRgRefIdeal.nD → PrngReg), Pre_InRgRefIdeal m →
    θ_run (Cert.InRgRefIdeal.defs (F := Ideal)) (onTc (τ := Cert.InRgRefIdeal.τ) (Cert.InRgRefIdeal.main (F := Ideal))) ⟨m, fun _ => 0, g⟩ (fun r => (∀ c : Dev Cert.InRgRefIdeal.nD,
      r.2.mem ((c.tc : Thread Cert.InRgRefIdeal.nD Cert.InRgRefIdeal.τ).loc Cert.InRgRefIdeal.main_arg0) = m ((c.tc : Thread Cert.InRgRefIdeal.nD Cert.InRgRefIdeal.τ).loc Cert.InRgRefIdeal.main_arg0)
      ∧ r.2.mem ((c.tc : Thread Cert.InRgRefIdeal.nD Cert.InRgRefIdeal.τ).loc Cert.InRgRefIdeal.main_arg1) = m ((c.tc : Thread Cert.InRgRefIdeal.nD Cert.InRgRefIdeal.τ).loc Cert.InRgRefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvS [hKvS : Cert.KvS.Facts] : Prop :=
  ∀ (m : (ℓ : Loc Cert.KvS.nD Cert.KvS.τ Cert.KvS.sig) → Buf (Elt Bits) ℓ) (g : Dev Cert.KvS.nD → PrngReg), Pre_KvS m →
    θ_run (Cert.KvS.defs (F := Bits)) (onTc (τ := Cert.KvS.τ) (Cert.KvS.main (F := Bits))) ⟨m, fun _ => 0, g⟩ (fun r => (∀ c : Dev Cert.KvS.nD,
      r.2.mem ((c.tc : Thread Cert.KvS.nD Cert.KvS.τ).loc Cert.KvS.main_arg0) = m ((c.tc : Thread Cert.KvS.nD Cert.KvS.τ).loc Cert.KvS.main_arg0)
      ∧ r.2.mem ((c.tc : Thread Cert.KvS.nD Cert.KvS.τ).loc Cert.KvS.main_arg1) = m ((c.tc : Thread Cert.KvS.nD Cert.KvS.τ).loc Cert.KvS.main_arg1))
      ∧ r.2.sem = fun _ => 0)

def quiescent_KvSIdeal [hKvSIdeal : Cert.KvSIdeal.Facts] : Prop :=
  ∀ (m : (ℓ : Loc Cert.KvSIdeal.nD Cert.KvSIdeal.τ Cert.KvSIdeal.sig) → Buf (Elt Ideal) ℓ) (g : Dev Cert.KvSIdeal.nD → PrngReg), Pre_KvSIdeal m →
    θ_run (Cert.KvSIdeal.defs (F := Ideal)) (onTc (τ := Cert.KvSIdeal.τ) (Cert.KvSIdeal.main (F := Ideal))) ⟨m, fun _ => 0, g⟩ (fun r => (∀ c : Dev Cert.KvSIdeal.nD,
      r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
      ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1))
      ∧ r.2.sem = fun _ => 0)

def quiescent_KvSRefIdeal [hKvSRefIdeal : Cert.KvSRefIdeal.Facts] : Prop :=
  ∀ (m : (ℓ : Loc Cert.KvSRefIdeal.nD Cert.KvSRefIdeal.τ Cert.KvSRefIdeal.sig) → Buf (Elt Ideal) ℓ) (g : Dev Cert.KvSRefIdeal.nD → PrngReg), Pre_KvSRefIdeal m →
    θ_run (Cert.KvSRefIdeal.defs (F := Ideal)) (onTc (τ := Cert.KvSRefIdeal.τ) (Cert.KvSRefIdeal.main (F := Ideal))) ⟨m, fun _ => 0, g⟩ (fun r => (∀ c : Dev Cert.KvSRefIdeal.nD,
      r.2.mem ((c.tc : Thread Cert.KvSRefIdeal.nD Cert.KvSRefIdeal.τ).loc Cert.KvSRefIdeal.main_arg0) = m ((c.tc : Thread Cert.KvSRefIdeal.nD Cert.KvSRefIdeal.τ).loc Cert.KvSRefIdeal.main_arg0)
      ∧ r.2.mem ((c.tc : Thread Cert.KvSRefIdeal.nD Cert.KvSRefIdeal.τ).loc Cert.KvSRefIdeal.main_arg1) = m ((c.tc : Thread Cert.KvSRefIdeal.nD Cert.KvSRefIdeal.τ).loc Cert.KvSRefIdeal.main_arg1))
      ∧ r.2.sem = fun _ => 0)

def quiescent_InRgS [hInRgS : Cert.InRgS.Facts] : Prop :=
  ∀ (m : (ℓ : Loc Cert.InRgS.nD Cert.InRgS.τ Cert.InRgS.sig) → Buf (Elt Bits) ℓ) (g : Dev Cert.InRgS.nD → PrngReg), Pre_InRgS m →
    θ_run (Cert.InRgS.defs (F := Bits)) (onTc (τ := Cert.InRgS.τ) (Cert.InRgS.main (F := Bits))) ⟨m, fun _ => 0, g⟩ (fun r => (∀ c : Dev Cert.InRgS.nD,
      r.2.mem ((c.tc : Thread Cert.InRgS.nD Cert.InRgS.τ).loc Cert.InRgS.main_arg0) = m ((c.tc : Thread Cert.InRgS.nD Cert.InRgS.τ).loc Cert.InRgS.main_arg0)
      ∧ r.2.mem ((c.tc : Thread Cert.InRgS.nD Cert.InRgS.τ).loc Cert.InRgS.main_arg1) = m ((c.tc : Thread Cert.InRgS.nD Cert.InRgS.τ).loc Cert.InRgS.main_arg1))
      ∧ r.2.sem = fun _ => 0)

def quiescent_InRgSIdeal [hInRgSIdeal : Cert.InRgSIdeal.Facts] : Prop :=
  ∀ (m : (ℓ : Loc Cert.InRgSIdeal.nD Cert.InRgSIdeal.τ Cert.InRgSIdeal.sig) → Buf (Elt Ideal) ℓ) (g : Dev Cert.InRgSIdeal.nD → PrngReg), Pre_InRgSIdeal m →
    θ_run (Cert.InRgSIdeal.defs (F := Ideal)) (onTc (τ := Cert.InRgSIdeal.τ) (Cert.InRgSIdeal.main (F := Ideal))) ⟨m, fun _ => 0, g⟩ (fun r => (∀ c : Dev Cert.InRgSIdeal.nD,
      r.2.mem ((c.tc : Thread Cert.InRgSIdeal.nD Cert.InRgSIdeal.τ).loc Cert.InRgSIdeal.main_arg0) = m ((c.tc : Thread Cert.InRgSIdeal.nD Cert.InRgSIdeal.τ).loc Cert.InRgSIdeal.main_arg0)
      ∧ r.2.mem ((c.tc : Thread Cert.InRgSIdeal.nD Cert.InRgSIdeal.τ).loc Cert.InRgSIdeal.main_arg1) = m ((c.tc : Thread Cert.InRgSIdeal.nD Cert.InRgSIdeal.τ).loc Cert.InRgSIdeal.main_arg1))
      ∧ r.2.sem = fun _ => 0)

def quiescent_InRgSRefIdeal [hInRgSRefIdeal : Cert.InRgSRefIdeal.Facts] : Prop :=
  ∀ (m : (ℓ : Loc Cert.InRgSRefIdeal.nD Cert.InRgSRefIdeal.τ Cert.InRgSRefIdeal.sig) → Buf (Elt Ideal) ℓ) (g : Dev Cert.InRgSRefIdeal.nD → PrngReg), Pre_InRgSRefIdeal m →
    θ_run (Cert.InRgSRefIdeal.defs (F := Ideal)) (onTc (τ := Cert.InRgSRefIdeal.τ) (Cert.InRgSRefIdeal.main (F := Ideal))) ⟨m, fun _ => 0, g⟩ (fun r => (∀ c : Dev Cert.InRgSRefIdeal.nD,
      r.2.mem ((c.tc : Thread Cert.InRgSRefIdeal.nD Cert.InRgSRefIdeal.τ).loc Cert.InRgSRefIdeal.main_arg0) = m ((c.tc : Thread Cert.InRgSRefIdeal.nD Cert.InRgSRefIdeal.τ).loc Cert.InRgSRefIdeal.main_arg0)
      ∧ r.2.mem ((c.tc : Thread Cert.InRgSRefIdeal.nD Cert.InRgSRefIdeal.τ).loc Cert.InRgSRefIdeal.main_arg1) = m ((c.tc : Thread Cert.InRgSRefIdeal.nD Cert.InRgSRefIdeal.τ).loc Cert.InRgSRefIdeal.main_arg1))
      ∧ r.2.sem = fun _ => 0)

def quiescent_Qi [hQi : Cert.Qi.Facts] : Prop :=
  ∀ (m : (ℓ : Loc Cert.Qi.nD Cert.Qi.τ Cert.Qi.sig) → Buf (Elt Bits) ℓ) (g : Dev Cert.Qi.nD → PrngReg), Pre_Qi m →
    θ_run (Cert.Qi.defs (F := Bits)) (onTc (τ := Cert.Qi.τ) (Cert.Qi.main (F := Bits))) ⟨m, fun _ => 0, g⟩ (fun r => (∀ c : Dev Cert.Qi.nD,
      r.2.mem ((c.tc : Thread Cert.Qi.nD Cert.Qi.τ).loc Cert.Qi.main_arg0) = m ((c.tc : Thread Cert.Qi.nD Cert.Qi.τ).loc Cert.Qi.main_arg0)
      ∧ r.2.mem ((c.tc : Thread Cert.Qi.nD Cert.Qi.τ).loc Cert.Qi.main_arg1) = m ((c.tc : Thread Cert.Qi.nD Cert.Qi.τ).loc Cert.Qi.main_arg1))
      ∧ r.2.sem = fun _ => 0)

def quiescent_QiIdeal [hQiIdeal : Cert.QiIdeal.Facts] : Prop :=
  ∀ (m : (ℓ : Loc Cert.QiIdeal.nD Cert.QiIdeal.τ Cert.QiIdeal.sig) → Buf (Elt Ideal) ℓ) (g : Dev Cert.QiIdeal.nD → PrngReg), Pre_QiIdeal m →
    θ_run (Cert.QiIdeal.defs (F := Ideal)) (onTc (τ := Cert.QiIdeal.τ) (Cert.QiIdeal.main (F := Ideal))) ⟨m, fun _ => 0, g⟩ (fun r => (∀ c : Dev Cert.QiIdeal.nD,
      r.2.mem ((c.tc : Thread Cert.QiIdeal.nD Cert.QiIdeal.τ).loc Cert.QiIdeal.main_arg0) = m ((c.tc : Thread Cert.QiIdeal.nD Cert.QiIdeal.τ).loc Cert.QiIdeal.main_arg0)
      ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ r.2.sem = fun _ => 0)

def quiescent_QiRefIdeal [hQiRefIdeal : Cert.QiRefIdeal.Facts] : Prop :=
  ∀ (m : (ℓ : Loc Cert.QiRefIdeal.nD Cert.QiRefIdeal.τ Cert.QiRefIdeal.sig) → Buf (Elt Ideal) ℓ) (g : Dev Cert.QiRefIdeal.nD → PrngReg), Pre_QiRefIdeal m →
    θ_run (Cert.QiRefIdeal.defs (F := Ideal)) (onTc (τ := Cert.QiRefIdeal.τ) (Cert.QiRefIdeal.main (F := Ideal))) ⟨m, fun _ => 0, g⟩ (fun r => (∀ c : Dev Cert.QiRefIdeal.nD,
      r.2.mem ((c.tc : Thread Cert.QiRefIdeal.nD Cert.QiRefIdeal.τ).loc Cert.QiRefIdeal.main_arg0) = m ((c.tc : Thread Cert.QiRefIdeal.nD Cert.QiRefIdeal.τ).loc Cert.QiRefIdeal.main_arg0)
      ∧ r.2.mem ((c.tc : Thread Cert.QiRefIdeal.nD Cert.QiRefIdeal.τ).loc Cert.QiRefIdeal.main_arg1) = m ((c.tc : Thread Cert.QiRefIdeal.nD Cert.QiRefIdeal.τ).loc Cert.QiRefIdeal.main_arg1))
      ∧ r.2.sem = fun _ => 0)

def quiescent_IdxKey [hIdxKey : Cert.IdxKey.Facts] : Prop :=
  ∀ (m : (ℓ : Loc Cert.IdxKey.nD Cert.IdxKey.τ Cert.IdxKey.sig) → Buf (Elt Bits) ℓ) (g : Dev Cert.IdxKey.nD → PrngReg), Pre_IdxKey m →
    θ_run (Cert.IdxKey.defs (F := Bits)) (onTc (τ := Cert.IdxKey.τ) (Cert.IdxKey.main (F := Bits))) ⟨m, fun _ => 0, g⟩ (fun r => (∀ c : Dev Cert.IdxKey.nD,
      r.2.mem ((c.tc : Thread Cert.IdxKey.nD Cert.IdxKey.τ).loc Cert.IdxKey.main_arg0) = m ((c.tc : Thread Cert.IdxKey.nD Cert.IdxKey.τ).loc Cert.IdxKey.main_arg0)
      ∧ r.2.mem ((c.tc : Thread Cert.IdxKey.nD Cert.IdxKey.τ).loc Cert.IdxKey.main_arg1) = m ((c.tc : Thread Cert.IdxKey.nD Cert.IdxKey.τ).loc Cert.IdxKey.main_arg1)
      ∧ r.2.mem ((c.tc : Thread Cert.IdxKey.nD Cert.IdxKey.τ).loc Cert.IdxKey.main_arg2) = m ((c.tc : Thread Cert.IdxKey.nD Cert.IdxKey.τ).loc Cert.IdxKey.main_arg2)
      ∧ r.2.mem ((c.tc : Thread Cert.IdxKey.nD Cert.IdxKey.τ).loc Cert.IdxKey.main_arg3) = m ((c.tc : Thread Cert.IdxKey.nD Cert.IdxKey.τ).loc Cert.IdxKey.main_arg3))
      ∧ r.2.sem = fun _ => 0)

def quiescent_IdxKeyIdeal [hIdxKeyIdeal : Cert.IdxKeyIdeal.Facts] : Prop :=
  ∀ (m : (ℓ : Loc Cert.IdxKeyIdeal.nD Cert.IdxKeyIdeal.τ Cert.IdxKeyIdeal.sig) → Buf (Elt Ideal) ℓ) (g : Dev Cert.IdxKeyIdeal.nD → PrngReg), Pre_IdxKeyIdeal m →
    θ_run (Cert.IdxKeyIdeal.defs (F := Ideal)) (onTc (τ := Cert.IdxKeyIdeal.τ) (Cert.IdxKeyIdeal.main (F := Ideal))) ⟨m, fun _ => 0, g⟩ (fun r => (∀ c : Dev Cert.IdxKeyIdeal.nD,
      r.2.mem ((c.tc : Thread Cert.IdxKeyIdeal.nD Cert.IdxKeyIdeal.τ).loc Cert.IdxKeyIdeal.main_arg0) = m ((c.tc : Thread Cert.IdxKeyIdeal.nD Cert.IdxKeyIdeal.τ).loc Cert.IdxKeyIdeal.main_arg0)
      ∧ r.2.mem ((c.tc : Thread Cert.IdxKeyIdeal.nD Cert.IdxKeyIdeal.τ).loc Cert.IdxKeyIdeal.main_arg1) = m ((c.tc : Thread Cert.IdxKeyIdeal.nD Cert.IdxKeyIdeal.τ).loc Cert.IdxKeyIdeal.main_arg1)
      ∧ r.2.mem ((c.tc : Thread Cert.IdxKeyIdeal.nD Cert.IdxKeyIdeal.τ).loc Cert.IdxKeyIdeal.main_arg2) = m ((c.tc : Thread Cert.IdxKeyIdeal.nD Cert.IdxKeyIdeal.τ).loc Cert.IdxKeyIdeal.main_arg2)
      ∧ r.2.mem ((c.tc : Thread Cert.IdxKeyIdeal.nD Cert.IdxKeyIdeal.τ).loc Cert.IdxKeyIdeal.main_arg3) = m ((c.tc : Thread Cert.IdxKeyIdeal.nD Cert.IdxKeyIdeal.τ).loc Cert.IdxKeyIdeal.main_arg3))
      ∧ r.2.sem = fun _ => 0)

def quiescent_IdxKeyRefIdeal [hIdxKeyRefIdeal : Cert.IdxKeyRefIdeal.Facts] : Prop :=
  ∀ (m : (ℓ : Loc Cert.IdxKeyRefIdeal.nD Cert.IdxKeyRefIdeal.τ Cert.IdxKeyRefIdeal.sig) → Buf (Elt Ideal) ℓ) (g : Dev Cert.IdxKeyRefIdeal.nD → PrngReg), Pre_IdxKeyRefIdeal m →
    θ_run (Cert.IdxKeyRefIdeal.defs (F := Ideal)) (onTc (τ := Cert.IdxKeyRefIdeal.τ) (Cert.IdxKeyRefIdeal.main (F := Ideal))) ⟨m, fun _ => 0, g⟩ (fun r => (∀ c : Dev Cert.IdxKeyRefIdeal.nD,
      r.2.mem ((c.tc : Thread Cert.IdxKeyRefIdeal.nD Cert.IdxKeyRefIdeal.τ).loc Cert.IdxKeyRefIdeal.main_arg0) = m ((c.tc : Thread Cert.IdxKeyRefIdeal.nD Cert.IdxKeyRefIdeal.τ).loc Cert.IdxKeyRefIdeal.main_arg0)
      ∧ r.2.mem ((c.tc : Thread Cert.IdxKeyRefIdeal.nD Cert.IdxKeyRefIdeal.τ).loc Cert.IdxKeyRefIdeal.main_arg1) = m ((c.tc : Thread Cert.IdxKeyRefIdeal.nD Cert.IdxKeyRefIdeal.τ).loc Cert.IdxKeyRefIdeal.main_arg1)
      ∧ r.2.mem ((c.tc : Thread Cert.IdxKeyRefIdeal.nD Cert.IdxKeyRefIdeal.τ).loc Cert.IdxKeyRefIdeal.main_arg2) = m ((c.tc : Thread Cert.IdxKeyRefIdeal.nD Cert.IdxKeyRefIdeal.τ).loc Cert.IdxKeyRefIdeal.main_arg2)
      ∧ r.2.mem ((c.tc : Thread Cert.IdxKeyRefIdeal.nD Cert.IdxKeyRefIdeal.τ).loc Cert.IdxKeyRefIdeal.main_arg3) = m ((c.tc : Thread Cert.IdxKeyRefIdeal.nD Cert.IdxKeyRefIdeal.τ).loc Cert.IdxKeyRefIdeal.main_arg3))
      ∧ r.2.sem = fun _ => 0)

def quiescent_IdxKeyS [hIdxKeyS : Cert.IdxKeyS.Facts] : Prop :=
  ∀ (m : (ℓ : Loc Cert.IdxKeyS.nD Cert.IdxKeyS.τ Cert.IdxKeyS.sig) → Buf (Elt Bits) ℓ) (g : Dev Cert.IdxKeyS.nD → PrngReg), Pre_IdxKeyS m →
    θ_run (Cert.IdxKeyS.defs (F := Bits)) (onTc (τ := Cert.IdxKeyS.τ) (Cert.IdxKeyS.main (F := Bits))) ⟨m, fun _ => 0, g⟩ (fun r => (∀ c : Dev Cert.IdxKeyS.nD,
      r.2.mem ((c.tc : Thread Cert.IdxKeyS.nD Cert.IdxKeyS.τ).loc Cert.IdxKeyS.main_arg0) = m ((c.tc : Thread Cert.IdxKeyS.nD Cert.IdxKeyS.τ).loc Cert.IdxKeyS.main_arg0)
      ∧ r.2.mem ((c.tc : Thread Cert.IdxKeyS.nD Cert.IdxKeyS.τ).loc Cert.IdxKeyS.main_arg1) = m ((c.tc : Thread Cert.IdxKeyS.nD Cert.IdxKeyS.τ).loc Cert.IdxKeyS.main_arg1)
      ∧ r.2.mem ((c.tc : Thread Cert.IdxKeyS.nD Cert.IdxKeyS.τ).loc Cert.IdxKeyS.main_arg2) = m ((c.tc : Thread Cert.IdxKeyS.nD Cert.IdxKeyS.τ).loc Cert.IdxKeyS.main_arg2)
      ∧ r.2.mem ((c.tc : Thread Cert.IdxKeyS.nD Cert.IdxKeyS.τ).loc Cert.IdxKeyS.main_arg3) = m ((c.tc : Thread Cert.IdxKeyS.nD Cert.IdxKeyS.τ).loc Cert.IdxKeyS.main_arg3))
      ∧ r.2.sem = fun _ => 0)

def quiescent_IdxKeySIdeal [hIdxKeySIdeal : Cert.IdxKeySIdeal.Facts] : Prop :=
  ∀ (m : (ℓ : Loc Cert.IdxKeySIdeal.nD Cert.IdxKeySIdeal.τ Cert.IdxKeySIdeal.sig) → Buf (Elt Ideal) ℓ) (g : Dev Cert.IdxKeySIdeal.nD → PrngReg), Pre_IdxKeySIdeal m →
    θ_run (Cert.IdxKeySIdeal.defs (F := Ideal)) (onTc (τ := Cert.IdxKeySIdeal.τ) (Cert.IdxKeySIdeal.main (F := Ideal))) ⟨m, fun _ => 0, g⟩ (fun r => (∀ c : Dev Cert.IdxKeySIdeal.nD,
      r.2.mem ((c.tc : Thread Cert.IdxKeySIdeal.nD Cert.IdxKeySIdeal.τ).loc Cert.IdxKeySIdeal.main_arg0) = m ((c.tc : Thread Cert.IdxKeySIdeal.nD Cert.IdxKeySIdeal.τ).loc Cert.IdxKeySIdeal.main_arg0)
      ∧ r.2.mem ((c.tc : Thread Cert.IdxKeySIdeal.nD Cert.IdxKeySIdeal.τ).loc Cert.IdxKeySIdeal.main_arg1) = m ((c.tc : Thread Cert.IdxKeySIdeal.nD Cert.IdxKeySIdeal.τ).loc Cert.IdxKeySIdeal.main_arg1)
      ∧ r.2.mem ((c.tc : Thread Cert.IdxKeySIdeal.nD Cert.IdxKeySIdeal.τ).loc Cert.IdxKeySIdeal.main_arg2) = m ((c.tc : Thread Cert.IdxKeySIdeal.nD Cert.IdxKeySIdeal.τ).loc Cert.IdxKeySIdeal.main_arg2)
      ∧ r.2.mem ((c.tc : Thread Cert.IdxKeySIdeal.nD Cert.IdxKeySIdeal.τ).loc Cert.IdxKeySIdeal.main_arg3) = m ((c.tc : Thread Cert.IdxKeySIdeal.nD Cert.IdxKeySIdeal.τ).loc Cert.IdxKeySIdeal.main_arg3))
      ∧ r.2.sem = fun _ => 0)

def quiescent_IdxKeySRefIdeal [hIdxKeySRefIdeal : Cert.IdxKeySRefIdeal.Facts] : Prop :=
  ∀ (m : (ℓ : Loc Cert.IdxKeySRefIdeal.nD Cert.IdxKeySRefIdeal.τ Cert.IdxKeySRefIdeal.sig) → Buf (Elt Ideal) ℓ) (g : Dev Cert.IdxKeySRefIdeal.nD → PrngReg), Pre_IdxKeySRefIdeal m →
    θ_run (Cert.IdxKeySRefIdeal.defs (F := Ideal)) (onTc (τ := Cert.IdxKeySRefIdeal.τ) (Cert.IdxKeySRefIdeal.main (F := Ideal))) ⟨m, fun _ => 0, g⟩ (fun r => (∀ c : Dev Cert.IdxKeySRefIdeal.nD,
      r.2.mem ((c.tc : Thread Cert.IdxKeySRefIdeal.nD Cert.IdxKeySRefIdeal.τ).loc Cert.IdxKeySRefIdeal.main_arg0) = m ((c.tc : Thread Cert.IdxKeySRefIdeal.nD Cert.IdxKeySRefIdeal.τ).loc Cert.IdxKeySRefIdeal.main_arg0)
      ∧ r.2.mem ((c.tc : Thread Cert.IdxKeySRefIdeal.nD Cert.IdxKeySRefIdeal.τ).loc Cert.IdxKeySRefIdeal.main_arg1) = m ((c.tc : Thread Cert.IdxKeySRefIdeal.nD Cert.IdxKeySRefIdeal.τ).loc Cert.IdxKeySRefIdeal.main_arg1)
      ∧ r.2.mem ((c.tc : Thread Cert.IdxKeySRefIdeal.nD Cert.IdxKeySRefIdeal.τ).loc Cert.IdxKeySRefIdeal.main_arg2) = m ((c.tc : Thread Cert.IdxKeySRefIdeal.nD Cert.IdxKeySRefIdeal.τ).loc Cert.IdxKeySRefIdeal.main_arg2)
      ∧ r.2.mem ((c.tc : Thread Cert.IdxKeySRefIdeal.nD Cert.IdxKeySRefIdeal.τ).loc Cert.IdxKeySRefIdeal.main_arg3) = m ((c.tc : Thread Cert.IdxKeySRefIdeal.nD Cert.IdxKeySRefIdeal.τ).loc Cert.IdxKeySRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2)
      ∧ r.2.mem ((c.tc : Thread Cert.FinalS.nD Cert.FinalS.τ).loc Cert.FinalS.main_arg3) = m ((c.tc : Thread Cert.FinalS.nD Cert.FinalS.τ).loc Cert.FinalS.main_arg3))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
      ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1)
      ∧ r.2.mem ((c.tc : Thread Cert.FinalSRefIdeal.nD Cert.FinalSRefIdeal.τ).loc Cert.FinalSRefIdeal.main_arg2) = m ((c.tc : Thread Cert.FinalSRefIdeal.nD Cert.FinalSRefIdeal.τ).loc Cert.FinalSRefIdeal.main_arg2)
      ∧ r.2.mem ((c.tc : Thread Cert.FinalSRefIdeal.nD Cert.FinalSRefIdeal.τ).loc Cert.FinalSRefIdeal.main_arg3) = m ((c.tc : Thread Cert.FinalSRefIdeal.nD Cert.FinalSRefIdeal.τ).loc Cert.FinalSRefIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8)
      ∧ r.2.mem ((c.tc : Thread Cert.Step.nD Cert.Step.τ).loc Cert.Step.main_arg9) = m ((c.tc : Thread Cert.Step.nD Cert.Step.τ).loc Cert.Step.main_arg9))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6)
      ∧ r.2.mem ((c.tc : Thread Cert.StepRefIdeal.nD Cert.StepRefIdeal.τ).loc Cert.StepRefIdeal.main_arg7) = m ((c.tc : Thread Cert.StepRefIdeal.nD Cert.StepRefIdeal.τ).loc Cert.StepRefIdeal.main_arg7)
      ∧ r.2.mem ((c.tc : Thread Cert.StepRefIdeal.nD Cert.StepRefIdeal.τ).loc Cert.StepRefIdeal.main_arg8) = m ((c.tc : Thread Cert.StepRefIdeal.nD Cert.StepRefIdeal.τ).loc Cert.StepRefIdeal.main_arg8)
      ∧ r.2.mem ((c.tc : Thread Cert.StepRefIdeal.nD Cert.StepRefIdeal.τ).loc Cert.StepRefIdeal.main_arg9) = m ((c.tc : Thread Cert.StepRefIdeal.nD Cert.StepRefIdeal.τ).loc Cert.StepRefIdeal.main_arg9))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3))
      ∧ r.2.sem = fun _ => 0)

def quiescent_PreS [hPreS : Cert.PreS.Facts] : Prop :=
  ∀ (m : (ℓ : Loc Cert.PreS.nD Cert.PreS.τ Cert.PreS.sig) → Buf (Elt Bits) ℓ) (g : Dev Cert.PreS.nD → PrngReg), Pre_PreS m →
    θ_run (Cert.PreS.defs (F := Bits)) (onTc (τ := Cert.PreS.τ) (Cert.PreS.main (F := Bits))) ⟨m, fun _ => 0, g⟩ (fun r => (∀ c : Dev Cert.PreS.nD,
      r.2.mem ((c.tc : Thread Cert.PreS.nD Cert.PreS.τ).loc Cert.PreS.main_arg0) = m ((c.tc : Thread Cert.PreS.nD Cert.PreS.τ).loc Cert.PreS.main_arg0)
      ∧ r.2.mem ((c.tc : Thread Cert.PreS.nD Cert.PreS.τ).loc Cert.PreS.main_arg1) = m ((c.tc : Thread Cert.PreS.nD Cert.PreS.τ).loc Cert.PreS.main_arg1)
      ∧ r.2.mem ((c.tc : Thread Cert.PreS.nD Cert.PreS.τ).loc Cert.PreS.main_arg2) = m ((c.tc : Thread Cert.PreS.nD Cert.PreS.τ).loc Cert.PreS.main_arg2)
      ∧ r.2.mem ((c.tc : Thread Cert.PreS.nD Cert.PreS.τ).loc Cert.PreS.main_arg3) = m ((c.tc : Thread Cert.PreS.nD Cert.PreS.τ).loc Cert.PreS.main_arg3))
      ∧ r.2.sem = fun _ => 0)

def quiescent_PreSIdeal [hPreSIdeal : Cert.PreSIdeal.Facts] : Prop :=
  ∀ (m : (ℓ : Loc Cert.PreSIdeal.nD Cert.PreSIdeal.τ Cert.PreSIdeal.sig) → Buf (Elt Ideal) ℓ) (g : Dev Cert.PreSIdeal.nD → PrngReg), Pre_PreSIdeal m →
    θ_run (Cert.PreSIdeal.defs (F := Ideal)) (onTc (τ := Cert.PreSIdeal.τ) (Cert.PreSIdeal.main (F := Ideal))) ⟨m, fun _ => 0, g⟩ (fun r => (∀ c : Dev Cert.PreSIdeal.nD,
      r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
      ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
      ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
      ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3))
      ∧ r.2.sem = fun _ => 0)

def quiescent_PreSRefIdeal [hPreSRefIdeal : Cert.PreSRefIdeal.Facts] : Prop :=
  ∀ (m : (ℓ : Loc Cert.PreSRefIdeal.nD Cert.PreSRefIdeal.τ Cert.PreSRefIdeal.sig) → Buf (Elt Ideal) ℓ) (g : Dev Cert.PreSRefIdeal.nD → PrngReg), Pre_PreSRefIdeal m →
    θ_run (Cert.PreSRefIdeal.defs (F := Ideal)) (onTc (τ := Cert.PreSRefIdeal.τ) (Cert.PreSRefIdeal.main (F := Ideal))) ⟨m, fun _ => 0, g⟩ (fun r => (∀ c : Dev Cert.PreSRefIdeal.nD,
      r.2.mem ((c.tc : Thread Cert.PreSRefIdeal.nD Cert.PreSRefIdeal.τ).loc Cert.PreSRefIdeal.main_arg0) = m ((c.tc : Thread Cert.PreSRefIdeal.nD Cert.PreSRefIdeal.τ).loc Cert.PreSRefIdeal.main_arg0)
      ∧ r.2.mem ((c.tc : Thread Cert.PreSRefIdeal.nD Cert.PreSRefIdeal.τ).loc Cert.PreSRefIdeal.main_arg1) = m ((c.tc : Thread Cert.PreSRefIdeal.nD Cert.PreSRefIdeal.τ).loc Cert.PreSRefIdeal.main_arg1)
      ∧ r.2.mem ((c.tc : Thread Cert.PreSRefIdeal.nD Cert.PreSRefIdeal.τ).loc Cert.PreSRefIdeal.main_arg2) = m ((c.tc : Thread Cert.PreSRefIdeal.nD Cert.PreSRefIdeal.τ).loc Cert.PreSRefIdeal.main_arg2)
      ∧ r.2.mem ((c.tc : Thread Cert.PreSRefIdeal.nD Cert.PreSRefIdeal.τ).loc Cert.PreSRefIdeal.main_arg3) = m ((c.tc : Thread Cert.PreSRefIdeal.nD Cert.PreSRefIdeal.τ).loc Cert.PreSRefIdeal.main_arg3))
      ∧ r.2.sem = fun _ => 0)

def quiescent_Group [hGroup : Cert.Group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (onTc (τ := Cert.Group.τ) (Cert.Group.main (F := Bits))) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1)
      ∧ r.2.mem ((c.tc : Thread Cert.Group.nD Cert.Group.τ).loc Cert.Group.main_arg2) = m ((c.tc : Thread Cert.Group.nD Cert.Group.τ).loc Cert.Group.main_arg2)
      ∧ r.2.mem ((c.tc : Thread Cert.Group.nD Cert.Group.τ).loc Cert.Group.main_arg3) = m ((c.tc : Thread Cert.Group.nD Cert.Group.τ).loc Cert.Group.main_arg3))
      ∧ r.2.sem = fun _ => 0)

def quiescent_GroupIdeal [hGroupIdeal : Cert.GroupIdeal.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (onTc (τ := Cert.GroupIdeal.τ) (Cert.GroupIdeal.main (F := Ideal))) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
      ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3))
      ∧ r.2.sem = fun _ => 0)

def quiescent_GroupRefIdeal [hGroupRefIdeal : Cert.GroupRefIdeal.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2)
      ∧ r.2.mem ((c.tc : Thread Cert.GroupRefIdeal.nD Cert.GroupRefIdeal.τ).loc Cert.GroupRefIdeal.main_arg3) = m ((c.tc : Thread Cert.GroupRefIdeal.nD Cert.GroupRefIdeal.τ).loc Cert.GroupRefIdeal.main_arg3))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_MidS [hMidS : Cert.MidS.Facts] : Prop :=
  ∀ (m : (ℓ : Loc Cert.MidS.nD Cert.MidS.τ Cert.MidS.sig) → Buf (Elt Bits) ℓ) (g : Dev Cert.MidS.nD → PrngReg), Pre_MidS m →
    θ_run (Cert.MidS.defs (F := Bits)) (onTc (τ := Cert.MidS.τ) (Cert.MidS.main (F := Bits))) ⟨m, fun _ => 0, g⟩ (fun r => (∀ c : Dev Cert.MidS.nD,
      r.2.mem ((c.tc : Thread Cert.MidS.nD Cert.MidS.τ).loc Cert.MidS.main_arg0) = m ((c.tc : Thread Cert.MidS.nD Cert.MidS.τ).loc Cert.MidS.main_arg0)
      ∧ r.2.mem ((c.tc : Thread Cert.MidS.nD Cert.MidS.τ).loc Cert.MidS.main_arg1) = m ((c.tc : Thread Cert.MidS.nD Cert.MidS.τ).loc Cert.MidS.main_arg1)
      ∧ r.2.mem ((c.tc : Thread Cert.MidS.nD Cert.MidS.τ).loc Cert.MidS.main_arg2) = m ((c.tc : Thread Cert.MidS.nD Cert.MidS.τ).loc Cert.MidS.main_arg2)
      ∧ r.2.mem ((c.tc : Thread Cert.MidS.nD Cert.MidS.τ).loc Cert.MidS.main_arg3) = m ((c.tc : Thread Cert.MidS.nD Cert.MidS.τ).loc Cert.MidS.main_arg3)
      ∧ r.2.mem ((c.tc : Thread Cert.MidS.nD Cert.MidS.τ).loc Cert.MidS.main_arg4) = m ((c.tc : Thread Cert.MidS.nD Cert.MidS.τ).loc Cert.MidS.main_arg4)
      ∧ r.2.mem ((c.tc : Thread Cert.MidS.nD Cert.MidS.τ).loc Cert.MidS.main_arg5) = m ((c.tc : Thread Cert.MidS.nD Cert.MidS.τ).loc Cert.MidS.main_arg5)
      ∧ r.2.mem ((c.tc : Thread Cert.MidS.nD Cert.MidS.τ).loc Cert.MidS.main_arg6) = m ((c.tc : Thread Cert.MidS.nD Cert.MidS.τ).loc Cert.MidS.main_arg6))
      ∧ r.2.sem = fun _ => 0)

def quiescent_MidSIdeal [hMidSIdeal : Cert.MidSIdeal.Facts] : Prop :=
  ∀ (m : (ℓ : Loc Cert.MidSIdeal.nD Cert.MidSIdeal.τ Cert.MidSIdeal.sig) → Buf (Elt Ideal) ℓ) (g : Dev Cert.MidSIdeal.nD → PrngReg), Pre_MidSIdeal m →
    θ_run (Cert.MidSIdeal.defs (F := Ideal)) (onTc (τ := Cert.MidSIdeal.τ) (Cert.MidSIdeal.main (F := Ideal))) ⟨m, fun _ => 0, g⟩ (fun r => (∀ c : Dev Cert.MidSIdeal.nD,
      r.2.mem ((c.tc : Thread Cert.MidSIdeal.nD Cert.MidSIdeal.τ).loc Cert.MidSIdeal.main_arg0) = m ((c.tc : Thread Cert.MidSIdeal.nD Cert.MidSIdeal.τ).loc Cert.MidSIdeal.main_arg0)
      ∧ r.2.mem ((c.tc : Thread Cert.MidSIdeal.nD Cert.MidSIdeal.τ).loc Cert.MidSIdeal.main_arg1) = m ((c.tc : Thread Cert.MidSIdeal.nD Cert.MidSIdeal.τ).loc Cert.MidSIdeal.main_arg1)
      ∧ r.2.mem ((c.tc : Thread Cert.MidSIdeal.nD Cert.MidSIdeal.τ).loc Cert.MidSIdeal.main_arg2) = m ((c.tc : Thread Cert.MidSIdeal.nD Cert.MidSIdeal.τ).loc Cert.MidSIdeal.main_arg2)
      ∧ r.2.mem ((c.tc : Thread Cert.MidSIdeal.nD Cert.MidSIdeal.τ).loc Cert.MidSIdeal.main_arg3) = m ((c.tc : Thread Cert.MidSIdeal.nD Cert.MidSIdeal.τ).loc Cert.MidSIdeal.main_arg3)
      ∧ r.2.mem ((c.tc : Thread Cert.MidSIdeal.nD Cert.MidSIdeal.τ).loc Cert.MidSIdeal.main_arg4) = m ((c.tc : Thread Cert.MidSIdeal.nD Cert.MidSIdeal.τ).loc Cert.MidSIdeal.main_arg4)
      ∧ r.2.mem ((c.tc : Thread Cert.MidSIdeal.nD Cert.MidSIdeal.τ).loc Cert.MidSIdeal.main_arg5) = m ((c.tc : Thread Cert.MidSIdeal.nD Cert.MidSIdeal.τ).loc Cert.MidSIdeal.main_arg5)
      ∧ r.2.mem ((c.tc : Thread Cert.MidSIdeal.nD Cert.MidSIdeal.τ).loc Cert.MidSIdeal.main_arg6) = m ((c.tc : Thread Cert.MidSIdeal.nD Cert.MidSIdeal.τ).loc Cert.MidSIdeal.main_arg6))
      ∧ r.2.sem = fun _ => 0)

def quiescent_MidSRefIdeal [hMidSRefIdeal : Cert.MidSRefIdeal.Facts] : Prop :=
  ∀ (m : (ℓ : Loc Cert.MidSRefIdeal.nD Cert.MidSRefIdeal.τ Cert.MidSRefIdeal.sig) → Buf (Elt Ideal) ℓ) (g : Dev Cert.MidSRefIdeal.nD → PrngReg), Pre_MidSRefIdeal m →
    θ_run (Cert.MidSRefIdeal.defs (F := Ideal)) (onTc (τ := Cert.MidSRefIdeal.τ) (Cert.MidSRefIdeal.main (F := Ideal))) ⟨m, fun _ => 0, g⟩ (fun r => (∀ c : Dev Cert.MidSRefIdeal.nD,
      r.2.mem ((c.tc : Thread Cert.MidSRefIdeal.nD Cert.MidSRefIdeal.τ).loc Cert.MidSRefIdeal.main_arg0) = m ((c.tc : Thread Cert.MidSRefIdeal.nD Cert.MidSRefIdeal.τ).loc Cert.MidSRefIdeal.main_arg0)
      ∧ r.2.mem ((c.tc : Thread Cert.MidSRefIdeal.nD Cert.MidSRefIdeal.τ).loc Cert.MidSRefIdeal.main_arg1) = m ((c.tc : Thread Cert.MidSRefIdeal.nD Cert.MidSRefIdeal.τ).loc Cert.MidSRefIdeal.main_arg1)
      ∧ r.2.mem ((c.tc : Thread Cert.MidSRefIdeal.nD Cert.MidSRefIdeal.τ).loc Cert.MidSRefIdeal.main_arg2) = m ((c.tc : Thread Cert.MidSRefIdeal.nD Cert.MidSRefIdeal.τ).loc Cert.MidSRefIdeal.main_arg2)
      ∧ r.2.mem ((c.tc : Thread Cert.MidSRefIdeal.nD Cert.MidSRefIdeal.τ).loc Cert.MidSRefIdeal.main_arg3) = m ((c.tc : Thread Cert.MidSRefIdeal.nD Cert.MidSRefIdeal.τ).loc Cert.MidSRefIdeal.main_arg3)
      ∧ r.2.mem ((c.tc : Thread Cert.MidSRefIdeal.nD Cert.MidSRefIdeal.τ).loc Cert.MidSRefIdeal.main_arg4) = m ((c.tc : Thread Cert.MidSRefIdeal.nD Cert.MidSRefIdeal.τ).loc Cert.MidSRefIdeal.main_arg4)
      ∧ r.2.mem ((c.tc : Thread Cert.MidSRefIdeal.nD Cert.MidSRefIdeal.τ).loc Cert.MidSRefIdeal.main_arg5) = m ((c.tc : Thread Cert.MidSRefIdeal.nD Cert.MidSRefIdeal.τ).loc Cert.MidSRefIdeal.main_arg5)
      ∧ r.2.mem ((c.tc : Thread Cert.MidSRefIdeal.nD Cert.MidSRefIdeal.τ).loc Cert.MidSRefIdeal.main_arg6) = m ((c.tc : Thread Cert.MidSRefIdeal.nD Cert.MidSRefIdeal.τ).loc Cert.MidSRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v78_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)) →
    ∃ (v0 : (c : Dev Cert.SwigluIdeal.nD) → Buf (Elt Ideal) ((c.tc : Thread Cert.SwigluIdeal.nD Cert.SwigluIdeal.τ).loc Cert.SwigluIdeal.main_v1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v1) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v4) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_InRg_InRgIdeal : Prop :=
  True

def algebraic_InRgIdeal_InRgRefIdeal [hInRgIdeal : Cert.InRgIdeal.Facts] [hInRgRefIdeal : Cert.InRgRefIdeal.Facts] : Prop :=
  ∀ (m : (ℓ : Loc Cert.InRgIdeal.nD Cert.InRgIdeal.τ Cert.InRgIdeal.sig) → Buf (Elt Ideal) ℓ) (g : Dev Cert.InRgIdeal.nD → PrngReg)
    (m' : (ℓ : Loc Cert.InRgRefIdeal.nD Cert.InRgRefIdeal.τ Cert.InRgRefIdeal.sig) → Buf (Elt Ideal) ℓ) (g' : Dev Cert.InRgRefIdeal.nD → PrngReg), Pre_InRgIdeal m →
    (∀ c : Dev Cert.InRgIdeal.nD,
      m' ((c.tc : Thread Cert.InRgRefIdeal.nD Cert.InRgRefIdeal.τ).loc Cert.InRgRefIdeal.main_arg0) = m ((c.tc : Thread Cert.InRgIdeal.nD Cert.InRgIdeal.τ).loc Cert.InRgIdeal.main_arg0)
      ∧ m' ((c.tc : Thread Cert.InRgRefIdeal.nD Cert.InRgRefIdeal.τ).loc Cert.InRgRefIdeal.main_arg1) = m ((c.tc : Thread Cert.InRgIdeal.nD Cert.InRgIdeal.τ).loc Cert.InRgIdeal.main_arg1)) →
    ∃ (v0 : (c : Dev Cert.InRgIdeal.nD) → Buf (Elt Ideal) ((c.tc : Thread Cert.InRgIdeal.nD Cert.InRgIdeal.τ).loc Cert.InRgIdeal.main_v2)),
      θ_run (Cert.InRgIdeal.defs (F := Ideal)) (onTc (τ := Cert.InRgIdeal.τ) (Cert.InRgIdeal.main (F := Ideal))) ⟨m, fun _ => 0, g⟩ (fun r => ∀ c : Dev Cert.InRgIdeal.nD,
          r.2.mem ((c.tc : Thread Cert.InRgIdeal.nD Cert.InRgIdeal.τ).loc Cert.InRgIdeal.main_v2) = v0 c
          ∧ r.2.mem ((c.tc : Thread Cert.InRgIdeal.nD Cert.InRgIdeal.τ).loc Cert.InRgIdeal.main_arg0) = m ((c.tc : Thread Cert.InRgIdeal.nD Cert.InRgIdeal.τ).loc Cert.InRgIdeal.main_arg0)
          ∧ r.2.mem ((c.tc : Thread Cert.InRgIdeal.nD Cert.InRgIdeal.τ).loc Cert.InRgIdeal.main_arg1) = m ((c.tc : Thread Cert.InRgIdeal.nD Cert.InRgIdeal.τ).loc Cert.InRgIdeal.main_arg1))
      ∧ θ_run (Cert.InRgRefIdeal.defs (F := Ideal)) (onTc (τ := Cert.InRgRefIdeal.τ) (Cert.InRgRefIdeal.main (F := Ideal))) ⟨m', fun _ => 0, g'⟩ (fun r => ∀ c : Dev Cert.InRgRefIdeal.nD,
          r.2.mem ((c.tc : Thread Cert.InRgRefIdeal.nD Cert.InRgRefIdeal.τ).loc Cert.InRgRefIdeal.main_v1) = v0 c
          ∧ r.2.mem ((c.tc : Thread Cert.InRgRefIdeal.nD Cert.InRgRefIdeal.τ).loc Cert.InRgRefIdeal.main_arg0) = m' ((c.tc : Thread Cert.InRgRefIdeal.nD Cert.InRgRefIdeal.τ).loc Cert.InRgRefIdeal.main_arg0)
          ∧ r.2.mem ((c.tc : Thread Cert.InRgRefIdeal.nD Cert.InRgRefIdeal.τ).loc Cert.InRgRefIdeal.main_arg1) = m' ((c.tc : Thread Cert.InRgRefIdeal.nD Cert.InRgRefIdeal.τ).loc Cert.InRgRefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v1) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvS_KvSIdeal : Prop :=
  True

def algebraic_KvSIdeal_KvSRefIdeal [hKvSIdeal : Cert.KvSIdeal.Facts] [hKvSRefIdeal : Cert.KvSRefIdeal.Facts] : Prop :=
  ∀ (m : (ℓ : Loc Cert.KvSIdeal.nD Cert.KvSIdeal.τ Cert.KvSIdeal.sig) → Buf (Elt Ideal) ℓ) (g : Dev Cert.KvSIdeal.nD → PrngReg)
    (m' : (ℓ : Loc Cert.KvSRefIdeal.nD Cert.KvSRefIdeal.τ Cert.KvSRefIdeal.sig) → Buf (Elt Ideal) ℓ) (g' : Dev Cert.KvSRefIdeal.nD → PrngReg), Pre_KvSIdeal m →
    (∀ c : Dev Cert.KvSIdeal.nD,
      m' ((c.tc : Thread Cert.KvSRefIdeal.nD Cert.KvSRefIdeal.τ).loc Cert.KvSRefIdeal.main_arg0) = m ((c.tc : Thread Cert.KvSIdeal.nD Cert.KvSIdeal.τ).loc Cert.KvSIdeal.main_arg0)
      ∧ m' ((c.tc : Thread Cert.KvSRefIdeal.nD Cert.KvSRefIdeal.τ).loc Cert.KvSRefIdeal.main_arg1) = m ((c.tc : Thread Cert.KvSIdeal.nD Cert.KvSIdeal.τ).loc Cert.KvSIdeal.main_arg1)) →
    ∃ (v0 : (c : Dev Cert.KvSIdeal.nD) → Buf (Elt Ideal) ((c.tc : Thread Cert.KvSIdeal.nD Cert.KvSIdeal.τ).loc Cert.KvSIdeal.main_v2)),
      θ_run (Cert.KvSIdeal.defs (F := Ideal)) (onTc (τ := Cert.KvSIdeal.τ) (Cert.KvSIdeal.main (F := Ideal))) ⟨m, fun _ => 0, g⟩ (fun r => ∀ c : Dev Cert.KvSIdeal.nD,
          r.2.mem ((c.tc : Thread Cert.KvSIdeal.nD Cert.KvSIdeal.τ).loc Cert.KvSIdeal.main_v2) = v0 c
          ∧ r.2.mem ((c.tc : Thread Cert.KvSIdeal.nD Cert.KvSIdeal.τ).loc Cert.KvSIdeal.main_arg0) = m ((c.tc : Thread Cert.KvSIdeal.nD Cert.KvSIdeal.τ).loc Cert.KvSIdeal.main_arg0)
          ∧ r.2.mem ((c.tc : Thread Cert.KvSIdeal.nD Cert.KvSIdeal.τ).loc Cert.KvSIdeal.main_arg1) = m ((c.tc : Thread Cert.KvSIdeal.nD Cert.KvSIdeal.τ).loc Cert.KvSIdeal.main_arg1))
      ∧ θ_run (Cert.KvSRefIdeal.defs (F := Ideal)) (onTc (τ := Cert.KvSRefIdeal.τ) (Cert.KvSRefIdeal.main (F := Ideal))) ⟨m', fun _ => 0, g'⟩ (fun r => ∀ c : Dev Cert.KvSRefIdeal.nD,
          r.2.mem ((c.tc : Thread Cert.KvSRefIdeal.nD Cert.KvSRefIdeal.τ).loc Cert.KvSRefIdeal.main_v1) = v0 c
          ∧ r.2.mem ((c.tc : Thread Cert.KvSRefIdeal.nD Cert.KvSRefIdeal.τ).loc Cert.KvSRefIdeal.main_arg0) = m' ((c.tc : Thread Cert.KvSRefIdeal.nD Cert.KvSRefIdeal.τ).loc Cert.KvSRefIdeal.main_arg0)
          ∧ r.2.mem ((c.tc : Thread Cert.KvSRefIdeal.nD Cert.KvSRefIdeal.τ).loc Cert.KvSRefIdeal.main_arg1) = m' ((c.tc : Thread Cert.KvSRefIdeal.nD Cert.KvSRefIdeal.τ).loc Cert.KvSRefIdeal.main_arg1))

def preserves_InRgS_InRgSIdeal : Prop :=
  True

def algebraic_InRgSIdeal_InRgSRefIdeal [hInRgSIdeal : Cert.InRgSIdeal.Facts] [hInRgSRefIdeal : Cert.InRgSRefIdeal.Facts] : Prop :=
  ∀ (m : (ℓ : Loc Cert.InRgSIdeal.nD Cert.InRgSIdeal.τ Cert.InRgSIdeal.sig) → Buf (Elt Ideal) ℓ) (g : Dev Cert.InRgSIdeal.nD → PrngReg)
    (m' : (ℓ : Loc Cert.InRgSRefIdeal.nD Cert.InRgSRefIdeal.τ Cert.InRgSRefIdeal.sig) → Buf (Elt Ideal) ℓ) (g' : Dev Cert.InRgSRefIdeal.nD → PrngReg), Pre_InRgSIdeal m →
    (∀ c : Dev Cert.InRgSIdeal.nD,
      m' ((c.tc : Thread Cert.InRgSRefIdeal.nD Cert.InRgSRefIdeal.τ).loc Cert.InRgSRefIdeal.main_arg0) = m ((c.tc : Thread Cert.InRgSIdeal.nD Cert.InRgSIdeal.τ).loc Cert.InRgSIdeal.main_arg0)
      ∧ m' ((c.tc : Thread Cert.InRgSRefIdeal.nD Cert.InRgSRefIdeal.τ).loc Cert.InRgSRefIdeal.main_arg1) = m ((c.tc : Thread Cert.InRgSIdeal.nD Cert.InRgSIdeal.τ).loc Cert.InRgSIdeal.main_arg1)) →
    ∃ (v0 : (c : Dev Cert.InRgSIdeal.nD) → Buf (Elt Ideal) ((c.tc : Thread Cert.InRgSIdeal.nD Cert.InRgSIdeal.τ).loc Cert.InRgSIdeal.main_v2)),
      θ_run (Cert.InRgSIdeal.defs (F := Ideal)) (onTc (τ := Cert.InRgSIdeal.τ) (Cert.InRgSIdeal.main (F := Ideal))) ⟨m, fun _ => 0, g⟩ (fun r => ∀ c : Dev Cert.InRgSIdeal.nD,
          r.2.mem ((c.tc : Thread Cert.InRgSIdeal.nD Cert.InRgSIdeal.τ).loc Cert.InRgSIdeal.main_v2) = v0 c
          ∧ r.2.mem ((c.tc : Thread Cert.InRgSIdeal.nD Cert.InRgSIdeal.τ).loc Cert.InRgSIdeal.main_arg0) = m ((c.tc : Thread Cert.InRgSIdeal.nD Cert.InRgSIdeal.τ).loc Cert.InRgSIdeal.main_arg0)
          ∧ r.2.mem ((c.tc : Thread Cert.InRgSIdeal.nD Cert.InRgSIdeal.τ).loc Cert.InRgSIdeal.main_arg1) = m ((c.tc : Thread Cert.InRgSIdeal.nD Cert.InRgSIdeal.τ).loc Cert.InRgSIdeal.main_arg1))
      ∧ θ_run (Cert.InRgSRefIdeal.defs (F := Ideal)) (onTc (τ := Cert.InRgSRefIdeal.τ) (Cert.InRgSRefIdeal.main (F := Ideal))) ⟨m', fun _ => 0, g'⟩ (fun r => ∀ c : Dev Cert.InRgSRefIdeal.nD,
          r.2.mem ((c.tc : Thread Cert.InRgSRefIdeal.nD Cert.InRgSRefIdeal.τ).loc Cert.InRgSRefIdeal.main_v1) = v0 c
          ∧ r.2.mem ((c.tc : Thread Cert.InRgSRefIdeal.nD Cert.InRgSRefIdeal.τ).loc Cert.InRgSRefIdeal.main_arg0) = m' ((c.tc : Thread Cert.InRgSRefIdeal.nD Cert.InRgSRefIdeal.τ).loc Cert.InRgSRefIdeal.main_arg0)
          ∧ r.2.mem ((c.tc : Thread Cert.InRgSRefIdeal.nD Cert.InRgSRefIdeal.τ).loc Cert.InRgSRefIdeal.main_arg1) = m' ((c.tc : Thread Cert.InRgSRefIdeal.nD Cert.InRgSRefIdeal.τ).loc Cert.InRgSRefIdeal.main_arg1))

def preserves_Qi_QiIdeal : Prop :=
  True

def algebraic_QiIdeal_QiRefIdeal [hQiIdeal : Cert.QiIdeal.Facts] [hQiRefIdeal : Cert.QiRefIdeal.Facts] : Prop :=
  ∀ (m : (ℓ : Loc Cert.QiIdeal.nD Cert.QiIdeal.τ Cert.QiIdeal.sig) → Buf (Elt Ideal) ℓ) (g : Dev Cert.QiIdeal.nD → PrngReg)
    (m' : (ℓ : Loc Cert.QiRefIdeal.nD Cert.QiRefIdeal.τ Cert.QiRefIdeal.sig) → Buf (Elt Ideal) ℓ) (g' : Dev Cert.QiRefIdeal.nD → PrngReg), Pre_QiIdeal m →
    (∀ c : Dev Cert.QiIdeal.nD,
      m' ((c.tc : Thread Cert.QiRefIdeal.nD Cert.QiRefIdeal.τ).loc Cert.QiRefIdeal.main_arg0) = m ((c.tc : Thread Cert.QiIdeal.nD Cert.QiIdeal.τ).loc Cert.QiIdeal.main_arg0)
      ∧ m' ((c.tc : Thread Cert.QiRefIdeal.nD Cert.QiRefIdeal.τ).loc Cert.QiRefIdeal.main_arg1) = m ((c.tc : Thread Cert.QiIdeal.nD Cert.QiIdeal.τ).loc Cert.QiIdeal.main_arg1)) →
    ∃ (v0 : (c : Dev Cert.QiIdeal.nD) → Buf (Elt Ideal) ((c.tc : Thread Cert.QiIdeal.nD Cert.QiIdeal.τ).loc Cert.QiIdeal.main_v2)),
      θ_run (Cert.QiIdeal.defs (F := Ideal)) (onTc (τ := Cert.QiIdeal.τ) (Cert.QiIdeal.main (F := Ideal))) ⟨m, fun _ => 0, g⟩ (fun r => ∀ c : Dev Cert.QiIdeal.nD,
          r.2.mem ((c.tc : Thread Cert.QiIdeal.nD Cert.QiIdeal.τ).loc Cert.QiIdeal.main_v2) = v0 c
          ∧ r.2.mem ((c.tc : Thread Cert.QiIdeal.nD Cert.QiIdeal.τ).loc Cert.QiIdeal.main_arg0) = m ((c.tc : Thread Cert.QiIdeal.nD Cert.QiIdeal.τ).loc Cert.QiIdeal.main_arg0)
          ∧ r.2.mem ((c.tc : Thread Cert.QiIdeal.nD Cert.QiIdeal.τ).loc Cert.QiIdeal.main_arg1) = m ((c.tc : Thread Cert.QiIdeal.nD Cert.QiIdeal.τ).loc Cert.QiIdeal.main_arg1))
      ∧ θ_run (Cert.QiRefIdeal.defs (F := Ideal)) (onTc (τ := Cert.QiRefIdeal.τ) (Cert.QiRefIdeal.main (F := Ideal))) ⟨m', fun _ => 0, g'⟩ (fun r => ∀ c : Dev Cert.QiRefIdeal.nD,
          r.2.mem ((c.tc : Thread Cert.QiRefIdeal.nD Cert.QiRefIdeal.τ).loc Cert.QiRefIdeal.main_v2) = v0 c
          ∧ r.2.mem ((c.tc : Thread Cert.QiRefIdeal.nD Cert.QiRefIdeal.τ).loc Cert.QiRefIdeal.main_arg0) = m' ((c.tc : Thread Cert.QiRefIdeal.nD Cert.QiRefIdeal.τ).loc Cert.QiRefIdeal.main_arg0)
          ∧ r.2.mem ((c.tc : Thread Cert.QiRefIdeal.nD Cert.QiRefIdeal.τ).loc Cert.QiRefIdeal.main_arg1) = m' ((c.tc : Thread Cert.QiRefIdeal.nD Cert.QiRefIdeal.τ).loc Cert.QiRefIdeal.main_arg1))

def preserves_IdxKey_IdxKeyIdeal : Prop :=
  True

def algebraic_IdxKeyIdeal_IdxKeyRefIdeal [hIdxKeyIdeal : Cert.IdxKeyIdeal.Facts] [hIdxKeyRefIdeal : Cert.IdxKeyRefIdeal.Facts] : Prop :=
  ∀ (m : (ℓ : Loc Cert.IdxKeyIdeal.nD Cert.IdxKeyIdeal.τ Cert.IdxKeyIdeal.sig) → Buf (Elt Ideal) ℓ) (g : Dev Cert.IdxKeyIdeal.nD → PrngReg)
    (m' : (ℓ : Loc Cert.IdxKeyRefIdeal.nD Cert.IdxKeyRefIdeal.τ Cert.IdxKeyRefIdeal.sig) → Buf (Elt Ideal) ℓ) (g' : Dev Cert.IdxKeyRefIdeal.nD → PrngReg), Pre_IdxKeyIdeal m →
    (∀ c : Dev Cert.IdxKeyIdeal.nD,
      m' ((c.tc : Thread Cert.IdxKeyRefIdeal.nD Cert.IdxKeyRefIdeal.τ).loc Cert.IdxKeyRefIdeal.main_arg0) = m ((c.tc : Thread Cert.IdxKeyIdeal.nD Cert.IdxKeyIdeal.τ).loc Cert.IdxKeyIdeal.main_arg0)
      ∧ m' ((c.tc : Thread Cert.IdxKeyRefIdeal.nD Cert.IdxKeyRefIdeal.τ).loc Cert.IdxKeyRefIdeal.main_arg1) = m ((c.tc : Thread Cert.IdxKeyIdeal.nD Cert.IdxKeyIdeal.τ).loc Cert.IdxKeyIdeal.main_arg1)
      ∧ m' ((c.tc : Thread Cert.IdxKeyRefIdeal.nD Cert.IdxKeyRefIdeal.τ).loc Cert.IdxKeyRefIdeal.main_arg2) = m ((c.tc : Thread Cert.IdxKeyIdeal.nD Cert.IdxKeyIdeal.τ).loc Cert.IdxKeyIdeal.main_arg2)
      ∧ m' ((c.tc : Thread Cert.IdxKeyRefIdeal.nD Cert.IdxKeyRefIdeal.τ).loc Cert.IdxKeyRefIdeal.main_arg3) = m ((c.tc : Thread Cert.IdxKeyIdeal.nD Cert.IdxKeyIdeal.τ).loc Cert.IdxKeyIdeal.main_arg3)) →
    ∃ (v0 : (c : Dev Cert.IdxKeyIdeal.nD) → Buf (Elt Ideal) ((c.tc : Thread Cert.IdxKeyIdeal.nD Cert.IdxKeyIdeal.τ).loc Cert.IdxKeyIdeal.main_v6_0)) (v1 : (c : Dev Cert.IdxKeyIdeal.nD) → Buf (Elt Ideal) ((c.tc : Thread Cert.IdxKeyIdeal.nD Cert.IdxKeyIdeal.τ).loc Cert.IdxKeyIdeal.main_v6_1)),
      θ_run (Cert.IdxKeyIdeal.defs (F := Ideal)) (onTc (τ := Cert.IdxKeyIdeal.τ) (Cert.IdxKeyIdeal.main (F := Ideal))) ⟨m, fun _ => 0, g⟩ (fun r => ∀ c : Dev Cert.IdxKeyIdeal.nD,
          r.2.mem ((c.tc : Thread Cert.IdxKeyIdeal.nD Cert.IdxKeyIdeal.τ).loc Cert.IdxKeyIdeal.main_v6_0) = v0 c
          ∧ r.2.mem ((c.tc : Thread Cert.IdxKeyIdeal.nD Cert.IdxKeyIdeal.τ).loc Cert.IdxKeyIdeal.main_v6_1) = v1 c
          ∧ r.2.mem ((c.tc : Thread Cert.IdxKeyIdeal.nD Cert.IdxKeyIdeal.τ).loc Cert.IdxKeyIdeal.main_arg0) = m ((c.tc : Thread Cert.IdxKeyIdeal.nD Cert.IdxKeyIdeal.τ).loc Cert.IdxKeyIdeal.main_arg0)
          ∧ r.2.mem ((c.tc : Thread Cert.IdxKeyIdeal.nD Cert.IdxKeyIdeal.τ).loc Cert.IdxKeyIdeal.main_arg1) = m ((c.tc : Thread Cert.IdxKeyIdeal.nD Cert.IdxKeyIdeal.τ).loc Cert.IdxKeyIdeal.main_arg1)
          ∧ r.2.mem ((c.tc : Thread Cert.IdxKeyIdeal.nD Cert.IdxKeyIdeal.τ).loc Cert.IdxKeyIdeal.main_arg2) = m ((c.tc : Thread Cert.IdxKeyIdeal.nD Cert.IdxKeyIdeal.τ).loc Cert.IdxKeyIdeal.main_arg2)
          ∧ r.2.mem ((c.tc : Thread Cert.IdxKeyIdeal.nD Cert.IdxKeyIdeal.τ).loc Cert.IdxKeyIdeal.main_arg3) = m ((c.tc : Thread Cert.IdxKeyIdeal.nD Cert.IdxKeyIdeal.τ).loc Cert.IdxKeyIdeal.main_arg3))
      ∧ θ_run (Cert.IdxKeyRefIdeal.defs (F := Ideal)) (onTc (τ := Cert.IdxKeyRefIdeal.τ) (Cert.IdxKeyRefIdeal.main (F := Ideal))) ⟨m', fun _ => 0, g'⟩ (fun r => ∀ c : Dev Cert.IdxKeyRefIdeal.nD,
          r.2.mem ((c.tc : Thread Cert.IdxKeyRefIdeal.nD Cert.IdxKeyRefIdeal.τ).loc Cert.IdxKeyRefIdeal.main_v26) = v0 c
          ∧ r.2.mem ((c.tc : Thread Cert.IdxKeyRefIdeal.nD Cert.IdxKeyRefIdeal.τ).loc Cert.IdxKeyRefIdeal.main_v29) = v1 c
          ∧ r.2.mem ((c.tc : Thread Cert.IdxKeyRefIdeal.nD Cert.IdxKeyRefIdeal.τ).loc Cert.IdxKeyRefIdeal.main_arg0) = m' ((c.tc : Thread Cert.IdxKeyRefIdeal.nD Cert.IdxKeyRefIdeal.τ).loc Cert.IdxKeyRefIdeal.main_arg0)
          ∧ r.2.mem ((c.tc : Thread Cert.IdxKeyRefIdeal.nD Cert.IdxKeyRefIdeal.τ).loc Cert.IdxKeyRefIdeal.main_arg1) = m' ((c.tc : Thread Cert.IdxKeyRefIdeal.nD Cert.IdxKeyRefIdeal.τ).loc Cert.IdxKeyRefIdeal.main_arg1)
          ∧ r.2.mem ((c.tc : Thread Cert.IdxKeyRefIdeal.nD Cert.IdxKeyRefIdeal.τ).loc Cert.IdxKeyRefIdeal.main_arg2) = m' ((c.tc : Thread Cert.IdxKeyRefIdeal.nD Cert.IdxKeyRefIdeal.τ).loc Cert.IdxKeyRefIdeal.main_arg2)
          ∧ r.2.mem ((c.tc : Thread Cert.IdxKeyRefIdeal.nD Cert.IdxKeyRefIdeal.τ).loc Cert.IdxKeyRefIdeal.main_arg3) = m' ((c.tc : Thread Cert.IdxKeyRefIdeal.nD Cert.IdxKeyRefIdeal.τ).loc Cert.IdxKeyRefIdeal.main_arg3))

def preserves_IdxKeyS_IdxKeySIdeal : Prop :=
  True

def algebraic_IdxKeySIdeal_IdxKeySRefIdeal [hIdxKeySIdeal : Cert.IdxKeySIdeal.Facts] [hIdxKeySRefIdeal : Cert.IdxKeySRefIdeal.Facts] : Prop :=
  ∀ (m : (ℓ : Loc Cert.IdxKeySIdeal.nD Cert.IdxKeySIdeal.τ Cert.IdxKeySIdeal.sig) → Buf (Elt Ideal) ℓ) (g : Dev Cert.IdxKeySIdeal.nD → PrngReg)
    (m' : (ℓ : Loc Cert.IdxKeySRefIdeal.nD Cert.IdxKeySRefIdeal.τ Cert.IdxKeySRefIdeal.sig) → Buf (Elt Ideal) ℓ) (g' : Dev Cert.IdxKeySRefIdeal.nD → PrngReg), Pre_IdxKeySIdeal m →
    (∀ c : Dev Cert.IdxKeySIdeal.nD,
      m' ((c.tc : Thread Cert.IdxKeySRefIdeal.nD Cert.IdxKeySRefIdeal.τ).loc Cert.IdxKeySRefIdeal.main_arg0) = m ((c.tc : Thread Cert.IdxKeySIdeal.nD Cert.IdxKeySIdeal.τ).loc Cert.IdxKeySIdeal.main_arg0)
      ∧ m' ((c.tc : Thread Cert.IdxKeySRefIdeal.nD Cert.IdxKeySRefIdeal.τ).loc Cert.IdxKeySRefIdeal.main_arg1) = m ((c.tc : Thread Cert.IdxKeySIdeal.nD Cert.IdxKeySIdeal.τ).loc Cert.IdxKeySIdeal.main_arg1)
      ∧ m' ((c.tc : Thread Cert.IdxKeySRefIdeal.nD Cert.IdxKeySRefIdeal.τ).loc Cert.IdxKeySRefIdeal.main_arg2) = m ((c.tc : Thread Cert.IdxKeySIdeal.nD Cert.IdxKeySIdeal.τ).loc Cert.IdxKeySIdeal.main_arg2)
      ∧ m' ((c.tc : Thread Cert.IdxKeySRefIdeal.nD Cert.IdxKeySRefIdeal.τ).loc Cert.IdxKeySRefIdeal.main_arg3) = m ((c.tc : Thread Cert.IdxKeySIdeal.nD Cert.IdxKeySIdeal.τ).loc Cert.IdxKeySIdeal.main_arg3)) →
    ∃ (v0 : (c : Dev Cert.IdxKeySIdeal.nD) → Buf (Elt Ideal) ((c.tc : Thread Cert.IdxKeySIdeal.nD Cert.IdxKeySIdeal.τ).loc Cert.IdxKeySIdeal.main_v6_0)) (v1 : (c : Dev Cert.IdxKeySIdeal.nD) → Buf (Elt Ideal) ((c.tc : Thread Cert.IdxKeySIdeal.nD Cert.IdxKeySIdeal.τ).loc Cert.IdxKeySIdeal.main_v6_1)),
      θ_run (Cert.IdxKeySIdeal.defs (F := Ideal)) (onTc (τ := Cert.IdxKeySIdeal.τ) (Cert.IdxKeySIdeal.main (F := Ideal))) ⟨m, fun _ => 0, g⟩ (fun r => ∀ c : Dev Cert.IdxKeySIdeal.nD,
          r.2.mem ((c.tc : Thread Cert.IdxKeySIdeal.nD Cert.IdxKeySIdeal.τ).loc Cert.IdxKeySIdeal.main_v6_0) = v0 c
          ∧ r.2.mem ((c.tc : Thread Cert.IdxKeySIdeal.nD Cert.IdxKeySIdeal.τ).loc Cert.IdxKeySIdeal.main_v6_1) = v1 c
          ∧ r.2.mem ((c.tc : Thread Cert.IdxKeySIdeal.nD Cert.IdxKeySIdeal.τ).loc Cert.IdxKeySIdeal.main_arg0) = m ((c.tc : Thread Cert.IdxKeySIdeal.nD Cert.IdxKeySIdeal.τ).loc Cert.IdxKeySIdeal.main_arg0)
          ∧ r.2.mem ((c.tc : Thread Cert.IdxKeySIdeal.nD Cert.IdxKeySIdeal.τ).loc Cert.IdxKeySIdeal.main_arg1) = m ((c.tc : Thread Cert.IdxKeySIdeal.nD Cert.IdxKeySIdeal.τ).loc Cert.IdxKeySIdeal.main_arg1)
          ∧ r.2.mem ((c.tc : Thread Cert.IdxKeySIdeal.nD Cert.IdxKeySIdeal.τ).loc Cert.IdxKeySIdeal.main_arg2) = m ((c.tc : Thread Cert.IdxKeySIdeal.nD Cert.IdxKeySIdeal.τ).loc Cert.IdxKeySIdeal.main_arg2)
          ∧ r.2.mem ((c.tc : Thread Cert.IdxKeySIdeal.nD Cert.IdxKeySIdeal.τ).loc Cert.IdxKeySIdeal.main_arg3) = m ((c.tc : Thread Cert.IdxKeySIdeal.nD Cert.IdxKeySIdeal.τ).loc Cert.IdxKeySIdeal.main_arg3))
      ∧ θ_run (Cert.IdxKeySRefIdeal.defs (F := Ideal)) (onTc (τ := Cert.IdxKeySRefIdeal.τ) (Cert.IdxKeySRefIdeal.main (F := Ideal))) ⟨m', fun _ => 0, g'⟩ (fun r => ∀ c : Dev Cert.IdxKeySRefIdeal.nD,
          r.2.mem ((c.tc : Thread Cert.IdxKeySRefIdeal.nD Cert.IdxKeySRefIdeal.τ).loc Cert.IdxKeySRefIdeal.main_v26) = v0 c
          ∧ r.2.mem ((c.tc : Thread Cert.IdxKeySRefIdeal.nD Cert.IdxKeySRefIdeal.τ).loc Cert.IdxKeySRefIdeal.main_v29) = v1 c
          ∧ r.2.mem ((c.tc : Thread Cert.IdxKeySRefIdeal.nD Cert.IdxKeySRefIdeal.τ).loc Cert.IdxKeySRefIdeal.main_arg0) = m' ((c.tc : Thread Cert.IdxKeySRefIdeal.nD Cert.IdxKeySRefIdeal.τ).loc Cert.IdxKeySRefIdeal.main_arg0)
          ∧ r.2.mem ((c.tc : Thread Cert.IdxKeySRefIdeal.nD Cert.IdxKeySRefIdeal.τ).loc Cert.IdxKeySRefIdeal.main_arg1) = m' ((c.tc : Thread Cert.IdxKeySRefIdeal.nD Cert.IdxKeySRefIdeal.τ).loc Cert.IdxKeySRefIdeal.main_arg1)
          ∧ r.2.mem ((c.tc : Thread Cert.IdxKeySRefIdeal.nD Cert.IdxKeySRefIdeal.τ).loc Cert.IdxKeySRefIdeal.main_arg2) = m' ((c.tc : Thread Cert.IdxKeySRefIdeal.nD Cert.IdxKeySRefIdeal.τ).loc Cert.IdxKeySRefIdeal.main_arg2)
          ∧ r.2.mem ((c.tc : Thread Cert.IdxKeySRefIdeal.nD Cert.IdxKeySRefIdeal.τ).loc Cert.IdxKeySRefIdeal.main_arg3) = m' ((c.tc : Thread Cert.IdxKeySRefIdeal.nD Cert.IdxKeySRefIdeal.τ).loc Cert.IdxKeySRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v15) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)
      ∧ m' ((c.tc : Thread Cert.FinalSRefIdeal.nD Cert.FinalSRefIdeal.τ).loc Cert.FinalSRefIdeal.main_arg2) = m ((c.tc : Thread Cert.FinalSIdeal.nD Cert.FinalSIdeal.τ).loc Cert.FinalSIdeal.main_arg2)
      ∧ m' ((c.tc : Thread Cert.FinalSRefIdeal.nD Cert.FinalSRefIdeal.τ).loc Cert.FinalSRefIdeal.main_arg3) = m ((c.tc : Thread Cert.FinalSIdeal.nD Cert.FinalSIdeal.τ).loc Cert.FinalSIdeal.main_arg3)) →
    ∃ (v0 : (c : Dev Cert.FinalSIdeal.nD) → Buf (Elt Ideal) ((c.tc : Thread Cert.FinalSIdeal.nD Cert.FinalSIdeal.τ).loc Cert.FinalSIdeal.main_v5)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v5) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
          ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v17) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1)
          ∧ r.2.mem ((c.tc : Thread Cert.FinalSRefIdeal.nD Cert.FinalSRefIdeal.τ).loc Cert.FinalSRefIdeal.main_arg2) = m' ((c.tc : Thread Cert.FinalSRefIdeal.nD Cert.FinalSRefIdeal.τ).loc Cert.FinalSRefIdeal.main_arg2)
          ∧ r.2.mem ((c.tc : Thread Cert.FinalSRefIdeal.nD Cert.FinalSRefIdeal.τ).loc Cert.FinalSRefIdeal.main_arg3) = m' ((c.tc : Thread Cert.FinalSRefIdeal.nD Cert.FinalSRefIdeal.τ).loc Cert.FinalSRefIdeal.main_arg3))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)
      ∧ m' ((c.tc : Thread Cert.StepRefIdeal.nD Cert.StepRefIdeal.τ).loc Cert.StepRefIdeal.main_arg7) = m ((c.tc : Thread Cert.StepIdeal.nD Cert.StepIdeal.τ).loc Cert.StepIdeal.main_arg7)
      ∧ m' ((c.tc : Thread Cert.StepRefIdeal.nD Cert.StepRefIdeal.τ).loc Cert.StepRefIdeal.main_arg8) = m ((c.tc : Thread Cert.StepIdeal.nD Cert.StepIdeal.τ).loc Cert.StepIdeal.main_arg8)
      ∧ m' ((c.tc : Thread Cert.StepRefIdeal.nD Cert.StepRefIdeal.τ).loc Cert.StepRefIdeal.main_arg9) = m ((c.tc : Thread Cert.StepIdeal.nD Cert.StepIdeal.τ).loc Cert.StepIdeal.main_arg9)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v92) = v0 c
          ∧ r.2.mem ((c.tc : Thread Cert.StepRefIdeal.nD Cert.StepRefIdeal.τ).loc Cert.StepRefIdeal.main_v75_3) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6)
          ∧ r.2.mem ((c.tc : Thread Cert.StepRefIdeal.nD Cert.StepRefIdeal.τ).loc Cert.StepRefIdeal.main_arg7) = m' ((c.tc : Thread Cert.StepRefIdeal.nD Cert.StepRefIdeal.τ).loc Cert.StepRefIdeal.main_arg7)
          ∧ r.2.mem ((c.tc : Thread Cert.StepRefIdeal.nD Cert.StepRefIdeal.τ).loc Cert.StepRefIdeal.main_arg8) = m' ((c.tc : Thread Cert.StepRefIdeal.nD Cert.StepRefIdeal.τ).loc Cert.StepRefIdeal.main_arg8)
          ∧ r.2.mem ((c.tc : Thread Cert.StepRefIdeal.nD Cert.StepRefIdeal.τ).loc Cert.StepRefIdeal.main_arg9) = m' ((c.tc : Thread Cert.StepRefIdeal.nD Cert.StepRefIdeal.τ).loc Cert.StepRefIdeal.main_arg9))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v3)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v15) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)) →
    ∃ (v0 : (c : Dev Cert.PreIdeal.nD) → Buf (Elt Ideal) ((c.tc : Thread Cert.PreIdeal.nD Cert.PreIdeal.τ).loc Cert.PreIdeal.main_v1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v19) = v0 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3))

def preserves_PreS_PreSIdeal : Prop :=
  True

def algebraic_PreSIdeal_PreSRefIdeal [hPreSIdeal : Cert.PreSIdeal.Facts] [hPreSRefIdeal : Cert.PreSRefIdeal.Facts] : Prop :=
  ∀ (m : (ℓ : Loc Cert.PreSIdeal.nD Cert.PreSIdeal.τ Cert.PreSIdeal.sig) → Buf (Elt Ideal) ℓ) (g : Dev Cert.PreSIdeal.nD → PrngReg)
    (m' : (ℓ : Loc Cert.PreSRefIdeal.nD Cert.PreSRefIdeal.τ Cert.PreSRefIdeal.sig) → Buf (Elt Ideal) ℓ) (g' : Dev Cert.PreSRefIdeal.nD → PrngReg), Pre_PreSIdeal m →
    (∀ c : Dev Cert.PreSIdeal.nD,
      m' ((c.tc : Thread Cert.PreSRefIdeal.nD Cert.PreSRefIdeal.τ).loc Cert.PreSRefIdeal.main_arg0) = m ((c.tc : Thread Cert.PreSIdeal.nD Cert.PreSIdeal.τ).loc Cert.PreSIdeal.main_arg0)
      ∧ m' ((c.tc : Thread Cert.PreSRefIdeal.nD Cert.PreSRefIdeal.τ).loc Cert.PreSRefIdeal.main_arg1) = m ((c.tc : Thread Cert.PreSIdeal.nD Cert.PreSIdeal.τ).loc Cert.PreSIdeal.main_arg1)
      ∧ m' ((c.tc : Thread Cert.PreSRefIdeal.nD Cert.PreSRefIdeal.τ).loc Cert.PreSRefIdeal.main_arg2) = m ((c.tc : Thread Cert.PreSIdeal.nD Cert.PreSIdeal.τ).loc Cert.PreSIdeal.main_arg2)
      ∧ m' ((c.tc : Thread Cert.PreSRefIdeal.nD Cert.PreSRefIdeal.τ).loc Cert.PreSRefIdeal.main_arg3) = m ((c.tc : Thread Cert.PreSIdeal.nD Cert.PreSIdeal.τ).loc Cert.PreSIdeal.main_arg3)) →
    ∃ (v0 : (c : Dev Cert.PreSIdeal.nD) → Buf (Elt Ideal) ((c.tc : Thread Cert.PreSIdeal.nD Cert.PreSIdeal.τ).loc Cert.PreSIdeal.main_v6)),
      θ_run (Cert.PreSIdeal.defs (F := Ideal)) (onTc (τ := Cert.PreSIdeal.τ) (Cert.PreSIdeal.main (F := Ideal))) ⟨m, fun _ => 0, g⟩ (fun r => ∀ c : Dev Cert.PreSIdeal.nD,
          r.2.mem ((c.tc : Thread Cert.PreSIdeal.nD Cert.PreSIdeal.τ).loc Cert.PreSIdeal.main_v6) = v0 c
          ∧ r.2.mem ((c.tc : Thread Cert.PreSIdeal.nD Cert.PreSIdeal.τ).loc Cert.PreSIdeal.main_arg0) = m ((c.tc : Thread Cert.PreSIdeal.nD Cert.PreSIdeal.τ).loc Cert.PreSIdeal.main_arg0)
          ∧ r.2.mem ((c.tc : Thread Cert.PreSIdeal.nD Cert.PreSIdeal.τ).loc Cert.PreSIdeal.main_arg1) = m ((c.tc : Thread Cert.PreSIdeal.nD Cert.PreSIdeal.τ).loc Cert.PreSIdeal.main_arg1)
          ∧ r.2.mem ((c.tc : Thread Cert.PreSIdeal.nD Cert.PreSIdeal.τ).loc Cert.PreSIdeal.main_arg2) = m ((c.tc : Thread Cert.PreSIdeal.nD Cert.PreSIdeal.τ).loc Cert.PreSIdeal.main_arg2)
          ∧ r.2.mem ((c.tc : Thread Cert.PreSIdeal.nD Cert.PreSIdeal.τ).loc Cert.PreSIdeal.main_arg3) = m ((c.tc : Thread Cert.PreSIdeal.nD Cert.PreSIdeal.τ).loc Cert.PreSIdeal.main_arg3))
      ∧ θ_run (Cert.PreSRefIdeal.defs (F := Ideal)) (onTc (τ := Cert.PreSRefIdeal.τ) (Cert.PreSRefIdeal.main (F := Ideal))) ⟨m', fun _ => 0, g'⟩ (fun r => ∀ c : Dev Cert.PreSRefIdeal.nD,
          r.2.mem ((c.tc : Thread Cert.PreSRefIdeal.nD Cert.PreSRefIdeal.τ).loc Cert.PreSRefIdeal.main_v22) = v0 c
          ∧ r.2.mem ((c.tc : Thread Cert.PreSRefIdeal.nD Cert.PreSRefIdeal.τ).loc Cert.PreSRefIdeal.main_arg0) = m' ((c.tc : Thread Cert.PreSRefIdeal.nD Cert.PreSRefIdeal.τ).loc Cert.PreSRefIdeal.main_arg0)
          ∧ r.2.mem ((c.tc : Thread Cert.PreSRefIdeal.nD Cert.PreSRefIdeal.τ).loc Cert.PreSRefIdeal.main_arg1) = m' ((c.tc : Thread Cert.PreSRefIdeal.nD Cert.PreSRefIdeal.τ).loc Cert.PreSRefIdeal.main_arg1)
          ∧ r.2.mem ((c.tc : Thread Cert.PreSRefIdeal.nD Cert.PreSRefIdeal.τ).loc Cert.PreSRefIdeal.main_arg2) = m' ((c.tc : Thread Cert.PreSRefIdeal.nD Cert.PreSRefIdeal.τ).loc Cert.PreSRefIdeal.main_arg2)
          ∧ r.2.mem ((c.tc : Thread Cert.PreSRefIdeal.nD Cert.PreSRefIdeal.τ).loc Cert.PreSRefIdeal.main_arg3) = m' ((c.tc : Thread Cert.PreSRefIdeal.nD Cert.PreSRefIdeal.τ).loc Cert.PreSRefIdeal.main_arg3))

def preserves_Group_GroupIdeal : Prop :=
  True

def algebraic_GroupIdeal_GroupRefIdeal [hGroupIdeal : Cert.GroupIdeal.Facts] [hGroupRefIdeal : Cert.GroupRefIdeal.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)
      ∧ m' ((c.tc : Thread Cert.GroupRefIdeal.nD Cert.GroupRefIdeal.τ).loc Cert.GroupRefIdeal.main_arg2) = m ((c.tc : Thread Cert.GroupIdeal.nD Cert.GroupIdeal.τ).loc Cert.GroupIdeal.main_arg2)
      ∧ m' ((c.tc : Thread Cert.GroupRefIdeal.nD Cert.GroupRefIdeal.τ).loc Cert.GroupRefIdeal.main_arg3) = m ((c.tc : Thread Cert.GroupIdeal.nD Cert.GroupIdeal.τ).loc Cert.GroupIdeal.main_arg3)) →
    ∃ (v0 : (c : Dev Cert.GroupIdeal.nD) → Buf (Elt Ideal) ((c.tc : Thread Cert.GroupIdeal.nD Cert.GroupIdeal.τ).loc Cert.GroupIdeal.main_v2)),
      θ_run (Cert.GroupIdeal.defs (F := Ideal)) (onTc (τ := Cert.GroupIdeal.τ) (Cert.GroupIdeal.main (F := Ideal))) ⟨m, fun _ => 0, g⟩ (fun r => ∀ c : Dev Cert.GroupIdeal.nD,
          r.2.mem ((c.tc : Thread Cert.GroupIdeal.nD Cert.GroupIdeal.τ).loc Cert.GroupIdeal.main_v2) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
          ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
          ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v27) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1)
          ∧ r.2.mem ((c.tc : Thread Cert.GroupRefIdeal.nD Cert.GroupRefIdeal.τ).loc Cert.GroupRefIdeal.main_arg2) = m' ((c.tc : Thread Cert.GroupRefIdeal.nD Cert.GroupRefIdeal.τ).loc Cert.GroupRefIdeal.main_arg2)
          ∧ r.2.mem ((c.tc : Thread Cert.GroupRefIdeal.nD Cert.GroupRefIdeal.τ).loc Cert.GroupRefIdeal.main_arg3) = m' ((c.tc : Thread Cert.GroupRefIdeal.nD Cert.GroupRefIdeal.τ).loc Cert.GroupRefIdeal.main_arg3))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v2_0)) (v1 : (c : Dev Cert.MidIdeal.nD) → Buf (Elt Ideal) ((c.tc : Thread Cert.MidIdeal.nD Cert.MidIdeal.τ).loc Cert.MidIdeal.main_v2_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v2_0) = v0 c
          ∧ r.2.mem ((c.tc : Thread Cert.MidIdeal.nD Cert.MidIdeal.τ).loc Cert.MidIdeal.main_v2_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v15) = v0 c
          ∧ r.2.mem ((c.tc : Thread Cert.MidRefIdeal.nD Cert.MidRefIdeal.τ).loc Cert.MidRefIdeal.main_v35) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_MidS_MidSIdeal : Prop :=
  True

def algebraic_MidSIdeal_MidSRefIdeal [hMidSIdeal : Cert.MidSIdeal.Facts] [hMidSRefIdeal : Cert.MidSRefIdeal.Facts] : Prop :=
  ∀ (m : (ℓ : Loc Cert.MidSIdeal.nD Cert.MidSIdeal.τ Cert.MidSIdeal.sig) → Buf (Elt Ideal) ℓ) (g : Dev Cert.MidSIdeal.nD → PrngReg)
    (m' : (ℓ : Loc Cert.MidSRefIdeal.nD Cert.MidSRefIdeal.τ Cert.MidSRefIdeal.sig) → Buf (Elt Ideal) ℓ) (g' : Dev Cert.MidSRefIdeal.nD → PrngReg), Pre_MidSIdeal m →
    (∀ c : Dev Cert.MidSIdeal.nD,
      m' ((c.tc : Thread Cert.MidSRefIdeal.nD Cert.MidSRefIdeal.τ).loc Cert.MidSRefIdeal.main_arg0) = m ((c.tc : Thread Cert.MidSIdeal.nD Cert.MidSIdeal.τ).loc Cert.MidSIdeal.main_arg0)
      ∧ m' ((c.tc : Thread Cert.MidSRefIdeal.nD Cert.MidSRefIdeal.τ).loc Cert.MidSRefIdeal.main_arg1) = m ((c.tc : Thread Cert.MidSIdeal.nD Cert.MidSIdeal.τ).loc Cert.MidSIdeal.main_arg1)
      ∧ m' ((c.tc : Thread Cert.MidSRefIdeal.nD Cert.MidSRefIdeal.τ).loc Cert.MidSRefIdeal.main_arg2) = m ((c.tc : Thread Cert.MidSIdeal.nD Cert.MidSIdeal.τ).loc Cert.MidSIdeal.main_arg2)
      ∧ m' ((c.tc : Thread Cert.MidSRefIdeal.nD Cert.MidSRefIdeal.τ).loc Cert.MidSRefIdeal.main_arg3) = m ((c.tc : Thread Cert.MidSIdeal.nD Cert.MidSIdeal.τ).loc Cert.MidSIdeal.main_arg3)
      ∧ m' ((c.tc : Thread Cert.MidSRefIdeal.nD Cert.MidSRefIdeal.τ).loc Cert.MidSRefIdeal.main_arg4) = m ((c.tc : Thread Cert.MidSIdeal.nD Cert.MidSIdeal.τ).loc Cert.MidSIdeal.main_arg4)
      ∧ m' ((c.tc : Thread Cert.MidSRefIdeal.nD Cert.MidSRefIdeal.τ).loc Cert.MidSRefIdeal.main_arg5) = m ((c.tc : Thread Cert.MidSIdeal.nD Cert.MidSIdeal.τ).loc Cert.MidSIdeal.main_arg5)
      ∧ m' ((c.tc : Thread Cert.MidSRefIdeal.nD Cert.MidSRefIdeal.τ).loc Cert.MidSRefIdeal.main_arg6) = m ((c.tc : Thread Cert.MidSIdeal.nD Cert.MidSIdeal.τ).loc Cert.MidSIdeal.main_arg6)) →
    ∃ (v0 : (c : Dev Cert.MidSIdeal.nD) → Buf (Elt Ideal) ((c.tc : Thread Cert.MidSIdeal.nD Cert.MidSIdeal.τ).loc Cert.MidSIdeal.main_v10_0)) (v1 : (c : Dev Cert.MidSIdeal.nD) → Buf (Elt Ideal) ((c.tc : Thread Cert.MidSIdeal.nD Cert.MidSIdeal.τ).loc Cert.MidSIdeal.main_v10_1)),
      θ_run (Cert.MidSIdeal.defs (F := Ideal)) (onTc (τ := Cert.MidSIdeal.τ) (Cert.MidSIdeal.main (F := Ideal))) ⟨m, fun _ => 0, g⟩ (fun r => ∀ c : Dev Cert.MidSIdeal.nD,
          r.2.mem ((c.tc : Thread Cert.MidSIdeal.nD Cert.MidSIdeal.τ).loc Cert.MidSIdeal.main_v10_0) = v0 c
          ∧ r.2.mem ((c.tc : Thread Cert.MidSIdeal.nD Cert.MidSIdeal.τ).loc Cert.MidSIdeal.main_v10_1) = v1 c
          ∧ r.2.mem ((c.tc : Thread Cert.MidSIdeal.nD Cert.MidSIdeal.τ).loc Cert.MidSIdeal.main_arg0) = m ((c.tc : Thread Cert.MidSIdeal.nD Cert.MidSIdeal.τ).loc Cert.MidSIdeal.main_arg0)
          ∧ r.2.mem ((c.tc : Thread Cert.MidSIdeal.nD Cert.MidSIdeal.τ).loc Cert.MidSIdeal.main_arg1) = m ((c.tc : Thread Cert.MidSIdeal.nD Cert.MidSIdeal.τ).loc Cert.MidSIdeal.main_arg1)
          ∧ r.2.mem ((c.tc : Thread Cert.MidSIdeal.nD Cert.MidSIdeal.τ).loc Cert.MidSIdeal.main_arg2) = m ((c.tc : Thread Cert.MidSIdeal.nD Cert.MidSIdeal.τ).loc Cert.MidSIdeal.main_arg2)
          ∧ r.2.mem ((c.tc : Thread Cert.MidSIdeal.nD Cert.MidSIdeal.τ).loc Cert.MidSIdeal.main_arg3) = m ((c.tc : Thread Cert.MidSIdeal.nD Cert.MidSIdeal.τ).loc Cert.MidSIdeal.main_arg3)
          ∧ r.2.mem ((c.tc : Thread Cert.MidSIdeal.nD Cert.MidSIdeal.τ).loc Cert.MidSIdeal.main_arg4) = m ((c.tc : Thread Cert.MidSIdeal.nD Cert.MidSIdeal.τ).loc Cert.MidSIdeal.main_arg4)
          ∧ r.2.mem ((c.tc : Thread Cert.MidSIdeal.nD Cert.MidSIdeal.τ).loc Cert.MidSIdeal.main_arg5) = m ((c.tc : Thread Cert.MidSIdeal.nD Cert.MidSIdeal.τ).loc Cert.MidSIdeal.main_arg5)
          ∧ r.2.mem ((c.tc : Thread Cert.MidSIdeal.nD Cert.MidSIdeal.τ).loc Cert.MidSIdeal.main_arg6) = m ((c.tc : Thread Cert.MidSIdeal.nD Cert.MidSIdeal.τ).loc Cert.MidSIdeal.main_arg6))
      ∧ θ_run (Cert.MidSRefIdeal.defs (F := Ideal)) (onTc (τ := Cert.MidSRefIdeal.τ) (Cert.MidSRefIdeal.main (F := Ideal))) ⟨m', fun _ => 0, g'⟩ (fun r => ∀ c : Dev Cert.MidSRefIdeal.nD,
          r.2.mem ((c.tc : Thread Cert.MidSRefIdeal.nD Cert.MidSRefIdeal.τ).loc Cert.MidSRefIdeal.main_v38) = v0 c
          ∧ r.2.mem ((c.tc : Thread Cert.MidSRefIdeal.nD Cert.MidSRefIdeal.τ).loc Cert.MidSRefIdeal.main_v40) = v1 c
          ∧ r.2.mem ((c.tc : Thread Cert.MidSRefIdeal.nD Cert.MidSRefIdeal.τ).loc Cert.MidSRefIdeal.main_arg0) = m' ((c.tc : Thread Cert.MidSRefIdeal.nD Cert.MidSRefIdeal.τ).loc Cert.MidSRefIdeal.main_arg0)
          ∧ r.2.mem ((c.tc : Thread Cert.MidSRefIdeal.nD Cert.MidSRefIdeal.τ).loc Cert.MidSRefIdeal.main_arg1) = m' ((c.tc : Thread Cert.MidSRefIdeal.nD Cert.MidSRefIdeal.τ).loc Cert.MidSRefIdeal.main_arg1)
          ∧ r.2.mem ((c.tc : Thread Cert.MidSRefIdeal.nD Cert.MidSRefIdeal.τ).loc Cert.MidSRefIdeal.main_arg2) = m' ((c.tc : Thread Cert.MidSRefIdeal.nD Cert.MidSRefIdeal.τ).loc Cert.MidSRefIdeal.main_arg2)
          ∧ r.2.mem ((c.tc : Thread Cert.MidSRefIdeal.nD Cert.MidSRefIdeal.τ).loc Cert.MidSRefIdeal.main_arg3) = m' ((c.tc : Thread Cert.MidSRefIdeal.nD Cert.MidSRefIdeal.τ).loc Cert.MidSRefIdeal.main_arg3)
          ∧ r.2.mem ((c.tc : Thread Cert.MidSRefIdeal.nD Cert.MidSRefIdeal.τ).loc Cert.MidSRefIdeal.main_arg4) = m' ((c.tc : Thread Cert.MidSRefIdeal.nD Cert.MidSRefIdeal.τ).loc Cert.MidSRefIdeal.main_arg4)
          ∧ r.2.mem ((c.tc : Thread Cert.MidSRefIdeal.nD Cert.MidSRefIdeal.τ).loc Cert.MidSRefIdeal.main_arg5) = m' ((c.tc : Thread Cert.MidSRefIdeal.nD Cert.MidSRefIdeal.τ).loc Cert.MidSRefIdeal.main_arg5)
          ∧ r.2.mem ((c.tc : Thread Cert.MidSRefIdeal.nD Cert.MidSRefIdeal.τ).loc Cert.MidSRefIdeal.main_arg6) = m' ((c.tc : Thread Cert.MidSRefIdeal.nD Cert.MidSRefIdeal.τ).loc Cert.MidSRefIdeal.main_arg6))

def Claim : Prop :=
  ∃ (hKernel : Cert.Kernel.Facts) (hKernelIdeal : Cert.KernelIdeal.Facts) (hReferenceIdeal : Cert.ReferenceIdeal.Facts) (hSwiglu : Cert.Swiglu.Facts) (hSwigluIdeal : Cert.SwigluIdeal.Facts) (hSwigluRefIdeal : Cert.SwigluRefIdeal.Facts) (hDown : Cert.Down.Facts) (hDownIdeal : Cert.DownIdeal.Facts) (hDownRefIdeal : Cert.DownRefIdeal.Facts) (hOutProj : Cert.OutProj.Facts) (hOutProjIdeal : Cert.OutProjIdeal.Facts) (hOutProjRefIdeal : Cert.OutProjRefIdeal.Facts) (hInRg : Cert.InRg.Facts) (hInRgIdeal : Cert.InRgIdeal.Facts) (hInRgRefIdeal : Cert.InRgRefIdeal.Facts) (hKv : Cert.Kv.Facts) (hKvIdeal : Cert.KvIdeal.Facts) (hKvRefIdeal : Cert.KvRefIdeal.Facts) (hKvS : Cert.KvS.Facts) (hKvSIdeal : Cert.KvSIdeal.Facts) (hKvSRefIdeal : Cert.KvSRefIdeal.Facts) (hInRgS : Cert.InRgS.Facts) (hInRgSIdeal : Cert.InRgSIdeal.Facts) (hInRgSRefIdeal : Cert.InRgSRefIdeal.Facts) (hQi : Cert.Qi.Facts) (hQiIdeal : Cert.QiIdeal.Facts) (hQiRefIdeal : Cert.QiRefIdeal.Facts) (hIdxKey : Cert.IdxKey.Facts) (hIdxKeyIdeal : Cert.IdxKeyIdeal.Facts) (hIdxKeyRefIdeal : Cert.IdxKeyRefIdeal.Facts) (hIdxKeyS : Cert.IdxKeyS.Facts) (hIdxKeySIdeal : Cert.IdxKeySIdeal.Facts) (hIdxKeySRefIdeal : Cert.IdxKeySRefIdeal.Facts) (hFinal : Cert.Final.Facts) (hFinalIdeal : Cert.FinalIdeal.Facts) (hFinalRefIdeal : Cert.FinalRefIdeal.Facts) (hFinalS : Cert.FinalS.Facts) (hFinalSIdeal : Cert.FinalSIdeal.Facts) (hFinalSRefIdeal : Cert.FinalSRefIdeal.Facts) (hStep : Cert.Step.Facts) (hStepIdeal : Cert.StepIdeal.Facts) (hStepRefIdeal : Cert.StepRefIdeal.Facts) (hMod : Cert.Mod.Facts) (hModIdeal : Cert.ModIdeal.Facts) (hModRefIdeal : Cert.ModRefIdeal.Facts) (hPre : Cert.Pre.Facts) (hPreIdeal : Cert.PreIdeal.Facts) (hPreRefIdeal : Cert.PreRefIdeal.Facts) (hPreS : Cert.PreS.Facts) (hPreSIdeal : Cert.PreSIdeal.Facts) (hPreSRefIdeal : Cert.PreSRefIdeal.Facts) (hGroup : Cert.Group.Facts) (hGroupIdeal : Cert.GroupIdeal.Facts) (hGroupRefIdeal : Cert.GroupRefIdeal.Facts) (hMid : Cert.Mid.Facts) (hMidIdeal : Cert.MidIdeal.Facts) (hMidRefIdeal : Cert.MidRefIdeal.Facts) (hMidS : Cert.MidS.Facts) (hMidSIdeal : Cert.MidSIdeal.Facts) (hMidSRefIdeal : Cert.MidSRefIdeal.Facts),
    quiescent_Kernel (hKernel := hKernel)
    ∧ quiescent_KernelIdeal (hKernelIdeal := hKernelIdeal)
    ∧ quiescent_ReferenceIdeal (hReferenceIdeal := hReferenceIdeal)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_Down (hDown := hDown)
    ∧ quiescent_DownIdeal (hDownIdeal := hDownIdeal)
    ∧ quiescent_DownRefIdeal (hDownRefIdeal := hDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InRg (hInRg := hInRg)
    ∧ quiescent_InRgIdeal (hInRgIdeal := hInRgIdeal)
    ∧ quiescent_InRgRefIdeal (hInRgRefIdeal := hInRgRefIdeal)
    ∧ quiescent_Kv (hKv := hKv)
    ∧ quiescent_KvIdeal (hKvIdeal := hKvIdeal)
    ∧ quiescent_KvRefIdeal (hKvRefIdeal := hKvRefIdeal)
    ∧ quiescent_KvS (hKvS := hKvS)
    ∧ quiescent_KvSIdeal (hKvSIdeal := hKvSIdeal)
    ∧ quiescent_KvSRefIdeal (hKvSRefIdeal := hKvSRefIdeal)
    ∧ quiescent_InRgS (hInRgS := hInRgS)
    ∧ quiescent_InRgSIdeal (hInRgSIdeal := hInRgSIdeal)
    ∧ quiescent_InRgSRefIdeal (hInRgSRefIdeal := hInRgSRefIdeal)
    ∧ quiescent_Qi (hQi := hQi)
    ∧ quiescent_QiIdeal (hQiIdeal := hQiIdeal)
    ∧ quiescent_QiRefIdeal (hQiRefIdeal := hQiRefIdeal)
    ∧ quiescent_IdxKey (hIdxKey := hIdxKey)
    ∧ quiescent_IdxKeyIdeal (hIdxKeyIdeal := hIdxKeyIdeal)
    ∧ quiescent_IdxKeyRefIdeal (hIdxKeyRefIdeal := hIdxKeyRefIdeal)
    ∧ quiescent_IdxKeyS (hIdxKeyS := hIdxKeyS)
    ∧ quiescent_IdxKeySIdeal (hIdxKeySIdeal := hIdxKeySIdeal)
    ∧ quiescent_IdxKeySRefIdeal (hIdxKeySRefIdeal := hIdxKeySRefIdeal)
    ∧ quiescent_Final (hFinal := hFinal)
    ∧ quiescent_FinalIdeal (hFinalIdeal := hFinalIdeal)
    ∧ quiescent_FinalRefIdeal (hFinalRefIdeal := hFinalRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Step (hStep := hStep)
    ∧ quiescent_StepIdeal (hStepIdeal := hStepIdeal)
    ∧ quiescent_StepRefIdeal (hStepRefIdeal := hStepRefIdeal)
    ∧ quiescent_Mod (hMod := hMod)
    ∧ quiescent_ModIdeal (hModIdeal := hModIdeal)
    ∧ quiescent_ModRefIdeal (hModRefIdeal := hModRefIdeal)
    ∧ quiescent_Pre (hPre := hPre)
    ∧ quiescent_PreIdeal (hPreIdeal := hPreIdeal)
    ∧ quiescent_PreRefIdeal (hPreRefIdeal := hPreRefIdeal)
    ∧ quiescent_PreS (hPreS := hPreS)
    ∧ quiescent_PreSIdeal (hPreSIdeal := hPreSIdeal)
    ∧ quiescent_PreSRefIdeal (hPreSRefIdeal := hPreSRefIdeal)
    ∧ quiescent_Group (hGroup := hGroup)
    ∧ quiescent_GroupIdeal (hGroupIdeal := hGroupIdeal)
    ∧ quiescent_GroupRefIdeal (hGroupRefIdeal := hGroupRefIdeal)
    ∧ quiescent_Mid (hMid := hMid)
    ∧ quiescent_MidIdeal (hMidIdeal := hMidIdeal)
    ∧ quiescent_MidRefIdeal (hMidRefIdeal := hMidRefIdeal)
    ∧ quiescent_MidS (hMidS := hMidS)
    ∧ quiescent_MidSIdeal (hMidSIdeal := hMidSIdeal)
    ∧ quiescent_MidSRefIdeal (hMidSRefIdeal := hMidSRefIdeal)
    ∧ preserves_Kernel_KernelIdeal
    ∧ algebraic_KernelIdeal_ReferenceIdeal (hKernelIdeal := hKernelIdeal) (hReferenceIdeal := hReferenceIdeal)
    ∧ preserves_Swiglu_SwigluIdeal
    ∧ algebraic_SwigluIdeal_SwigluRefIdeal (hSwigluIdeal := hSwigluIdeal) (hSwigluRefIdeal := hSwigluRefIdeal)
    ∧ preserves_Down_DownIdeal
    ∧ algebraic_DownIdeal_DownRefIdeal (hDownIdeal := hDownIdeal) (hDownRefIdeal := hDownRefIdeal)
    ∧ preserves_OutProj_OutProjIdeal
    ∧ algebraic_OutProjIdeal_OutProjRefIdeal (hOutProjIdeal := hOutProjIdeal) (hOutProjRefIdeal := hOutProjRefIdeal)
    ∧ preserves_InRg_InRgIdeal
    ∧ algebraic_InRgIdeal_InRgRefIdeal (hInRgIdeal := hInRgIdeal) (hInRgRefIdeal := hInRgRefIdeal)
    ∧ preserves_Kv_KvIdeal
    ∧ algebraic_KvIdeal_KvRefIdeal (hKvIdeal := hKvIdeal) (hKvRefIdeal := hKvRefIdeal)
    ∧ preserves_KvS_KvSIdeal
    ∧ algebraic_KvSIdeal_KvSRefIdeal (hKvSIdeal := hKvSIdeal) (hKvSRefIdeal := hKvSRefIdeal)
    ∧ preserves_InRgS_InRgSIdeal
    ∧ algebraic_InRgSIdeal_InRgSRefIdeal (hInRgSIdeal := hInRgSIdeal) (hInRgSRefIdeal := hInRgSRefIdeal)
    ∧ preserves_Qi_QiIdeal
    ∧ algebraic_QiIdeal_QiRefIdeal (hQiIdeal := hQiIdeal) (hQiRefIdeal := hQiRefIdeal)
    ∧ preserves_IdxKey_IdxKeyIdeal
    ∧ algebraic_IdxKeyIdeal_IdxKeyRefIdeal (hIdxKeyIdeal := hIdxKeyIdeal) (hIdxKeyRefIdeal := hIdxKeyRefIdeal)
    ∧ preserves_IdxKeyS_IdxKeySIdeal
    ∧ algebraic_IdxKeySIdeal_IdxKeySRefIdeal (hIdxKeySIdeal := hIdxKeySIdeal) (hIdxKeySRefIdeal := hIdxKeySRefIdeal)
    ∧ preserves_Final_FinalIdeal
    ∧ algebraic_FinalIdeal_FinalRefIdeal (hFinalIdeal := hFinalIdeal) (hFinalRefIdeal := hFinalRefIdeal)
    ∧ preserves_FinalS_FinalSIdeal
    ∧ algebraic_FinalSIdeal_FinalSRefIdeal (hFinalSIdeal := hFinalSIdeal) (hFinalSRefIdeal := hFinalSRefIdeal)
    ∧ preserves_Step_StepIdeal
    ∧ algebraic_StepIdeal_StepRefIdeal (hStepIdeal := hStepIdeal) (hStepRefIdeal := hStepRefIdeal)
    ∧ preserves_Mod_ModIdeal
    ∧ algebraic_ModIdeal_ModRefIdeal (hModIdeal := hModIdeal) (hModRefIdeal := hModRefIdeal)
    ∧ preserves_Pre_PreIdeal
    ∧ algebraic_PreIdeal_PreRefIdeal (hPreIdeal := hPreIdeal) (hPreRefIdeal := hPreRefIdeal)
    ∧ preserves_PreS_PreSIdeal
    ∧ algebraic_PreSIdeal_PreSRefIdeal (hPreSIdeal := hPreSIdeal) (hPreSRefIdeal := hPreSRefIdeal)
    ∧ preserves_Group_GroupIdeal
    ∧ algebraic_GroupIdeal_GroupRefIdeal (hGroupIdeal := hGroupIdeal) (hGroupRefIdeal := hGroupRefIdeal)
    ∧ preserves_Mid_MidIdeal
    ∧ algebraic_MidIdeal_MidRefIdeal (hMidIdeal := hMidIdeal) (hMidRefIdeal := hMidRefIdeal)
    ∧ preserves_MidS_MidSIdeal
    ∧ algebraic_MidSIdeal_MidSRefIdeal (hMidSIdeal := hMidSIdeal) (hMidSRefIdeal := hMidSRefIdeal)
-- ==== Kernel.lean ====
abbrev S8192x4096 : Shape := ⟨2, ![8192, 4096]⟩
abbrev S4x2048 : Shape := ⟨2, ![4, 2048]⟩
abbrev S2048 : Shape := ⟨1, ![2048]⟩
abbrev S16x128x128 : Shape := ⟨3, ![16, 128, 128]⟩
abbrev S1x2048 : Shape := ⟨2, ![1, 2048]⟩
abbrev S8192x2048 : Shape := ⟨2, ![8192, 2048]⟩
abbrev S1024x128 : Shape := ⟨2, ![1024, 128]⟩
abbrev S4x128 : Shape := ⟨2, ![4, 128]⟩
abbrev S1x128 : Shape := ⟨2, ![1, 128]⟩
abbrev S1x128x128 : Shape := ⟨3, ![1, 128, 128]⟩
abbrev S1032x128 : Shape := ⟨2, ![1032, 128]⟩
abbrev S8x128 : Shape := ⟨2, ![8, 128]⟩
abbrev S128x128 : Shape := ⟨2, ![128, 128]⟩

abbrev nBuf : Space → Nat
  | .hbm => 16
  | .vmem => 24
  | .smem => 0
  | _ => 0

abbrev bufTy : (tb : Table) → Fin (tcTables nBuf tb) → BufTy
  | .hbm, ⟨0, _⟩ => ⟨S8192x4096, .f32⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S16x128x128, .bf16⟩
  | .hbm, ⟨10, _⟩ => ⟨S1x2048, .f32⟩
  | .hbm, ⟨11, _⟩ => ⟨S16x128x128, .bf16⟩
  | .hbm, ⟨12, _⟩ => ⟨S1x2048, .f32⟩
  | .hbm, ⟨13, _⟩ => ⟨S1x2048, .f32⟩
  | .hbm, ⟨14, _⟩ => ⟨S8192x2048, .f32⟩
  | .hbm, ⟨15, _⟩ => ⟨S1x2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S4x128, .f32⟩
  | .local _ .vmem, ⟨5, _⟩ => ⟨S4x128, .f32⟩
  | .local _ .vmem, ⟨6, _⟩ => ⟨S1x128, .f32⟩
  | .local _ .vmem, ⟨7, _⟩ => ⟨S1x128, .f32⟩
  | .local _ .vmem, ⟨8, _⟩ => ⟨S1x128x128, .bf16⟩
  | .local _ .vmem, ⟨9, _⟩ => ⟨S1x128x128, .bf16⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | .local _ .vmem, ⟨21, _⟩ => ⟨S1x128, .f32⟩
  | .local _ .vmem, ⟨22, _⟩ => ⟨S1032x128, .f32⟩
  | .local _ .vmem, ⟨23, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8192x4096 : Shape := ⟨2, ![8192, 4096]⟩
abbrev S4x2048 : Shape := ⟨2, ![4, 2048]⟩
abbrev S2048 : Shape := ⟨1, ![2048]⟩
abbrev S16x128x128 : Shape := ⟨3, ![16, 128, 128]⟩
abbrev S8192x2048 : Shape := ⟨2, ![8192, 2048]⟩
abbrev S1x8192x2048 : Shape := ⟨3, ![1, 8192, 2048]⟩
abbrev S_ : Shape := ⟨0, ![]⟩
abbrev S1x3x2048 : Shape := ⟨3, ![1, 3, 2048]⟩
abbrev S1x2048 : Shape := ⟨2, ![1, 2048]⟩
abbrev S1x8195x2048 : Shape := ⟨3, ![1, 8195, 2048]⟩
abbrev S1x1x2048 : Shape := ⟨3, ![1, 1, 2048]⟩
abbrev S1x8192x16x128 : Shape := ⟨4, ![1, 8192, 16, 128]⟩
abbrev S16x128x1x8192 : Shape := ⟨4, ![16, 128, 1, 8192]⟩
abbrev S8192x1x2048 : Shape := ⟨3, ![8192, 1, 2048]⟩

abbrev nBuf : Space → Nat
  | .hbm => 154
  | .vmem => 0
  | .smem => 0
  | _ => 0

abbrev hbmTy0_0 (i : Nat) : BufTy := match i % 128 with
  | 0 => ⟨S8192x4096, .f32⟩
  | 1 => ⟨S4x2048, .f32⟩
  | 2 => ⟨S2048, .f32⟩
  | 3 => ⟨S16x128x128, .f32⟩
  | 4 => ⟨S2048, .f32⟩
  | 5 => ⟨S16x128x128, .f32⟩
  | 6 => ⟨S2048, .f32⟩
  | 7 => ⟨S2048, .f32⟩
  | 8 => ⟨S8192x2048, .f32⟩
  | 9 => ⟨S1x8192x2048, .f32⟩
  | 10 => ⟨S_, .f32⟩
  | 11 => ⟨S1x3x2048, .f32⟩
  | 12 => ⟨S_, .f32⟩
  | 13 => ⟨S1x2048, .f32⟩
  | 14 => ⟨S1x8195x2048, .f32⟩
  | 15 => ⟨S1x8192x2048, .f32⟩
  | 16 => ⟨S1x2048, .f32⟩
  | 17 => ⟨S2048, .f32⟩
  | 18 => ⟨S1x1x2048, .f32⟩
  | 19 => ⟨S1x8192x2048, .f32⟩
  | 20 => ⟨S1x8192x2048, .f32⟩
  | 21 => ⟨S1x1x2048, .f32⟩
  | 22 => ⟨S1x8192x2048, .f32⟩
  | 23 => ⟨S1x8192x2048, .f32⟩
  | 24 => ⟨S1x8192x2048, .f32⟩
  | 25 => ⟨S1x2048, .f32⟩
  | 26 => ⟨S2048, .f32⟩
  | 27 => ⟨S1x1x2048, .f32⟩
  | 28 => ⟨S1x8192x2048, .f32⟩
  | 29 => ⟨S1x8192x2048, .f32⟩
  | 30 => ⟨S1x8192x2048, .f32⟩
  | 31 => ⟨S1x8192x2048, .f32⟩
  | 32 => ⟨S1x2048, .f32⟩
  | 33 => ⟨S2048, .f32⟩
  | 34 => ⟨S1x1x2048, .f32⟩
  | 35 => ⟨S1x8192x2048, .f32⟩
  | 36 => ⟨S1x8192x2048, .f32⟩
  | 37 => ⟨S1x8192x2048, .f32⟩
  | 38 => ⟨S1x8192x2048, .f32⟩
  | 39 => ⟨S1x2048, .f32⟩
  | 40 => ⟨S2048, .f32⟩
  | 41 => ⟨S1x1x2048, .f32⟩
  | 42 => ⟨S1x8192x2048, .f32⟩
  | 43 => ⟨S1x8192x2048, .f32⟩
  | 44 => ⟨S1x8192x2048, .f32⟩
  | 45 => ⟨S1x8192x16x128, .f32⟩
  | 46 => ⟨S16x128x1x8192, .f32⟩
  | 47 => ⟨S1x8192x16x128, .f32⟩
  | 48 => ⟨S1x8192x2048, .f32⟩
  | 49 => ⟨S1x1x2048, .f32⟩
  | 50 => ⟨S1x8192x2048, .f32⟩
  | 51 => ⟨S1x8192x2048, .f32⟩
  | 52 => ⟨S1x8192x2048, .f32⟩
  | 53 => ⟨S1x8192x2048, .f32⟩
  | 54 => ⟨S_, .f32⟩
  | 55 => ⟨S1x8192x2048, .f32⟩
  | 56 => ⟨S1x8192x2048, .f32⟩
  | 57 => ⟨S_, .f32⟩
  | 58 => ⟨S1x8192x2048, .f32⟩
  | 59 => ⟨S1x8192x2048, .f32⟩
  | 60 => ⟨S16x128x1x8192, .f32⟩
  | 61 => ⟨S1x8192x16x128, .f32⟩
  | 62 => ⟨S1x8192x2048, .f32⟩
  | 63 => ⟨S1x1x2048, .f32⟩
  | 64 => ⟨S1x8192x2048, .f32⟩
  | 65 => ⟨S1x8192x2048, .f32⟩
  | 66 => ⟨S1x8192x2048, .f32⟩
  | 67 => ⟨S1x8192x2048, .f32⟩
  | 68 => ⟨S_, .f32⟩
  | 69 => ⟨S1x8192x2048, .f32⟩
  | 70 => ⟨S1x8192x2048, .f32⟩
  | 71 => ⟨S_, .f32⟩
  | 72 => ⟨S1x8192x2048, .f32⟩
  | 73 => ⟨S1x8192x2048, .f32⟩
  | 74 => ⟨S_, .f32⟩
  | 75 => ⟨S1x8192x2048, .f32⟩
  | 76 => ⟨S1x8192x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x1x2048, .f32⟩
  | 93 => ⟨S1x8192x2048, .f32⟩
  | 94 => ⟨S1x8192x2048, .f32⟩
  | 95 => ⟨S1x8192x2048, .f32⟩
  | 96 => ⟨S_, .f32⟩
  | 97 => ⟨S1x8192x2048, .f32⟩
  | 98 => ⟨S1x8192x2048, .f32⟩
  | 99 => ⟨S1x8192x2048, .f32⟩
  | 100 => ⟨S1x8192x2048, .f32⟩
  | 101 => ⟨S1x8192x2048, .f32⟩
  | 102 => ⟨S1x8192x2048, .f32⟩
  | 103 => ⟨S1x8192x2048, .f32⟩
  | 104 => ⟨S8192x1x2048, .f32⟩
  | 105 => ⟨S8192x1x2048, .f32⟩
  | 106 => ⟨S_, .f32⟩
  | 107 => ⟨S8192x1x2048, .f32⟩
  | 108 => ⟨S_, .i32⟩
  | 109 => ⟨S8192x1x2048, .f32⟩
  | 110 => ⟨S8192x1x2048, .f32⟩
  | 111 => ⟨S_, .i32⟩
  | 112 => ⟨S1x2048, .f32⟩
  | 113 => ⟨S8192x1x2048, .f32⟩
  | 114 => ⟨S_, .i32⟩
  | 115 => ⟨S_, .i1⟩
  | 116 => ⟨S_, .i32⟩
  | 117 => ⟨S_, .i32⟩
  | 118 => ⟨S1x1x2048, .f32⟩
  | 119 => ⟨S1x2048, .f32⟩
  | 120 => ⟨S_, .i32⟩
  | 121 => ⟨S_, .i32⟩
  | 122 => ⟨S1x1x2048, .f32⟩
  | 123 => ⟨S1x2048, .f32⟩
  | 124 => ⟨S1x2048, .f32⟩
  | 125 => ⟨S1x2048, .f32⟩
  | 126 => ⟨S1x1x2048, .f32⟩
  | 127 => ⟨S_, .i32⟩
  | _ => ⟨S8192x4096, .f32⟩

abbrev hbmTy0_1 (i : Nat) : BufTy := match i % 128 with
  | 0 => ⟨S_, .i32⟩
  | 1 => ⟨S8192x1x2048, .f32⟩
  | 2 => ⟨S_, .i32⟩
  | 3 => ⟨S_, .i32⟩
  | 4 => ⟨S8192x2048, .f32⟩
  | 5 => ⟨S1x8192x2048, .f32⟩
  | 6 => ⟨S1x8192x2048, .f32⟩
  | 7 => ⟨S1x8192x2048, .f32⟩
  | 8 => ⟨S1x8192x2048, .f32⟩
  | 9 => ⟨S_, .f32⟩
  | 10 => ⟨S1x8192x2048, .f32⟩
  | 11 => ⟨S1x8192x2048, .f32⟩
  | 12 => ⟨S1x8192x2048, .f32⟩
  | 13 => ⟨S_, .f32⟩
  | 14 => ⟨S1x8192x2048, .f32⟩
  | 15 => ⟨S1x8192x2048, .f32⟩
  | 16 => ⟨S1x8192x2048, .f32⟩
  | 17 => ⟨S_, .f32⟩
  | 18 => ⟨S1x8192x2048, .f32⟩
  | 19 => ⟨S1x8192x2048, .f32⟩
  | 20 => ⟨S_, .f32⟩
  | 21 => ⟨S1x8192x2048, .f32⟩
  | 22 => ⟨S1x8192x2048, .f32⟩
  | 23 => ⟨S1x8192x2048, .f32⟩
  | 24 => ⟨S1x8192x2048, .f32⟩
  | 25 => ⟨S8192x2048, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_7 : Ref sig .tc := ⟨.hbm, 106, rfl⟩
abbrev main_v77 : Ref sig .tc := ⟨.hbm, 107, rfl⟩
abbrev main_c : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev main_v78_3 : Ref sig .tc := ⟨.hbm, 112, rfl⟩
abbrev main_v78_4 : Ref sig .tc := ⟨.hbm, 113, rfl⟩
abbrev main_while0c_c_16 : Ref sig .tc := ⟨.hbm, 114, rfl⟩
abbrev main_while0c_v97 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v97 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v98 : Ref sig .tc := ⟨.hbm, 123, rfl⟩
abbrev main_while0b_v99 : Ref sig .tc := ⟨.hbm, 124, rfl⟩
abbrev main_while0b_v100 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v101 : Ref sig .tc := ⟨.hbm, 129, rfl⟩
abbrev main_while0b_c_16 : Ref sig .tc := ⟨.hbm, 130, rfl⟩
abbrev main_while0b_v102 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_8 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_9 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_10 : Ref sig .tc := ⟨.hbm, 145, rfl⟩
abbrev main_v90 : Ref sig .tc := ⟨.hbm, 146, rfl⟩
abbrev main_v91 : Ref sig .tc := ⟨.hbm, 147, rfl⟩
abbrev main_cst_11 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩

abbrev nD : Nat := 1
abbrev τ : Topo := Topo.v7x

variable {F : FTy → Type} [FloatOps F]

abbrev main_while0_count : Scf.Loop 32 := ⟨0#32, 8192#32, 1#32⟩
-- ==== Swiglu.lean ====
abbrev S8192x4096 : Shape := ⟨2, ![8192, 4096]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x4096, .bf16⟩
  | .hbm, ⟨4, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x11008, .f32⟩
  | .hbm, ⟨2, _⟩ => ⟨S4096x11008, .f32⟩
  | .hbm, ⟨3, _⟩ => ⟨S8192x11008, .f32⟩
  | .hbm, ⟨4, _⟩ => ⟨S8192x11008, .f32⟩
  | .hbm, ⟨5, _⟩ => ⟨S8192x11008, .f32⟩
  | .hbm, ⟨6, _⟩ => ⟨S_, .f32⟩
  | .hbm, ⟨7, _⟩ => ⟨S8192x11008, .f32⟩
  | .hbm, ⟨8, _⟩ => ⟨S8192x11008, .f32⟩
  | .hbm, ⟨9, _⟩ => ⟨S_, .f32⟩
  | .hbm, ⟨10, _⟩ => ⟨S8192x11008, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Down.lean ====
abbrev S8192x11008 : Shape := ⟨2, ![8192, 11008]⟩
abbrev S11008x4096 : Shape := ⟨2, ![11008, 4096]⟩
abbrev S8192x4096 : Shape := ⟨2, ![8192, 4096]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x11008, .bf16⟩
  | .hbm, ⟨3, _⟩ => ⟨S11008x4096, .bf16⟩
  | .hbm, ⟨4, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InRg.lean ====
abbrev S8192x4096 : Shape := ⟨2, ![8192, 4096]⟩
abbrev S4096x9360 : Shape := ⟨2, ![4096, 9360]⟩
abbrev S9360x4096 : Shape := ⟨2, ![9360, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x4096, .bf16⟩
  | .hbm, ⟨3, _⟩ => ⟨S9360x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRgIdeal.lean ====
abbrev S8192x4096 : Shape := ⟨2, ![8192, 4096]⟩
abbrev S4096x9360 : Shape := ⟨2, ![4096, 9360]⟩
abbrev S9360x4096 : Shape := ⟨2, ![9360, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x4096, .bf16⟩
  | .hbm, ⟨3, _⟩ => ⟨S9360x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRgRefIdeal.lean ====
abbrev S8192x4096 : Shape := ⟨2, ![8192, 4096]⟩
abbrev S4096x9360 : Shape := ⟨2, ![4096, 9360]⟩
abbrev S8192x9360 : Shape := ⟨2, ![8192, 9360]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x9360, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kv.lean ====
abbrev S8192x4096 : Shape := ⟨2, ![8192, 4096]⟩
abbrev S4096x9360 : Shape := ⟨2, ![4096, 9360]⟩
abbrev S9360x4096 : Shape := ⟨2, ![9360, 4096]⟩
abbrev S8192x1024 : Shape := ⟨2, ![8192, 1024]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x4096, .bf16⟩
  | .hbm, ⟨3, _⟩ => ⟨S9360x4096, .f32⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvIdeal.lean ====
abbrev S8192x4096 : Shape := ⟨2, ![8192, 4096]⟩
abbrev S4096x9360 : Shape := ⟨2, ![4096, 9360]⟩
abbrev S9360x4096 : Shape := ⟨2, ![9360, 4096]⟩
abbrev S8192x1024 : Shape := ⟨2, ![8192, 1024]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x4096, .bf16⟩
  | .hbm, ⟨3, _⟩ => ⟨S9360x4096, .f32⟩
  | .hbm, ⟨4, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .f32⟩
  | .local _ .vmem, ⟨5, _⟩ => ⟨S1024x512, .f32⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S8192x4096 : Shape := ⟨2, ![8192, 4096]⟩
abbrev S4096x9360 : Shape := ⟨2, ![4096, 9360]⟩
abbrev S8192x9360 : Shape := ⟨2, ![8192, 9360]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x9360, .f32⟩
  | .hbm, ⟨3, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvS.lean ====
abbrev S1024x4096 : Shape := ⟨2, ![1024, 4096]⟩
abbrev S4096x9360 : Shape := ⟨2, ![4096, 9360]⟩
abbrev S9360x4096 : Shape := ⟨2, ![9360, 4096]⟩
abbrev S1024x1024 : Shape := ⟨2, ![1024, 1024]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S1024x4096, .bf16⟩
  | .hbm, ⟨3, _⟩ => ⟨S9360x4096, .f32⟩
  | .hbm, ⟨4, _⟩ => ⟨S1024x1024, .f32⟩
  | .local _ .vmem, ⟨0, _⟩ => ⟨S1024x4096, .bf16⟩
  | .local _ .vmem, ⟨1, _⟩ => ⟨S512x4096, .f32⟩
  | .local _ .vmem, ⟨2, _⟩ => ⟨S512x4096, .f32⟩
  | .local _ .vmem, ⟨3, _⟩ => ⟨S1024x512, .f32⟩
  | .local _ .vmem, ⟨4, _⟩ => ⟨S1024x512, .f32⟩
  | .local _ .vmem, ⟨5, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvSRefIdeal.lean ====
abbrev S1024x4096 : Shape := ⟨2, ![1024, 4096]⟩
abbrev S4096x9360 : Shape := ⟨2, ![4096, 9360]⟩
abbrev S1024x9360 : Shape := ⟨2, ![1024, 9360]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S1024x9360, .f32⟩
  | .hbm, ⟨3, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InRgS.lean ====
abbrev S1024x4096 : Shape := ⟨2, ![1024, 4096]⟩
abbrev S4096x9360 : Shape := ⟨2, ![4096, 9360]⟩
abbrev S9360x4096 : Shape := ⟨2, ![9360, 4096]⟩
abbrev S512x4096 : Shape := ⟨2, ![512, 4096]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S1024x4096, .bf16⟩
  | .hbm, ⟨3, _⟩ => ⟨S9360x4096, .f32⟩
  | .hbm, ⟨4, _⟩ => ⟨S1024x4096, .f32⟩
  | .local _ .vmem, ⟨0, _⟩ => ⟨S1024x4096, .bf16⟩
  | .local _ .vmem, ⟨1, _⟩ => ⟨S512x4096, .f32⟩
  | .local _ .vmem, ⟨2, _⟩ => ⟨S512x4096, .f32⟩
  | .local _ .vmem, ⟨3, _⟩ => ⟨S1024x512, .f32⟩
  | .local _ .vmem, ⟨4, _⟩ => ⟨S1024x512, .f32⟩
  | .local _ .vmem, ⟨5, _⟩ => ⟨S512x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRgSRefIdeal.lean ====
abbrev S1024x4096 : Shape := ⟨2, ![1024, 4096]⟩
abbrev S4096x9360 : Shape := ⟨2, ![4096, 9360]⟩
abbrev S1024x9360 : Shape := ⟨2, ![1024, 9360]⟩

abbrev nBuf : Space → Nat
  | .hbm => 4
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S1024x9360, .f32⟩
  | .hbm, ⟨3, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Qi.lean ====
abbrev S8192x4096 : Shape := ⟨2, ![8192, 4096]⟩
abbrev S4096x9360 : Shape := ⟨2, ![4096, 9360]⟩
abbrev S9360x4096 : Shape := ⟨2, ![9360, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x4096, .bf16⟩
  | .hbm, ⟨3, _⟩ => ⟨S9360x4096, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QiRefIdeal.lean ====
abbrev S8192x4096 : Shape := ⟨2, ![8192, 4096]⟩
abbrev S4096x9360 : Shape := ⟨2, ![4096, 9360]⟩
abbrev S8192x9360 : Shape := ⟨2, ![8192, 9360]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S8192x9360, .f32⟩
  | .hbm, ⟨3, _⟩ => ⟨S8192x2048, .f32⟩
  | .hbm, ⟨4, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== IdxKey.lean ====
abbrev S8192x4096 : Shape := ⟨2, ![8192, 4096]⟩
abbrev S4096x9360 : Shape := ⟨2, ![4096, 9360]⟩
abbrev S128 : Shape := ⟨1, ![128]⟩
abbrev S4096x144 : Shape := ⟨2, ![4096, 144]⟩
abbrev S_ : Shape := ⟨0, ![]⟩
abbrev S4096x256 : Shape := ⟨2, ![4096, 256]⟩
abbrev S1x128 : Shape := ⟨2, ![1, 128]⟩
abbrev S8192x128 : Shape := ⟨2, ![8192, 128]⟩
abbrev S512x4096 : Shape := ⟨2, ![512, 4096]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S128, .f32⟩
  | .hbm, ⟨3, _⟩ => ⟨S128, .f32⟩
  | .hbm, ⟨4, _⟩ => ⟨S4096x144, .f32⟩
  | .hbm, ⟨5, _⟩ => ⟨S_, .i32⟩
  | .hbm, ⟨6, _⟩ => ⟨S_, .f32⟩
  | .hbm, ⟨7, _⟩ => ⟨S4096x256, .f32⟩
  | .hbm, ⟨8, _⟩ => ⟨S4096x256, .bf16⟩
  | .hbm, ⟨9, _⟩ => ⟨S8192x4096, .bf16⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S8192x128, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== IdxKeyIdeal.lean ====
abbrev S8192x4096 : Shape := ⟨2, ![8192, 4096]⟩
abbrev S4096x9360 : Shape := ⟨2, ![4096, 9360]⟩
abbrev S128 : Shape := ⟨1, ![128]⟩
abbrev S4096x144 : Shape := ⟨2, ![4096, 144]⟩
abbrev S_ : Shape := ⟨0, ![]⟩
abbrev S4096x256 : Shape := ⟨2, ![4096, 256]⟩
abbrev S1x128 : Shape := ⟨2, ![1, 128]⟩
abbrev S8192x128 : Shape := ⟨2, ![8192, 128]⟩
abbrev S512x4096 : Shape := ⟨2, ![512, 4096]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S128, .f32⟩
  | .hbm, ⟨3, _⟩ => ⟨S128, .f32⟩
  | .hbm, ⟨4, _⟩ => ⟨S4096x144, .f32⟩
  | .hbm, ⟨5, _⟩ => ⟨S_, .i32⟩
  | .hbm, ⟨6, _⟩ => ⟨S_, .f32⟩
  | .hbm, ⟨7, _⟩ => ⟨S4096x256, .f32⟩
  | .hbm, ⟨8, _⟩ => ⟨S4096x256, .bf16⟩
  | .hbm, ⟨9, _⟩ => ⟨S8192x4096, .bf16⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S8192x128, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== IdxKeyRefIdeal.lean ====
abbrev S8192x4096 : Shape := ⟨2, ![8192, 4096]⟩
abbrev S4096x9360 : Shape := ⟨2, ![4096, 9360]⟩
abbrev S128 : Shape := ⟨1, ![128]⟩
abbrev S8192x9360 : Shape := ⟨2, ![8192, 9360]⟩
abbrev S8192x128 : Shape := ⟨2, ![8192, 128]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x9360, .f32⟩
  | .hbm, ⟨2, _⟩ => ⟨S128, .f32⟩
  | .hbm, ⟨3, _⟩ => ⟨S128, .f32⟩
  | .hbm, ⟨4, _⟩ => ⟨S8192x9360, .f32⟩
  | .hbm, ⟨5, _⟩ => ⟨S8192x128, .f32⟩
  | .hbm, ⟨6, _⟩ => ⟨S8192x16, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x128, .f32⟩
  | .hbm, ⟨29, _⟩ => ⟨S8192x128, .f32⟩
  | .hbm, ⟨30, _⟩ => ⟨S1x128, .f32⟩
  | .hbm, ⟨31, _⟩ => ⟨S8192x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x16, .f32⟩
  | .hbm, ⟨38, _⟩ => ⟨S8192x16, .f32⟩
  | .hbm, ⟨39, _⟩ => ⟨S_, .i32⟩
  | .hbm, ⟨40, _⟩ => ⟨S_, .f32⟩
  | .hbm, ⟨41, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== IdxKeyS.lean ====
abbrev S1024x4096 : Shape := ⟨2, ![1024, 4096]⟩
abbrev S4096x9360 : Shape := ⟨2, ![4096, 9360]⟩
abbrev S128 : Shape := ⟨1, ![128]⟩
abbrev S4096x144 : Shape := ⟨2, ![4096, 144]⟩
abbrev S_ : Shape := ⟨0, ![]⟩
abbrev S4096x256 : Shape := ⟨2, ![4096, 256]⟩
abbrev S1x128 : Shape := ⟨2, ![1, 128]⟩
abbrev S1024x128 : Shape := ⟨2, ![1024, 128]⟩
abbrev S512x4096 : Shape := ⟨2, ![512, 4096]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S128, .f32⟩
  | .hbm, ⟨3, _⟩ => ⟨S128, .f32⟩
  | .hbm, ⟨4, _⟩ => ⟨S4096x144, .f32⟩
  | .hbm, ⟨5, _⟩ => ⟨S_, .i32⟩
  | .hbm, ⟨6, _⟩ => ⟨S_, .f32⟩
  | .hbm, ⟨7, _⟩ => ⟨S4096x256, .f32⟩
  | .hbm, ⟨8, _⟩ => ⟨S4096x256, .bf16⟩
  | .hbm, ⟨9, _⟩ => ⟨S1024x4096, .bf16⟩
  | .hbm, ⟨10, _⟩ => ⟨S1x128, .f32⟩
  | .hbm, ⟨11, _⟩ => ⟨S1x128, .f32⟩
  | .hbm, ⟨12, _⟩ => ⟨S1024x128, .f32⟩
  | .hbm, ⟨13, _⟩ => ⟨S1024x128, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== IdxKeySRefIdeal.lean ====
abbrev S1024x4096 : Shape := ⟨2, ![1024, 4096]⟩
abbrev S4096x9360 : Shape := ⟨2, ![4096, 9360]⟩
abbrev S128 : Shape := ⟨1, ![128]⟩
abbrev S1024x9360 : Shape := ⟨2, ![1024, 9360]⟩
abbrev S1024x128 : Shape := ⟨2, ![1024, 128]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x9360, .f32⟩
  | .hbm, ⟨2, _⟩ => ⟨S128, .f32⟩
  | .hbm, ⟨3, _⟩ => ⟨S128, .f32⟩
  | .hbm, ⟨4, _⟩ => ⟨S1024x9360, .f32⟩
  | .hbm, ⟨5, _⟩ => ⟨S1024x128, .f32⟩
  | .hbm, ⟨6, _⟩ => ⟨S1024x16, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S_, .f32⟩
  | .hbm, ⟨20, _⟩ => ⟨S1024x1, .f32⟩
  | .hbm, ⟨21, _⟩ => ⟨S1024x1, .f32⟩
  | .hbm, ⟨22, _⟩ => ⟨S1024x128, .f32⟩
  | .hbm, ⟨23, _⟩ => ⟨S1024x128, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x128, .f32⟩
  | .hbm, ⟨29, _⟩ => ⟨S1024x128, .f32⟩
  | .hbm, ⟨30, _⟩ => ⟨S1x128, .f32⟩
  | .hbm, ⟨31, _⟩ => ⟨S1024x128, .f32⟩
  | .hbm, ⟨32, _⟩ => ⟨S1024x128, .f32⟩
  | .hbm, ⟨33, _⟩ => ⟨S1x128, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x16, .f32⟩
  | .hbm, ⟨38, _⟩ => ⟨S1024x16, .f32⟩
  | .hbm, ⟨39, _⟩ => ⟨S_, .i32⟩
  | .hbm, ⟨40, _⟩ => ⟨S_, .f32⟩
  | .hbm, ⟨41, _⟩ => ⟨S1024x128, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Final.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== FinalS.lean ====
abbrev S128x8x4096 : Shape := ⟨3, ![128, 8, 4096]⟩
abbrev S4096 : Shape := ⟨1, ![4096]⟩
abbrev S128x4096 : Shape := ⟨2, ![128, 4096]⟩
abbrev S1024x4096 : Shape := ⟨2, ![1024, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S128x8x4096, .f32⟩
  | .hbm, ⟨1, _⟩ => ⟨S128x8x4096, .f32⟩
  | .hbm, ⟨2, _⟩ => ⟨S4096, .f32⟩
  | .hbm, ⟨3, _⟩ => ⟨S128x4096, .f32⟩
  | .hbm, ⟨4, _⟩ => ⟨S1024x4096, .f32⟩
  | .hbm, ⟨5, _⟩ => ⟨S1024x4096, .f32⟩
  | .hbm, ⟨6, _⟩ => ⟨S128x8x4096, .f32⟩
  | .hbm, ⟨7, _⟩ => ⟨S1024x4096, .f32⟩
  | .hbm, ⟨8, _⟩ => ⟨S1x4096, .f32⟩
  | .hbm, ⟨9, _⟩ => ⟨S1024x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | _, _ => ⟨S128x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalSRefIdeal.lean ====
abbrev S128x8x4096 : Shape := ⟨3, ![128, 8, 4096]⟩
abbrev S4096 : Shape := ⟨1, ![4096]⟩
abbrev S128x4096 : Shape := ⟨2, ![128, 4096]⟩
abbrev S128x1x4096 : Shape := ⟨3, ![128, 1, 4096]⟩
abbrev S_ : Shape := ⟨0, ![]⟩
abbrev S128x8 : Shape := ⟨2, ![128, 8]⟩
abbrev S128x8x1 : Shape := ⟨3, ![128, 8, 1]⟩
abbrev S1x1x4096 : Shape := ⟨3, ![1, 1, 4096]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S128x8x4096, .f32⟩
  | .hbm, ⟨1, _⟩ => ⟨S128x8x4096, .f32⟩
  | .hbm, ⟨2, _⟩ => ⟨S4096, .f32⟩
  | .hbm, ⟨3, _⟩ => ⟨S128x4096, .f32⟩
  | .hbm, ⟨4, _⟩ => ⟨S128x1x4096, .f32⟩
  | .hbm, ⟨5, _⟩ => ⟨S128x8x4096, .f32⟩
  | .hbm, ⟨6, _⟩ => ⟨S_, .f32⟩
  | .hbm, ⟨7, _⟩ => ⟨S128x8, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S128x8x1, .f32⟩
  | .hbm, ⟨16, _⟩ => ⟨S128x8x4096, .f32⟩
  | .hbm, ⟨17, _⟩ => ⟨S128x8x4096, .f32⟩
  | .hbm, ⟨18, _⟩ => ⟨S1x1x4096, .f32⟩
  | .hbm, ⟨19, _⟩ => ⟨S128x8x4096, .f32⟩
  | .hbm, ⟨20, _⟩ => ⟨S128x8x4096, .f32⟩
  | .hbm, ⟨21, _⟩ => ⟨S128x8x4096, .f32⟩
  | .hbm, ⟨22, _⟩ => ⟨S128x8x4096, .f32⟩
  | .hbm, ⟨23, _⟩ => ⟨S128x8x4096, .f32⟩
  | .hbm, ⟨24, _⟩ => ⟨S1024x4096, .f32⟩
  | _, _ => ⟨S128x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Step.lean ====
abbrev S128x8x4096 : Shape := ⟨3, ![128, 8, 4096]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S16x128x128 : Shape := ⟨3, ![16, 128, 128]⟩
abbrev S8x128x4096 : Shape := ⟨3, ![8, 128, 4096]⟩
abbrev S3x128x2048 : Shape := ⟨3, ![3, 128, 2048]⟩
abbrev S1x2048 : Shape := ⟨2, ![1, 2048]⟩
abbrev S8x128x2048 : Shape := ⟨3, ![8, 128, 2048]⟩
abbrev S1x128x128 : Shape := ⟨3, ![1, 128, 128]⟩
abbrev S3x128x128 : Shape := ⟨3, ![3, 128, 128]⟩
abbrev S128x128 : Shape := ⟨2, ![128, 128]⟩
abbrev S4x128 : Shape := ⟨2, ![4, 128]⟩
abbrev S1x128 : Shape := ⟨2, ![1, 128]⟩

abbrev nBuf : Space → Nat
  | .hbm => 20
  | .vmem => 28
  | .smem => 0
  | _ => 0

abbrev bufTy : (tb : Table) → Fin (tcTables nBuf tb) → BufTy
  | .hbm, ⟨0, _⟩ => ⟨S128x8x4096, .f32⟩
  | .hbm, ⟨1, _⟩ => ⟨S128x3x2048, .f32⟩
  | .hbm, ⟨2, _⟩ => ⟨S128x2048, .f32⟩
  | .hbm, ⟨3, _⟩ => ⟨S4x2048, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S16x128x128, .f32⟩
  | .hbm, ⟨8, _⟩ => ⟨S2048, .f32⟩
  | .hbm, ⟨9, _⟩ => ⟨S2048, .f32⟩
  | .hbm, ⟨10, _⟩ => ⟨S8x128x4096, .f32⟩
  | .hbm, ⟨11, _⟩ => ⟨S3x128x2048, .f32⟩
  | .hbm, ⟨12, _⟩ => ⟨S1x2048, .f32⟩
  | .hbm, ⟨13, _⟩ => ⟨S16x128x128, .bf16⟩
  | .hbm, ⟨14, _⟩ => ⟨S1x2048, .f32⟩
  | .hbm, ⟨15, _⟩ => ⟨S16x128x128, .bf16⟩
  | .hbm, ⟨16, _⟩ => ⟨S1x2048, .f32⟩
  | .hbm, ⟨17, _⟩ => ⟨S1x2048, .f32⟩
  | .hbm, ⟨18, _⟩ => ⟨S8x128x2048, .f32⟩
  | .hbm, ⟨19, _⟩ => ⟨S128x2048, .f32⟩
  | .local _ .vmem, ⟨0, _⟩ => ⟨S1x128x128, .f32⟩
  | .local _ .vmem, ⟨1, _⟩ => ⟨S1x128x128, .f32⟩
  | .local _ .vmem, ⟨2, _⟩ => ⟨S1x128x128, .f32⟩
  | .local _ .vmem, ⟨3, _⟩ => ⟨S1x128x128, .f32⟩
  | .local _ .vmem, ⟨4, _⟩ => ⟨S3x128x128, .f32⟩
  | .local _ .vmem, ⟨5, _⟩ => ⟨S3x128x128, .f32⟩
  | .local _ .vmem, ⟨6, _⟩ => ⟨S128x128, .f32⟩
  | .local _ .vmem, ⟨7, _⟩ => ⟨S128x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128x128, .f32⟩
  | .local _ .vmem, ⟨23, _⟩ => ⟨S1x128x128, .f32⟩
  | .local _ .vmem, ⟨24, _⟩ => ⟨S128x128, .f32⟩
  | .local _ .vmem, ⟨25, _⟩ => ⟨S128x128, .f32⟩
  | .local _ .vmem, ⟨26, _⟩ => ⟨S3x128x128, .f32⟩
  | .local _ .vmem, ⟨27, _⟩ => ⟨S128x128, .f32⟩
  | _, _ => ⟨S128x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== StepRefIdeal.lean ====
abbrev S128x8x4096 : Shape := ⟨3, ![128, 8, 4096]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S16x128x128 : Shape := ⟨3, ![16, 128, 128]⟩
abbrev S128x8x2048 : Shape := ⟨3, ![128, 8, 2048]⟩
abbrev S128x11x2048 : Shape := ⟨3, ![128, 11, 2048]⟩
abbrev S1x2048 : Shape := ⟨2, ![1, 2048]⟩
abbrev S1x1x2048 : Shape := ⟨3, ![1, 1, 2048]⟩
abbrev S128x8x16x128 : Shape := ⟨4, ![128, 8, 16, 128]⟩
abbrev S16x128x128x8 : Shape := ⟨4, ![16, 128, 128, 8]⟩
abbrev S_ : Shape := ⟨0, ![]⟩
abbrev S8x128x2048 : Shape := ⟨3, ![8, 128, 2048]⟩
abbrev S1x128x2048 : Shape := ⟨3, ![1, 128, 2048]⟩

abbrev nBuf : Space → Nat
  | .hbm => 150
  | .vmem => 0
  | .smem => 0
  | _ => 0

abbrev hbmTy0_0 (i : Nat) : BufTy := match i % 128 with
  | 0 => ⟨S128x8x4096, .f32⟩
  | 1 => ⟨S128x3x2048, .f32⟩
  | 2 => ⟨S128x2048, .f32⟩
  | 3 => ⟨S4x2048, .f32⟩
  | 4 => ⟨S2048, .f32⟩
  | 5 => ⟨S16x128x128, .f32⟩
  | 6 => ⟨S2048, .f32⟩
  | 7 => ⟨S16x128x128, .f32⟩
  | 8 => ⟨S2048, .f32⟩
  | 9 => ⟨S2048, .f32⟩
  | 10 => ⟨S128x8x2048, .f32⟩
  | 11 => ⟨S128x11x2048, .f32⟩
  | 12 => ⟨S128x8x2048, .f32⟩
  | 13 => ⟨S1x2048, .f32⟩
  | 14 => ⟨S2048, .f32⟩
  | 15 => ⟨S1x1x2048, .f32⟩
  | 16 => ⟨S128x8x2048, .f32⟩
  | 17 => ⟨S128x8x2048, .f32⟩
  | 18 => ⟨S1x1x2048, .f32⟩
  | 19 => ⟨S128x8x2048, .f32⟩
  | 20 => ⟨S128x8x2048, .f32⟩
  | 21 => ⟨S128x8x2048, .f32⟩
  | 22 => ⟨S1x2048, .f32⟩
  | 23 => ⟨S2048, .f32⟩
  | 24 => ⟨S1x1x2048, .f32⟩
  | 25 => ⟨S128x8x2048, .f32⟩
  | 26 => ⟨S128x8x2048, .f32⟩
  | 27 => ⟨S128x8x2048, .f32⟩
  | 28 => ⟨S128x8x2048, .f32⟩
  | 29 => ⟨S1x2048, .f32⟩
  | 30 => ⟨S2048, .f32⟩
  | 31 => ⟨S1x1x2048, .f32⟩
  | 32 => ⟨S128x8x2048, .f32⟩
  | 33 => ⟨S128x8x2048, .f32⟩
  | 34 => ⟨S128x8x2048, .f32⟩
  | 35 => ⟨S128x8x2048, .f32⟩
  | 36 => ⟨S1x2048, .f32⟩
  | 37 => ⟨S2048, .f32⟩
  | 38 => ⟨S1x1x2048, .f32⟩
  | 39 => ⟨S128x8x2048, .f32⟩
  | 40 => ⟨S128x8x2048, .f32⟩
  | 41 => ⟨S128x8x2048, .f32⟩
  | 42 => ⟨S128x8x16x128, .f32⟩
  | 43 => ⟨S16x128x128x8, .f32⟩
  | 44 => ⟨S128x8x16x128, .f32⟩
  | 45 => ⟨S128x8x2048, .f32⟩
  | 46 => ⟨S1x1x2048, .f32⟩
  | 47 => ⟨S128x8x2048, .f32⟩
  | 48 => ⟨S128x8x2048, .f32⟩
  | 49 => ⟨S128x8x2048, .f32⟩
  | 50 => ⟨S128x8x2048, .f32⟩
  | 51 => ⟨S_, .f32⟩
  | 52 => ⟨S128x8x2048, .f32⟩
  | 53 => ⟨S128x8x2048, .f32⟩
  | 54 => ⟨S_, .f32⟩
  | 55 => ⟨S128x8x2048, .f32⟩
  | 56 => ⟨S128x8x2048, .f32⟩
  | 57 => ⟨S16x128x128x8, .f32⟩
  | 58 => ⟨S128x8x16x128, .f32⟩
  | 59 => ⟨S128x8x2048, .f32⟩
  | 60 => ⟨S1x1x2048, .f32⟩
  | 61 => ⟨S128x8x2048, .f32⟩
  | 62 => ⟨S128x8x2048, .f32⟩
  | 63 => ⟨S128x8x2048, .f32⟩
  | 64 => ⟨S128x8x2048, .f32⟩
  | 65 => ⟨S_, .f32⟩
  | 66 => ⟨S128x8x2048, .f32⟩
  | 67 => ⟨S128x8x2048, .f32⟩
  | 68 => ⟨S_, .f32⟩
  | 69 => ⟨S128x8x2048, .f32⟩
  | 70 => ⟨S128x8x2048, .f32⟩
  | 71 => ⟨S_, .f32⟩
  | 72 => ⟨S128x8x2048, .f32⟩
  | 73 => ⟨S128x8x2048, .f32⟩
  | 74 => ⟨S2048, .f32⟩
  | 75 => ⟨S_, .f32⟩
  | 76 => ⟨S2048, .f32⟩
  | 77 => ⟨S2048, .f32⟩
  | 78 => ⟨S2048, .f32⟩
  | 79 => ⟨S2048, .f32⟩
  | 80 => ⟨S2048, .i1⟩
  | 81 => ⟨S2048, .f32⟩
  | 82 => ⟨S2048, .f32⟩
  | 83 => ⟨S2048, .f32⟩
  | 84 => ⟨S2048, .f32⟩
  | 85 => ⟨S2048, .f32⟩
  | 86 => ⟨S2048, .f32⟩
  | 87 => ⟨S2048, .f32⟩
  | 88 => ⟨S2048, .f32⟩
  | 89 => ⟨S1x1x2048, .f32⟩
  | 90 => ⟨S128x8x2048, .f32⟩
  | 91 => ⟨S128x8x2048, .f32⟩
  | 92 => ⟨S128x8x2048, .f32⟩
  | 93 => ⟨S_, .f32⟩
  | 94 => ⟨S128x8x2048, .f32⟩
  | 95 => ⟨S128x8x2048, .f32⟩
  | 96 => ⟨S128x8x2048, .f32⟩
  | 97 => ⟨S128x8x2048, .f32⟩
  | 98 => ⟨S128x8x2048, .f32⟩
  | 99 => ⟨S128x8x2048, .f32⟩
  | 100 => ⟨S128x8x2048, .f32⟩
  | 101 => ⟨S8x128x2048, .f32⟩
  | 102 => ⟨S8x128x2048, .f32⟩
  | 103 => ⟨S_, .f32⟩
  | 104 => ⟨S8x128x2048, .f32⟩
  | 105 => ⟨S_, .i32⟩
  | 106 => ⟨S8x128x2048, .f32⟩
  | 107 => ⟨S8x128x2048, .f32⟩
  | 108 => ⟨S_, .i32⟩
  | 109 => ⟨S128x2048, .f32⟩
  | 110 => ⟨S8x128x2048, .f32⟩
  | 111 => ⟨S_, .i32⟩
  | 112 => ⟨S_, .i1⟩
  | 113 => ⟨S_, .i32⟩
  | 114 => ⟨S_, .i32⟩
  | 115 => ⟨S1x128x2048, .f32⟩
  | 116 => ⟨S128x2048, .f32⟩
  | 117 => ⟨S_, .i32⟩
  | 118 => ⟨S_, .i32⟩
  | 119 => ⟨S1x128x2048, .f32⟩
  | 120 => ⟨S128x2048, .f32⟩
  | 121 => ⟨S128x2048, .f32⟩
  | 122 => ⟨S128x2048, .f32⟩
  | 123 => ⟨S1x128x2048, .f32⟩
  | 124 => ⟨S_, .i32⟩
  | 125 => ⟨S_, .i32⟩
  | 126 => ⟨S8x128x2048, .f32⟩
  | 127 => ⟨S_, .i32⟩
  | _ => ⟨S128x8x4096, .f32⟩

abbrev hbmTy0_1 (i : Nat) : BufTy := match i % 128 with
  | 0 => ⟨S_, .i32⟩
  | 1 => ⟨S128x8x2048, .f32⟩
  | 2 => ⟨S128x8x2048, .f32⟩
  | 3 => ⟨S128x8x2048, .f32⟩
  | 4 => ⟨S128x8x2048, .f32⟩
  | 5 => ⟨S_, .f32⟩
  | 6 => ⟨S128x8x2048, .f32⟩
  | 7 => ⟨S128x8x2048, .f32⟩
  | 8 => ⟨S128x8x2048, .f32⟩
  | 9 => ⟨S_, .f32⟩
  | 10 => ⟨S128x8x2048, .f32⟩
  | 11 => ⟨S128x8x2048, .f32⟩
  | 12 => ⟨S128x8x2048, .f32⟩
  | 13 => ⟨S_, .f32⟩
  | 14 => ⟨S128x8x2048, .f32⟩
  | 15 => ⟨S128x8x2048, .f32⟩
  | 16 => ⟨S_, .f32⟩
  | 17 => ⟨S128x8x2048, .f32⟩
  | 18 => ⟨S128x8x2048, .f32⟩
  | 19 => ⟨S128x8x2048, .f32⟩
  | 20 => ⟨S128x8x2048, .f32⟩
  | 21 => ⟨S8x128x2048, .f32⟩
  | _ => ⟨S128x8x4096, .f32⟩

abbrev hbmTy (i : Nat) : BufTy := match i / 128 with
  | 0 => hbmTy0_0 i
  | 1 => hbmTy0_1 i
  | _ => ⟨S128x8x4096, .f32⟩

abbrev bufTy : (tb : Table) → Fin (tcTables nBuf tb) → BufTy
  | .hbm, ⟨i, _⟩ => hbmTy i
  | _, _ => ⟨S128x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_5 : Ref sig .tc := ⟨.hbm, 103, rfl⟩
abbrev main_v74 : Ref sig .tc := ⟨.hbm, 104, rfl⟩
abbrev main_c : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v75_4 : Ref sig .tc := ⟨.hbm, 110, rfl⟩
abbrev main_while0c_c_14 : Ref sig .tc := ⟨.hbm, 111, rfl⟩
abbrev main_while0c_v93 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_v0 : Ref sig .tc := ⟨.hbm, 115, rfl⟩
abbrev main_while0b_v93 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v94 : Ref sig .tc := ⟨.hbm, 120, rfl⟩
abbrev main_while0b_v95 : Ref sig .tc := ⟨.hbm, 121, rfl⟩
abbrev main_while0b_v96 : Ref sig .tc := ⟨.hbm, 122, rfl⟩
abbrev main_while0b_call3_v0 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_v97 : Ref sig .tc := ⟨.hbm, 126, rfl⟩
abbrev main_while0b_c_14 : Ref sig .tc := ⟨.hbm, 127, rfl⟩
abbrev main_while0b_v98 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_6 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_7 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_8 : Ref sig .tc := ⟨.hbm, 141, rfl⟩
abbrev main_v86 : Ref sig .tc := ⟨.hbm, 142, rfl⟩
abbrev main_v87 : Ref sig .tc := ⟨.hbm, 143, rfl⟩
abbrev main_cst_9 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩

abbrev nD : Nat := 1
abbrev τ : Topo := Topo.v7x

variable {F : FTy → Type} [FloatOps F]

abbrev main_while0_count : Scf.Loop 32 := ⟨0#32, 8#32, 1#32⟩
-- ==== Mod.lean ====
abbrev S128x4096 : Shape := ⟨2, ![128, 4096]⟩
abbrev S1x4096 : Shape := ⟨2, ![1, 4096]⟩
abbrev S4096x24576 : Shape := ⟨2, ![4096, 24576]⟩
abbrev S24576 : Shape := ⟨1, ![24576]⟩
abbrev S_ : Shape := ⟨0, ![]⟩
abbrev S15x4096 : Shape := ⟨2, ![15, 4096]⟩
abbrev S144x4096 : Shape := ⟨2, ![144, 4096]⟩
abbrev S1x24576 : Shape := ⟨2, ![1, 24576]⟩
abbrev S144x24576 : Shape := ⟨2, ![144, 24576]⟩
abbrev S4096x512 : Shape := ⟨2, ![4096, 512]⟩
abbrev S1x512 : Shape := ⟨2, ![1, 512]⟩
abbrev S144x512 : Shape := ⟨2, ![144, 512]⟩

abbrev nBuf : Space → Nat
  | .hbm => 9
  | .vmem => 8
  | .smem => 0
  | _ => 0

abbrev bufTy : (tb : Table) → Fin (tcTables nBuf tb) → BufTy
  | .hbm, ⟨0, _⟩ => ⟨S128x4096, .f32⟩
  | .hbm, ⟨1, _⟩ => ⟨S1x4096, .f32⟩
  | .hbm, ⟨2, _⟩ => ⟨S4096x24576, .f32⟩
  | .hbm, ⟨3, _⟩ => ⟨S24576, .f32⟩
  | .hbm, ⟨4, _⟩ => ⟨S_, .f32⟩
  | .hbm, ⟨5, _⟩ => ⟨S15x4096, .f32⟩
  | .hbm, ⟨6, _⟩ => ⟨S144x4096, .f32⟩
  | .hbm, ⟨7, _⟩ => ⟨S1x24576, .f32⟩
  | .hbm, ⟨8, _⟩ => ⟨S144x24576, .f32⟩
  | .local _ .vmem, ⟨0, _⟩ => ⟨S144x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S144x512, .f32⟩
  | .local _ .vmem, ⟨6, _⟩ => ⟨S144x512, .f32⟩
  | .local _ .vmem, ⟨7, _⟩ => ⟨S144x4096, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S144x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S128x4096 : Shape := ⟨2, ![128, 4096]⟩
abbrev S1x4096 : Shape := ⟨2, ![1, 4096]⟩
abbrev S4096x24576 : Shape := ⟨2, ![4096, 24576]⟩
abbrev S24576 : Shape := ⟨1, ![24576]⟩
abbrev S_ : Shape := ⟨0, ![]⟩
abbrev S128x24576 : Shape := ⟨2, ![128, 24576]⟩
abbrev S1x24576 : Shape := ⟨2, ![1, 24576]⟩
abbrev S15x4096 : Shape := ⟨2, ![15, 4096]⟩
abbrev S15x24576 : Shape := ⟨2, ![15, 24576]⟩
abbrev S144x24576 : Shape := ⟨2, ![144, 24576]⟩

abbrev nBuf : Space → Nat
  | .hbm => 45
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S1x4096, .f32⟩
  | .hbm, ⟨2, _⟩ => ⟨S4096x24576, .f32⟩
  | .hbm, ⟨3, _⟩ => ⟨S24576, .f32⟩
  | .hbm, ⟨4, _⟩ => ⟨S128x4096, .f32⟩
  | .hbm, ⟨5, _⟩ => ⟨S128x4096, .f32⟩
  | .hbm, ⟨6, _⟩ => ⟨S_, .f32⟩
  | .hbm, ⟨7, _⟩ => ⟨S128x4096, .f32⟩
  | .hbm, ⟨8, _⟩ => ⟨S128x4096, .f32⟩
  | .hbm, ⟨9, _⟩ => ⟨S_, .f32⟩
  | .hbm, ⟨10, _⟩ => ⟨S128x4096, .f32⟩
  | .hbm, ⟨11, _⟩ => ⟨S128x4096, .f32⟩
  | .hbm, ⟨12, _⟩ => ⟨S128x4096, .f32⟩
  | .hbm, ⟨13, _⟩ => ⟨S128x24576, .f32⟩
  | .hbm, ⟨14, _⟩ => ⟨S1x24576, .f32⟩
  | .hbm, ⟨15, _⟩ => ⟨S128x24576, .f32⟩
  | .hbm, ⟨16, _⟩ => ⟨S128x24576, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S1x24576, .f32⟩
  | .hbm, ⟨27, _⟩ => ⟨S1x24576, .f32⟩
  | .hbm, ⟨28, _⟩ => ⟨S1x24576, .f32⟩
  | .hbm, ⟨29, _⟩ => ⟨S_, .f32⟩
  | .hbm, ⟨30, _⟩ => ⟨S15x4096, .f32⟩
  | .hbm, ⟨31, _⟩ => ⟨S15x4096, .f32⟩
  | .hbm, ⟨32, _⟩ => ⟨S15x4096, .f32⟩
  | .hbm, ⟨33, _⟩ => ⟨S_, .f32⟩
  | .hbm, ⟨34, _⟩ => ⟨S15x4096, .f32⟩
  | .hbm, ⟨35, _⟩ => ⟨S15x4096, .f32⟩
  | .hbm, ⟨36, _⟩ => ⟨S_, .f32⟩
  | .hbm, ⟨37, _⟩ => ⟨S15x4096, .f32⟩
  | .hbm, ⟨38, _⟩ => ⟨S15x4096, .f32⟩
  | .hbm, ⟨39, _⟩ => ⟨S15x4096, .f32⟩
  | .hbm, ⟨40, _⟩ => ⟨S15x24576, .f32⟩
  | .hbm, ⟨41, _⟩ => ⟨S1x24576, .f32⟩
  | .hbm, ⟨42, _⟩ => ⟨S15x24576, .f32⟩
  | .hbm, ⟨43, _⟩ => ⟨S15x24576, .f32⟩
  | .hbm, ⟨44, _⟩ => ⟨S144x24576, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Pre.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreRefIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S1x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== PreS.lean ====
abbrev S128x8x4096 : Shape := ⟨3, ![128, 8, 4096]⟩
abbrev S4096 : Shape := ⟨1, ![4096]⟩
abbrev S128x4096 : Shape := ⟨2, ![128, 4096]⟩
abbrev S1024x4096 : Shape := ⟨2, ![1024, 4096]⟩
abbrev S1x4096 : Shape := ⟨2, ![1, 4096]⟩
abbrev S128 : Shape := ⟨1, ![128]⟩
abbrev S128x1 : Shape := ⟨2, ![128, 1]⟩

abbrev nBuf : Space → Nat
  | .hbm => 11
  | .vmem => 9
  | .smem => 0
  | _ => 0

abbrev bufTy : (tb : Table) → Fin (tcTables nBuf tb) → BufTy
  | .hbm, ⟨0, _⟩ => ⟨S128x8x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S1024x4096, .f32⟩
  | .hbm, ⟨5, _⟩ => ⟨S128x8x4096, .f32⟩
  | .hbm, ⟨6, _⟩ => ⟨S1024x4096, .f32⟩
  | .hbm, ⟨7, _⟩ => ⟨S128x8x4096, .f32⟩
  | .hbm, ⟨8, _⟩ => ⟨S1024x4096, .f32⟩
  | .hbm, ⟨9, _⟩ => ⟨S1x4096, .f32⟩
  | .hbm, ⟨10, _⟩ => ⟨S1024x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | _, _ => ⟨S128x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PreSRefIdeal.lean ====
abbrev S128x8x4096 : Shape := ⟨3, ![128, 8, 4096]⟩
abbrev S4096 : Shape := ⟨1, ![4096]⟩
abbrev S128x4096 : Shape := ⟨2, ![128, 4096]⟩
abbrev S_ : Shape := ⟨0, ![]⟩
abbrev S128x8 : Shape := ⟨2, ![128, 8]⟩
abbrev S128x8x1 : Shape := ⟨3, ![128, 8, 1]⟩
abbrev S1x1x4096 : Shape := ⟨3, ![1, 1, 4096]⟩
abbrev S128x1x4096 : Shape := ⟨3, ![128, 1, 4096]⟩
abbrev S1024x4096 : Shape := ⟨2, ![1024, 4096]⟩

abbrev nBuf : Space → Nat
  | .hbm => 31
  | .vmem => 0
  | .smem => 0
  | _ => 0

abbrev bufTy : (tb : Table) → Fin (tcTables nBuf tb) → BufTy
  | .hbm, ⟨0, _⟩ => ⟨S128x8x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S128x8x4096, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x4096, .f32⟩
  | .hbm, ⟨16, _⟩ => ⟨S128x8x4096, .f32⟩
  | .hbm, ⟨17, _⟩ => ⟨S1x1x4096, .f32⟩
  | .hbm, ⟨18, _⟩ => ⟨S128x8x4096, .f32⟩
  | .hbm, ⟨19, _⟩ => ⟨S128x8x4096, .f32⟩
  | .hbm, ⟨20, _⟩ => ⟨S128x1x4096, .f32⟩
  | .hbm, ⟨21, _⟩ => ⟨S_, .f32⟩
  | .hbm, ⟨22, _⟩ => ⟨S128x1x4096, .f32⟩
  | .hbm, ⟨23, _⟩ => ⟨S128x1x4096, .f32⟩
  | .hbm, ⟨24, _⟩ => ⟨S128x8x4096, .f32⟩
  | .hbm, ⟨25, _⟩ => ⟨S128x8x4096, .f32⟩
  | .hbm, ⟨26, _⟩ => ⟨S128x1x4096, .f32⟩
  | .hbm, ⟨27, _⟩ => ⟨S128x8x4096, .f32⟩
  | .hbm, ⟨28, _⟩ => ⟨S128x8x4096, .f32⟩
  | .hbm, ⟨29, _⟩ => ⟨S1024x4096, .f32⟩
  | .hbm, ⟨30, _⟩ => ⟨S1024x4096, .bf16⟩
  | _, _ => ⟨S128x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Group.lean ====
abbrev S8192x2048 : Shape := ⟨2, ![8192, 2048]⟩
abbrev S2048 : Shape := ⟨1, ![2048]⟩
abbrev S1x2048 : Shape := ⟨2, ![1, 2048]⟩
abbrev S8192x4096 : Shape := ⟨2, ![8192, 4096]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x4096, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x4096, .bf16⟩
  | .local _ .vmem, ⟨7, _⟩ => ⟨S512x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GroupRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x4096, .f32⟩
  | .hbm, ⟨37, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Mid.lean ====
abbrev S8192x4096 : Shape := ⟨2, ![8192, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S8192x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .bf16⟩
  | .local _ .vmem, ⟨12, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidRefIdeal.lean ====
abbrev S8192x4096 : Shape := ⟨2, ![8192, 4096]⟩
abbrev S4096 : Shape := ⟨1, ![4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== MidS.lean ====
abbrev S128x8x4096 : Shape := ⟨3, ![128, 8, 4096]⟩
abbrev S4096 : Shape := ⟨1, ![4096]⟩
abbrev S128x4096 : Shape := ⟨2, ![128, 4096]⟩
abbrev S1024x4096 : Shape := ⟨2, ![1024, 4096]⟩
abbrev S1x4096 : Shape := ⟨2, ![1, 4096]⟩
abbrev S128 : Shape := ⟨1, ![128]⟩
abbrev S128x1 : Shape := ⟨2, ![128, 1]⟩

abbrev nBuf : Space → Nat
  | .hbm => 19
  | .vmem => 16
  | .smem => 0
  | _ => 0

abbrev bufTy : (tb : Table) → Fin (tcTables nBuf tb) → BufTy
  | .hbm, ⟨0, _⟩ => ⟨S128x8x4096, .f32⟩
  | .hbm, ⟨1, _⟩ => ⟨S128x8x4096, .f32⟩
  | .hbm, ⟨2, _⟩ => ⟨S4096, .f32⟩
  | .hbm, ⟨3, _⟩ => ⟨S128x4096, .f32⟩
  | .hbm, ⟨4, _⟩ => ⟨S4096, .f32⟩
  | .hbm, ⟨5, _⟩ => ⟨S128x4096, .f32⟩
  | .hbm, ⟨6, _⟩ => ⟨S128x4096, .f32⟩
  | .hbm, ⟨7, _⟩ => ⟨S1024x4096, .f32⟩
  | .hbm, ⟨8, _⟩ => ⟨S1024x4096, .f32⟩
  | .hbm, ⟨9, _⟩ => ⟨S128x8x4096, .f32⟩
  | .hbm, ⟨10, _⟩ => ⟨S1024x4096, .f32⟩
  | .hbm, ⟨11, _⟩ => ⟨S128x8x4096, .f32⟩
  | .hbm, ⟨12, _⟩ => ⟨S1024x4096, .f32⟩
  | .hbm, ⟨13, _⟩ => ⟨S128x8x4096, .f32⟩
  | .hbm, ⟨14, _⟩ => ⟨S1024x4096, .f32⟩
  | .hbm, ⟨15, _⟩ => ⟨S1x4096, .f32⟩
  | .hbm, ⟨16, _⟩ => ⟨S1x4096, .f32⟩
  | .hbm, ⟨17, _⟩ => ⟨S1024x4096, .f32⟩
  | .hbm, ⟨18, _⟩ => ⟨S1024x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .bf16⟩
  | .local _ .vmem, ⟨15, _⟩ => ⟨S128x4096, .bf16⟩
  | _, _ => ⟨S128x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidSRefIdeal.lean ====
abbrev S128x8x4096 : Shape := ⟨3, ![128, 8, 4096]⟩
abbrev S4096 : Shape := ⟨1, ![4096]⟩
abbrev S128x4096 : Shape := ⟨2, ![128, 4096]⟩
abbrev S128x1x4096 : Shape := ⟨3, ![128, 1, 4096]⟩
abbrev S_ : Shape := ⟨0, ![]⟩
abbrev S128x8 : Shape := ⟨2, ![128, 8]⟩
abbrev S128x8x1 : Shape := ⟨3, ![128, 8, 1]⟩
abbrev S1x1x4096 : Shape := ⟨3, ![1, 1, 4096]⟩
abbrev S1024x4096 : Shape := ⟨2, ![1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S128x8x4096, .f32⟩
  | .hbm, ⟨1, _⟩ => ⟨S128x8x4096, .f32⟩
  | .hbm, ⟨2, _⟩ => ⟨S4096, .f32⟩
  | .hbm, ⟨3, _⟩ => ⟨S128x4096, .f32⟩
  | .hbm, ⟨4, _⟩ => ⟨S4096, .f32⟩
  | .hbm, ⟨5, _⟩ => ⟨S128x4096, .f32⟩
  | .hbm, ⟨6, _⟩ => ⟨S128x4096, .f32⟩
  | .hbm, ⟨7, _⟩ => ⟨S128x1x4096, .f32⟩
  | .hbm, ⟨8, _⟩ => ⟨S128x8x4096, .f32⟩
  | .hbm, ⟨9, _⟩ => ⟨S_, .f32⟩
  | .hbm, ⟨10, _⟩ => ⟨S128x8, .f32⟩
  | .hbm, ⟨11, _⟩ => ⟨S128x8x1, .f32⟩
  | .hbm, ⟨12, _⟩ => ⟨S_, .f32⟩
  | .hbm, ⟨13, _⟩ => ⟨S128x8x1, .f32⟩
  | .hbm, ⟨14, _⟩ => ⟨S128x8x1, .f32⟩
  | .hbm, ⟨15, _⟩ => ⟨S_, .f32⟩
  | .hbm, ⟨16, _⟩ => ⟨S128x8x1, .f32⟩
  | .hbm, ⟨17, _⟩ => ⟨S128x8x1, .f32⟩
  | .hbm, ⟨18, _⟩ => ⟨S128x8x1, .f32⟩
  | .hbm, ⟨19, _⟩ => ⟨S128x8x4096, .f32⟩
  | .hbm, ⟨20, _⟩ => ⟨S128x8x4096, .f32⟩
  | .hbm, ⟨21, _⟩ => ⟨S1x1x4096, .f32⟩
  | .hbm, ⟨22, _⟩ => ⟨S128x8x4096, .f32⟩
  | .hbm, ⟨23, _⟩ => ⟨S128x8x4096, .f32⟩
  | .hbm, ⟨24, _⟩ => ⟨S128x8x4096, .f32⟩
  | .hbm, ⟨25, _⟩ => ⟨S128x8x4096, .f32⟩
  | .hbm, ⟨26, _⟩ => ⟨S128x8x4096, .f32⟩
  | .hbm, ⟨27, _⟩ => ⟨S128x8x4096, .f32⟩
  | .hbm, ⟨28, _⟩ => ⟨S_, .f32⟩
  | .hbm, ⟨29, _⟩ => ⟨S128x8, .f32⟩
  | .hbm, ⟨30, _⟩ => ⟨S128x8x1, .f32⟩
  | .hbm, ⟨31, _⟩ => ⟨S_, .f32⟩
  | .hbm, ⟨32, _⟩ => ⟨S128x8x1, .f32⟩
  | .hbm, ⟨33, _⟩ => ⟨S128x8x1, .f32⟩
  | .hbm, ⟨34, _⟩ => ⟨S_, .f32⟩
  | .hbm, ⟨35, _⟩ => ⟨S128x8x1, .f32⟩
  | .hbm, ⟨36, _⟩ => ⟨S128x8x1, .f32⟩
  | .hbm, ⟨37, _⟩ => ⟨S128x8x1, .f32⟩
  | .hbm, ⟨38, _⟩ => ⟨S128x8x4096, .f32⟩
  | .hbm, ⟨39, _⟩ => ⟨S128x8x4096, .f32⟩
  | .hbm, ⟨40, _⟩ => ⟨S1x1x4096, .f32⟩
  | .hbm, ⟨41, _⟩ => ⟨S128x8x4096, .f32⟩
  | .hbm, ⟨42, _⟩ => ⟨S128x8x4096, .f32⟩
  | .hbm, ⟨43, _⟩ => ⟨S128x1x4096, .f32⟩
  | .hbm, ⟨44, _⟩ => ⟨S_, .f32⟩
  | .hbm, ⟨45, _⟩ => ⟨S128x1x4096, .f32⟩
  | .hbm, ⟨46, _⟩ => ⟨S128x1x4096, .f32⟩
  | .hbm, ⟨47, _⟩ => ⟨S128x8x4096, .f32⟩
  | .hbm, ⟨48, _⟩ => ⟨S128x8x4096, .f32⟩
  | .hbm, ⟨49, _⟩ => ⟨S128x1x4096, .f32⟩
  | .hbm, ⟨50, _⟩ => ⟨S128x8x4096, .f32⟩
  | .hbm, ⟨51, _⟩ => ⟨S128x8x4096, .f32⟩
  | .hbm, ⟨52, _⟩ => ⟨S1024x4096, .f32⟩
  | .hbm, ⟨53, _⟩ => ⟨S1024x4096, .f32⟩
  | .hbm, ⟨54, _⟩ => ⟨S1024x4096, .bf16⟩
  | _, _ => ⟨S128x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Scan.lean ====
/-
  The linear recurrence `h ← a·h + u` over the extended reals, and its doubling scan.

  A window of `n` steps from step `s` is the affine map `h ↦ A s n · h + U s n`. Where every decay is
  nonnegative and finite, multiplication by a product of decays distributes over addition, so two
  adjacent windows compose to one window (`U_add`), and the scan that doubles the window's length at
  each pass (`AD`, `UD`) ends at the window from the tile's first row.
-/
module

public import Idealize.ShloMosaic.Lib.Pointwise

@[expose] public section

noncomputable section

namespace Cert.Rglru

/-- The recurrence from `h0`, after `n` steps. -/
def Hrec (a u : ℕ → EReal) (h0 : EReal) : ℕ → EReal
  | 0 => h0
  | n + 1 => a n * Hrec a u h0 n + u n

/-- The product of the `n` decays from step `s`. -/
def A (a : ℕ → EReal) (s : ℕ) : ℕ → EReal
  | 0 => 1
  | n + 1 => a (s + n) * A a s n

/-- The recurrence over the `n` steps from step `s`, started at zero. -/
def U (a u : ℕ → EReal) (s : ℕ) : ℕ → EReal
  | 0 => 0
  | n + 1 => a (s + n) * U a u s n + u (s + n)

/-- Every decay is nonnegative and finite. -/
def Decay (a : ℕ → EReal) : Prop := ∀ n, 0 ≤ a n ∧ a n ≠ ⊤

theorem A_decay {a : ℕ → EReal} (ha : Decay a) (s n : ℕ) : 0 ≤ A a s n ∧ A a s n ≠ ⊤ := by
  induction n with
  | zero => exact ⟨zero_le_one, EReal.coe_ne_top 1⟩
  | succ n ih =>
    have h := ha (s + n)
    refine ⟨mul_nonneg h.1 ih.1, ?_⟩
    have e1 : a (s + n) = ((a (s + n)).toReal : EReal) :=
      (EReal.coe_toReal h.2 (fun e => by rw [e] at h; exact absurd h.1 (by simp))).symm
    have e2 : A a s n = ((A a s n).toReal : EReal) :=
      (EReal.coe_toReal ih.2 (fun e => by rw [e] at ih; exact absurd ih.1 (by simp))).symm
    show a (s + n) * A a s n ≠ ⊤
    rw [e1, e2, ← EReal.coe_mul]
    exact EReal.coe_ne_top _

/-- A nonnegative finite factor distributes over a sum of extended reals. -/
theorem mul_add_of_decay {x : EReal} (h : 0 ≤ x ∧ x ≠ ⊤) (y z : EReal) : x * (y + z) = x * y + x * z :=
  EReal.left_distrib_of_nonneg_of_ne_top h.1 h.2 y z

theorem A_add (a : ℕ → EReal) (s n m : ℕ) : A a s (n + m) = A a (s + n) m * A a s n := by
  induction m with
  | zero => show A a s n = 1 * A a s n; rw [one_mul]
  | succ m ih =>
    show a (s + (n + m)) * A a s (n + m) = a (s + n + m) * A a (s + n) m * A a s n
    rw [ih, mul_assoc, Nat.add_assoc]

theorem U_add {a : ℕ → EReal} (ha : Decay a) (u : ℕ → EReal) (s n m : ℕ) :
    U a u s (n + m) = A a (s + n) m * U a u s n + U a u (s + n) m := by
  induction m with
  | zero => show U a u s n = 1 * U a u s n + 0; rw [one_mul, add_zero]
  | succ m ih =>
    show a (s + (n + m)) * U a u s (n + m) + u (s + (n + m))
      = a (s + n + m) * A a (s + n) m * U a u s n + (a (s + n + m) * U a u (s + n) m + u (s + n + m))
    rw [ih, ← Nat.add_assoc, mul_add_of_decay (ha _), mul_assoc, add_assoc]

theorem Hrec_eq {a : ℕ → EReal} (ha : Decay a) (u : ℕ → EReal) (h0 : EReal) (n : ℕ) :
    Hrec a u h0 n = U a u 0 n + A a 0 n * h0 := by
  induction n with
  | zero => show h0 = 0 + 1 * h0; rw [one_mul, zero_add]
  | succ n ih =>
    show a n * Hrec a u h0 n + u n = (a (0 + n) * U a u 0 n + u (0 + n)) + a (0 + n) * A a 0 n * h0
    rw [ih, Nat.zero_add, mul_add_of_decay (ha _), mul_assoc, add_assoc, add_assoc,
      add_comm (a n * (A a 0 n * h0))]

/-- The recurrence over `n + m` steps is the one over `n` steps followed by the shifted one over `m`. -/
theorem Hrec_add (a u : ℕ → EReal) (h0 : EReal) (n m : ℕ) :
    Hrec a u h0 (n + m) = Hrec (fun k => a (n + k)) (fun k => u (n + k)) (Hrec a u h0 n) m := by
  induction m with
  | zero => rfl
  | succ m ih =>
    show a (n + m) * Hrec a u h0 (n + m) + u (n + m) = _
    rw [ih]; rfl

/-- The recurrence reads only the steps it takes. -/
theorem Hrec_congr {a a' u u' : ℕ → EReal} (h0 : EReal) (n : ℕ) (ha : ∀ k < n, a k = a' k)
    (hu : ∀ k < n, u k = u' k) : Hrec a u h0 n = Hrec a' u' h0 n := by
  induction n with
  | zero => rfl
  | succ n ih =>
    show a n * Hrec a u h0 n + u n = a' n * Hrec a' u' h0 n + u' n
    rw [ih (fun k hk => ha k (by omega)) (fun k hk => hu k (by omega)), ha n (by omega), hu n (by omega)]

/-- The product over the last `d` steps up to row `r`, or over all of them where there are fewer. -/
def AD (a : ℕ → EReal) (d r : ℕ) : EReal := A a (r + 1 - d) (r + 1 - (r + 1 - d))
/-- The recurrence over the same steps, started at zero. -/
def UD (a u : ℕ → EReal) (d r : ℕ) : EReal := U a u (r + 1 - d) (r + 1 - (r + 1 - d))

theorem AD_one (a : ℕ → EReal) (r : ℕ) : AD a 1 r = a r := by
  show A a r (r + 1 - r) = a r
  rw [show r + 1 - r = 1 by omega]
  show a (r + 0) * 1 = a r
  rw [mul_one, Nat.add_zero]

theorem UD_one (a u : ℕ → EReal) (r : ℕ) : UD a u 1 r = u r := by
  show U a u r (r + 1 - r) = u r
  rw [show r + 1 - r = 1 by omega]
  show a (r + 0) * 0 + u (r + 0) = u r
  rw [mul_zero, zero_add, Nat.add_zero]

theorem AD_double (a : ℕ → EReal) (d r : ℕ) :
    AD a (d + d) r = AD a d r * (if d ≤ r then AD a d (r - d) else 1) := by
  unfold AD
  split
  · next h =>
    rw [show r + 1 - (r + 1 - (d + d)) = (r - d + 1 - (r - d + 1 - d)) + d by omega,
      show r + 1 - (d + d) = r - d + 1 - d by omega, A_add,
      show r - d + 1 - d + (r - d + 1 - (r - d + 1 - d)) = r + 1 - d by omega,
      show r + 1 - (r + 1 - d) = d by omega]
  · next h =>
    rw [mul_one, show r + 1 - (d + d) = 0 by omega, show r + 1 - d = 0 by omega]

theorem UD_double {a : ℕ → EReal} (ha : Decay a) (u : ℕ → EReal) (d r : ℕ) :
    UD a u (d + d) r = AD a d r * (if d ≤ r then UD a u d (r - d) else 0) + UD a u d r := by
  unfold AD UD
  split
  · next h =>
    rw [show r + 1 - (r + 1 - (d + d)) = (r - d + 1 - (r - d + 1 - d)) + d by omega,
      show r + 1 - (d + d) = r - d + 1 - d by omega, U_add ha,
      show r - d + 1 - d + (r - d + 1 - (r - d + 1 - d)) = r + 1 - d by omega,
      show r + 1 - (r + 1 - d) = d by omega]
  · next h =>
    rw [mul_zero, zero_add, show r + 1 - (d + d) = 0 by omega, show r + 1 - d = 0 by omega]

/-- Once the window reaches the first row, the doubled scan with the carried value folded in is the
    recurrence from that value. -/
theorem scan_end {a : ℕ → EReal} (ha : Decay a) (u : ℕ → EReal) (h0 : EReal) {d r : ℕ} (h : r < d) :
    UD a u d r + AD a d r * h0 = Hrec a u h0 (r + 1) := by
  rw [Hrec_eq ha]
  unfold AD UD
  rw [show r + 1 - d = 0 by omega]
  rfl

end Cert.Rglru

end
-- ==== Proof.Tile.lean ====
/-
  One tile of the kernel's scan: ten rotate-and-select passes over 1024 rows, each column the
  recurrence of `Scan.lean`.
-/
module

public import proofs.«01_k».proof.Proof.Scan
public import proofs.«01_k».proof.Proof.Gen.KernelIdeal.Value

@[expose] public section

set_option maxRecDepth 16384

noncomputable section

namespace Cert.KernelIdeal.Rglru

open Cert.KernelIdeal Cert.KernelIdeal.Gen Cert.Rglru Idealize.ShloMosaic Idealize.ShloMosaic.TcCoe Idealize.SL.Sem

/-- Row numbers of a tile. -/
abbrev rows : IVec S1024x128 32 := iota .tc S1024x128 32 [0] iota_S1024x128_d0_w32

/-- A row below 1024 passes the mask of shift `d` exactly when it is at least `d`. -/
theorem mask_at (dw : BitVec 32) (d : ℕ) (hd : dw.toNat = d) (hlt : d < 1024) (r : Fin 1024) (e : Fin 128) :
    (cmpi .sge rows (broadcast S1024x128 dw)) (ix2 r e) = if d ≤ r.val then 1#1 else 0#1 := by
  have hr := r.isLt
  have hdw : dw = BitVec.ofNat 32 d := by
    apply BitVec.eq_of_toNat_eq; rw [hd, BitVec.toNat_ofNat, Nat.mod_eq_of_lt (by omega)]
  subst hdw
  have e0 : (0 * 1024 + r.val : ℕ) = r.val := by omega
  show IntOp.cmpi .sge (BitVec.ofNat 32 (0 * 1024 + r.val)) (BitVec.ofNat 32 d) = _
  rw [e0, WordCmp.cmpi_sge_ofNat (by omega) (by omega)]
  by_cases h : d ≤ r.val
  · rw [if_pos h, decide_eq_true h]; rfl
  · rw [if_neg h, decide_eq_false h]; rfl

/-- The rotated-and-masked tile at an index: the row `d` above, or the fill. -/
theorem shift_at (X : FVec Ideal S1024x128 .f32) (dw : BitVec 32) (d : ℕ) (z : EReal) (hd : dw.toNat = d) (hlt : d < 1024)
    (r : Fin 1024) (e : Fin 128) :
    select (cmpi .sge rows (broadcast S1024x128 dw)) (dynamicRotate 0 dw none X rotates_S1024x128_d0)
        (broadcast S1024x128 (z : Ideal .f32)) (ix2 r e)
      = if h : d ≤ r.val then X (ix2 ⟨r.val - d, by omega⟩ e) else z := by
  have hr := r.isLt
  show (if (cmpi .sge rows (broadcast S1024x128 dw)) (ix2 r e) = 1#1 then
    dynamicRotate 0 dw none X rotates_S1024x128_d0 (ix2 r e) else z) = _
  rw [mask_at dw d hd hlt]
  by_cases h : d ≤ r.val
  · rw [if_pos h, if_pos rfl, dif_pos h]
    unfold dynamicRotate
    refine congrArg X (funext fun a => ?_)
    apply Fin.ext
    match a with
    | ⟨0, _⟩ =>
      show (r.val + 1024 - (dw.toNat + 0) % 1024) % 1024 = r.val - d
      rw [hd]; omega
    | ⟨1, _⟩ => rfl
  · rw [if_neg h, dif_neg h]; rfl

/-- One pass over the products. -/
def stepA (dw : BitVec 32) (X : FVec Ideal S1024x128 .f32) : FVec Ideal S1024x128 .f32 :=
  mulf X (select (cmpi .sge rows (broadcast S1024x128 dw)) (dynamicRotate 0 dw none X rotates_S1024x128_d0)
    (broadcast S1024x128 (Scalar.ofBits (F := Ideal) .f32 0x3F800000#32)))
/-- One pass over the recurrence, with the products so far. -/
def stepU (dw : BitVec 32) (X Y : FVec Ideal S1024x128 .f32) : FVec Ideal S1024x128 .f32 :=
  addf (mulf X (select (cmpi .sge rows (broadcast S1024x128 dw)) (dynamicRotate 0 dw none Y rotates_S1024x128_d0)
    (broadcast S1024x128 (Scalar.ofBits (F := Ideal) .f32 0x00000000#32)))) Y

/-- The tile holds, in every column, the products of the last `d` decays. -/
def InvA (a : Fin 128 → ℕ → EReal) (d : ℕ) (X : FVec Ideal S1024x128 .f32) : Prop :=
  ∀ (r : Fin 1024) (e : Fin 128), X (ix2 r e) = AD (a e) d r.val
/-- The tile holds, in every column, the recurrence over the last `d` steps. -/
def InvU (a u : Fin 128 → ℕ → EReal) (d : ℕ) (Y : FVec Ideal S1024x128 .f32) : Prop :=
  ∀ (r : Fin 1024) (e : Fin 128), Y (ix2 r e) = UD (a e) (u e) d r.val

variable {a u : Fin 128 → ℕ → EReal}

/-- One pass doubles the window of the products. -/
theorem passA {X : FVec Ideal S1024x128 .f32} {d : ℕ} (h : InvA a d X) (dw : BitVec 32) (hd : dw.toNat = d) (hlt : d < 1024) :
    InvA a (d + d) (stepA dw X) := by
  intro r e
  unfold stepA
  rw [mulf_apply, shift_at X dw d _ hd hlt, AD_double, h r e]
  show AD (a e) d r.val * _ = _
  congr 1
  split
  · rw [h]
  · exact Ideal.ofBits_one_f32

/-- One pass doubles the window of the recurrence. -/
theorem passU (ha : ∀ e, Decay (a e)) {X Y : FVec Ideal S1024x128 .f32} {d : ℕ} (h : InvA a d X) (hY : InvU a u d Y)
    (dw : BitVec 32) (hd : dw.toNat = d) (hlt : d < 1024) :
    InvU a u (d + d) (stepU dw X Y) := by
  intro r e
  unfold stepU
  rw [addf_apply, mulf_apply, shift_at Y dw d _ hd hlt, UD_double (ha e), h r e, hY r e]
  show AD (a e) d r.val * _ + _ = _
  congr 2
  split
  · rw [hY]
  · exact Ideal.ofBits_zero_f32

/-- A tile's columns as sequences (past the tile, zero). -/
def col (X : FVec Ideal S1024x128 .f32) (e : Fin 128) (n : ℕ) : EReal := if h : n < 1024 then X (ix2 ⟨n, h⟩ e) else 0

theorem col_at (X : FVec Ideal S1024x128 .f32) (r : Fin 1024) (e : Fin 128) : col X e r.val = X (ix2 r e) := dif_pos r.isLt

theorem decay_col {X : FVec Ideal S1024x128 .f32} (h : ∀ r e, 0 ≤ X (ix2 r e) ∧ X (ix2 r e) ≠ ⊤) (e : Fin 128) : Decay (col X e) := by
  intro n
  unfold col
  split
  · exact h _ _
  · exact ⟨le_refl _, EReal.zero_ne_top⟩

/-- What a step adds to the recurrence, from the gates, as the kernel spells it. -/
abbrev drive (v29 v50 v67 v68 : FVec Ideal S1024x128 .f32) : FVec Ideal S1024x128 .f32 :=
  mulf (sqrt (mulf (subf (broadcast S1024x128 (Scalar.ofBits .f32 0x00000000#32)) v68)
    (addf (mulf v67 v67) (broadcast S1024x128 (Scalar.ofBits .f32 0x3F800000#32))))) (mulf v50 v29)

/-- The carried row, added in with the products of the whole tile. -/
def carry (X Y : FVec Ideal S1024x128 .f32) (v189 : Vec Ideal S1x128 .f32) : FVec Ideal S1024x128 .f32 :=
  addf Y (mulf X (broadcastTo S1024x128 v189 broadcasts_S1x128_S1024x128))

theorem carry_at (X Y : FVec Ideal S1024x128 .f32) (v189 : Vec Ideal S1x128 .f32) (r : Fin 1024) (e : Fin 128) :
    carry X Y v189 (ix2 r e) = Y (ix2 r e) + X (ix2 r e) * v189 (ix2 0 e) := by
  pointwise [carry]

theorem pay20_eq (v67 : FVec Ideal S1024x128 .f32) : k0_pay20 v67 = stepA 4#32 (stepA 2#32 (stepA 1#32 v67)) := by
  show stepA 4#32 (k0_pay17 v67) = _
  congr 1

theorem pay19_eq (v29 v50 v67 v68 : FVec Ideal S1024x128 .f32) : k0_pay19 v29 v50 v67 v68 =
    stepU 4#32 (stepA 2#32 (stepA 1#32 v67)) (stepU 2#32 (stepA 1#32 v67) (stepU 1#32 v67 (drive v29 v50 v67 v68))) := rfl

theorem pay24_eq (A : FVec Ideal S1024x128 .f32) : k0_pay24 rows A = stepA 16#32 (stepA 8#32 A) := rfl
theorem pay27_eq (A : FVec Ideal S1024x128 .f32) : k0_pay27 rows A = stepA 32#32 (stepA 16#32 (stepA 8#32 A)) := rfl
theorem pay26_eq (A Y : FVec Ideal S1024x128 .f32) : k0_pay26 rows Y A =
    stepU 32#32 (stepA 16#32 (stepA 8#32 A)) (stepU 16#32 (stepA 8#32 A) (stepU 8#32 A Y)) := rfl

theorem pay32_eq (A U A0 U0 : FVec Ideal S1024x128 .f32) (hA : k0_pay27 rows A0 = A) (hU : k0_pay26 rows U0 A0 = U) (v189 : Vec Ideal S1x128 .f32) :
    k0_pay32 rows U A (k0_pay28 rows) (k0_pay29 rows A0) (k0_pay30 rows U0 A0) (k0_pay31 (F := Ideal)) v189
      = carry (stepA 512#32 (stepA 256#32 (stepA 128#32 (stepA 64#32 A))))
          (stepU 512#32 (stepA 256#32 (stepA 128#32 (stepA 64#32 A))) (stepU 256#32 (stepA 128#32 (stepA 64#32 A))
            (stepU 128#32 (stepA 64#32 A) (stepU 64#32 A U)))) v189 := by
  unfold k0_pay29 k0_pay30
  rw [hA, hU]
  rfl

/-- THE TILE: from the decays `v67`, the gates and the carried row, the scan leaves the recurrence. -/
theorem tile_at (v29 v50 v67 v68 : FVec Ideal S1024x128 .f32) (v189 : Vec Ideal S1x128 .f32)
    (h : ∀ r e, 0 ≤ v67 (ix2 r e) ∧ v67 (ix2 r e) ≠ ⊤) (r : Fin 1024) (e : Fin 128) :
    k0_pay32 rows (k0_pay26 rows (k0_pay19 v29 v50 v67 v68) (k0_pay20 v67)) (k0_pay27 rows (k0_pay20 v67)) (k0_pay28 rows)
        (k0_pay29 rows (k0_pay20 v67)) (k0_pay30 rows (k0_pay19 v29 v50 v67 v68) (k0_pay20 v67)) (k0_pay31 (F := Ideal)) v189 (ix2 r e)
      = Hrec (col v67 e) (col (drive v29 v50 v67 v68) e) (v189 (ix2 0 e)) (r.val + 1) := by
  have ha := decay_col h
  have a1 : InvA (col v67) 1 v67 := fun r e => by rw [AD_one, col_at]
  have u1 : InvU (col v67) (col (drive v29 v50 v67 v68)) 1 (drive v29 v50 v67 v68) := fun r e => by rw [UD_one, col_at]
  have a2 : InvA _ 2 _ := passA a1 1#32 rfl (by decide)
  have u2 : InvU _ _ 2 _ := passU ha a1 u1 1#32 rfl (by decide)
  have a4 : InvA _ 4 _ := passA a2 2#32 rfl (by decide)
  have u4 : InvU _ _ 4 _ := passU ha a2 u2 2#32 rfl (by decide)
  have a8 : InvA _ 8 _ := passA a4 4#32 rfl (by decide)
  have u8 : InvU _ _ 8 _ := passU ha a4 u4 4#32 rfl (by decide)
  have a16 : InvA _ 16 _ := passA a8 8#32 rfl (by decide)
  have u16 : InvU _ _ 16 _ := passU ha a8 u8 8#32 rfl (by decide)
  have a32 : InvA _ 32 _ := passA a16 16#32 rfl (by decide)
  have u32 : InvU _ _ 32 _ := passU ha a16 u16 16#32 rfl (by decide)
  have a64 : InvA _ 64 _ := passA a32 32#32 rfl (by decide)
  have u64 : InvU _ _ 64 _ := passU ha a32 u32 32#32 rfl (by decide)
  have a128 : InvA _ 128 _ := passA a64 64#32 rfl (by decide)
  have u128 : InvU _ _ 128 _ := passU ha a64 u64 64#32 rfl (by decide)
  have a256 : InvA _ 256 _ := passA a128 128#32 rfl (by decide)
  have u256 : InvU _ _ 256 _ := passU ha a128 u128 128#32 rfl (by decide)
  have a512 : InvA _ 512 _ := passA a256 256#32 rfl (by decide)
  have u512 : InvU _ _ 512 _ := passU ha a256 u256 256#32 rfl (by decide)
  have a1024 : InvA _ 1024 _ := passA a512 512#32 rfl (by decide)
  have u1024 : InvU _ _ 1024 _ := passU ha a512 u512 512#32 rfl (by decide)
  rw [pay32_eq _ _ _ _ rfl rfl, pay27_eq, pay26_eq, pay20_eq, pay19_eq]
  refine Eq.trans ?_ (scan_end (ha e) (col (drive v29 v50 v67 v68) e) (v189 (ix2 0 e)) (d := 1024) r.isLt)
  rw [← u1024 r e, ← a1024 r e]
  exact carry_at _ _ _ r e

end Cert.KernelIdeal.Rglru

end
-- ==== Proof.Whole.lean ====
/-
  Loads and stores of a whole buffer, for any program.
-/
module

public import Idealize.ShloMosaic.Lib.WritesUnit
public import Idealize.ShloMosaic.Lib.Claim
public import Idealize.ShloMosaic.Lib.Pipeline.ValueKit

@[expose] public section

noncomputable section

namespace Cert.Whole

open Idealize.ShloMosaic Idealize.ShloMosaic.TcCoe Idealize.SL.Sem

variable {sig : RefSig}

theorem hz2 : (![0, 0] : Fin 2 → ℕ) = fun _ => 0 := funext fun a => by fin_cases a <;> rfl
theorem hz3 : (![0, 0, 0] : Fin 3 → ℕ) = fun _ => 0 := funext fun a => by fin_cases a <;> rfl

/-- A whole-buffer write read back. -/
theorem read_whole {S : Shape} {e : EltTy} (v : View sig .tc .vmem S e) (f : v.ty.Contents (Elt Ideal)) (off : Fin S.rank → ℕ) (h0 : off = fun _ => 0)
    (inb : ∀ a, off a + S.size a ≤ S.size a) (w : S.Idx → Elt Ideal e) (L : List (View.Piece (Elt Ideal) S e)) :
    v.read (Elt Ideal) (v.writes (Elt Ideal) f (⟨Rect.unit off S.size inb, w⟩ :: L)) = w :=
  funext fun y => View.read_writes_cons_unit_of_mem v f inb w L y y h0 fun a => (Nat.zero_add _).symm

/-- A whole-buffer load of what the buffer holds. -/
theorem load_whole {S : Shape} {e : EltTy} (v : View sig .tc .vmem S e) (f : v.ty.Contents (Elt Ideal)) (off : Fin S.rank → ℕ) (h0 : off = fun _ => 0)
    (inb : ∀ a, off a + S.size a ≤ S.size a) :
    v.readAt (Elt Ideal) (Rect.unit off S.size inb).toLoadRect f = v.read (Elt Ideal) f := by
  subst h0
  funext j
  refine congrArg (v.read (Elt Ideal) f) (funext fun a => Fin.ext ?_)
  show 0 + 1 * (j a).val = (j a).val
  omega

end Cert.Whole

end
-- ==== Proof.Point.lean ====
/-
  What one grid point leaves in its outputs and in what it carries on, as plain functions of what it
  reads: the convolution of a tile with the eight rows before it, the gates and the scan.
-/
module

public import proofs.«01_k».proof.Proof.Tile
public import proofs.«01_k».proof.Proof.Whole

@[expose] public section

set_option maxRecDepth 16384

noncomputable section

namespace Cert.KernelIdeal.Rglru

open Cert.KernelIdeal Cert.KernelIdeal.Gen Cert.Rglru Cert.Whole Idealize.ShloMosaic Idealize.ShloMosaic.TcCoe Idealize.SL.Sem

/-- A tile's rows from row `k` of the buffer: eight rows of history, then the tile itself. -/
def win (hist : Vec Ideal S8x128 .f32) (x : Vec Ideal S1024x128 .f32) (k : ℕ) (hk : k ≤ 8) : Vec Ideal S1024x128 .f32 := fun j =>
  if h : (j 0).val + k < 8 then hist (ix2 ⟨(j 0).val + k, h⟩ (j 1))
  else x (ix2 ⟨(j 0).val + k - 8, by have h0 : (j 0).val < 1024 := (j 0).isLt; omega⟩ (j 1))

/-- Row `k` of the filter. -/
def tap (w : Vec Ideal S4x128 .f32) (k : Fin 4) : Vec Ideal S1x128 .f32 := fun j => w (ix2 k (j 1 : Fin 128))

/-- The convolution of a tile. -/
def convT (hist : Vec Ideal S8x128 .f32) (x0 : Vec Ideal S1024x128 .f32) (x2 : Vec Ideal S4x128 .f32) (x3 : Vec Ideal S1x128 .f32) :
    FVec Ideal S1024x128 .f32 :=
  k0_pay7 x3 (win hist x0 5 (by decide)) (tap x2 0) (win hist x0 6 (by decide)) (tap x2 1) (win hist x0 7 (by decide)) (tap x2 2)
    (win hist x0 8 (by decide)) (tap x2 3)

/-- The hidden states of a tile: gates from its convolution `cv`, the scan, the carried row `h0`. -/
def tileT (cv : FVec Ideal S1024x128 .f32) (x4 : Vec Ideal S1x128x128 .bf16) (x5 : Vec Ideal S1x128 .f32) (x6 : Vec Ideal S1x128x128 .bf16)
    (x7 x8 : Vec Ideal S1x128 .f32) (h0 : Vec Ideal S1x128 .f32) : FVec Ideal S1024x128 .f32 :=
  k0_pay32 rows
    (k0_pay26 rows (k0_pay19 cv (k0_pay10 cv x6 x7) (k0_pay12 cv x4 x5 x8) (k0_pay13 cv x4 x5 x8)) (k0_pay20 (k0_pay12 cv x4 x5 x8)))
    (k0_pay27 rows (k0_pay20 (k0_pay12 cv x4 x5 x8))) (k0_pay28 rows) (k0_pay29 rows (k0_pay20 (k0_pay12 cv x4 x5 x8)))
    (k0_pay30 rows (k0_pay19 cv (k0_pay10 cv x6 x7) (k0_pay12 cv x4 x5 x8) (k0_pay13 cv x4 x5 x8)) (k0_pay20 (k0_pay12 cv x4 x5 x8)))
    (k0_pay31 (F := Ideal)) h0

/-- Its last row, as the kernel takes it. -/
def lastRow (X : FVec Ideal S1024x128 .f32) : FVec Ideal S1x128 .f32 := fun j => X (ix2 1023 (j 1))

/-- A history of zeros. -/
def hist0 : Vec Ideal S8x128 .f32 := fun _ => 0
/-- The first eight rows of the buffer. -/
def histOf (xs0 : Vec Ideal S1032x128 .f32) : Vec Ideal S8x128 .f32 := fun j => xs0 (ix2 ⟨(j 0).val, by have h0 : (j 0).val < 8 := (j 0).isLt; omega⟩ (j 1))

/-- A load of 1024 rows from row `k` on, after the tile was written from row 8 on. -/
theorem load_win (v : View sig .tc .vmem S1032x128 .f32) (f : v.ty.Contents (Elt Ideal)) (L : List (View.Piece (Elt Ideal) S1032x128 .f32))
    (inb : ∀ a : Fin 2, (![8, 0] : Fin 2 → ℕ) a + S1024x128.size a ≤ S1032x128.size a) (x : Vec Ideal S1024x128 .f32)
    (k : ℕ) (hk : k ≤ 8) (inb' : ∀ a : Fin 2, (![k, 0] : Fin 2 → ℕ) a + S1024x128.size a ≤ S1032x128.size a) (hist : Vec Ideal S8x128 .f32)
    (hh : ∀ (r : Fin 8) (e : Fin 128), k ≤ r.val → v.read (Elt Ideal) (v.writes (Elt Ideal) f L) (ix2 ⟨r.val, by omega⟩ e) = hist (ix2 r e)) :
    v.readAt (Elt Ideal) (Rect.unit (s := S1032x128) ![k, 0] S1024x128.size inb').toLoadRect
        (v.writes (Elt Ideal) f (⟨Rect.unit (s := S1032x128) ![8, 0] S1024x128.size inb, x⟩ :: L)) = win hist x k hk := by
  funext j
  have hj : (j 0).val < 1024 := (j 0).isLt
  show v.read (Elt Ideal) _ ((Rect.unit (s := S1032x128) ![k, 0] S1024x128.size inb').toLoadRect.idx j) = _
  have hidx : (Rect.unit (s := S1032x128) ![k, 0] S1024x128.size inb').toLoadRect.idx j = ix2 ⟨(j 0).val + k, by omega⟩ (j 1) := by
    funext a; apply Fin.ext
    match a with
    | ⟨0, _⟩ => show k + 1 * (j 0).val = (j 0).val + k; omega
    | ⟨1, _⟩ => show 0 + 1 * (j 1).val = (j 1).val; omega
  rw [hidx]
  unfold win
  by_cases h : (j 0).val + k < 8
  · rw [dif_pos h]
    refine (View.read_writes_cons_rows_of_not_mem (o := 8) (W := 1024) v f inb x L (ix2 ⟨(j 0).val + k, by omega⟩ (j 1 : Fin 128)) rfl rfl
      (Or.inl h)).trans ?_
    exact hh ⟨(j 0).val + k, h⟩ (j 1) (by show k ≤ (j 0).val + k; omega)
  · rw [dif_neg h]
    exact View.read_writes_cons_rows_of_mem (o := 8) v f inb x L _ _ rfl (by show (j 0).val + k = 8 + ((j 0).val + k - 8); omega) rfl

/-- A load of one filter row. -/
theorem load_tap (v : View sig .tc .vmem S4x128 .f32) (f : v.ty.Contents (Elt Ideal)) (k : ℕ) (hk : k < 4)
    (inb : ∀ a : Fin 2, (![k, 0] : Fin 2 → ℕ) a + S1x128.size a ≤ S4x128.size a) (x : Vec Ideal S4x128 .f32) (hx : v.read (Elt Ideal) f = x) :
    v.readAt (Elt Ideal) (Rect.unit (s := S4x128) ![k, 0] S1x128.size inb).toLoadRect f = tap x ⟨k, hk⟩ := by
  funext j
  have hj : (j 0).val < 1 := (j 0).isLt
  show v.read (Elt Ideal) f ((Rect.unit (s := S4x128) ![k, 0] S1x128.size inb).toLoadRect.idx j) = _
  have hidx : (Rect.unit (s := S4x128) ![k, 0] S1x128.size inb).toLoadRect.idx j = ix2 ⟨k, hk⟩ (j 1) := by
    funext a; apply Fin.ext
    match a with
    | ⟨0, _⟩ => show k + 1 * (j 0).val = k; omega
    | ⟨1, _⟩ => show 0 + 1 * (j 1).val = (j 1).val; omega
  rw [hidx, hx]; rfl

/-- The last eight rows of the tile, read back after the tile was written. -/
theorem load_tail (v : View sig .tc .vmem S1032x128 .f32) (f : v.ty.Contents (Elt Ideal)) (L : List (View.Piece (Elt Ideal) S1032x128 .f32))
    (inb : ∀ a : Fin 2, (![8, 0] : Fin 2 → ℕ) a + S1024x128.size a ≤ S1032x128.size a) (x : Vec Ideal S1024x128 .f32)
    (inb' : ∀ a : Fin 2, (![1024, 0] : Fin 2 → ℕ) a + S8x128.size a ≤ S1032x128.size a) (r : Fin 8) (e : Fin 128) :
    v.readAt (Elt Ideal) (Rect.unit (s := S1032x128) ![1024, 0] S8x128.size inb').toLoadRect
        (v.writes (Elt Ideal) f (⟨Rect.unit (s := S1032x128) ![8, 0] S1024x128.size inb, x⟩ :: L)) (ix2 r e)
      = x (ix2 ⟨1016 + r.val, by omega⟩ e) := by
  show v.read (Elt Ideal) _ ((Rect.unit (s := S1032x128) ![1024, 0] S8x128.size inb').toLoadRect.idx (ix2 r e)) = _
  exact View.read_writes_cons_rows_of_mem (o := 8) v f inb x L _ _ rfl
    (by show 1024 + 1 * r.val = 8 + (1016 + r.val); omega) (by show 0 + 1 * e.val = e.val; omega)

theorem pay6_eq (x : Vec Ideal S1024x128 .f32) : k0_pay6 x = x := shapeCast_self _ _
theorem pay8_eq (x : Vec Ideal S8x128 .f32) : k0_pay8 x = x := shapeCast_self _ _
theorem pay1_eq (x : FVec Ideal S1x128 .f32) : k0_pay1 x = x := shapeCast_self _ _
theorem pay5_eq : k0_pay5 (F := Ideal) = fun _ => (0 : EReal) := by
  exact (shapeCast_self _ _).trans (funext fun _ => Ideal.ofBits_zero_f32)
theorem pay4_eq : k0_pay4 (F := Ideal) = hist0 := by
  exact (shapeCast_self _ _).trans (funext fun _ => Ideal.ofBits_zero_f32)
theorem pay2_eq (X : FVec Ideal S1024x128 .f32) : k0_pay2 X = lastRow X := by
  funext j
  idx_vars j
  pointwise [k0_pay2, lastRow]

/-- Before the first tile the history is zero. -/
theorem hist_A (v : View sig .tc .vmem S1032x128 .f32) (f : v.ty.Contents (Elt Ideal)) (k : ℕ) (r : Fin 8) (e : Fin 128) (_ : k ≤ r.val) :
    v.read (Elt Ideal) (v.writes (Elt Ideal) f [⟨Rect.unit (s := S1032x128) ![0, 0] S8x128.size inb_S1032x128_S8x128_0_0, k0_pay4 (F := Ideal)⟩])
      (ix2 ⟨r.val, by omega⟩ e) = hist0 (ix2 r e) := by
  rw [View.read_writes_cons_rows_of_mem (o := 0) v f inb_S1032x128_S8x128_0_0 (k0_pay4 (F := Ideal)) [] _ (ix2 r e) rfl (Nat.zero_add _).symm rfl, pay4_eq]

variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S4x128 .f32) (harg4 : arg4.IsWhole) (arg5 : Memref sig .tc .vmem S1x128 .f32) (harg5 : arg5.IsWhole) (arg6 : Memref sig .tc .vmem S1x128x128 .bf16) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1032x128 .f32) (harg13 : arg13.IsWhole) (arg14 : Memref sig .tc .vmem S1x128 .f32) (harg14 : arg14.IsWhole)
    (x0 : Vec Ideal S1024x128 .f32) (x1 : Vec Ideal S1024x128 .f32) (x2 : Vec Ideal S4x128 .f32) (x3 : Vec Ideal S1x128 .f32) (x4 : Vec Ideal S1x128x128 .bf16) (x5 : Vec Ideal S1x128 .f32) (x6 : Vec Ideal S1x128x128 .bf16) (x7 : Vec Ideal S1x128 .f32) (x8 : Vec Ideal S1x128 .f32) (xs0 : Vec Ideal S1032x128 .f32) (xs1 : Vec Ideal S1x128 .f32)

theorem out_A_9 (hc : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 = k0_pay3 (tileT (convT hist0 x0 x2 x3) x4 x5 x6 x7 x8 (fun _ => (0 : EReal))) x1 := by
  unfold out0_A_9 kernelRun0_A
  dsimp only
  sl_unfold_words
  refine (read_whole VO0_9 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  unfold View.readCov
  rw [load_whole arg14.view _ _ hz2, read_whole _ _ _ hz2, pay5_eq]
  rw [load_win arg13.view _ _ _ x0 5 (by decide) _ hist0 (hist_A arg13.view _ 5)]
  rw [load_win arg13.view _ _ _ x0 6 (by decide) _ hist0 (hist_A arg13.view _ 6)]
  rw [load_win arg13.view _ _ _ x0 7 (by decide) _ hist0 (hist_A arg13.view _ 7)]
  rw [load_win arg13.view _ _ _ x0 8 (by decide) _ hist0 (hist_A arg13.view _ 8)]
  rw [load_whole arg3.view _ _ hz2, harg3.read_unread]
  rfl

theorem out_A_10 (hc : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 = lastRow (tileT (convT hist0 x0 x2 x3) x4 x5 x6 x7 x8 (fun _ => (0 : EReal))) := by
  unfold out0_A_10 kernelRun0_A
  dsimp only
  sl_unfold_words
  refine (read_whole VO0_10 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  unfold View.readCov
  rw [load_whole arg14.view _ _ hz2, read_whole _ _ _ hz2, pay5_eq]
  rw [load_win arg13.view _ _ _ x0 5 (by decide) _ hist0 (hist_A arg13.view _ 5)]
  rw [load_win arg13.view _ _ _ x0 6 (by decide) _ hist0 (hist_A arg13.view _ 6)]
  rw [load_win arg13.view _ _ _ x0 7 (by decide) _ hist0 (hist_A arg13.view _ 7)]
  rw [load_win arg13.view _ _ _ x0 8 (by decide) _ hist0 (hist_A arg13.view _ 8)]
  exact pay2_eq _

theorem sout_A_1 (hc : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 = lastRow (tileT (convT hist0 x0 x2 x3) x4 x5 x6 x7 x8 (fun _ => (0 : EReal))) := by
  unfold sout0_A_1 kernelRun0_A
  dsimp only
  sl_unfold_words
  refine (read_whole VS0_1 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  unfold View.readCov
  rw [load_whole arg14.view _ _ hz2, read_whole _ _ _ hz2, pay5_eq]
  rw [load_win arg13.view _ _ _ x0 5 (by decide) _ hist0 (hist_A arg13.view _ 5)]
  rw [load_win arg13.view _ _ _ x0 6 (by decide) _ hist0 (hist_A arg13.view _ 6)]
  rw [load_win arg13.view _ _ _ x0 7 (by decide) _ hist0 (hist_A arg13.view _ 7)]
  rw [load_win arg13.view _ _ _ x0 8 (by decide) _ hist0 (hist_A arg13.view _ 8)]
  rw [pay1_eq]
  exact pay2_eq _

theorem sout_A_0 (hc : cond0_0 i) (r : Fin 8) (e : Fin 128) :
    sout0_A_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 (ix2 ⟨r.val, by omega⟩ e) = x0 (ix2 ⟨1016 + r.val, by omega⟩ e) := by
  unfold sout0_A_0 kernelRun0_A
  dsimp only
  sl_unfold_words
  refine (View.read_writes_cons_rows_of_mem (o := 0) VS0_0 _ _ _ _ _ (ix2 r e) rfl (Nat.zero_add _).symm rfl).trans ?_
  rw [load_whole arg2.view _ _ hz2, harg2.read_unread, pay6_eq, pay8_eq]
  exact load_tail arg13.view _ _ _ x0 _ r e

theorem out_B_9 (hc : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 = k0_pay3 (tileT (convT (histOf xs0) x0 x2 x3) x4 x5 x6 x7 x8 xs1) x1 := by
  unfold out0_B_9 kernelRun0_B
  dsimp only
  sl_unfold_words
  refine (read_whole VO0_9 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  rw [load_whole arg14.view _ _ hz2, harg14.read_unread]
  rw [load_win arg13.view (harg13.unread xs0) [] _ x0 5 (by decide) _ (histOf xs0) (fun r e _ => congrFun (harg13.read_unread xs0) _)]
  rw [load_win arg13.view (harg13.unread xs0) [] _ x0 6 (by decide) _ (histOf xs0) (fun r e _ => congrFun (harg13.read_unread xs0) _)]
  rw [load_win arg13.view (harg13.unread xs0) [] _ x0 7 (by decide) _ (histOf xs0) (fun r e _ => congrFun (harg13.read_unread xs0) _)]
  unfold View.readCov
  rw [load_win arg13.view _ [] _ x0 8 (by decide) _ (histOf xs0) (fun r e h => absurd r.isLt (by omega))]
  rw [load_whole arg3.view _ _ hz2, harg3.read_unread]
  rfl

theorem out_B_10 (hc : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 = lastRow (tileT (convT (histOf xs0) x0 x2 x3) x4 x5 x6 x7 x8 xs1) := by
  unfold out0_B_10 kernelRun0_B
  dsimp only
  sl_unfold_words
  refine (read_whole VO0_10 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  rw [load_whole arg14.view _ _ hz2, harg14.read_unread]
  rw [load_win arg13.view (harg13.unread xs0) [] _ x0 5 (by decide) _ (histOf xs0) (fun r e _ => congrFun (harg13.read_unread xs0) _)]
  rw [load_win arg13.view (harg13.unread xs0) [] _ x0 6 (by decide) _ (histOf xs0) (fun r e _ => congrFun (harg13.read_unread xs0) _)]
  rw [load_win arg13.view (harg13.unread xs0) [] _ x0 7 (by decide) _ (histOf xs0) (fun r e _ => congrFun (harg13.read_unread xs0) _)]
  unfold View.readCov
  rw [load_win arg13.view _ [] _ x0 8 (by decide) _ (histOf xs0) (fun r e h => absurd r.isLt (by omega))]
  exact pay2_eq _

theorem sout_B_1 (hc : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 = lastRow (tileT (convT (histOf xs0) x0 x2 x3) x4 x5 x6 x7 x8 xs1) := by
  unfold sout0_B_1 kernelRun0_B
  dsimp only
  sl_unfold_words
  refine (read_whole VS0_1 _ _ hz2 _ _ _).trans ?_
  rw [load_whole arg2.view _ _ hz2, harg2.read_unread, pay6_eq]
  rw [load_whole arg5.view _ _ hz2, harg5.read_unread, load_whole arg6.view _ _ hz3, harg6.read_unread, load_whole arg7.view _ _ hz2, harg7.read_unread,
    load_whole arg8.view _ _ hz3, harg8.read_unread, load_whole arg9.view _ _ hz2, harg9.read_unread, load_whole arg10.view _ _ hz2, harg10.read_unread]
  rw [load_tap arg4.view _ 0 (by decide) _ x2 (harg4.read_unread _), load_tap arg4.view _ 1 (by decide) _ x2 (harg4.read_unread _),
    load_tap arg4.view _ 2 (by decide) _ x2 (harg4.read_unread _), load_tap arg4.view _ 3 (by decide) _ x2 (harg4.read_unread _)]
  rw [load_whole arg14.view _ _ hz2, harg14.read_unread]
  rw [load_win arg13.view (harg13.unread xs0) [] _ x0 5 (by decide) _ (histOf xs0) (fun r e _ => congrFun (harg13.read_unread xs0) _)]
  rw [load_win arg13.view (harg13.unread xs0) [] _ x0 6 (by decide) _ (histOf xs0) (fun r e _ => congrFun (harg13.read_unread xs0) _)]
  rw [load_win arg13.view (harg13.unread xs0) [] _ x0 7 (by decide) _ (histOf xs0) (fun r e _ => congrFun (harg13.read_unread xs0) _)]
  unfold View.readCov
  rw [load_win arg13.view _ [] _ x0 8 (by decide) _ (histOf xs0) (fun r e h => absurd r.isLt (by omega))]
  rw [pay1_eq]
  exact pay2_eq _

theorem sout_B_0 (hc : ¬cond0_0 i) (r : Fin 8) (e : Fin 128) :
    sout0_B_0 c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 xs0 xs1 (ix2 ⟨r.val, by omega⟩ e) = x0 (ix2 ⟨1016 + r.val, by omega⟩ e) := by
  unfold sout0_B_0 kernelRun0_B
  dsimp only
  sl_unfold_words
  refine (View.read_writes_cons_rows_of_mem (o := 0) VS0_0 _ _ _ _ _ (ix2 r e) rfl (Nat.zero_add _).symm rfl).trans ?_
  rw [load_whole arg2.view _ _ hz2, harg2.read_unread, pay6_eq, pay8_eq]
  exact load_tail arg13.view _ _ _ x0 _ r e

end Cert.KernelIdeal.Rglru

end
-- ==== Proof.Spec.lean ====
/-
  The layer's recurrence over the extended reals, as plain functions of its inputs: the causal
  convolution of four taps, the two block-diagonal gates, the decay and the drive, the hidden state
  and the gated output.
-/
module

public import proofs.«01_k».proof.Proof.Scan

@[expose] public section

noncomputable section

namespace Cert.Rglru

open Idealize.ShloMosaic

/-! ## Scalars -/

/-- The kernel's `log (1 + exp (-l))`. -/
def sp (l : EReal) : EReal := max (0 - l) 0 + Ideal.log1p (Ideal.exp (0 - FloatOps.absf (F := Ideal) (φ := .f32) (0 - l)))

/-- The logarithm of the decay, of the gate `r` and the parameter `l`. -/
def logDecay (r l : EReal) : EReal := Ideal.ofBits FTy.f32 3238002688#32 * r * sp l

/-- The factor on the drive, of the logarithm of the decay. -/
def rate (la : EReal) : EReal := Ideal.sqrt ((0 - Ideal.tanh la) * (Ideal.exp la * Ideal.exp la + 1))

/-- The gating nonlinearity. -/
def gelu (g : EReal) : EReal :=
  g * (Ideal.ofBits FTy.f32 1056964608#32 * (1 + Ideal.tanh (Ideal.ofBits FTy.f32 1061962282#32 * (g + Ideal.ofBits FTy.f32 1027024659#32 * (g * (g * g))))))

theorem ofBits_neg_eight : Ideal.ofBits FTy.f32 3238002688#32 = ((-8 : ℝ) : EReal) := by
  simp [Ideal.ofBits, Ideal.ieee, -EReal.coe_mul, -EReal.coe_neg]; norm_num

theorem ofBits_two : Ideal.ofBits FTy.f32 1073741824#32 = ((2 : ℝ) : EReal) := by
  simp [Ideal.ofBits, Ideal.ieee, -EReal.coe_mul]; norm_num

theorem exp_nonneg (x : EReal) : 0 ≤ Ideal.exp x := by
  induction x with
  | bot => exact le_refl _
  | top => exact le_top
  | coe r => exact EReal.coe_nonneg.mpr (Real.exp_pos r).le

theorem log_nonneg {x : EReal} (h : 1 ≤ x) : 0 ≤ Ideal.log x := by
  induction x with
  | bot => exact absurd (le_bot_iff.mp h) (EReal.coe_ne_bot 1)
  | top => exact le_top
  | coe r =>
    have h1 : (1 : ℝ) ≤ r := by exact_mod_cast h
    show 0 ≤ (if r ≤ 0 then (⊥ : EReal) else (Real.log r : EReal))
    rw [if_neg (by linarith)]
    exact EReal.coe_nonneg.mpr (Real.log_nonneg h1)

theorem sp_nonneg (l : EReal) : 0 ≤ sp l :=
  add_nonneg (le_max_right _ _) (log_nonneg (le_add_of_nonneg_right (exp_nonneg _)))

theorem logistic_nonneg (x : EReal) : 0 ≤ Ideal.logistic x := by
  induction x with
  | bot => rw [Ideal.logistic_bot]
  | top => rw [Ideal.logistic_top]; exact zero_le_one
  | coe r => rw [Ideal.logistic_coe]; exact EReal.coe_nonneg.mpr (inv_nonneg.mpr (by positivity))

theorem logDecay_nonpos {r : EReal} (hr : 0 ≤ r) (l : EReal) : logDecay r l ≤ 0 := by
  unfold logDecay
  rw [ofBits_neg_eight, EReal.coe_neg, neg_mul, neg_mul, EReal.neg_le, neg_zero]
  exact mul_nonneg (mul_nonneg (by exact_mod_cast (by norm_num : (0 : ℝ) ≤ 8)) hr) (sp_nonneg l)

theorem exp_decay {x : EReal} (h : x ≤ 0) : 0 ≤ Ideal.exp x ∧ Ideal.exp x ≠ ⊤ := by
  refine ⟨exp_nonneg x, ?_⟩
  induction x with
  | bot => exact EReal.zero_ne_top
  | top => exact absurd h (by simp)
  | coe r => exact EReal.coe_ne_top _

theorem real_rate (x : ℝ) : -Real.tanh x * (Real.exp x * Real.exp x + 1) = -(Real.exp (2 * x) - 1) := by
  have h := Real.exp_pos x
  rw [Real.tanh_eq_sinh_div_cosh, Real.sinh_eq, Real.cosh_eq, Real.exp_neg, two_mul, Real.exp_add]
  field_simp

/-- Below zero, the kernel's factor is the reference's `sqrt (-expm1 (2 x))`. -/
theorem rate_eq {x : EReal} (h : x ≤ 0) :
    rate x = Ideal.sqrt (-(Ideal.exp (Ideal.ofBits FTy.f32 1073741824#32 * x) - 1)) := by
  unfold rate
  congr 1
  rw [ofBits_two]
  induction x with
  | bot =>
    rw [EReal.coe_mul_bot_of_pos (by norm_num)]
    show (0 - (-1 : EReal)) * (0 * 0 + 1) = -((0 : EReal) - 1)
    simp
  | top => exact absurd h (by simp)
  | coe r =>
    rw [← EReal.coe_mul, Ideal.tanh_coe, Ideal.exp_coe, Ideal.exp_coe, zero_sub]
    have := real_rate r
    exact_mod_cast congrArg (fun y : ℝ => (y : EReal)) this

/-- The reference's `log (1 + exp (-l))`, which also tests its argument for not a number. -/
theorem sp_eq (l : EReal) :
    (if -l ≠ -l then -l else max (-l) 0 + Ideal.log1p (Ideal.exp (-FloatOps.absf (F := Ideal) (φ := .f32) (-l)))) = sp l := by
  rw [if_neg (by simp)]
  unfold sp
  rw [zero_sub, zero_sub]

/-! ## The layer -/

section
variable (z : Fin 8192 → Fin 4096 → EReal) (cw : Fin 4 → Fin 2048 → EReal) (cb : Fin 2048 → EReal)
  (wa : Fin 16 → Fin 128 → Fin 128 → EReal) (ba : Fin 2048 → EReal) (wi : Fin 16 → Fin 128 → Fin 128 → EReal) (bi lam : Fin 2048 → EReal)

/-- Channel `e` of block `n`. -/
def chn (n : Fin 16) (e : Fin 128) : Fin 2048 := ⟨128 * n.val + e.val, by have := n.isLt; have := e.isLt; omega⟩

/-- The recurrent half of the input with three rows of zeros before it. -/
def pad (ch : Fin 2048) (s : ℕ) : EReal :=
  if h : 3 ≤ s ∧ s < 8195 then z ⟨s - 3, by omega⟩ ⟨ch.val, by have := ch.isLt; omega⟩ else 0

/-- The causal convolution at step `t`. -/
def conv (ch : Fin 2048) (t : ℕ) : EReal :=
  cb ch + pad z ch t * cw 0 ch + pad z ch (t + 1) * cw 1 ch + pad z ch (t + 2) * cw 2 ch + pad z ch (t + 3) * cw 3 ch

/-- One gate: the block's matrix on the block's channels, a bias and the logistic function. -/
def gate (w : Fin 16 → Fin 128 → Fin 128 → EReal) (b : Fin 2048 → EReal) (n : Fin 16) (e : Fin 128) (t : ℕ) : EReal :=
  Ideal.logistic (∑ d, conv z cw cb (chn n d) t * w n d e + b (chn n e))

/-- The logarithm of the decay at step `t`. -/
def la (n : Fin 16) (e : Fin 128) (t : ℕ) : EReal := logDecay (gate z cw cb wa ba n e t) (lam (chn n e))

/-- The decay at step `t`. -/
def dec (n : Fin 16) (e : Fin 128) (t : ℕ) : EReal := Ideal.exp (la z cw cb wa ba lam n e t)

/-- The drive at step `t`. -/
def drv (n : Fin 16) (e : Fin 128) (t : ℕ) : EReal :=
  rate (la z cw cb wa ba lam n e t) * (gate z cw cb wi bi n e t * conv z cw cb (chn n e) t)

/-- The hidden state after `t` steps from zero. -/
def hid (n : Fin 16) (e : Fin 128) (t : ℕ) : EReal :=
  Hrec (dec z cw cb wa ba lam n e) (drv z cw cb wa ba wi bi lam n e) 0 t

theorem la_nonpos (n : Fin 16) (e : Fin 128) (t : ℕ) : la z cw cb wa ba lam n e t ≤ 0 :=
  logDecay_nonpos (logistic_nonneg _) _

end

end Cert.Rglru

end
-- ==== Proof.Core.lean ====
/-
  One tile of the kernel against the layer's recurrence: where the blocks a grid point reads hold the
  layer's arrays, its convolution, gates, decay, drive, hidden states and output are the layer's.
-/
module

public import proofs.«01_k».proof.Proof.Point
public import proofs.«01_k».proof.Proof.Spec

@[expose] public section

set_option maxRecDepth 16384

noncomputable section

namespace Cert.KernelIdeal.Rglru

open Cert.KernelIdeal Cert.KernelIdeal.Gen Cert.Rglru Idealize.ShloMosaic Idealize.ShloMosaic.TcCoe Idealize.SL.Sem

variable (z : Fin 8192 → Fin 4096 → EReal) (cw : Fin 4 → Fin 2048 → EReal) (cb : Fin 2048 → EReal)
  (wa : Fin 16 → Fin 128 → Fin 128 → EReal) (ba : Fin 2048 → EReal) (wi : Fin 16 → Fin 128 → Fin 128 → EReal) (bi lam : Fin 2048 → EReal)

/-- The blocks of channel block `n` and time block `i`, with the eight rows of history. -/
structure Holds (n : Fin 16) (i : Fin 8) (hist : Vec Ideal S8x128 .f32) (x0 : Vec Ideal S1024x128 .f32) (x2 : Vec Ideal S4x128 .f32) (x3 : Vec Ideal S1x128 .f32)
    (x4 : Vec Ideal S1x128x128 .bf16) (x5 : Vec Ideal S1x128 .f32) (x6 : Vec Ideal S1x128x128 .bf16) (x7 x8 : Vec Ideal S1x128 .f32) : Prop where
  hhist : ∀ (q : Fin 8) (e : Fin 128), 5 ≤ q.val → hist (ix2 q e) = pad z (chn n e) (1024 * i.val + q.val - 5)
  hx0 : ∀ (r : Fin 1024) (e : Fin 128), x0 (ix2 r e) = pad z (chn n e) (1024 * i.val + r.val + 3)
  hx2 : ∀ (k : Fin 4) (e : Fin 128), x2 (ix2 k e) = cw k (chn n e)
  hx3 : ∀ e : Fin 128, x3 (ix2 0 e) = cb (chn n e)
  hx4 : ∀ d e : Fin 128, x4 (ix3 0 d e) = wa n d e
  hx5 : ∀ e : Fin 128, x5 (ix2 0 e) = ba (chn n e)
  hx6 : ∀ d e : Fin 128, x6 (ix3 0 d e) = wi n d e
  hx7 : ∀ e : Fin 128, x7 (ix2 0 e) = bi (chn n e)
  hx8 : ∀ e : Fin 128, x8 (ix2 0 e) = lam (chn n e)

variable {z cw cb wa ba wi bi lam} {n : Fin 16} {i : Fin 8} {hist : Vec Ideal S8x128 .f32} {x0 : Vec Ideal S1024x128 .f32} {x2 : Vec Ideal S4x128 .f32} {x3 : Vec Ideal S1x128 .f32}
    {x4 : Vec Ideal S1x128x128 .bf16} {x5 : Vec Ideal S1x128 .f32} {x6 : Vec Ideal S1x128x128 .bf16} {x7 x8 : Vec Ideal S1x128 .f32}

theorem win_at (h : Holds z cw cb wa ba wi bi lam n i hist x0 x2 x3 x4 x5 x6 x7 x8) (k : ℕ) (hk : 5 + k ≤ 8) (r : Fin 1024) (e : Fin 128) :
    win hist x0 (5 + k) hk (ix2 r e) = pad z (chn n e) (1024 * i.val + r.val + k) := by
  show (if hh : r.val + (5 + k) < 8 then hist (ix2 ⟨r.val + (5 + k), hh⟩ e) else x0 (ix2 ⟨r.val + (5 + k) - 8, _⟩ e)) = _
  split
  · rw [h.hhist _ _ (by show 5 ≤ r.val + (5 + k); omega)]
    congr 1
    show 1024 * i.val + (r.val + (5 + k)) - 5 = _
    omega
  · rw [h.hx0]
    congr 1
    show 1024 * i.val + (r.val + (5 + k) - 8) + 3 = _
    omega

theorem conv_at (h : Holds z cw cb wa ba wi bi lam n i hist x0 x2 x3 x4 x5 x6 x7 x8) (r : Fin 1024) (e : Fin 128) :
    convT hist x0 x2 x3 (ix2 r e) = conv z cw cb (chn n e) (1024 * i.val + r.val) := by
  have key : ∀ (v7 : Vec Ideal S1x128 .f32) (v9 v15 v20 v25 : Vec Ideal S1024x128 .f32) (v10 v16 v21 v26 : Vec Ideal S1x128 .f32),
      k0_pay7 v7 v9 v10 v15 v16 v20 v21 v25 v26 (ix2 r e)
        = v7 (ix2 0 e) + v9 (ix2 r e) * v10 (ix2 0 e) + v15 (ix2 r e) * v16 (ix2 0 e) + v20 (ix2 r e) * v21 (ix2 0 e) + v25 (ix2 r e) * v26 (ix2 0 e) := by
    intro v7 v9 v15 v20 v25 v10 v16 v21 v26
    pointwise [k0_pay7]
  unfold convT
  refine (key _ _ _ _ _ _ _ _ _).trans ?_
  rw [win_at h 0 (by decide) r e, win_at h 1 (by decide) r e, win_at h 2 (by decide) r e, win_at h 3 (by decide) r e, h.hx3]
  show cb (chn n e) + _ * x2 (ix2 0 e) + _ * x2 (ix2 1 e) + _ * x2 (ix2 2 e) + _ * x2 (ix2 3 e) = _
  rw [h.hx2, h.hx2, h.hx2, h.hx2]
  rfl

theorem gate_i_at (h : Holds z cw cb wa ba wi bi lam n i hist x0 x2 x3 x4 x5 x6 x7 x8) (r : Fin 1024) (e : Fin 128) :
    k0_pay10 (convT hist x0 x2 x3) x6 x7 (ix2 r e) = gate z cw cb wi bi n e (1024 * i.val + r.val) := by
  have key : ∀ (v29 : FVec Ideal S1024x128 .f32) (v43 : Vec Ideal S1x128x128 .bf16) (v46 : Vec Ideal S1x128 .f32),
      k0_pay10 v29 v43 v46 (ix2 r e) = Ideal.logistic (∑ x, v29 (ix2 r x) * v43 (ix3 0 x e) + v46 (ix2 0 e)) := by
    intro v29 v43 v46
    pointwise [k0_pay10, k0_pay9]
  refine (key _ _ _).trans ?_
  unfold gate
  rw [h.hx7]
  exact congrArg (fun s => Ideal.logistic (s + _)) (Finset.sum_congr rfl fun d _ => by rw [conv_at h, h.hx6])

theorem la_at (h : Holds z cw cb wa ba wi bi lam n i hist x0 x2 x3 x4 x5 x6 x7 x8) (r : Fin 1024) (e : Fin 128) :
    k0_pay11 (convT hist x0 x2 x3) x4 x5 x8 (ix2 r e) = la z cw cb wa ba lam n e (1024 * i.val + r.val) := by
  have key : ∀ (v29 : FVec Ideal S1024x128 .f32) (v43 : Vec Ideal S1x128x128 .bf16) (v46 v51 : Vec Ideal S1x128 .f32),
      k0_pay11 v29 v43 v46 v51 (ix2 r e) = logDecay (Ideal.logistic (∑ x, v29 (ix2 r x) * v43 (ix3 0 x e) + v46 (ix2 0 e))) (v51 (ix2 0 e)) := by
    intro v29 v43 v46 v51
    unfold logDecay sp
    pointwise [k0_pay11, k0_pay9]
  refine (key _ _ _ _).trans ?_
  unfold la gate
  rw [h.hx5, h.hx8]
  exact congrArg (fun s => logDecay (Ideal.logistic (s + _)) _) (Finset.sum_congr rfl fun d _ => by rw [conv_at h, h.hx4])

theorem dec_at (h : Holds z cw cb wa ba wi bi lam n i hist x0 x2 x3 x4 x5 x6 x7 x8) (r : Fin 1024) (e : Fin 128) :
    k0_pay12 (convT hist x0 x2 x3) x4 x5 x8 (ix2 r e) = dec z cw cb wa ba lam n e (1024 * i.val + r.val) :=
  (show _ = Ideal.exp (k0_pay11 (convT hist x0 x2 x3) x4 x5 x8 (ix2 r e)) from rfl).trans (congrArg Ideal.exp (la_at h r e))

theorem tanh_at (h : Holds z cw cb wa ba wi bi lam n i hist x0 x2 x3 x4 x5 x6 x7 x8) (r : Fin 1024) (e : Fin 128) :
    k0_pay13 (convT hist x0 x2 x3) x4 x5 x8 (ix2 r e) = Ideal.tanh (la z cw cb wa ba lam n e (1024 * i.val + r.val)) :=
  (show _ = Ideal.tanh (k0_pay11 (convT hist x0 x2 x3) x4 x5 x8 (ix2 r e)) from rfl).trans (congrArg Ideal.tanh (la_at h r e))

theorem drive_at (h : Holds z cw cb wa ba wi bi lam n i hist x0 x2 x3 x4 x5 x6 x7 x8) (r : Fin 1024) (e : Fin 128) :
    drive (convT hist x0 x2 x3) (k0_pay10 (convT hist x0 x2 x3) x6 x7) (k0_pay12 (convT hist x0 x2 x3) x4 x5 x8) (k0_pay13 (convT hist x0 x2 x3) x4 x5 x8) (ix2 r e)
      = drv z cw cb wa ba wi bi lam n e (1024 * i.val + r.val) := by
  have key : ∀ v29 v50 v67 v68 : FVec Ideal S1024x128 .f32, drive v29 v50 v67 v68 (ix2 r e)
      = Ideal.sqrt ((0 - v68 (ix2 r e)) * (v67 (ix2 r e) * v67 (ix2 r e) + 1)) * (v50 (ix2 r e) * v29 (ix2 r e)) := by
    intro v29 v50 v67 v68
    unfold drive
    pointwise
  refine (key _ _ _ _).trans ?_
  rw [tanh_at h, dec_at h, gate_i_at h, conv_at h]
  rfl

/-- The hidden states of a tile, the carried row holding the state before it. -/
theorem tile_hid (h : Holds z cw cb wa ba wi bi lam n i hist x0 x2 x3 x4 x5 x6 x7 x8) (h0 : Vec Ideal S1x128 .f32)
    (hh0 : ∀ e : Fin 128, h0 (ix2 0 e) = hid z cw cb wa ba wi bi lam n e (1024 * i.val)) (r : Fin 1024) (e : Fin 128) :
    tileT (convT hist x0 x2 x3) x4 x5 x6 x7 x8 h0 (ix2 r e) = hid z cw cb wa ba wi bi lam n e (1024 * i.val + r.val + 1) := by
  unfold tileT
  refine (tile_at _ _ _ _ h0 ?_ r e).trans ?_
  · intro r e
    rw [dec_at h]
    exact exp_decay (la_nonpos z cw cb wa ba lam n e _)
  · rw [hh0]
    unfold hid
    rw [show 1024 * i.val + r.val + 1 = 1024 * i.val + (r.val + 1) from by omega]
    refine (Hrec_congr _ (r.val + 1) ?_ ?_).trans (Hrec_add _ _ _ (1024 * i.val) (r.val + 1)).symm
    · intro k hk
      have hk' : k < 1024 := by have := r.isLt; omega
      exact (dif_pos hk').trans (dec_at h ⟨k, hk'⟩ e)
    · intro k hk
      have hk' : k < 1024 := by have := r.isLt; omega
      exact (dif_pos hk').trans (drive_at h ⟨k, hk'⟩ e)

/-- The output of a tile. -/
theorem out_at (X x1 : FVec Ideal S1024x128 .f32) (r : Fin 1024) (e : Fin 128) :
    k0_pay3 X x1 (ix2 r e) = X (ix2 r e) * gelu (x1 (ix2 r e)) := by
  unfold gelu
  pointwise [k0_pay3]

end Cert.KernelIdeal.Rglru

end
-- ==== Proof.KernelValue.lean ====
/-
  The kernel's two results as functions of its arguments: the blocks each grid point reads, what it
  carries to the next by induction along the grid, and the arrays the written blocks fill.
-/
module

public import proofs.«01_k».proof.Proof.Core
public import Idealize.ShloMosaic.Lib.Claim
public import Idealize.ShloMosaic.Lib.Pipeline.ValueKit

@[expose] public section

set_option maxRecDepth 16384

noncomputable section

namespace Cert.KernelIdeal.Rglru

open Cert.KernelIdeal Cert.KernelIdeal.Gen Cert.Rglru Idealize.ShloMosaic Idealize.ShloMosaic.TcCoe Idealize.SL.Sem

/-- Every window's block at a grid point: time block `t mod 8`, channel block `t / 8`. -/
theorem idx0 : ∀ t : Fin cfg0.N, win0_0.index t = ![t.val % 8, t.val / 8] ∧ win0_1.index t = ![t.val % 8, t.val / 8 + 16]
    ∧ win0_2.index t = ![0, t.val / 8] ∧ win0_3.index t = ![0, t.val / 8] ∧ win0_4.index t = ![t.val / 8, 0, 0] ∧ win0_5.index t = ![0, t.val / 8]
    ∧ win0_6.index t = ![t.val / 8, 0, 0] ∧ win0_7.index t = ![0, t.val / 8] ∧ win0_8.index t = ![0, t.val / 8] :=
  (by decide +kernel : ∀ t : Fin grid0.N, _)

variable (m : (ℓ : Loc nD τ sig) → Buf (Elt Ideal) ℓ) (c : Dev nD)

/-- The arguments as plain functions. -/
abbrev zOf : Fin 8192 → Fin 4096 → EReal := fun t k => m ((c : Thread nD τ).loc main_arg0) (ix2 t k)
abbrev cwOf : Fin 4 → Fin 2048 → EReal := fun k ch => m ((c : Thread nD τ).loc main_arg1) (ix2 k ch)
abbrev cbOf : Fin 2048 → EReal := fun ch => m ((c : Thread nD τ).loc main_arg2) (ix1 ch)
abbrev waOf : Fin 16 → Fin 128 → Fin 128 → EReal := fun n d e => m ((c : Thread nD τ).loc main_arg3) (ix3 n d e)
abbrev baOf : Fin 2048 → EReal := fun ch => m ((c : Thread nD τ).loc main_arg4) (ix1 ch)
abbrev wiOf : Fin 16 → Fin 128 → Fin 128 → EReal := fun n d e => m ((c : Thread nD τ).loc main_arg5) (ix3 n d e)
abbrev biOf : Fin 2048 → EReal := fun ch => m ((c : Thread nD τ).loc main_arg6) (ix1 ch)
abbrev lamOf : Fin 2048 → EReal := fun ch => m ((c : Thread nD τ).loc main_arg7) (ix1 ch)

theorem N128 (t : Fin cfg0.N) : t.val < 128 := lt_of_lt_of_eq t.isLt (show cfg0.N = 128 from N_0)

/-- The channel block and the time block of a grid point. -/
def nOf (t : Fin cfg0.N) : Fin 16 := ⟨t.val / 8, by have := N128 t; omega⟩
def iOf (t : Fin cfg0.N) : Fin 8 := ⟨t.val % 8, by omega⟩

theorem blk0 (t : Fin cfg0.N) (r : Fin 1024) (e : Fin 128) :
    iblk m c 0 t (ix2 r e) = pad (zOf m c) (chn (nOf t) e) (1024 * (iOf t).val + r.val + 3) := by
  have hN := N128 t
  unfold Cert.Rglru.pad
  rw [dif_pos ⟨by omega, by have := r.isLt; have := (iOf t).isLt; omega⟩]
  unfold zOf chn iOf nOf
  blk_ext! [iblk, V, idx0 t]
theorem blk1 (t : Fin cfg0.N) (r : Fin 1024) (e : Fin 128) :
    iblk m c 1 t (ix2 r e) = zOf m c ⟨1024 * (iOf t).val + r.val, by have := r.isLt; have := (iOf t).isLt; omega⟩ ⟨2048 + (chn (nOf t) e).val, by have := (chn (nOf t) e).isLt; omega⟩ := by
  have hN := N128 t
  unfold zOf chn iOf nOf
  blk_ext! [iblk, V, idx0 t]
theorem blk2 (t : Fin cfg0.N) (k : Fin 4) (e : Fin 128) : iblk m c 2 t (ix2 k e) = cwOf m c k (chn (nOf t) e) := by
  unfold cwOf chn nOf
  blk_ext! [iblk, V, idx0 t]
theorem blk3 (t : Fin cfg0.N) (e : Fin 128) : iblk m c 3 t (ix2 0 e) = cbOf m c (chn (nOf t) e) := by
  unfold cbOf chn nOf
  blk_ext! [iblk, V, idx0 t]
theorem blk4 (t : Fin cfg0.N) (d e : Fin 128) : iblk m c 4 t (ix3 0 d e) = waOf m c (nOf t) d e := by
  unfold waOf nOf
  blk_ext! [iblk, V, idx0 t]
theorem blk5 (t : Fin cfg0.N) (e : Fin 128) : iblk m c 5 t (ix2 0 e) = baOf m c (chn (nOf t) e) := by
  unfold baOf chn nOf
  blk_ext! [iblk, V, idx0 t]
theorem blk6 (t : Fin cfg0.N) (d e : Fin 128) : iblk m c 6 t (ix3 0 d e) = wiOf m c (nOf t) d e := by
  unfold wiOf nOf
  blk_ext! [iblk, V, idx0 t]
theorem blk7 (t : Fin cfg0.N) (e : Fin 128) : iblk m c 7 t (ix2 0 e) = biOf m c (chn (nOf t) e) := by
  unfold biOf chn nOf
  blk_ext! [iblk, V, idx0 t]
theorem blk8 (t : Fin cfg0.N) (e : Fin 128) : iblk m c 8 t (ix2 0 e) = lamOf m c (chn (nOf t) e) := by
  unfold lamOf chn nOf
  blk_ext! [iblk, V, idx0 t]

/-! ## Along the grid -/

/-- The layer's hidden state and output over the arguments. -/
abbrev hidOf (n : Fin 16) (e : Fin 128) (t : ℕ) : EReal := hid (zOf m c) (cwOf m c) (cbOf m c) (waOf m c) (baOf m c) (wiOf m c) (biOf m c) (lamOf m c) n e t

abbrev HoldsAt (t : Fin cfg0.N) (hist : Vec Ideal S8x128 .f32) : Prop :=
  Holds (zOf m c) (cwOf m c) (cbOf m c) (waOf m c) (baOf m c) (wiOf m c) (biOf m c) (lamOf m c) (nOf t) (iOf t) hist
    (iblk m c 0 t) (iblk m c 2 t) (iblk m c 3 t) (iblk m c 4 t) (iblk m c 5 t) (iblk m c 6 t) (iblk m c 7 t) (iblk m c 8 t)

theorem holds_of (t : Fin cfg0.N) (hist : Vec Ideal S8x128 .f32)
    (h : ∀ (q : Fin 8) (e : Fin 128), 5 ≤ q.val → hist (ix2 q e) = pad (zOf m c) (chn (nOf t) e) (1024 * (iOf t).val + q.val - 5)) : HoldsAt m c t hist :=
  ⟨h, blk0 m c t, blk2 m c t, blk3 m c t, blk4 m c t, blk5 m c t, blk6 m c t, blk7 m c t, blk8 m c t⟩

/-- What a grid point leaves: its output block, the last row, the rows of history and the carried row. -/
structure Left (t : Fin cfg0.N) : Prop where
  out : ∀ (r : Fin 1024) (e : Fin 128), (outsAt0 m c t.val t.isLt).1 (ix2 r e)
    = hidOf m c (nOf t) e (1024 * (iOf t).val + r.val + 1) * gelu (iblk m c 1 t (ix2 r e))
  last : ∀ e : Fin 128, (outsAt0 m c t.val t.isLt).2.1 (ix2 0 e) = hidOf m c (nOf t) e (1024 * (iOf t).val + 1024)
  hist : ∀ (r : Fin 8) (e : Fin 128), (outsAt0 m c t.val t.isLt).2.2.1 (ix2 ⟨r.val, by have := r.isLt; omega⟩ e) = pad (zOf m c) (chn (nOf t) e) (1024 * (iOf t).val + r.val + 1019)
  carried : ∀ e : Fin 128, (outsAt0 m c t.val t.isLt).2.2.2 (ix2 0 e) = hidOf m c (nOf t) e (1024 * (iOf t).val + 1024)

theorem hist_row (t : Fin cfg0.N) (r : Fin 8) (e : Fin 128) :
    iblk m c 0 t (ix2 ⟨1016 + r.val, by have := r.isLt; omega⟩ e) = pad (zOf m c) (chn (nOf t) e) (1024 * (iOf t).val + r.val + 1019) := by
  refine (blk0 m c t ⟨1016 + r.val, _⟩ e).trans (congrArg _ ?_)
  show 1024 * (iOf t).val + (1016 + r.val) + 3 = _
  omega

theorem left_A (t : Fin cfg0.N) (h0 : t.val % 8 = 0) : Left m c t := by
  have hi : (iOf t).val = 0 := h0
  have hH : HoldsAt m c t hist0 := holds_of m c t hist0 (fun q e hq => by
    unfold Cert.Rglru.pad
    rw [dif_neg (by have := q.isLt; omega)]
    rfl)
  have ht := tile_hid hH (fun _ => (0 : EReal)) (fun e => by rw [hi]; rfl)
  have hl : ∀ e : Fin 128, tileT (convT hist0 (iblk m c 0 t) (iblk m c 2 t) (iblk m c 3 t)) (iblk m c 4 t) (iblk m c 5 t) (iblk m c 6 t) (iblk m c 7 t) (iblk m c 8 t) (fun _ => (0 : EReal)) (ix2 1023 e)
      = hidOf m c (nOf t) e (1024 * (iOf t).val + 1024) := fun e => ht 1023 e
  refine ⟨?_, ?_, ?_, ?_⟩
  · intro r e
    rw [outsAt0_A m c t h0]
    dsimp only
    rw [out_A_9]
    exact (out_at _ _ r e).trans (congrArg (· * _) (ht r e))
  · intro e
    rw [outsAt0_A m c t h0]
    dsimp only
    rw [out_A_10]
    exact hl e
  · intro r e
    rw [outsAt0_A m c t h0]
    dsimp only
    exact (sout_A_0 ..).trans (hist_row m c t r e)
  · intro e
    rw [outsAt0_A m c t h0]
    dsimp only
    rw [sout_A_1]
    exact hl e

theorem left_B (t : Fin cfg0.N) (h0 : ¬t.val % 8 = 0) (p : Left m c ⟨t.val - 1, Nat.lt_of_le_of_lt (Nat.sub_le _ _) t.isLt⟩) : Left m c t := by
  have hn : nOf ⟨t.val - 1, Nat.lt_of_le_of_lt (Nat.sub_le _ _) t.isLt⟩ = nOf t := Fin.ext (by show (t.val - 1) / 8 = t.val / 8; omega)
  have hi : (iOf ⟨t.val - 1, Nat.lt_of_le_of_lt (Nat.sub_le _ _) t.isLt⟩).val + 1 = (iOf t).val := by show (t.val - 1) % 8 + 1 = t.val % 8; omega
  have hH : HoldsAt m c t (histOf (outsAt0 m c (t.val - 1) (Nat.lt_of_le_of_lt (Nat.sub_le _ _) t.isLt)).2.2.1) := holds_of m c t _ (fun q e hq => by
    refine (p.hist q e).trans ?_
    rw [hn]
    refine congrArg _ ?_
    omega)
  have ht := tile_hid hH (outsAt0 m c (t.val - 1) (Nat.lt_of_le_of_lt (Nat.sub_le _ _) t.isLt)).2.2.2 (fun e => by
    refine (p.carried e).trans ?_
    rw [hn]
    refine congrArg _ ?_
    omega)
  have hl : ∀ e : Fin 128, tileT (convT (histOf (outsAt0 m c (t.val - 1) (Nat.lt_of_le_of_lt (Nat.sub_le _ _) t.isLt)).2.2.1) (iblk m c 0 t) (iblk m c 2 t) (iblk m c 3 t)) (iblk m c 4 t) (iblk m c 5 t) (iblk m c 6 t) (iblk m c 7 t) (iblk m c 8 t) (outsAt0 m c (t.val - 1) (Nat.lt_of_le_of_lt (Nat.sub_le _ _) t.isLt)).2.2.2 (ix2 1023 e)
      = hidOf m c (nOf t) e (1024 * (iOf t).val + 1024) := fun e => ht 1023 e
  refine ⟨?_, ?_, ?_, ?_⟩
  · intro r e
    rw [outsAt0_B m c t h0]
    dsimp only
    rw [out_B_9]
    exact (out_at _ _ r e).trans (congrArg (· * _) (ht r e))
  · intro e
    rw [outsAt0_B m c t h0]
    dsimp only
    rw [out_B_10]
    exact hl e
  · intro r e
    rw [outsAt0_B m c t h0]
    dsimp only
    exact (sout_B_0 ..).trans (hist_row m c t r e)
  · intro e
    rw [outsAt0_B m c t h0]
    dsimp only
    rw [sout_B_1]
    exact hl e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-! ## The result arrays -/

/-- The output at step `t` and channel `e` of block `n`. -/
abbrev yOf (t : Fin 8192) (n : Fin 16) (e : Fin 128) : EReal :=
  hidOf m c n e (t.val + 1) * gelu (zOf m c t ⟨2048 + (chn n e).val, by have := (chn n e).isLt; omega⟩)

theorem G9_at (t : Fin 8192) (n : Fin 16) (e : Fin 128) : Value.G9 m c (ix2 t (chn n e)) = yOf m c t n e := by
  have hn := n.isLt
  have he := e.isLt
  have ht := t.isLt
  have hN : cfg0.N = 128 := N_0
  have hp : Value.pt9Of (ix2 t (chn n e)) = 8 * n.val + t.val / 1024 := by
    show 1 * (t.val / 1024 - 0) + 8 * ((128 * n.val + e.val) / 128 - 0) = _
    omega
  have hlt : 8 * n.val + t.val / 1024 < cfg0.N := by omega
  unfold Value.G9
  rw [dif_pos (by rw [hp]; exact hlt)]
  rw [Value.fold0_congr m c (Value.pt9Of (ix2 t (chn n e))) _ (8 * n.val + t.val / 1024) (by omega) hp, ← Value.outsAt0_sweep m c _ hlt]
  have hloc : Value.loc9Of (ix2 t (chn n e)) = ix2 (⟨t.val % 1024, by omega⟩ : Fin 1024) e := by
    funext a
    apply Fin.ext
    match a with
    | ⟨0, _⟩ => rfl
    | ⟨1, _⟩ => show (128 * n.val + e.val) % 128 = e.val; omega
  rw [hloc, (left m c ⟨8 * n.val + t.val / 1024, hlt⟩).out ⟨t.val % 1024, by omega⟩ e, blk1]
  have h1 : nOf ⟨8 * n.val + t.val / 1024, hlt⟩ = n := Fin.ext (by show (8 * n.val + t.val / 1024) / 8 = n.val; omega)
  have h2 : (iOf ⟨8 * n.val + t.val / 1024, hlt⟩).val = t.val / 1024 := by show (8 * n.val + t.val / 1024) % 8 = _; omega
  have h3 : 1024 * (t.val / 1024) + t.val % 1024 = t.val := by omega
  simp only [h1, h2, h3]

theorem G10_at (n : Fin 16) (e : Fin 128) : Value.G10 m c (ix2 0 (chn n e)) = hidOf m c n e 8192 := by
  have hn := n.isLt
  have he := e.isLt
  have hN : cfg0.N = 128 := N_0
  have hp : Value.pt10Of (ix2 0 (chn n e)) = 8 * n.val + 7 := by
    show 8 * (16 * (0 / 1 - 0) + 1 * ((128 * n.val + e.val) / 128 - 0)) + 7 = _
    omega
  have hlt : 8 * n.val + 7 < cfg0.N := by omega
  unfold Value.G10
  rw [dif_pos (by rw [hp]; exact hlt)]
  rw [Value.fold0_congr m c (Value.pt10Of (ix2 0 (chn n e))) _ (8 * n.val + 7) (by omega) hp, ← Value.outsAt0_sweep m c _ hlt]
  have hloc : Value.loc10Of (ix2 0 (chn n e)) = ix2 (0 : Fin 1) e := by
    funext a
    apply Fin.ext
    match a with
    | ⟨0, _⟩ => rfl
    | ⟨1, _⟩ => show (128 * n.val + e.val) % 128 = e.val; omega
  rw [hloc, (left m c ⟨8 * n.val + 7, hlt⟩).last e]
  have h1 : nOf ⟨8 * n.val + 7, hlt⟩ = n := Fin.ext (by show (8 * n.val + 7) / 8 = n.val; omega)
  have h2 : (iOf ⟨8 * n.val + 7, hlt⟩).val = 7 := by show (8 * n.val + 7) % 8 = _; omega
  simp only [h1, h2]

end Cert.KernelIdeal.Rglru

end
-- ==== Proof.RefRun.lean ====
/-
  The reference's loop as a sequence of states: each trip takes the state to `step` of it, so the
  results are read off state 8192.
-/
module

public import proofs.«01_k».proof.Proof.Gen.ReferenceIdeal.Run
public import proofs.«01_k».proof.Proof.Gen.ReferenceIdeal.Step

@[expose] public section

noncomputable section

namespace Cert.ReferenceIdeal.Rglru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v96)

variable {F : FTy → Type} [FloatOps F]

/-- The buffers agree with state `s` before trip `j`. -/
structure Agrees (W : Valuation τ sig (Elt F)) (s : State F) (j : ℕ) : Prop where
  h : W (Proc.devRef .tc main_v78_3) = s.main_v78_3
  hs : W (Proc.devRef .tc main_v78_4) = s.main_v78_4
  a : W (Proc.devRef .tc main_v78_0) = s.main_v78_0
  u : W (Proc.devRef .tc main_v78_1) = s.main_v78_1
  n : W (Proc.devRef .tc main_v78_2) = constantI S_ 32 (BitVec.ofNat 32 j)

variable {W : Valuation τ sig (Elt F)} {s : State F} {j : ℕ}

set_option maxRecDepth 16384 in
theorem trip_h (g : Agrees W s j) : step_main_v78_3 W = (step j s).main_v78_3 := by
  unfold step_main_v78_3 res_main_while0b_v100
  rw [g.h, g.a, g.u, g.n]
  rfl

set_option maxRecDepth 16384 in
theorem trip_hs (g : Agrees W s j) : step_main_v78_4 W = (step j s).main_v78_4 := by
  unfold step_main_v78_4 res_main_while0b_v100
  rw [g.h, g.hs, g.a, g.u, g.n]
  rfl

theorem trip_n (g : Agrees W s j) : step_main_v78_2 W = constantI S_ 32 (BitVec.ofNat 32 (j + 1)) := by
  unfold step_main_v78_2
  rw [g.n]
  exact funext fun _ => (BitVec.ofNat_add j 1).symm

theorem trip (g : Agrees W s j) : Agrees (STEP W) (step j s) (j + 1) where
  h := (STEP_main_v78_3 W).trans (trip_h g)
  hs := (STEP_main_v78_4 W).trans (trip_hs g)
  a := (STEP_main_v78_0 W).trans g.a
  u := (STEP_main_v78_1 W).trans g.u
  n := (STEP_main_v78_2 W).trans (trip_n g)

variable (m : (ℓ : Loc nD τ sig) → Buf (Elt F) ℓ) (c : Dev nD)

/-- The states, from the one the operations before the loop leave. -/
def st : ℕ → State F
  | 0 => init (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
  | k + 1 => step k (st k)

set_option maxRecDepth 65536 in
set_option maxHeartbeats 500000 in
theorem entry : Agrees (entryContents preI m c) (st m c 0) 0 := by
  refine ⟨?_, ?_, ?_, ?_, ?_⟩ <;> (simp only [entryContents, afterL_cons, afterL_nil]; after_reads_simp) <;> rfl

theorem agrees (k : ℕ) : Agrees (STEP^[k] (entryContents preI m c)) (st m c k) k := by
  induction k with
  | zero => exact entry m c
  | succ k ih =>
    rw [Function.iterate_succ_apply']
    exact trip ih

set_option maxRecDepth 16384 in
theorem result_eq (g : Agrees W s j) {x : (⟨S8192x4096, .f32⟩ : BufTy).Contents (Elt F)} (hx : W (Proc.devRef .tc main_arg0) = x) :
    out_main_v96 W = R_main_v96 s x := by
  unfold out_main_v96 R_main_v96
  rw [g.hs, hx]
  rfl

/-- The reference's run: its two results read off state 8192, its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v96) = R_main_v96 (st m c 8192) (m ((c.tc : Thread nD τ).loc main_arg0))
      ∧ r.2.mem ((c.tc : Thread nD τ).loc main_v78_3) = (st m c 8192).main_v78_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨⟨(h c).1.trans (result_eq (agrees m c 8192) (iter_main_arg0 m c 8192)), (h c).2.1.trans (agrees m c 8192).h⟩, (h c).2.2⟩) (Value.run m ρ)

end Cert.ReferenceIdeal.Rglru

end
-- ==== Proof.RefValue.lean ====
/-
  The reference's results as functions of its arguments: its arrays at an index are the layer's
  convolution, gates, decay and drive, and the loop's states are the layer's hidden states.
-/
module

public import proofs.«01_k».proof.Proof.Gen.ReferenceIdeal.Step
public import proofs.«01_k».proof.Proof.Spec
public import Idealize.ShloMosaic.Lib.DynamicIndex

@[expose] public section

set_option maxRecDepth 16384

noncomputable section

namespace Cert.ReferenceIdeal.Rglru

open Idealize.ShloMosaic Cert.ReferenceIdeal Cert.ReferenceIdeal.Gen Cert.ReferenceIdeal.Step Cert.Rglru

/-! ## Before the loop -/

section
variable (a0 : Vec Ideal S8192x4096 .f32) (a1 : Vec Ideal S4x2048 .f32) (a2 : Vec Ideal S2048 .f32) (a3 : Vec Ideal S16x128x128 .f32)
  (a4 : Vec Ideal S2048 .f32) (a5 : Vec Ideal S16x128x128 .f32) (a6 a7 : Vec Ideal S2048 .f32)

theorem pad_at (t : Fin 8195) (ch : Fin 2048) :
    A_main_v4 (F := Ideal) a0 a1 a2 a3 a4 a5 a6 a7 (ix3 0 t ch) = Cert.Rglru.pad (fun t k => a0 (ix2 t k)) ch t.val := by
  have ht := t.isLt
  pointwise [A_main_v4, A_main_v1, A_main_v0, K_main_v2, K_main_cst]
  unfold Cert.Rglru.pad
  by_cases h : t.val < 3
  · rw [dif_pos h, dif_neg (by omega)]
  · rw [dif_neg h, dif_pos ⟨by omega, by omega⟩]

theorem conv_at (t : Fin 8192) (ch : Fin 2048) : A_main_v34 (F := Ideal) a0 a1 a2 a3 a4 a5 a6 a7 (ix3 0 t ch)
    = conv (fun t k => a0 (ix2 t k)) (fun k ch => a1 (ix2 k ch)) (fun ch => a2 (ix1 ch)) ch t.val := by
  pointwise [A_main_v34, A_main_v33, A_main_v32, A_main_v31, A_main_v30, A_main_v29, A_main_v28, A_main_v27, A_main_v26, A_main_v25, A_main_v24, A_main_v23, A_main_v22, A_main_v21,
    A_main_v20, A_main_v19, A_main_v18, A_main_v17, A_main_v16, A_main_v15, A_main_v14, A_main_v13, A_main_v12, A_main_v11, A_main_v10, A_main_v9, A_main_v8, A_main_v7, A_main_v6, A_main_v5]
  rw [pad_at, pad_at, pad_at, pad_at]
  unfold conv
  rw [Nat.add_comm t.val 1, Nat.add_comm t.val 2, Nat.add_comm t.val 3]

theorem chn_div (n : Fin 16) (e : Fin 128) (h : (chn n e).val / 128 < 16) : (⟨(chn n e).val / 128, h⟩ : Fin 16) = n :=
  Fin.ext (by show (128 * n.val + e.val) / 128 = n.val; have := e.isLt; omega)
theorem chn_mod (n : Fin 16) (e : Fin 128) (h : (chn n e).val % 128 < 128) : (⟨(chn n e).val % 128, h⟩ : Fin 128) = e :=
  Fin.ext (by show (128 * n.val + e.val) % 128 = e.val; have := e.isLt; omega)
theorem chn_split (n : Fin 16) (e d : Fin 128) (h : (chn n e).val / 128 * 128 + d.val < 2048) : (⟨(chn n e).val / 128 * 128 + d.val, h⟩ : Fin 2048) = chn n d :=
  Fin.ext (by show (128 * n.val + e.val) / 128 * 128 + d.val = 128 * n.val + d.val; have := e.isLt; omega)

/-- A gate from its sum of products, the factors in the reference's order. -/
theorem gate_eq (w : Vec Ideal S16x128x128 .f32) (b : Vec Ideal S2048 .f32) (t : Fin 8192) (n : Fin 16) (e : Fin 128) :
    Ideal.div 1 (1 + Ideal.exp (-(∑ x : Fin 128, w (ix3 n x e) * A_main_v34 (F := Ideal) a0 a1 a2 a3 a4 a5 a6 a7 (ix3 0 t (chn n x)) + b (ix1 (chn n e)))))
      = gate (fun t k => a0 (ix2 t k)) (fun k ch => a1 (ix2 k ch)) (fun ch => a2 (ix1 ch)) (fun n d e => w (ix3 n d e)) (fun ch => b (ix1 ch)) n e t.val := by
  unfold gate Ideal.logistic
  exact congrArg (fun s => Ideal.div 1 (1 + Ideal.exp (-(s + _)))) (Finset.sum_congr rfl fun d _ => by rw [conv_at, mul_comm])

theorem gate_r_at (t : Fin 8192) (n : Fin 16) (e : Fin 128) : A_main_v47 (F := Ideal) a0 a1 a2 a3 a4 a5 a6 a7 (ix3 0 t (chn n e))
    = gate (fun t k => a0 (ix2 t k)) (fun k ch => a1 (ix2 k ch)) (fun ch => a2 (ix1 ch)) (fun n d e => a3 (ix3 n d e)) (fun ch => a4 (ix1 ch)) n e t.val := by
  pointwise [A_main_v47, A_main_v45, A_main_v43, A_main_v42, A_main_v41, A_main_v40, A_main_v39, A_main_v38, A_main_v37, A_main_v36, A_main_v35, K_main_v46, K_main_cst_2, K_main_v44, K_main_cst_1]
  rw [← gate_eq a0 a1 a2 a3 a4 a5 a6 a7]
  simp only [chn_div, chn_mod, chn_split]

theorem gate_i_at (t : Fin 8192) (n : Fin 16) (e : Fin 128) : A_main_v59 (F := Ideal) a0 a1 a2 a3 a4 a5 a6 a7 (ix3 0 t (chn n e))
    = gate (fun t k => a0 (ix2 t k)) (fun k ch => a1 (ix2 k ch)) (fun ch => a2 (ix1 ch)) (fun n d e => a5 (ix3 n d e)) (fun ch => a6 (ix1 ch)) n e t.val := by
  pointwise [A_main_v59, A_main_v57, A_main_v55, A_main_v54, A_main_v53, A_main_v52, A_main_v51, A_main_v50, A_main_v49, A_main_v48, A_main_v35, K_main_v58, K_main_cst_4, K_main_v56, K_main_cst_3]
  rw [← gate_eq a0 a1 a2 a3 a4 a5 a6 a7]
  simp only [chn_div, chn_mod, chn_split]

theorem la_at (t : Fin 8192) (n : Fin 16) (e : Fin 128) : A_main_v66 (F := Ideal) a0 a1 a2 a3 a4 a5 a6 a7 (ix3 0 t (chn n e))
    = la (fun t k => a0 (ix2 t k)) (fun k ch => a1 (ix2 k ch)) (fun ch => a2 (ix1 ch)) (fun n d e => a3 (ix3 n d e)) (fun ch => a4 (ix1 ch)) (fun ch => a7 (ix1 ch)) n e t.val := by
  have key : A_main_v66 (F := Ideal) a0 a1 a2 a3 a4 a5 a6 a7 (ix3 0 t (chn n e))
      = Ideal.ofBits FTy.f32 3238002688#32 * A_main_v47 (F := Ideal) a0 a1 a2 a3 a4 a5 a6 a7 (ix3 0 t (chn n e))
        * (if -a7 (ix1 (chn n e)) ≠ -a7 (ix1 (chn n e)) then -a7 (ix1 (chn n e))
           else max (-a7 (ix1 (chn n e))) 0 + Ideal.log1p (Ideal.exp (-FloatOps.absf (F := Ideal) (φ := .f32) (-a7 (ix1 (chn n e)))))) := by
    pointwise [A_main_v66, A_main_v65, A_main_v64, A_main_v63, A_main_v62, A_main_v61, K_main_v60, K_main_cst_5, A_main_call0_v1, A_main_call0_v3, A_main_call0_v4, A_main_call0_v6, A_main_call0_v7,
      A_main_call0_v8, A_main_call0_v9, A_main_call0_v10, A_main_call0_v11, K_main_call0_v0, K_main_call0_v2, K_main_call0_v5, K_main_call0_cst]
  rw [key, sp_eq, gate_r_at]
  rfl

theorem dec_at (t : Fin 8192) (n : Fin 16) (e : Fin 128) : A_main_v75 (F := Ideal) a0 a1 a2 a3 a4 a5 a6 a7 (ix3 t 0 (chn n e))
    = dec (fun t k => a0 (ix2 t k)) (fun k ch => a1 (ix2 k ch)) (fun ch => a2 (ix1 ch)) (fun n d e => a3 (ix3 n d e)) (fun ch => a4 (ix1 ch)) (fun ch => a7 (ix1 ch)) n e t.val := by
  pointwise [A_main_v75, A_main_v67]
  rw [la_at]
  rfl

theorem drv_at (t : Fin 8192) (n : Fin 16) (e : Fin 128) : A_main_v76 (F := Ideal) a0 a1 a2 a3 a4 a5 a6 a7 (ix3 t 0 (chn n e))
    = drv (fun t k => a0 (ix2 t k)) (fun k ch => a1 (ix2 k ch)) (fun ch => a2 (ix1 ch)) (fun n d e => a3 (ix3 n d e)) (fun ch => a4 (ix1 ch)) (fun n d e => a5 (ix3 n d e))
        (fun ch => a6 (ix1 ch)) (fun ch => a7 (ix1 ch)) n e t.val := by
  pointwise [A_main_v76, A_main_v74, A_main_v73, A_main_v72, A_main_v71, A_main_v70, A_main_v69, K_main_v68, K_main_cst_6]
  rw [la_at, gate_i_at, conv_at, ← rate_eq (la_nonpos ..)]
  rfl

end

/-! ## The loop -/

/-- The starts of the slice one trip reads and writes. -/
abbrev starts (j : ℕ) : Fin 3 → Int := fun k =>
  BitVec.toInt ((![constantI S_ 32 (BitVec.ofNat 32 j), constantI S_ 32 0#32, constantI S_ 32 0#32] : Fin 3 → IVec S_ 32) k (Shape.Idx.first h_S_))

theorem start_0 (j : ℕ) (hj : j < 8192) (h : S1x1x2048.rank = S8192x1x2048.rank) : Host.clampedStart S8192x1x2048 S1x1x2048 h (starts j) 0 = j := by
  refine Host.clampedStart_of_le h _ _ j ?_ ?_
  · show BitVec.toInt (BitVec.ofNat 32 j) = j
    rw [BitVec.toInt_ofNat', Int.bmod_eq_of_le] <;> omega
  · show j + 1 ≤ 8192
    omega
theorem start_1 (j : ℕ) (h : S1x1x2048.rank = S8192x1x2048.rank) : Host.clampedStart S8192x1x2048 S1x1x2048 h (starts j) 1 = 0 :=
  Host.clampedStart_of_le h _ _ 0 rfl (by show 0 + 1 ≤ 1; omega)
theorem start_2 (j : ℕ) (h : S1x1x2048.rank = S8192x1x2048.rank) : Host.clampedStart S8192x1x2048 S1x1x2048 h (starts j) 2 = 0 :=
  Host.clampedStart_of_le h _ _ 0 rfl (by show 0 + 2048 ≤ 2048; omega)

/-- One trip's hidden state. -/
theorem b9_at (j : ℕ) (hj : j < 8192) (s : State Ideal) (ch : Fin 2048) :
    b9 (F := Ideal) j s (ix2 0 ch) = s.main_v78_0 (ix3 ⟨j, hj⟩ 0 ch) * s.main_v78_3 (ix2 0 ch) + s.main_v78_1 (ix3 ⟨j, hj⟩ 0 ch) := by
  have e : ∀ (x : Vec Ideal S8192x1x2048 .f32) (p q r) (hp : p = j) (hq : q = 0) (hr : r = 0) (h1 : p < 8192) (h2 : q < 1) (h3 : r + ch.val < 2048),
      x (ix3 ⟨p, h1⟩ ⟨q, h2⟩ ⟨r + ch.val, h3⟩) = x (ix3 ⟨j, hj⟩ 0 ch) := by
    intro x p q r hp hq hr h1 h2 h3
    subst hp hq hr
    exact congrArg x (congrArg (ix3 _ _) (Fin.ext (Nat.zero_add _)))
  pointwise [b9, b8, b7, b6, b5, b4, b3, b2, b1, b0]
  exact congrArg₂ (· + ·) (congrArg (· * _) (e s.main_v78_0 _ _ _ (start_0 j hj _) (start_1 j _) (start_2 j _) _ _ _))
    (e s.main_v78_1 _ _ _ (start_0 j hj _) (start_1 j _) (start_2 j _) _ _ _)

/-- One trip's array of hidden states: row `j` is written. -/
theorem b13_at (j : ℕ) (hj : j < 8192) (s : State Ideal) (t : Fin 8192) (ch : Fin 2048) :
    b13 (F := Ideal) j s (ix3 t 0 ch) = if t.val = j then b9 j s (ix2 0 ch) else s.main_v78_4 (ix3 t 0 ch) := by
  have e : ∀ (r : ℕ) (hr : r = 0) (h3 : ch.val - r < 2048), (⟨ch.val - r, h3⟩ : Fin 2048) = ch := by
    intro r hr h3
    subst hr
    rfl
  pointwise [b13, b12, b11, b10]
  split
  · rename_i h
    rw [e _ (start_2 j _), if_pos]
    have h0 := h.1
    rw [start_0 j hj] at h0
    omega
  · rename_i h
    rw [if_neg]
    intro ht
    apply h
    rw [start_0 j hj, start_1, start_2]
    omega

section
variable (a0 : Vec Ideal S8192x4096 .f32) (a1 : Vec Ideal S4x2048 .f32) (a2 : Vec Ideal S2048 .f32) (a3 : Vec Ideal S16x128x128 .f32)
  (a4 : Vec Ideal S2048 .f32) (a5 : Vec Ideal S16x128x128 .f32) (a6 a7 : Vec Ideal S2048 .f32)

/-- The layer's hidden state over the reference's arguments. -/
abbrev hidOf (n : Fin 16) (e : Fin 128) (t : ℕ) : EReal :=
  hid (fun t k => a0 (ix2 t k)) (fun k ch => a1 (ix2 k ch)) (fun ch => a2 (ix1 ch)) (fun n d e => a3 (ix3 n d e)) (fun ch => a4 (ix1 ch)) (fun n d e => a5 (ix3 n d e))
    (fun ch => a6 (ix1 ch)) (fun ch => a7 (ix1 ch)) n e t

/-- What holds before trip `j`: the decays and drives, the hidden state, and the rows written. -/
structure After (s : State Ideal) (j : ℕ) : Prop where
  a : s.main_v78_0 = A_main_v75 a0 a1 a2 a3 a4 a5 a6 a7
  u : s.main_v78_1 = A_main_v76 a0 a1 a2 a3 a4 a5 a6 a7
  h : ∀ (n : Fin 16) (e : Fin 128), s.main_v78_3 (ix2 0 (chn n e)) = hidOf a0 a1 a2 a3 a4 a5 a6 a7 n e j
  hs : ∀ (t : Fin 8192) (n : Fin 16) (e : Fin 128), t.val < j → s.main_v78_4 (ix3 t 0 (chn n e)) = hidOf a0 a1 a2 a3 a4 a5 a6 a7 n e (t.val + 1)

theorem after_init : After a0 a1 a2 a3 a4 a5 a6 a7 (init a0 a1 a2 a3 a4 a5 a6 a7) 0 where
  a := rfl
  u := rfl
  h n e := by
    show K_main_v3 (F := Ideal) (ix2 0 (chn n e)) = 0
    pointwise [K_main_v3, K_main_cst_0]
  hs t n e h := absurd h (Nat.not_lt_zero _)

variable {a0 a1 a2 a3 a4 a5 a6 a7}

theorem after_step {s : State Ideal} {j : ℕ} (hj : j < 8192) (g : After a0 a1 a2 a3 a4 a5 a6 a7 s j) : After a0 a1 a2 a3 a4 a5 a6 a7 (step j s) (j + 1) := by
  have hh : ∀ (n : Fin 16) (e : Fin 128), b9 j s (ix2 0 (chn n e)) = hidOf a0 a1 a2 a3 a4 a5 a6 a7 n e (j + 1) := by
    intro n e
    rw [b9_at j hj, g.a, g.u, g.h, dec_at, drv_at]
    rfl
  refine ⟨g.a, g.u, ?_, ?_⟩
  · intro n e
    rw [step_main_v78_3]
    exact hh n e
  · intro t n e ht
    rw [step_main_v78_4, b13_at j hj]
    split
    · rename_i h
      rw [hh, h]
    · rename_i h
      exact g.hs t n e (by omega)

/-- The gated output at an index. -/
theorem out_at {s : State Ideal} (g : After a0 a1 a2 a3 a4 a5 a6 a7 s 8192) (t : Fin 8192) (n : Fin 16) (e : Fin 128) :
    R_main_v96 (F := Ideal) s a0 (ix2 t (chn n e))
      = hidOf a0 a1 a2 a3 a4 a5 a6 a7 n e (t.val + 1) * gelu (a0 (ix2 t ⟨2048 + (chn n e).val, by have := (chn n e).isLt; omega⟩)) := by
  rw [← g.hs t n e t.isLt]
  unfold gelu
  pointwise [R_main_v96]
  rw [mul_assoc]

end

end Cert.ReferenceIdeal.Rglru

end
-- ==== Proof.RglruClaim.lean ====
/-
  The two claims about the recurrence that are not generated: the reference's frame, and the equality
  of the kernel's and the reference's results over the extended reals.
-/
module

public import proofs.«01_k».proof.Defs
public import proofs.«01_k».proof.Proof.KernelValue
public import proofs.«01_k».proof.Proof.RefRun
public import proofs.«01_k».proof.Proof.RefValue

@[expose] public section

noncomputable section

namespace Cert.Proof.Rglru

open Idealize.ShloMosaic Idealize.SL.Sem Cert.Rglru

/-- The reference terminates, keeps its arguments, and has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Rglru.run (F := Ideal) m ρ)

/-- Every channel is a channel of a block. -/
theorem chn_surj (ch : Fin 2048) : ∃ (n : Fin 16) (e : Fin 128), ch = chn n e :=
  ⟨⟨ch.val / 128, by have := ch.isLt; omega⟩, ⟨ch.val % 128, by omega⟩, Fin.ext (by show ch.val = 128 * (ch.val / 128) + ch.val % 128; omega)⟩

/-- The states along the loop. -/
theorem after_st (m : (ℓ : Loc Cert.ReferenceIdeal.nD Cert.ReferenceIdeal.τ Cert.ReferenceIdeal.sig) → Buf (Elt Ideal) ℓ) (c : Dev Cert.ReferenceIdeal.nD)
    (k : ℕ) (hk : k ≤ 8192) :
    Cert.ReferenceIdeal.Rglru.After (m ((c.tc : Thread _ _).loc Cert.ReferenceIdeal.main_arg0)) (m ((c.tc : Thread _ _).loc Cert.ReferenceIdeal.main_arg1))
      (m ((c.tc : Thread _ _).loc Cert.ReferenceIdeal.main_arg2)) (m ((c.tc : Thread _ _).loc Cert.ReferenceIdeal.main_arg3)) (m ((c.tc : Thread _ _).loc Cert.ReferenceIdeal.main_arg4))
      (m ((c.tc : Thread _ _).loc Cert.ReferenceIdeal.main_arg5)) (m ((c.tc : Thread _ _).loc Cert.ReferenceIdeal.main_arg6)) (m ((c.tc : Thread _ _).loc Cert.ReferenceIdeal.main_arg7))
      (Cert.ReferenceIdeal.Rglru.st m c k) k := by
  induction k with
  | zero => exact Cert.ReferenceIdeal.Rglru.after_init _ _ _ _ _ _ _ _
  | succ k ih => exact Cert.ReferenceIdeal.Rglru.after_step (by omega) (ih (by omega))

/-- Kernel and reference leave the same two results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Value.G9 m c, fun c => Cert.KernelIdeal.Value.G10 m c, Cert.KernelIdeal.Value.run (F := Ideal) m g, ?_⟩
  refine (θ_run (Cert.ReferenceIdeal.defs (F := Ideal)) _ _).mono (fun r h c => ?_) (Cert.ReferenceIdeal.Rglru.run (F := Ideal) m' g')
  obtain ⟨⟨hy, hl⟩, hrest⟩ := h c
  have ga := after_st m' c 8192 (le_refl _)
  obtain ⟨e0, e1, e2, e3, e4, e5, e6, e7⟩ := hargs c
  refine ⟨hy.trans ?_, hl.trans ?_, hrest⟩
  · funext j
    obtain ⟨t, ch, rfl⟩ : ∃ (t : Fin 8192) (ch : Fin 2048), j = ix2 t ch := ⟨j 0, j 1, by idx_vars j⟩
    obtain ⟨n, e, rfl⟩ := chn_surj ch
    refine (Cert.ReferenceIdeal.Rglru.out_at ga t n e).trans (Eq.trans ?_ (Cert.KernelIdeal.Rglru.G9_at m c t n e).symm)
    rw [e0, e1, e2, e3, e4, e5, e6, e7]
  · funext j
    obtain ⟨t, ch, rfl⟩ : ∃ (t : Fin 1) (ch : Fin 2048), j = ix2 t ch := ⟨j 0, j 1, by idx_vars j⟩
    obtain ⟨n, e, rfl⟩ := chn_surj ch
    obtain rfl : t = 0 := Subsingleton.elim _ _
    refine (ga.h n e).trans (Eq.trans ?_ (Cert.KernelIdeal.Rglru.G10_at m c n e).symm)
    rw [e0, e1, e2, e3, e4, e5, e6, e7]

end Cert.Proof.Rglru

end
-- ==== Proof.SwigluValue.lean ====
/-
  The gated half of the feed-forward layer: each grid point multiplies a row block by the two weights'
  column blocks, which the first point of its column has cast into scratch, and writes one product
  passed through the gate times the other.
-/
module

public import proofs.«01_k».proof.Defs
public import proofs.«01_k».proof.Proof.Whole
public import proofs.«01_k».proof.Proof.Gen.SwigluIdeal.Value
public import proofs.«01_k».proof.Proof.Gen.SwigluRefIdeal.Run

@[expose] public section

set_option maxRecDepth 16384

noncomputable section

namespace Cert.Swiglu

open Idealize.ShloMosaic

/-- The gate: a number times its logistic, times the other branch. -/
def gated (g u : EReal) : EReal := g * Ideal.logistic g * u

end Cert.Swiglu

namespace Cert.SwigluIdeal.Mat

open Cert.SwigluIdeal Cert.SwigluIdeal.Gen Cert.Swiglu Cert.Whole Idealize.ShloMosaic Idealize.ShloMosaic.TcCoe Idealize.SL.Sem

/-- Every window's block at a grid point: row block `t mod 8`, column block `t / 8`. -/
theorem idx0 : ∀ t : Fin cfg0.N, win0_0.index t = ![t.val % 8, 0] ∧ win0_1.index t = ![0, t.val / 8] ∧ win0_2.index t = ![0, t.val / 8] :=
  (by decide +kernel : ∀ t : Fin grid0.N, _)

theorem pay1_eq (x : Vec Ideal S4096x256 .f32) : k0_pay1 x = x := by
  funext j
  obtain ⟨a, b, rfl⟩ : ∃ (a : Fin 4096) (b : Fin 256), j = ix2 a b := ⟨j 0, j 1, by idx_vars j⟩
  pointwise [k0_pay1]

theorem pay2_eq (x : Vec Ideal S4096x256 .f32) : k0_pay2 x = x := pay1_eq x

theorem pay3_at (x : Vec Ideal S1024x4096 .bf16) (g u : Vec Ideal S4096x256 .bf16) (a : Fin 1024) (b : Fin 256) :
    k0_pay3 x g u (ix2 a b) = gated (∑ k : Fin 4096, x (ix2 a k) * g (ix2 k b)) (∑ k : Fin 4096, x (ix2 a k) * u (ix2 k b)) := by
  unfold gated
  pointwise [k0_pay3]

section Point

variable (c : Dev nD) (i : grid0.Coords) (arg2 : Memref sig .tc .vmem S1024x4096 .bf16) (harg2 : arg2.IsWhole) (arg3 : Memref sig .tc .vmem S4096x256 .f32) (harg3 : arg3.IsWhole) (arg4 : Memref sig .tc .vmem S4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole)
    (x0 : Vec Ideal S1024x4096 .bf16) (x1 : Vec Ideal S4096x256 .f32) (x2 : Vec Ideal S4096x256 .f32) (xs0 : Vec Ideal S4096x256 .bf16) (xs1 : Vec Ideal S4096x256 .bf16)

theorem out_A (hc : cond0_0 i) : out0_A_3 c i arg2 harg2 arg3 harg3 arg4 harg4 arg5 harg5 arg6 harg6 arg7 harg7 hc x0 x1 x2 = k0_pay3 x0 x1 x2 := by
  unfold out0_A_3 kernelRun0_A
  dsimp only
  sl_unfold_words
  refine (read_whole VO0_3 _ _ hz2 _ _ _).trans ?_
  unfold View.readCov
  rw [load_whole arg2.view _ _ hz2, harg2.read_unread, load_whole arg3.view _ _ hz2, harg3.read_unread, load_whole arg4.view _ _ hz2, harg4.read_unread,
    load_whole arg6.view _ _ hz2, read_whole _ _ _ hz2, load_whole arg7.view _ _ hz2, read_whole _ _ _ hz2, pay1_eq, pay2_eq]

theorem sout_A_0 (hc : cond0_0 i) : sout0_A_0 c i arg2 harg2 arg3 harg3 arg4 harg4 arg5 harg5 arg6 harg6 arg7 harg7 hc x0 x1 x2 = x1 := by
  unfold sout0_A_0 kernelRun0_A
  dsimp only
  sl_unfold_words
  refine (read_whole VS0_0 _ _ hz2 _ _ _).trans ?_
  rw [load_whole arg3.view _ _ hz2, harg3.read_unread, pay1_eq]

theorem sout_A_1 (hc : cond0_0 i) : sout0_A_1 c i arg2 harg2 arg3 harg3 arg4 harg4 arg5 harg5 arg6 harg6 arg7 harg7 hc x0 x1 x2 = x2 := by
  unfold sout0_A_1 kernelRun0_A
  dsimp only
  sl_unfold_words
  refine (read_whole VS0_1 _ _ hz2 _ _ _).trans ?_
  rw [load_whole arg4.view _ _ hz2, harg4.read_unread, pay2_eq]

theorem out_B (hc : ¬cond0_0 i) : out0_B_3 c i arg2 harg2 arg3 harg3 arg4 harg4 arg5 harg5 arg6 harg6 arg7 harg7 hc x0 x1 x2 xs0 xs1 = k0_pay3 x0 xs0 xs1 := by
  unfold out0_B_3 kernelRun0_B
  dsimp only
  sl_unfold_words
  refine (read_whole VO0_3 _ _ hz2 _ _ _).trans ?_
  rw [load_whole arg2.view _ _ hz2, harg2.read_unread, load_whole arg6.view _ _ hz2, harg6.read_unread, load_whole arg7.view _ _ hz2, harg7.read_unread]

end Point

variable (m : (ℓ : Loc nD τ sig) → Buf (Elt Ideal) ℓ) (c : Dev nD)

theorem N344 (t : Fin cfg0.N) : t.val < 344 := lt_of_lt_of_eq t.isLt (show cfg0.N = 344 from N_0)

/-- The arguments as plain functions. -/
abbrev hOf : Fin 8192 → Fin 4096 → EReal := fun t k => m ((c : Thread nD τ).loc main_arg0) (ix2 t k)
abbrev gOf : Fin 4096 → Fin 11008 → EReal := fun k n => m ((c : Thread nD τ).loc main_arg1) (ix2 k n)
abbrev uOf : Fin 4096 → Fin 11008 → EReal := fun k n => m ((c : Thread nD τ).loc main_arg2) (ix2 k n)

/-- The row and the column of the result that a place in a grid point's block holds. -/
def row (t : Fin cfg0.N) (r : Fin 1024) : Fin 8192 := ⟨1024 * (t.val % 8) + r.val, by have := r.isLt; omega⟩
def col (t : Fin cfg0.N) (e : Fin 256) : Fin 11008 := ⟨256 * (t.val / 8) + e.val, by have := e.isLt; have := N344 t; omega⟩

theorem blk0 (t : Fin cfg0.N) (r : Fin 1024) (k : Fin 4096) : iblk m c 0 t (ix2 r k) = hOf m c (row t r) k := by
  have hN := N344 t
  unfold hOf row
  blk_ext! [iblk, V, idx0 t]

theorem blk1 (t : Fin cfg0.N) (k : Fin 4096) (e : Fin 256) : iblk m c 1 t (ix2 k e) = gOf m c k (col t e) := by
  have hN := N344 t
  unfold gOf col
  blk_ext! [iblk, V, idx0 t]

theorem blk2 (t : Fin cfg0.N) (k : Fin 4096) (e : Fin 256) : iblk m c 2 t (ix2 k e) = uOf m c k (col t e) := by
  have hN := N344 t
  unfold uOf col
  blk_ext! [iblk, V, idx0 t]

/-- The layer at one row and column. -/
def layerOf (t : Fin 8192) (n : Fin 11008) : EReal :=
  gated (∑ k : Fin 4096, hOf m c t k * gOf m c k n) (∑ k : Fin 4096, hOf m c t k * uOf m c k n)

/-- What a grid point leaves: its block of the layer, and both weights' column blocks. -/
structure Left (t : Fin cfg0.N) : Prop where
  out : ∀ (r : Fin 1024) (e : Fin 256), (outsAt0 m c t.val t.isLt).1 (ix2 r e) = layerOf m c (row t r) (col t e)
  keptG : ∀ (k : Fin 4096) (e : Fin 256), (outsAt0 m c t.val t.isLt).2.1 (ix2 k e) = gOf m c k (col t e)
  keptU : ∀ (k : Fin 4096) (e : Fin 256), (outsAt0 m c t.val t.isLt).2.2 (ix2 k e) = uOf m c k (col t e)

theorem gated_of (t : Fin cfg0.N) (g u : Vec Ideal S4096x256 .bf16) (hg : ∀ (k : Fin 4096) (e : Fin 256), g (ix2 k e) = gOf m c k (col t e))
    (hu : ∀ (k : Fin 4096) (e : Fin 256), u (ix2 k e) = uOf m c k (col t e)) (r : Fin 1024) (e : Fin 256) :
    k0_pay3 (iblk m c 0 t) g u (ix2 r e) = layerOf m c (row t r) (col t e) := by
  rw [pay3_at]
  exact congrArg₂ gated (Finset.sum_congr rfl fun k _ => congrArg₂ (· * ·) (blk0 m c t r k) (hg k e))
    (Finset.sum_congr rfl fun k _ => congrArg₂ (· * ·) (blk0 m c t r k) (hu k e))

theorem left_A (t : Fin cfg0.N) (h0 : t.val % 8 = 0) : Left m c t := by
  refine ⟨fun r e => ?_, fun k e => ?_, fun k e => ?_⟩
  · rw [outsAt0_A m c t h0]
    dsimp only
    rw [out_A]
    exact gated_of m c t _ _ (blk1 m c t) (blk2 m c t) r e
  · rw [outsAt0_A m c t h0]
    dsimp only
    rw [sout_A_0]
    exact blk1 m c t k e
  · rw [outsAt0_A m c t h0]
    dsimp only
    rw [sout_A_1]
    exact blk2 m c t k e

theorem left_B (t : Fin cfg0.N) (h0 : ¬t.val % 8 = 0) (p : Left m c ⟨t.val - 1, Nat.lt_of_le_of_lt (Nat.sub_le _ _) t.isLt⟩) : Left m c t := by
  have hcol : ∀ e : Fin 256, col ⟨t.val - 1, Nat.lt_of_le_of_lt (Nat.sub_le _ _) t.isLt⟩ e = col t e := fun e =>
    Fin.ext (by show 256 * ((t.val - 1) / 8) + e.val = 256 * (t.val / 8) + e.val; omega)
  have hg := fun (k : Fin 4096) (e : Fin 256) => (p.keptG k e).trans (congrArg (gOf m c k) (hcol e))
  have hu := fun (k : Fin 4096) (e : Fin 256) => (p.keptU k e).trans (congrArg (uOf m c k) (hcol e))
  refine ⟨fun r e => ?_, fun k e => ?_, fun k e => ?_⟩
  · rw [outsAt0_B m c t h0]
    dsimp only
    rw [out_B]
    exact gated_of m c t _ _ hg hu r e
  · rw [outsAt0_B m c t h0]
    exact hg k e
  · rw [outsAt0_B m c t h0]
    exact hu k e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-- The result array is the layer. -/
theorem G3_at (t : Fin 8192) (n : Fin 11008) : Value.G3 m c (ix2 t n) = layerOf m c t n := by
  have ht := t.isLt
  have hn := n.isLt
  have hN : cfg0.N = 344 := N_0
  have hp : Value.pt3Of (ix2 t n) = t.val / 1024 + 8 * (n.val / 256) := by
    show 1 * (t.val / 1024 - 0) + 8 * (n.val / 256 - 0) = _
    omega
  have hlt : t.val / 1024 + 8 * (n.val / 256) < cfg0.N := by omega
  have hloc : Value.loc3Of (ix2 t n) = ix2 (⟨t.val % 1024, by omega⟩ : Fin 1024) (⟨n.val % 256, by omega⟩ : Fin 256) := by
    funext a
    apply Fin.ext
    match a with
    | ⟨0, _⟩ => rfl
    | ⟨1, _⟩ => rfl
  unfold Value.G3
  rw [dif_pos (by rw [hp]; exact hlt)]
  rw [Value.fold0_congr m c (Value.pt3Of (ix2 t n)) _ (t.val / 1024 + 8 * (n.val / 256)) (by omega) hp, ← Value.outsAt0_sweep m c _ hlt]
  rw [hloc, (left m c ⟨t.val / 1024 + 8 * (n.val / 256), hlt⟩).out]
  refine congrArg₂ (layerOf m c) (Fin.ext ?_) (Fin.ext ?_)
  · show 1024 * ((t.val / 1024 + 8 * (n.val / 256)) % 8) + t.val % 1024 = t.val
    omega
  · show 256 * ((t.val / 1024 + 8 * (n.val / 256)) / 8) + n.val % 256 = n.val
    omega

end Cert.SwigluIdeal.Mat

namespace Cert.Proof.Swiglu

open Idealize.ShloMosaic Idealize.SL.Sem

/-- The reference terminates, keeps its arguments, and has no semaphore. -/
theorem frame_ref : Cert.quiescent_SwigluRefIdeal (hSwigluRefIdeal := Cert.SwigluRefIdeal.Gen.facts) := fun m ρ _ =>
  (θ_run Cert.SwigluRefIdeal.defs _ _).mono (fun r h => ⟨fun c => (h c).2, sem_eq_zero_of_no_sems (by decide) r.2⟩)
    (Cert.SwigluRefIdeal.Value.run (F := Ideal) m ρ)

section Ref

open Cert.SwigluRefIdeal Cert.SwigluRefIdeal.Gen

/-- The reference's term at one row and column. -/
theorem ref_at (h : FVec Ideal S8192x4096 .f32) (wg wu : FVec Ideal S4096x11008 .f32) (t : Fin 8192) (n : Fin 11008) :
    truncf .bf16 (mulf (mulf (Host.dotGeneral dot_S8192x4096_S4096x11008_S8192x11008_1_0_0_1_n_n none h wg) (Host.divf (broadcastInDim S8192x11008 ![] bcast_S_S8192x11008 (constant S_ .f32 0x3F800000#32)) (addf (broadcastInDim S8192x11008 ![] bcast_S_S8192x11008 (constant S_ .f32 0x3F800000#32)) (Host.exp (Host.negf (Host.dotGeneral dot_S8192x4096_S4096x11008_S8192x11008_1_0_0_1_n_n none h wg)))))) (Host.dotGeneral dot_S8192x4096_S4096x11008_S8192x11008_1_0_0_1_n_n none h wu)) bitsLt_bf16_f32 (ix2 t n)
      = Cert.Swiglu.gated (∑ k : Fin 4096, h (ix2 t k) * wg (ix2 k n)) (∑ k : Fin 4096, h (ix2 t k) * wu (ix2 k n)) := by
  unfold Cert.Swiglu.gated Ideal.logistic
  pointwise

end Ref

/-- Kernel and reference leave the same layer. -/
theorem algebraic : Cert.algebraic_SwigluIdeal_SwigluRefIdeal (hSwigluIdeal := Cert.SwigluIdeal.Gen.facts) (hSwigluRefIdeal := Cert.SwigluRefIdeal.Gen.facts) := by
  intro m g m' g' _ hargs
  refine ⟨fun c => Cert.SwigluIdeal.Value.G3 m c, Cert.SwigluIdeal.Value.run (F := Ideal) m g, ?_⟩
  refine (θ_run (Cert.SwigluRefIdeal.defs (F := Ideal)) _ _).mono (fun r h c => ?_) (Cert.SwigluRefIdeal.Value.run (F := Ideal) m' g')
  obtain ⟨hy, hrest⟩ := h c
  obtain ⟨e0, e1, e2⟩ := hargs c
  refine ⟨hy.trans ?_, hrest⟩
  funext j
  obtain ⟨t, n, rfl⟩ : ∃ (t : Fin 8192) (n : Fin 11008), j = ix2 t n := ⟨j 0, j 1, by idx_vars j⟩
  refine (ref_at _ _ _ t n).trans (Eq.trans ?_ (Cert.SwigluIdeal.Mat.G3_at m c t n).symm)
  unfold Cert.SwigluIdeal.Mat.layerOf
  rw [e0, e1, e2]

end Cert.Proof.Swiglu

end
-- ==== Proof.DownValue.lean ====
/-
  The down projection of the feed-forward layer: the sum over 11008 is taken in two halves. The first
  grid point of a block starts an accumulator from zero, the second adds its half and writes the block.
-/
module

public import proofs.«01_k».proof.Defs
public import proofs.«01_k».proof.Proof.Whole
public import proofs.«01_k».proof.Proof.Gen.DownIdeal.Value
public import proofs.«01_k».proof.Proof.Gen.DownRefIdeal.Run

@[expose] public section

set_option maxRecDepth 16384

noncomputable section

namespace Cert.DownIdeal.Mat

open Cert.DownIdeal Cert.DownIdeal.Gen Cert.Whole Idealize.ShloMosaic Idealize.ShloMosaic.TcCoe Idealize.SL.Sem

/-- Every window's block at a grid point: row block `t / 16`, column block `t / 2 mod 8`, half `t mod 2`. -/
theorem idx0 : ∀ t : Fin cfg0.N, win0_0.index t = ![t.val / 16, t.val % 2] ∧ win0_1.index t = ![t.val % 2, t.val / 2 % 8] :=
  (by decide +kernel : ∀ t : Fin grid0.N, _)

theorem pay1_at (a : Fin 1024) (b : Fin 512) : k0_pay1 (F := Ideal) (ix2 a b) = 0 := by
  unfold k0_pay1
  exact (congrFun (shapeCast_self _ _) _).trans Ideal.ofBits_zero_f32

theorem pay2_at (acc : Vec Ideal S1024x512 .f32) (x : Vec Ideal S1024x5504 .bf16) (w : Vec Ideal S5504x512 .bf16) (a : Fin 1024) (b : Fin 512) :
    k0_pay2 acc x w (ix2 a b) = acc (ix2 a b) + ∑ k : Fin 5504, x (ix2 a k) * w (ix2 k b) := by
  pointwise [k0_pay2]

section Point

variable (c : Dev nD) (i : grid0.Coords) (arg3 : Memref sig .tc .vmem S1024x5504 .bf16) (harg3 : arg3.IsWhole) (arg4 : Memref sig .tc .vmem S5504x512 .bf16) (harg4 : arg4.IsWhole) (arg5 : Memref sig .tc .vmem S1024x512 .f32) (harg5 : arg5.IsWhole) (arg6 : Memref sig .tc .vmem S1024x512 .f32) (harg6 : arg6.IsWhole)
    (x0 : Vec Ideal S1024x5504 .bf16) (x1 : Vec Ideal S5504x512 .bf16) (xs0 : Vec Ideal S1024x512 .f32)

theorem sout_A (hc : cond0_0 i) (hd : ¬cond0_1 i) : sout0_A_0 c i arg3 harg3 arg4 harg4 arg5 harg5 arg6 harg6 hc hd x0 x1 = k0_pay2 (k0_pay1 (F := Ideal)) x0 x1 := by
  unfold sout0_A_0 kernelRun0_A
  dsimp only
  sl_unfold_words
  refine (read_whole VS0_0 _ _ hz2 _ _ _).trans ?_
  unfold View.readCov
  rw [load_whole arg3.view _ _ hz2, harg3.read_unread, load_whole arg4.view _ _ hz2, harg4.read_unread, load_whole arg6.view _ _ hz2, read_whole _ _ _ hz2]

theorem out_B (hc : ¬cond0_0 i) (hd : cond0_1 i) : out0_B_2 c i arg3 harg3 arg4 harg4 arg5 harg5 arg6 harg6 hc hd x0 x1 xs0 = k0_pay2 xs0 x0 x1 := by
  unfold out0_B_2 kernelRun0_B
  dsimp only
  sl_unfold_words
  refine (read_whole VO0_2 _ _ hz2 _ _ _).trans ?_
  unfold View.readCov
  rw [load_whole arg6.view _ _ hz2, read_whole _ _ _ hz2, load_whole arg3.view _ _ hz2, harg3.read_unread, load_whole arg4.view _ _ hz2, harg4.read_unread,
    load_whole arg6.view _ _ hz2, harg6.read_unread]

end Point

variable (m : (ℓ : Loc nD τ sig) → Buf (Elt Ideal) ℓ) (c : Dev nD)

theorem N128 (t : Fin cfg0.N) : t.val < 128 := lt_of_lt_of_eq t.isLt (show cfg0.N = 128 from N_0)

/-- The arguments as plain functions. -/
abbrev xOf : Fin 8192 → Fin 11008 → EReal := fun t k => m ((c : Thread nD τ).loc main_arg0) (ix2 t k)
abbrev wOf : Fin 11008 → Fin 4096 → EReal := fun k n => m ((c : Thread nD τ).loc main_arg1) (ix2 k n)

/-- The row and the column of the result that a place in a grid point's block holds, and the summand's place. -/
def row (t : Fin cfg0.N) (r : Fin 1024) : Fin 8192 := ⟨1024 * (t.val / 16) + r.val, by have := r.isLt; have := N128 t; omega⟩
def col (t : Fin cfg0.N) (e : Fin 512) : Fin 4096 := ⟨512 * (t.val / 2 % 8) + e.val, by have := e.isLt; omega⟩
def inner (t : Fin cfg0.N) (k : Fin 5504) : Fin 11008 := ⟨5504 * (t.val % 2) + k.val, by have := k.isLt; omega⟩

theorem blk0 (t : Fin cfg0.N) (r : Fin 1024) (k : Fin 5504) : iblk m c 0 t (ix2 r k) = xOf m c (row t r) (inner t k) := by
  have hN := N128 t
  unfold xOf row inner
  blk_ext! [iblk, V, idx0 t]

theorem blk1 (t : Fin cfg0.N) (k : Fin 5504) (e : Fin 512) : iblk m c 1 t (ix2 k e) = wOf m c (inner t k) (col t e) := by
  have hN := N128 t
  unfold wOf inner col
  blk_ext! [iblk, V, idx0 t]

/-- A grid point's half of the product at one row and column, and the whole product. -/
def halfOf (t : Fin cfg0.N) (a : Fin 8192) (b : Fin 4096) : EReal := ∑ k : Fin 5504, xOf m c a (inner t k) * wOf m c (inner t k) b
def prodOf (a : Fin 8192) (b : Fin 4096) : EReal := ∑ k : Fin 11008, xOf m c a k * wOf m c k b

theorem half_at (t : Fin cfg0.N) (acc : Vec Ideal S1024x512 .f32) (r : Fin 1024) (e : Fin 512) :
    k0_pay2 acc (iblk m c 0 t) (iblk m c 1 t) (ix2 r e) = acc (ix2 r e) + halfOf m c t (row t r) (col t e) := by
  rw [pay2_at]
  exact congrArg (acc (ix2 r e) + ·) (Finset.sum_congr rfl fun k _ => congrArg₂ (· * ·) (blk0 m c t r k) (blk1 m c t k e))

/-- The product's sum as its two halves. -/
theorem halves (t t' : Fin cfg0.N) (h : t.val % 2 = 0) (h' : t'.val % 2 = 1) (a : Fin 8192) (b : Fin 4096) :
    halfOf m c t a b + halfOf m c t' a b = prodOf m c a b := by
  unfold prodOf
  refine Eq.symm ((Fin.sum_univ_add (a := 5504) (b := 5504) (fun k => xOf m c a k * wOf m c k b)).trans ?_)
  have e0 : ∀ k : Fin 5504, (Fin.castAdd 5504 k : Fin 11008) = inner t k := fun k => Fin.ext (by show k.val = 5504 * (t.val % 2) + k.val; omega)
  have e1 : ∀ k : Fin 5504, (Fin.natAdd 5504 k : Fin 11008) = inner t' k := fun k => Fin.ext (by show 5504 + k.val = 5504 * (t'.val % 2) + k.val; omega)
  exact congrArg₂ (· + ·) (Finset.sum_congr rfl fun k _ => by rw [e0]) (Finset.sum_congr rfl fun k _ => by rw [e1])

/-- The first point of a block leaves the first half in the accumulator. -/
theorem first (t : Fin cfg0.N) (h : t.val % 2 = 0) (r : Fin 1024) (e : Fin 512) :
    (outsAt0 m c t.val t.isLt).2 (ix2 r e) = halfOf m c t (row t r) (col t e) := by
  rw [outsAt0_A m c t h (by omega)]
  dsimp only
  rw [sout_A, half_at, pay1_at, zero_add]

/-- The second point writes the product. -/
theorem second (t : Fin cfg0.N) (h : t.val % 2 = 1) (r : Fin 1024) (e : Fin 512) :
    (outsAt0 m c t.val t.isLt).1 (ix2 r e) = prodOf m c (row t r) (col t e) := by
  have hlt : t.val - 1 < cfg0.N := Nat.lt_of_le_of_lt (Nat.sub_le _ _) t.isLt
  have hr : row ⟨t.val - 1, hlt⟩ r = row t r := Fin.ext (by show 1024 * ((t.val - 1) / 16) + r.val = 1024 * (t.val / 16) + r.val; omega)
  have he : col ⟨t.val - 1, hlt⟩ e = col t e := Fin.ext (by show 512 * ((t.val - 1) / 2 % 8) + e.val = 512 * (t.val / 2 % 8) + e.val; omega)
  have hp : (outsAt0 m c (t.val - 1) hlt).2 (ix2 r e) = halfOf m c ⟨t.val - 1, hlt⟩ (row t r) (col t e) :=
    (first m c ⟨t.val - 1, hlt⟩ (by show (t.val - 1) % 2 = 0; omega) r e).trans (by rw [hr, he])
  rw [outsAt0_B m c t (by omega) h]
  dsimp only
  rw [out_B, half_at, hp]
  exact halves m c _ t (by show (t.val - 1) % 2 = 0; omega) h _ _

/-- The result array is the matrix product. -/
theorem G2_at (t : Fin 8192) (n : Fin 4096) : Value.G2 m c (ix2 t n) = prodOf m c t n := by
  have ht := t.isLt
  have hn := n.isLt
  have hN : cfg0.N = 128 := N_0
  have hp : Value.pt2Of (ix2 t n) = 2 * (8 * (t.val / 1024) + n.val / 512) + 1 := by
    show 2 * (8 * (t.val / 1024 - 0) + 1 * (n.val / 512 - 0)) + 1 = _
    omega
  have hlt : 2 * (8 * (t.val / 1024) + n.val / 512) + 1 < cfg0.N := by omega
  have hloc : Value.loc2Of (ix2 t n) = ix2 (⟨t.val % 1024, by omega⟩ : Fin 1024) (⟨n.val % 512, by omega⟩ : Fin 512) := by
    funext a
    apply Fin.ext
    match a with
    | ⟨0, _⟩ => rfl
    | ⟨1, _⟩ => rfl
  unfold Value.G2
  rw [dif_pos (by rw [hp]; exact hlt)]
  rw [Value.fold0_congr m c (Value.pt2Of (ix2 t n)) _ (2 * (8 * (t.val / 1024) + n.val / 512) + 1) (by omega) hp, ← Value.outsAt0_sweep m c _ hlt]
  rw [hloc, second m c ⟨2 * (8 * (t.val / 1024) + n.val / 512) + 1, hlt⟩ (by show (2 * (8 * (t.val / 1024) + n.val / 512) + 1) % 2 = 1; omega)]
  refine congrArg₂ (prodOf m c) (Fin.ext ?_) (Fin.ext ?_)
  · show 1024 * ((2 * (8 * (t.val / 1024) + n.val / 512) + 1) / 16) + t.val % 1024 = t.val
    omega
  · show 512 * ((2 * (8 * (t.val / 1024) + n.val / 512) + 1) / 2 % 8) + n.val % 512 = n.val
    omega

end Cert.DownIdeal.Mat

namespace Cert.Proof.Down

open Idealize.ShloMosaic Idealize.SL.Sem

/-- The reference terminates, keeps its arguments, and has no semaphore. -/
theorem frame_ref : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩)
    (Cert.DownRefIdeal.Value.run (F := Ideal) m ρ)

theorem ref_at (x : FVec Ideal Cert.DownRefIdeal.S8192x11008 .f32) (w : FVec Ideal Cert.DownRefIdeal.S11008x4096 .f32) (t : Fin 8192) (n : Fin 4096) :
    Host.dotGeneral Cert.DownRefIdeal.dot_S8192x11008_S11008x4096_S8192x4096_1_0_0_1_n_n none x w (ix2 t n) = ∑ k : Fin 11008, x (ix2 t k) * w (ix2 k n) := by
  pointwise

/-- Kernel and reference leave the same product. -/
theorem algebraic : Cert.algebraic_DownIdeal_DownRefIdeal (hDownIdeal := Cert.DownIdeal.Gen.facts) (hDownRefIdeal := Cert.DownRefIdeal.Gen.facts) := by
  intro m g m' g' _ hargs
  refine ⟨fun c => Cert.DownIdeal.Value.G2 m c, Cert.DownIdeal.Value.run (F := Ideal) m g, ?_⟩
  refine (θ_run (Cert.DownRefIdeal.defs (F := Ideal)) _ _).mono (fun r h c => ?_) (Cert.DownRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 8192) (n : Fin 4096), j = ix2 t n := ⟨j 0, j 1, by idx_vars j⟩
  refine (ref_at _ _ t n).trans (Eq.trans ?_ (Cert.DownIdeal.Mat.G2_at m c t n).symm)
  unfold Cert.DownIdeal.Mat.prodOf
  rw [e0, e1]

end Cert.Proof.Down

end
-- ==== Proof.OutProjValue.lean ====
/-
  The output projection: each grid point multiplies a row block by a column block of the weight, which
  the first point of its column has cast into scratch, and the result array is the matrix product.
-/
module

public import proofs.«01_k».proof.Defs
public import proofs.«01_k».proof.Proof.Whole
public import proofs.«01_k».proof.Proof.Gen.OutProjIdeal.Value
public import proofs.«01_k».proof.Proof.Gen.OutProjRefIdeal.Run

@[expose] public section

set_option maxRecDepth 16384

noncomputable section

namespace Cert.OutProjIdeal.Mat

open Cert.OutProjIdeal Cert.OutProjIdeal.Gen Cert.Whole Idealize.ShloMosaic Idealize.ShloMosaic.TcCoe Idealize.SL.Sem

/-- Every window's block at a grid point: row block `t mod 8`, column block `t / 8`. -/
theorem idx0 : ∀ t : Fin cfg0.N, win0_0.index t = ![t.val % 8, 0] ∧ win0_1.index t = ![0, t.val / 8] :=
  (by decide +kernel : ∀ t : Fin grid0.N, _)

theorem pay1_eq (x : Vec Ideal S4096x512 .f32) : k0_pay1 x = x := by
  funext j
  obtain ⟨a, b, rfl⟩ : ∃ (a : Fin 4096) (b : Fin 512), j = ix2 a b := ⟨j 0, j 1, by idx_vars j⟩
  pointwise [k0_pay1]

theorem pay2_at (x : Vec Ideal S1024x4096 .bf16) (w : Vec Ideal S4096x512 .bf16) (a : Fin 1024) (b : Fin 512) :
    k0_pay2 x w (ix2 a b) = ∑ k : Fin 4096, x (ix2 a k) * w (ix2 k b) := by
  pointwise [k0_pay2]

section Point

variable (c : Dev nD) (i : grid0.Coords) (arg2 : Memref sig .tc .vmem S1024x4096 .bf16) (harg2 : arg2.IsWhole) (arg3 : Memref sig .tc .vmem S4096x512 .f32) (harg3 : arg3.IsWhole) (arg4 : Memref sig .tc .vmem S1024x512 .f32) (harg4 : arg4.IsWhole) (arg5 : Memref sig .tc .vmem S4096x512 .bf16) (harg5 : arg5.IsWhole)
    (x0 : Vec Ideal S1024x4096 .bf16) (x1 : Vec Ideal S4096x512 .f32) (xs0 : Vec Ideal S4096x512 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

theorem sout_A (hc : cond0_0 i) : sout0_A_0 c i arg2 harg2 arg3 harg3 arg4 harg4 arg5 harg5 hc x0 x1 = x1 := by
  unfold sout0_A_0 kernelRun0_A
  dsimp only
  sl_unfold_words
  refine (read_whole VS0_0 _ _ hz2 _ _ _).trans ?_
  rw [load_whole arg3.view _ _ hz2, harg3.read_unread, pay1_eq]

theorem out_B (hc : ¬cond0_0 i) : out0_B_2 c i arg2 harg2 arg3 harg3 arg4 harg4 arg5 harg5 hc x0 x1 xs0 = k0_pay2 x0 xs0 := by
  unfold out0_B_2 kernelRun0_B
  dsimp only
  sl_unfold_words
  refine (read_whole VO0_2 _ _ hz2 _ _ _).trans ?_
  rw [load_whole arg2.view _ _ hz2, harg2.read_unread, load_whole arg5.view _ _ hz2, harg5.read_unread]

end Point

variable (m : (ℓ : Loc nD τ sig) → Buf (Elt Ideal) ℓ) (c : Dev nD)

theorem N64 (t : Fin cfg0.N) : t.val < 64 := lt_of_lt_of_eq t.isLt (show cfg0.N = 64 from N_0)

/-- The arguments as plain functions. -/
abbrev xOf : Fin 8192 → Fin 4096 → EReal := fun t k => m ((c : Thread nD τ).loc main_arg0) (ix2 t k)
abbrev wOf : Fin 4096 → Fin 4096 → EReal := fun k n => m ((c : Thread nD τ).loc main_arg1) (ix2 k n)

theorem blk0 (t : Fin cfg0.N) (r : Fin 1024) (k : Fin 4096) :
    iblk m c 0 t (ix2 r k) = xOf m c ⟨1024 * (t.val % 8) + r.val, by have := r.isLt; omega⟩ k := by
  have hN := N64 t
  unfold xOf
  blk_ext! [iblk, V, idx0 t]

theorem blk1 (t : Fin cfg0.N) (k : Fin 4096) (e : Fin 512) :
    iblk m c 1 t (ix2 k e) = wOf m c k ⟨512 * (t.val / 8) + e.val, by have := e.isLt; have := N64 t; omega⟩ := by
  have hN := N64 t
  unfold wOf
  blk_ext! [iblk, V, idx0 t]

/-- The product at one row and column. -/
def prodOf (t : Fin 8192) (n : Fin 4096) : EReal := ∑ k : Fin 4096, xOf m c t k * wOf m c k n

/-- What a grid point leaves: the product of its blocks, and the weight's column block. -/
structure Left (t : Fin cfg0.N) : Prop where
  out : ∀ (r : Fin 1024) (e : Fin 512), (outsAt0 m c t.val t.isLt).1 (ix2 r e)
    = prodOf m c ⟨1024 * (t.val % 8) + r.val, by have := r.isLt; omega⟩ ⟨512 * (t.val / 8) + e.val, by have := e.isLt; have := N64 t; omega⟩
  kept : ∀ (k : Fin 4096) (e : Fin 512), (outsAt0 m c t.val t.isLt).2 (ix2 k e) = wOf m c k ⟨512 * (t.val / 8) + e.val, by have := e.isLt; have := N64 t; omega⟩

theorem left_A (t : Fin cfg0.N) (h0 : t.val % 8 = 0) : Left m c t := by
  refine ⟨fun r e => ?_, fun k e => ?_⟩
  · rw [outsAt0_A m c t h0]
    dsimp only
    rw [out_A, pay2_at]
    exact Finset.sum_congr rfl fun k _ => congrArg₂ (· * ·) (blk0 m c t r k) (blk1 m c t k e)
  · rw [outsAt0_A m c t h0]
    dsimp only
    rw [sout_A]
    exact blk1 m c t k e

theorem left_B (t : Fin cfg0.N) (h0 : ¬t.val % 8 = 0) (p : Left m c ⟨t.val - 1, Nat.lt_of_le_of_lt (Nat.sub_le _ _) t.isLt⟩) : Left m c t := by
  have hk : ∀ (k : Fin 4096) (e : Fin 512), (outsAt0 m c (t.val - 1) (Nat.lt_of_le_of_lt (Nat.sub_le _ _) t.isLt)).2 (ix2 k e)
      = wOf m c k ⟨512 * (t.val / 8) + e.val, by have := e.isLt; have := N64 t; omega⟩ := fun k e =>
    (p.kept k e).trans (congrArg (wOf m c k) (Fin.ext (by show 512 * ((t.val - 1) / 8) + e.val = 512 * (t.val / 8) + e.val; omega)))
  refine ⟨fun r e => ?_, fun k e => ?_⟩
  · rw [outsAt0_B m c t h0]
    dsimp only
    rw [out_B, pay2_at]
    exact Finset.sum_congr rfl fun k _ => congrArg₂ (· * ·) (blk0 m c t r k) (hk k e)
  · rw [outsAt0_B m c t h0]
    exact hk k e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-- The result array is the matrix product. -/
theorem G2_at (t : Fin 8192) (n : Fin 4096) : Value.G2 m c (ix2 t n) = prodOf m c t n := by
  have ht := t.isLt
  have hn := n.isLt
  have hN : cfg0.N = 64 := N_0
  have hp : Value.pt2Of (ix2 t n) = t.val / 1024 + 8 * (n.val / 512) := by
    show 1 * (t.val / 1024 - 0) + 8 * (n.val / 512 - 0) = _
    omega
  have hlt : t.val / 1024 + 8 * (n.val / 512) < cfg0.N := by omega
  have hloc : Value.loc2Of (ix2 t n) = ix2 (⟨t.val % 1024, by omega⟩ : Fin 1024) (⟨n.val % 512, by omega⟩ : Fin 512) := by
    funext a
    apply Fin.ext
    match a with
    | ⟨0, _⟩ => rfl
    | ⟨1, _⟩ => rfl
  unfold Value.G2
  rw [dif_pos (by rw [hp]; exact hlt)]
  rw [Value.fold0_congr m c (Value.pt2Of (ix2 t n)) _ (t.val / 1024 + 8 * (n.val / 512)) (by omega) hp, ← Value.outsAt0_sweep m c _ hlt]
  rw [hloc, (left m c ⟨t.val / 1024 + 8 * (n.val / 512), hlt⟩).out]
  refine congrArg₂ (prodOf m c) (Fin.ext ?_) (Fin.ext ?_)
  · show 1024 * ((t.val / 1024 + 8 * (n.val / 512)) % 8) + t.val % 1024 = t.val
    omega
  · show 512 * ((t.val / 1024 + 8 * (n.val / 512)) / 8) + n.val % 512 = n.val
    omega

end Cert.OutProjIdeal.Mat

namespace Cert.Proof.OutProj

open Idealize.ShloMosaic Idealize.SL.Sem

/-- The reference terminates, keeps its arguments, and has no semaphore. -/
theorem frame_ref : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem ref_at (x : FVec Ideal Cert.OutProjRefIdeal.S8192x4096 .f32) (w : FVec Ideal Cert.OutProjRefIdeal.S4096x4096 .f32) (t : Fin 8192) (n : Fin 4096) :
    Host.dotGeneral Cert.OutProjRefIdeal.dot_S8192x4096_S4096x4096_S8192x4096_1_0_0_1_n_n none x w (ix2 t n) = ∑ k : Fin 4096, x (ix2 t k) * w (ix2 k n) := by
  pointwise

/-- Kernel and reference leave the same product. -/
theorem algebraic : Cert.algebraic_OutProjIdeal_OutProjRefIdeal (hOutProjIdeal := Cert.OutProjIdeal.Gen.facts) (hOutProjRefIdeal := Cert.OutProjRefIdeal.Gen.facts) := by
  intro m g m' g' _ hargs
  refine ⟨fun c => Cert.OutProjIdeal.Value.G2 m c, Cert.OutProjIdeal.Value.run (F := Ideal) m g, ?_⟩
  refine (θ_run (Cert.OutProjRefIdeal.defs (F := Ideal)) _ _).mono (fun r h c => ?_) (Cert.OutProjRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 8192) (n : Fin 4096), j = ix2 t n := ⟨j 0, j 1, by idx_vars j⟩
  refine (ref_at _ _ t n).trans (Eq.trans ?_ (Cert.OutProjIdeal.Mat.G2_at m c t n).symm)
  unfold Cert.OutProjIdeal.Mat.prodOf
  rw [e0, e1]

end Cert.Proof.OutProj

end
-- ==== Proof.InRgValue.lean ====
/-
  The recurrent branch's input projection: each grid point multiplies a row block by a block of columns
  of the weight, stored as rows of its transpose, which the first point of its column has cast into
  scratch. The result array is the matrix product's first 4096 columns.
-/
module

public import proofs.«01_k».proof.Defs
public import proofs.«01_k».proof.Proof.Whole
public import proofs.«01_k».proof.Proof.Gen.InRgIdeal.Value
public import proofs.«01_k».proof.Proof.Gen.InRgRefIdeal.Run

@[expose] public section

set_option maxRecDepth 16384

noncomputable section

namespace Cert.InRgIdeal.Mat

open Cert.InRgIdeal Cert.InRgIdeal.Gen Cert.Whole Idealize.ShloMosaic Idealize.ShloMosaic.TcCoe Idealize.SL.Sem

/-- Every window's block at a grid point: row block `t mod 8`, column block `t / 8`. -/
theorem idx0 : ∀ t : Fin cfg0.N, win0_0.index t = ![t.val % 8, 0] ∧ win0_1.index t = ![t.val / 8, 0] :=
  (by decide +kernel : ∀ t : Fin grid0.N, _)

theorem pay1_eq (x : Vec Ideal S512x4096 .f32) : k0_pay1 x = x := by
  funext j
  obtain ⟨a, b, rfl⟩ : ∃ (a : Fin 512) (b : Fin 4096), j = ix2 a b := ⟨j 0, j 1, by idx_vars j⟩
  pointwise [k0_pay1]

theorem pay2_at (x : Vec Ideal S1024x4096 .bf16) (w : Vec Ideal S512x4096 .bf16) (a : Fin 1024) (b : Fin 512) :
    k0_pay2 x w (ix2 a b) = ∑ k : Fin 4096, x (ix2 a k) * w (ix2 b k) := by
  pointwise [k0_pay2]

section Point

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .f32) (harg4 : arg4.IsWhole) (arg5 : Memref sig .tc .vmem S512x4096 .bf16) (harg5 : arg5.IsWhole)
    (x0 : Vec Ideal S1024x4096 .bf16) (x1 : Vec Ideal S512x4096 .f32) (xs0 : Vec Ideal S512x4096 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

theorem sout_A (hc : cond0_0 i) : sout0_A_0 c i arg2 harg2 arg3 harg3 arg4 harg4 arg5 harg5 hc x0 x1 = x1 := by
  unfold sout0_A_0 kernelRun0_A
  dsimp only
  sl_unfold_words
  refine (read_whole VS0_0 _ _ hz2 _ _ _).trans ?_
  rw [load_whole arg3.view _ _ hz2, harg3.read_unread, pay1_eq]

theorem out_B (hc : ¬cond0_0 i) : out0_B_2 c i arg2 harg2 arg3 harg3 arg4 harg4 arg5 harg5 hc x0 x1 xs0 = k0_pay2 x0 xs0 := by
  unfold out0_B_2 kernelRun0_B
  dsimp only
  sl_unfold_words
  refine (read_whole VO0_2 _ _ hz2 _ _ _).trans ?_
  rw [load_whole arg2.view _ _ hz2, harg2.read_unread, load_whole arg5.view _ _ hz2, harg5.read_unread]

end Point

variable (m : (ℓ : Loc nD τ sig) → Buf (Elt Ideal) ℓ) (c : Dev nD)

theorem N64 (t : Fin cfg0.N) : t.val < 64 := lt_of_lt_of_eq t.isLt (show cfg0.N = 64 from N_0)

/-- The arguments as plain functions. -/
abbrev xOf : Fin 8192 → Fin 4096 → EReal := fun t k => m ((c : Thread nD τ).loc main_arg0) (ix2 t k)
abbrev wOf : Fin 4096 → Fin 4096 → EReal := fun k n => m ((c : Thread nD τ).loc main_arg1) (ix2 k ⟨n.val, by have := n.isLt; omega⟩)

theorem blk0 (t : Fin cfg0.N) (r : Fin 1024) (k : Fin 4096) :
    iblk m c 0 t (ix2 r k) = xOf m c ⟨1024 * (t.val % 8) + r.val, by have := r.isLt; omega⟩ k := by
  have hN := N64 t
  unfold xOf
  blk_ext! [iblk, V, idx0 t]

theorem blk1 (t : Fin cfg0.N) (k : Fin 4096) (e : Fin 512) :
    X0_1 m c t (ix2 e k) = wOf m c k ⟨512 * (t.val / 8) + e.val, by have := e.isLt; have := N64 t; omega⟩ := by
  have hN := N64 t
  unfold wOf X0_1 Pipeline.Window.fill
  rw [dif_pos (moved0_1 t (ix2 e k))]
  blk_ext! [iblk, V, idx0 t]

/-- The product at one row and column. -/
def prodOf (t : Fin 8192) (n : Fin 4096) : EReal := ∑ k : Fin 4096, xOf m c t k * wOf m c k n

/-- What a grid point leaves: the product of its blocks, and the weight's column block. -/
structure Left (t : Fin cfg0.N) : Prop where
  out : ∀ (r : Fin 1024) (e : Fin 512), (outsAt0 m c t.val t.isLt).1 (ix2 r e)
    = prodOf m c ⟨1024 * (t.val % 8) + r.val, by have := r.isLt; omega⟩ ⟨512 * (t.val / 8) + e.val, by have := e.isLt; have := N64 t; omega⟩
  kept : ∀ (k : Fin 4096) (e : Fin 512), (outsAt0 m c t.val t.isLt).2 (ix2 e k) = wOf m c k ⟨512 * (t.val / 8) + e.val, by have := e.isLt; have := N64 t; omega⟩

theorem left_A (t : Fin cfg0.N) (h0 : t.val % 8 = 0) : Left m c t := by
  refine ⟨fun r e => ?_, fun k e => ?_⟩
  · rw [outsAt0_A m c t h0]
    dsimp only
    rw [out_A, pay2_at]
    exact Finset.sum_congr rfl fun k _ => congrArg₂ (· * ·) (blk0 m c t r k) (blk1 m c t k e)
  · rw [outsAt0_A m c t h0]
    dsimp only
    rw [sout_A]
    exact blk1 m c t k e

theorem left_B (t : Fin cfg0.N) (h0 : ¬t.val % 8 = 0) (p : Left m c ⟨t.val - 1, Nat.lt_of_le_of_lt (Nat.sub_le _ _) t.isLt⟩) : Left m c t := by
  have hk : ∀ (k : Fin 4096) (e : Fin 512), (outsAt0 m c (t.val - 1) (Nat.lt_of_le_of_lt (Nat.sub_le _ _) t.isLt)).2 (ix2 e k)
      = wOf m c k ⟨512 * (t.val / 8) + e.val, by have := e.isLt; have := N64 t; omega⟩ := fun k e =>
    (p.kept k e).trans (congrArg (wOf m c k) (Fin.ext (by show 512 * ((t.val - 1) / 8) + e.val = 512 * (t.val / 8) + e.val; omega)))
  refine ⟨fun r e => ?_, fun k e => ?_⟩
  · rw [outsAt0_B m c t h0]
    dsimp only
    rw [out_B, pay2_at]
    exact Finset.sum_congr rfl fun k _ => congrArg₂ (· * ·) (blk0 m c t r k) (hk k e)
  · rw [outsAt0_B m c t h0]
    exact hk k e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-- The result array is the matrix product. -/
theorem G2_at (t : Fin 8192) (n : Fin 4096) : Value.G2 m c (ix2 t n) = prodOf m c t n := by
  have ht := t.isLt
  have hn := n.isLt
  have hN : cfg0.N = 64 := N_0
  have hp : Value.pt2Of (ix2 t n) = t.val / 1024 + 8 * (n.val / 512) := by
    show 1 * (t.val / 1024 - 0) + 8 * (n.val / 512 - 0) = _
    omega
  have hlt : t.val / 1024 + 8 * (n.val / 512) < cfg0.N := by omega
  have hloc : Value.loc2Of (ix2 t n) = ix2 (⟨t.val % 1024, by omega⟩ : Fin 1024) (⟨n.val % 512, by omega⟩ : Fin 512) := by
    funext a
    apply Fin.ext
    match a with
    | ⟨0, _⟩ => rfl
    | ⟨1, _⟩ => rfl
  unfold Value.G2
  rw [dif_pos (by rw [hp]; exact hlt)]
  rw [Value.fold0_congr m c (Value.pt2Of (ix2 t n)) _ (t.val / 1024 + 8 * (n.val / 512)) (by omega) hp, ← Value.outsAt0_sweep m c _ hlt]
  rw [hloc, (left m c ⟨t.val / 1024 + 8 * (n.val / 512), hlt⟩).out]
  refine congrArg₂ (prodOf m c) (Fin.ext ?_) (Fin.ext ?_)
  · show 1024 * ((t.val / 1024 + 8 * (n.val / 512)) % 8) + t.val % 1024 = t.val
    omega
  · show 512 * ((t.val / 1024 + 8 * (n.val / 512)) / 8) + n.val % 512 = n.val
    omega

end Cert.InRgIdeal.Mat

namespace Cert.Proof.InRg

open Idealize.ShloMosaic Idealize.SL.Sem

/-- The reference terminates, keeps its arguments, and has no semaphore. -/
theorem frame_ref : Cert.quiescent_InRgRefIdeal (hInRgRefIdeal := Cert.InRgRefIdeal.Gen.facts) := fun m ρ _ =>
  (θ_run Cert.InRgRefIdeal.defs _ _).mono (fun r h => ⟨fun c => (h c).2, sem_eq_zero_of_no_sems (by decide) r.2⟩)
    (Cert.InRgRefIdeal.Value.run (F := Ideal) m ρ)

theorem ref_at (x : FVec Ideal Cert.InRgRefIdeal.S8192x4096 .f32) (w : FVec Ideal Cert.InRgRefIdeal.S4096x9360 .f32) (t : Fin 8192) (n : Fin 4096) :
    extractStridedSlice Cert.InRgRefIdeal.S8192x4096 ![0, 0] (Host.dotGeneral Cert.InRgRefIdeal.dot_S8192x4096_S4096x9360_S8192x9360_1_0_0_1_n_n none x w) Cert.InRgRefIdeal.Gen.slices_S8192x9360_S8192x4096_0_0 (ix2 t n) = ∑ k : Fin 4096, x (ix2 t k) * w (ix2 k ⟨n.val, by have := n.isLt; omega⟩) := by
  pointwise

/-- Kernel and reference leave the same product. -/
theorem algebraic : Cert.algebraic_InRgIdeal_InRgRefIdeal (hInRgIdeal := Cert.InRgIdeal.Gen.facts) (hInRgRefIdeal := Cert.InRgRefIdeal.Gen.facts) := by
  intro m g m' g' _ hargs
  refine ⟨fun c => Cert.InRgIdeal.Value.G2 m c, Cert.InRgIdeal.Value.run (F := Ideal) m g, ?_⟩
  refine (θ_run (Cert.InRgRefIdeal.defs (F := Ideal)) _ _).mono (fun r h c => ?_) (Cert.InRgRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 8192) (n : Fin 4096), j = ix2 t n := ⟨j 0, j 1, by idx_vars j⟩
  refine (ref_at _ _ t n).trans (Eq.trans ?_ (Cert.InRgIdeal.Mat.G2_at m c t n).symm)
  unfold Cert.InRgIdeal.Mat.prodOf
  rw [e0, e1]

end Cert.Proof.InRg

end
-- ==== Proof.KvValue.lean ====
/-
  The input projection's columns for the keys and values, as for the recurrent branch: the blocks of the
  weight start at its block of columns twelve.
-/
module

public import proofs.«01_k».proof.Defs
public import proofs.«01_k».proof.Proof.Whole
public import proofs.«01_k».proof.Proof.Gen.KvIdeal.Value
public import proofs.«01_k».proof.Proof.Gen.KvRefIdeal.Run

@[expose] public section

set_option maxRecDepth 16384

noncomputable section

namespace Cert.KvIdeal.Mat

open Cert.KvIdeal Cert.KvIdeal.Gen Cert.Whole Idealize.ShloMosaic Idealize.ShloMosaic.TcCoe Idealize.SL.Sem

/-- Every window's block at a grid point: row block `t mod 8`, column block `t / 8`. -/
theorem idx0 : ∀ t : Fin cfg0.N, win0_0.index t = ![t.val % 8, 0] ∧ win0_1.index t = ![t.val / 8 + 12, 0] :=
  (by decide +kernel : ∀ t : Fin grid0.N, _)

theorem pay1_eq (x : Vec Ideal S512x4096 .f32) : k0_pay1 x = x := by
  funext j
  obtain ⟨a, b, rfl⟩ : ∃ (a : Fin 512) (b : Fin 4096), j = ix2 a b := ⟨j 0, j 1, by idx_vars j⟩
  pointwise [k0_pay1]

theorem pay2_at (x : Vec Ideal S1024x4096 .bf16) (w : Vec Ideal S512x4096 .bf16) (a : Fin 1024) (b : Fin 512) :
    k0_pay2 x w (ix2 a b) = ∑ k : Fin 4096, x (ix2 a k) * w (ix2 b k) := by
  pointwise [k0_pay2]

section Point

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .f32) (harg4 : arg4.IsWhole) (arg5 : Memref sig .tc .vmem S512x4096 .bf16) (harg5 : arg5.IsWhole)
    (x0 : Vec Ideal S1024x4096 .bf16) (x1 : Vec Ideal S512x4096 .f32) (xs0 : Vec Ideal S512x4096 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

theorem sout_A (hc : cond0_0 i) : sout0_A_0 c i arg2 harg2 arg3 harg3 arg4 harg4 arg5 harg5 hc x0 x1 = x1 := by
  unfold sout0_A_0 kernelRun0_A
  dsimp only
  sl_unfold_words
  refine (read_whole VS0_0 _ _ hz2 _ _ _).trans ?_
  rw [load_whole arg3.view _ _ hz2, harg3.read_unread, pay1_eq]

theorem out_B (hc : ¬cond0_0 i) : out0_B_2 c i arg2 harg2 arg3 harg3 arg4 harg4 arg5 harg5 hc x0 x1 xs0 = k0_pay2 x0 xs0 := by
  unfold out0_B_2 kernelRun0_B
  dsimp only
  sl_unfold_words
  refine (read_whole VO0_2 _ _ hz2 _ _ _).trans ?_
  rw [load_whole arg2.view _ _ hz2, harg2.read_unread, load_whole arg5.view _ _ hz2, harg5.read_unread]

end Point

variable (m : (ℓ : Loc nD τ sig) → Buf (Elt Ideal) ℓ) (c : Dev nD)

theorem N16 (t : Fin cfg0.N) : t.val < 16 := lt_of_lt_of_eq t.isLt (show cfg0.N = 16 from N_0)

/-- The arguments as plain functions. -/
abbrev xOf : Fin 8192 → Fin 4096 → EReal := fun t k => m ((c : Thread nD τ).loc main_arg0) (ix2 t k)
abbrev wOf : Fin 4096 → Fin 1024 → EReal := fun k n => m ((c : Thread nD τ).loc main_arg1) (ix2 k ⟨6144 + n.val, by have := n.isLt; omega⟩)

theorem blk0 (t : Fin cfg0.N) (r : Fin 1024) (k : Fin 4096) :
    iblk m c 0 t (ix2 r k) = xOf m c ⟨1024 * (t.val % 8) + r.val, by have := r.isLt; omega⟩ k := by
  have hN := N16 t
  unfold xOf
  blk_ext! [iblk, V, idx0 t]

theorem blk1 (t : Fin cfg0.N) (k : Fin 4096) (e : Fin 512) :
    X0_1 m c t (ix2 e k) = wOf m c k ⟨512 * (t.val / 8) + e.val, by have := e.isLt; have := N16 t; omega⟩ := by
  have hN := N16 t
  unfold wOf X0_1 Pipeline.Window.fill
  rw [dif_pos (moved0_1 t (ix2 e k))]
  blk_ext! [iblk, V, idx0 t]

/-- The product at one row and column. -/
def prodOf (t : Fin 8192) (n : Fin 1024) : EReal := ∑ k : Fin 4096, xOf m c t k * wOf m c k n

/-- What a grid point leaves: the product of its blocks, and the weight's column block. -/
structure Left (t : Fin cfg0.N) : Prop where
  out : ∀ (r : Fin 1024) (e : Fin 512), (outsAt0 m c t.val t.isLt).1 (ix2 r e)
    = prodOf m c ⟨1024 * (t.val % 8) + r.val, by have := r.isLt; omega⟩ ⟨512 * (t.val / 8) + e.val, by have := e.isLt; have := N16 t; omega⟩
  kept : ∀ (k : Fin 4096) (e : Fin 512), (outsAt0 m c t.val t.isLt).2 (ix2 e k) = wOf m c k ⟨512 * (t.val / 8) + e.val, by have := e.isLt; have := N16 t; omega⟩

theorem left_A (t : Fin cfg0.N) (h0 : t.val % 8 = 0) : Left m c t := by
  refine ⟨fun r e => ?_, fun k e => ?_⟩
  · rw [outsAt0_A m c t h0]
    dsimp only
    rw [out_A, pay2_at]
    exact Finset.sum_congr rfl fun k _ => congrArg₂ (· * ·) (blk0 m c t r k) (blk1 m c t k e)
  · rw [outsAt0_A m c t h0]
    dsimp only
    rw [sout_A]
    exact blk1 m c t k e

theorem left_B (t : Fin cfg0.N) (h0 : ¬t.val % 8 = 0) (p : Left m c ⟨t.val - 1, Nat.lt_of_le_of_lt (Nat.sub_le _ _) t.isLt⟩) : Left m c t := by
  have hk : ∀ (k : Fin 4096) (e : Fin 512), (outsAt0 m c (t.val - 1) (Nat.lt_of_le_of_lt (Nat.sub_le _ _) t.isLt)).2 (ix2 e k)
      = wOf m c k ⟨512 * (t.val / 8) + e.val, by have := e.isLt; have := N16 t; omega⟩ := fun k e =>
    (p.kept k e).trans (congrArg (wOf m c k) (Fin.ext (by show 512 * ((t.val - 1) / 8) + e.val = 512 * (t.val / 8) + e.val; omega)))
  refine ⟨fun r e => ?_, fun k e => ?_⟩
  · rw [outsAt0_B m c t h0]
    dsimp only
    rw [out_B, pay2_at]
    exact Finset.sum_congr rfl fun k _ => congrArg₂ (· * ·) (blk0 m c t r k) (hk k e)
  · rw [outsAt0_B m c t h0]
    exact hk k e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-- The result array is the matrix product. -/
theorem G2_at (t : Fin 8192) (n : Fin 1024) : Value.G2 m c (ix2 t n) = prodOf m c t n := by
  have ht := t.isLt
  have hn := n.isLt
  have hN : cfg0.N = 16 := N_0
  have hp : Value.pt2Of (ix2 t n) = t.val / 1024 + 8 * (n.val / 512) := by
    show 1 * (t.val / 1024 - 0) + 8 * (n.val / 512 - 0) = _
    omega
  have hlt : t.val / 1024 + 8 * (n.val / 512) < cfg0.N := by omega
  have hloc : Value.loc2Of (ix2 t n) = ix2 (⟨t.val % 1024, by omega⟩ : Fin 1024) (⟨n.val % 512, by omega⟩ : Fin 512) := by
    funext a
    apply Fin.ext
    match a with
    | ⟨0, _⟩ => rfl
    | ⟨1, _⟩ => rfl
  unfold Value.G2
  rw [dif_pos (by rw [hp]; exact hlt)]
  rw [Value.fold0_congr m c (Value.pt2Of (ix2 t n)) _ (t.val / 1024 + 8 * (n.val / 512)) (by omega) hp, ← Value.outsAt0_sweep m c _ hlt]
  rw [hloc, (left m c ⟨t.val / 1024 + 8 * (n.val / 512), hlt⟩).out]
  refine congrArg₂ (prodOf m c) (Fin.ext ?_) (Fin.ext ?_)
  · show 1024 * ((t.val / 1024 + 8 * (n.val / 512)) % 8) + t.val % 1024 = t.val
    omega
  · show 512 * ((t.val / 1024 + 8 * (n.val / 512)) / 8) + n.val % 512 = n.val
    omega

end Cert.KvIdeal.Mat

namespace Cert.Proof.Kv

open Idealize.ShloMosaic Idealize.SL.Sem

/-- The reference terminates, keeps its arguments, and has no semaphore. -/
theorem frame_ref : Cert.quiescent_KvRefIdeal (hKvRefIdeal := Cert.KvRefIdeal.Gen.facts) := fun m ρ _ =>
  (θ_run Cert.KvRefIdeal.defs _ _).mono (fun r h => ⟨fun c => (h c).2, sem_eq_zero_of_no_sems (by decide) r.2⟩)
    (Cert.KvRefIdeal.Value.run (F := Ideal) m ρ)

theorem ref_at (x : FVec Ideal Cert.KvRefIdeal.S8192x4096 .f32) (w : FVec Ideal Cert.KvRefIdeal.S4096x9360 .f32) (t : Fin 8192) (n : Fin 1024) :
    extractStridedSlice Cert.KvRefIdeal.S8192x1024 ![0, 6144] (Host.dotGeneral Cert.KvRefIdeal.dot_S8192x4096_S4096x9360_S8192x9360_1_0_0_1_n_n none x w) Cert.KvRefIdeal.Gen.slices_S8192x9360_S8192x1024_0_6144 (ix2 t n) = ∑ k : Fin 4096, x (ix2 t k) * w (ix2 k ⟨6144 + n.val, by have := n.isLt; omega⟩) := by
  pointwise

/-- Kernel and reference leave the same product. -/
theorem algebraic : Cert.algebraic_KvIdeal_KvRefIdeal (hKvIdeal := Cert.KvIdeal.Gen.facts) (hKvRefIdeal := Cert.KvRefIdeal.Gen.facts) := by
  intro m g m' g' _ hargs
  refine ⟨fun c => Cert.KvIdeal.Value.G2 m c, Cert.KvIdeal.Value.run (F := Ideal) m g, ?_⟩
  refine (θ_run (Cert.KvRefIdeal.defs (F := Ideal)) _ _).mono (fun r h c => ?_) (Cert.KvRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 8192) (n : Fin 1024), j = ix2 t n := ⟨j 0, j 1, by idx_vars j⟩
  refine (ref_at _ _ t n).trans (Eq.trans ?_ (Cert.KvIdeal.Mat.G2_at m c t n).symm)
  unfold Cert.KvIdeal.Mat.prodOf
  rw [e0, e1]

end Cert.Proof.Kv

end
-- ==== Proof.KvSValue.lean ====
/-
  The samples' keys and values: the input projection's columns for them. The rows are one block, so every
  grid point casts its block of columns of the weight and multiplies all the rows by it.
-/
module

public import proofs.«01_k».proof.Defs
public import proofs.«01_k».proof.Proof.Whole
public import proofs.«01_k».proof.Proof.Gen.KvSIdeal.Value
public import proofs.«01_k».proof.Proof.Gen.KvSRefIdeal.Run

@[expose] public section

set_option maxRecDepth 16384

noncomputable section

namespace Cert.KvSIdeal.Mat

open Cert.KvSIdeal Cert.KvSIdeal.Gen Cert.Whole Idealize.ShloMosaic Idealize.ShloMosaic.TcCoe Idealize.SL.Sem

/-- Every window's block at a grid point: all rows, and column block `t`. -/
theorem idx : ∀ t : Fin cfg0.N, win0_0.index t = ![0, 0] ∧ win0_1.index t = ![t.val + 12, 0] ∧ win0_2.index t = ![0, t.val] ∧ win0_2.flush t = true :=
  (by decide +kernel : ∀ t : Fin grid0.N, _)

theorem pay1_eq (x : Vec Ideal S512x4096 .f32) : k0_pay1 x = x := by
  funext j
  obtain ⟨a, b, rfl⟩ : ∃ (a : Fin 512) (b : Fin 4096), j = ix2 a b := ⟨j 0, j 1, by idx_vars j⟩
  pointwise [k0_pay1]

theorem pay2_at (x : Vec Ideal S1024x4096 .bf16) (w : Vec Ideal S512x4096 .bf16) (a : Fin 1024) (b : Fin 512) :
    k0_pay2 x w (ix2 a b) = ∑ k : Fin 4096, x (ix2 a k) * w (ix2 b k) := by
  pointwise [k0_pay2]

section Point

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .f32) (harg4 : arg4.IsWhole) (arg5 : Memref sig .tc .vmem S512x4096 .bf16) (harg5 : arg5.IsWhole)
    (x0 : Vec Ideal S1024x4096 .bf16) (x1 : Vec Ideal S512x4096 .f32) (xs0 : Vec Ideal S512x4096 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

end Point

variable (m : (ℓ : Loc nD τ sig) → Buf (Elt Ideal) ℓ) (c : Dev nD)

theorem Nlt (t : Fin cfg0.N) : t.val < 2 := lt_of_lt_of_eq t.isLt (show cfg0.N = 2 from N_0)

/-- The arguments as plain functions. -/
abbrev xOf : Fin 1024 → Fin 4096 → EReal := fun t k => m ((c : Thread nD τ).loc main_arg0) (ix2 t k)
abbrev wOf : Fin 4096 → Fin 1024 → EReal := fun k n => m ((c : Thread nD τ).loc main_arg1) (ix2 k ⟨6144 + n.val, by have := n.isLt; omega⟩)

theorem blk0 (t : Fin cfg0.N) (r : Fin 1024) (k : Fin 4096) : iblk m c 0 t (ix2 r k) = xOf m c r k := by
  unfold xOf
  blk_ext! [iblk, V, idx t]

theorem blk1 (t : Fin cfg0.N) (k : Fin 4096) (e : Fin 512) :
    X0_1 m c t (ix2 e k) = wOf m c k ⟨512 * t.val + e.val, by have := e.isLt; have := Nlt t; omega⟩ := by
  have hN := Nlt t
  unfold wOf X0_1 Pipeline.Window.fill
  rw [dif_pos (moved0_1 t (ix2 e k))]
  blk_ext! [iblk, V, idx t]

/-- The product at one row and column. -/
def prodOf (t : Fin 1024) (n : Fin 1024) : EReal := ∑ k : Fin 4096, xOf m c t k * wOf m c k n

/-- The result array. -/
def res : S1024x1024.Idx → EReal := fun j => prodOf m c (j 0) (j 1)

theorem point_at (t : Fin cfg0.N) (r : Fin 1024) (e : Fin 512) :
    outsAt0 m c t (ix2 r e) = prodOf m c r ⟨512 * t.val + e.val, by have := e.isLt; have := Nlt t; omega⟩ := by
  unfold outsAt0
  rw [out_A, pay2_at]
  exact Finset.sum_congr rfl fun k _ => congrArg₂ (· * ·) (blk0 m c t r k) (blk1 m c t k e)

theorem mem_blk (t : Fin cfg0.N) (i : S1024x1024.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Each point writes its block of the result array. -/
theorem flushed_eq (t : Fin cfg0.N) : (dats m 0 c).flushed 2 t = ((cfg0.win 2).blk t).view.read (Elt Ideal) (res m c) := by
  rw [Value.flushed2]
  funext y
  obtain ⟨r, e, rfl⟩ : ∃ (r : Fin 1024) (e : Fin 512), y = ix2 r e := ⟨y 0, y 1, by idx_vars y⟩
  have h0 : win0_2.index t (0 : Fin 2) = 0 := congrFun (idx t).2.2.1 0
  have h1 : win0_2.index t (1 : Fin 2) = t.val := congrFun (idx t).2.2.1 1
  refine (point_at m c t r e).trans ?_
  refine congrArg₂ (prodOf m c) (Fin.ext ?_) (Fin.ext ?_)
  · show r.val = win0_2.index t (0 : Fin 2) * 1024 + 1 * r.val
    omega
  · show 512 * t.val + e.val = win0_2.index t (1 : Fin 2) * 512 + 1 * e.val
    omega

/-- The result array is the matrix product. -/
theorem final_eq : (dats m 0 c).arrAt 2 cfg0.N = res m c := by
  refine (dats m 0 c).arrAt_eq_of_cover 2 _ (fun t _ => flushed_eq m c t) fun i => ?_
  have h0 : (i 0).val < 1024 := (i 0).isLt
  have h1 : (i 1).val < 1024 := (i 1).isLt
  have hN : cfg0.N = 2 := N_0
  have ht : (i 1).val / 512 < cfg0.N := by omega
  have e0 : win0_2.index ⟨(i 1).val / 512, ht⟩ (0 : Fin 2) = 0 := congrFun (idx ⟨(i 1).val / 512, ht⟩).2.2.1 0
  have e1 : win0_2.index ⟨(i 1).val / 512, ht⟩ (1 : Fin 2) = (i 1).val / 512 := congrFun (idx ⟨(i 1).val / 512, ht⟩).2.2.1 1
  refine ⟨⟨(i 1).val / 512, ht⟩, (idx _).2.2.2, (mem_blk _ i).mpr fun a => ?_⟩
  match a with
  | ⟨0, _⟩ => show win0_2.index _ (0 : Fin 2) * 1024 ≤ (i 0).val ∧ (i 0).val < win0_2.index _ (0 : Fin 2) * 1024 + 1024; rw [e0]; omega
  | ⟨1, _⟩ => show win0_2.index _ (1 : Fin 2) * 512 ≤ (i 1).val ∧ (i 1).val < win0_2.index _ (1 : Fin 2) * 512 + 512; rw [e1]; omega

end Cert.KvSIdeal.Mat

namespace Cert.Proof.KvS

open Idealize.ShloMosaic Idealize.SL.Sem

/-- The reference terminates, keeps its arguments, and has no semaphore. -/
theorem frame_ref : Cert.quiescent_KvSRefIdeal (hKvSRefIdeal := Cert.KvSRefIdeal.Gen.facts) := fun m ρ _ =>
  (θ_run Cert.KvSRefIdeal.defs _ _).mono (fun r h => ⟨fun c => (h c).2, sem_eq_zero_of_no_sems (by decide) r.2⟩)
    (Cert.KvSRefIdeal.Value.run (F := Ideal) m ρ)

theorem ref_at (x : FVec Ideal Cert.KvSRefIdeal.S1024x4096 .f32) (w : FVec Ideal Cert.KvSRefIdeal.S4096x9360 .f32) (t : Fin 1024) (n : Fin 1024) :
    extractStridedSlice Cert.KvSRefIdeal.S1024x1024 ![0, 6144] (Host.dotGeneral Cert.KvSRefIdeal.dot_S1024x4096_S4096x9360_S1024x9360_1_0_0_1_n_n none x w) Cert.KvSRefIdeal.Gen.slices_S1024x9360_S1024x1024_0_6144 (ix2 t n) = ∑ k : Fin 4096, x (ix2 t k) * w (ix2 k ⟨6144 + n.val, by have := n.isLt; omega⟩) := by
  pointwise

/-- Kernel and reference leave the same product. -/
theorem algebraic : Cert.algebraic_KvSIdeal_KvSRefIdeal (hKvSIdeal := Cert.KvSIdeal.Gen.facts) (hKvSRefIdeal := Cert.KvSRefIdeal.Gen.facts) := by
  intro m g m' g' _ hargs
  refine ⟨fun c => Cert.KvSIdeal.Mat.res m c, (θ_run _ _ _).mono (fun r h c => ⟨(h c).1.trans (Cert.KvSIdeal.Mat.final_eq m c), (h c).2⟩) (Cert.KvSIdeal.Value.run_blocks (F := Ideal) m g), ?_⟩
  refine (θ_run (Cert.KvSRefIdeal.defs (F := Ideal)) _ _).mono (fun r h c => ?_) (Cert.KvSRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 1024) (n : Fin 1024), j = ix2 t n := ⟨j 0, j 1, by idx_vars j⟩
  refine (ref_at _ _ t n).trans ?_
  show _ = Cert.KvSIdeal.Mat.prodOf m c t n
  unfold Cert.KvSIdeal.Mat.prodOf
  rw [e0, e1]

end Cert.Proof.KvS

end
-- ==== Proof.InRgSValue.lean ====
/-
  The samples' input projection for the recurrent branch. The rows are one block, so every grid point casts
  its block of columns of the weight and multiplies all the rows by it.
-/
module

public import proofs.«01_k».proof.Defs
public import proofs.«01_k».proof.Proof.Whole
public import proofs.«01_k».proof.Proof.Gen.InRgSIdeal.Value
public import proofs.«01_k».proof.Proof.Gen.InRgSRefIdeal.Run

@[expose] public section

set_option maxRecDepth 16384

noncomputable section

namespace Cert.InRgSIdeal.Mat

open Cert.InRgSIdeal Cert.InRgSIdeal.Gen Cert.Whole Idealize.ShloMosaic Idealize.ShloMosaic.TcCoe Idealize.SL.Sem

/-- Every window's block at a grid point: all rows, and column block `t`. -/
theorem idx : ∀ t : Fin cfg0.N, win0_0.index t = ![0, 0] ∧ win0_1.index t = ![t.val, 0] ∧ win0_2.index t = ![0, t.val] ∧ win0_2.flush t = true :=
  (by decide +kernel : ∀ t : Fin grid0.N, _)

theorem pay1_eq (x : Vec Ideal S512x4096 .f32) : k0_pay1 x = x := by
  funext j
  obtain ⟨a, b, rfl⟩ : ∃ (a : Fin 512) (b : Fin 4096), j = ix2 a b := ⟨j 0, j 1, by idx_vars j⟩
  pointwise [k0_pay1]

theorem pay2_at (x : Vec Ideal S1024x4096 .bf16) (w : Vec Ideal S512x4096 .bf16) (a : Fin 1024) (b : Fin 512) :
    k0_pay2 x w (ix2 a b) = ∑ k : Fin 4096, x (ix2 a k) * w (ix2 b k) := by
  pointwise [k0_pay2]

section Point

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .f32) (harg4 : arg4.IsWhole) (arg5 : Memref sig .tc .vmem S512x4096 .bf16) (harg5 : arg5.IsWhole)
    (x0 : Vec Ideal S1024x4096 .bf16) (x1 : Vec Ideal S512x4096 .f32) (xs0 : Vec Ideal S512x4096 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

end Point

variable (m : (ℓ : Loc nD τ sig) → Buf (Elt Ideal) ℓ) (c : Dev nD)

theorem Nlt (t : Fin cfg0.N) : t.val < 8 := lt_of_lt_of_eq t.isLt (show cfg0.N = 8 from N_0)

/-- The arguments as plain functions. -/
abbrev xOf : Fin 1024 → Fin 4096 → EReal := fun t k => m ((c : Thread nD τ).loc main_arg0) (ix2 t k)
abbrev wOf : Fin 4096 → Fin 4096 → EReal := fun k n => m ((c : Thread nD τ).loc main_arg1) (ix2 k ⟨n.val, by have := n.isLt; omega⟩)

theorem blk0 (t : Fin cfg0.N) (r : Fin 1024) (k : Fin 4096) : iblk m c 0 t (ix2 r k) = xOf m c r k := by
  unfold xOf
  blk_ext! [iblk, V, idx t]

theorem blk1 (t : Fin cfg0.N) (k : Fin 4096) (e : Fin 512) :
    X0_1 m c t (ix2 e k) = wOf m c k ⟨512 * t.val + e.val, by have := e.isLt; have := Nlt t; omega⟩ := by
  have hN := Nlt t
  unfold wOf X0_1 Pipeline.Window.fill
  rw [dif_pos (moved0_1 t (ix2 e k))]
  blk_ext! [iblk, V, idx t]

/-- The product at one row and column. -/
def prodOf (t : Fin 1024) (n : Fin 4096) : EReal := ∑ k : Fin 4096, xOf m c t k * wOf m c k n

/-- The result array. -/
def res : S1024x4096.Idx → EReal := fun j => prodOf m c (j 0) (j 1)

theorem point_at (t : Fin cfg0.N) (r : Fin 1024) (e : Fin 512) :
    outsAt0 m c t (ix2 r e) = prodOf m c r ⟨512 * t.val + e.val, by have := e.isLt; have := Nlt t; omega⟩ := by
  unfold outsAt0
  rw [out_A, pay2_at]
  exact Finset.sum_congr rfl fun k _ => congrArg₂ (· * ·) (blk0 m c t r k) (blk1 m c t k e)

theorem mem_blk (t : Fin cfg0.N) (i : S1024x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v2).slice (win0_2.rect t)).set ↔ _
  rw [View.set_slice_whole, Rect.mem_set_unit]
  exact Iff.rfl

/-- Each point writes its block of the result array. -/
theorem flushed_eq (t : Fin cfg0.N) : (dats m 0 c).flushed 2 t = ((cfg0.win 2).blk t).view.read (Elt Ideal) (res m c) := by
  rw [Value.flushed2]
  funext y
  obtain ⟨r, e, rfl⟩ : ∃ (r : Fin 1024) (e : Fin 512), y = ix2 r e := ⟨y 0, y 1, by idx_vars y⟩
  have h0 : win0_2.index t (0 : Fin 2) = 0 := congrFun (idx t).2.2.1 0
  have h1 : win0_2.index t (1 : Fin 2) = t.val := congrFun (idx t).2.2.1 1
  refine (point_at m c t r e).trans ?_
  refine congrArg₂ (prodOf m c) (Fin.ext ?_) (Fin.ext ?_)
  · show r.val = win0_2.index t (0 : Fin 2) * 1024 + 1 * r.val
    omega
  · show 512 * t.val + e.val = win0_2.index t (1 : Fin 2) * 512 + 1 * e.val
    omega

/-- The result array is the matrix product. -/
theorem final_eq : (dats m 0 c).arrAt 2 cfg0.N = res m c := by
  refine (dats m 0 c).arrAt_eq_of_cover 2 _ (fun t _ => flushed_eq m c t) fun i => ?_
  have h0 : (i 0).val < 1024 := (i 0).isLt
  have h1 : (i 1).val < 4096 := (i 1).isLt
  have hN : cfg0.N = 8 := N_0
  have ht : (i 1).val / 512 < cfg0.N := by omega
  have e0 : win0_2.index ⟨(i 1).val / 512, ht⟩ (0 : Fin 2) = 0 := congrFun (idx ⟨(i 1).val / 512, ht⟩).2.2.1 0
  have e1 : win0_2.index ⟨(i 1).val / 512, ht⟩ (1 : Fin 2) = (i 1).val / 512 := congrFun (idx ⟨(i 1).val / 512, ht⟩).2.2.1 1
  refine ⟨⟨(i 1).val / 512, ht⟩, (idx _).2.2.2, (mem_blk _ i).mpr fun a => ?_⟩
  match a with
  | ⟨0, _⟩ => show win0_2.index _ (0 : Fin 2) * 1024 ≤ (i 0).val ∧ (i 0).val < win0_2.index _ (0 : Fin 2) * 1024 + 1024; rw [e0]; omega
  | ⟨1, _⟩ => show win0_2.index _ (1 : Fin 2) * 512 ≤ (i 1).val ∧ (i 1).val < win0_2.index _ (1 : Fin 2) * 512 + 512; rw [e1]; omega

end Cert.InRgSIdeal.Mat

namespace Cert.Proof.InRgS

open Idealize.ShloMosaic Idealize.SL.Sem

/-- The reference terminates, keeps its arguments, and has no semaphore. -/
theorem frame_ref : Cert.quiescent_InRgSRefIdeal (hInRgSRefIdeal := Cert.InRgSRefIdeal.Gen.facts) := fun m ρ _ =>
  (θ_run Cert.InRgSRefIdeal.defs _ _).mono (fun r h => ⟨fun c => (h c).2, sem_eq_zero_of_no_sems (by decide) r.2⟩)
    (Cert.InRgSRefIdeal.Value.run (F := Ideal) m ρ)

theorem ref_at (x : FVec Ideal Cert.InRgSRefIdeal.S1024x4096 .f32) (w : FVec Ideal Cert.InRgSRefIdeal.S4096x9360 .f32) (t : Fin 1024) (n : Fin 4096) :
    extractStridedSlice Cert.InRgSRefIdeal.S1024x4096 ![0, 0] (Host.dotGeneral Cert.InRgSRefIdeal.dot_S1024x4096_S4096x9360_S1024x9360_1_0_0_1_n_n none x w) Cert.InRgSRefIdeal.Gen.slices_S1024x9360_S1024x4096_0_0 (ix2 t n) = ∑ k : Fin 4096, x (ix2 t k) * w (ix2 k ⟨n.val, by have := n.isLt; omega⟩) := by
  pointwise

/-- Kernel and reference leave the same product. -/
theorem algebraic : Cert.algebraic_InRgSIdeal_InRgSRefIdeal (hInRgSIdeal := Cert.InRgSIdeal.Gen.facts) (hInRgSRefIdeal := Cert.InRgSRefIdeal.Gen.facts) := by
  intro m g m' g' _ hargs
  refine ⟨fun c => Cert.InRgSIdeal.Mat.res m c, (θ_run _ _ _).mono (fun r h c => ⟨(h c).1.trans (Cert.InRgSIdeal.Mat.final_eq m c), (h c).2⟩) (Cert.InRgSIdeal.Value.run_blocks (F := Ideal) m g), ?_⟩
  refine (θ_run (Cert.InRgSRefIdeal.defs (F := Ideal)) _ _).mono (fun r h c => ?_) (Cert.InRgSRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 1024) (n : Fin 4096), j = ix2 t n := ⟨j 0, j 1, by idx_vars j⟩
  refine (ref_at _ _ t n).trans ?_
  show _ = Cert.InRgSIdeal.Mat.prodOf m c t n
  unfold Cert.InRgSIdeal.Mat.prodOf
  rw [e0, e1]

end Cert.Proof.InRgS

end
-- ==== Proof.QiValue.lean ====
/-
  The input projection's columns for the indexer's queries, as for the recurrent branch: the blocks of the
  weight start at its block of columns fourteen, and the result is cast.
-/
module

public import proofs.«01_k».proof.Defs
public import proofs.«01_k».proof.Proof.Whole
public import proofs.«01_k».proof.Proof.Gen.QiIdeal.Value
public import proofs.«01_k».proof.Proof.Gen.QiRefIdeal.Run

@[expose] public section

set_option maxRecDepth 16384

noncomputable section

namespace Cert.QiIdeal.Mat

open Cert.QiIdeal Cert.QiIdeal.Gen Cert.Whole Idealize.ShloMosaic Idealize.ShloMosaic.TcCoe Idealize.SL.Sem

/-- Every window's block at a grid point: row block `t mod 8`, column block `t / 8`. -/
theorem idx0 : ∀ t : Fin cfg0.N, win0_0.index t = ![t.val % 8, 0] ∧ win0_1.index t = ![t.val / 8 + 14, 0] :=
  (by decide +kernel : ∀ t : Fin grid0.N, _)

theorem pay1_eq (x : Vec Ideal S512x4096 .f32) : k0_pay1 x = x := by
  funext j
  obtain ⟨a, b, rfl⟩ : ∃ (a : Fin 512) (b : Fin 4096), j = ix2 a b := ⟨j 0, j 1, by idx_vars j⟩
  pointwise [k0_pay1]

theorem pay2_at (x : Vec Ideal S1024x4096 .bf16) (w : Vec Ideal S512x4096 .bf16) (a : Fin 1024) (b : Fin 512) :
    k0_pay2 x w (ix2 a b) = ∑ k : Fin 4096, x (ix2 a k) * w (ix2 b k) := by
  pointwise [k0_pay2]

section Point

variable (c : Dev nD) (i : grid0.Coords) (arg2 : Memref sig .tc .vmem S1024x4096 .bf16) (harg2 : arg2.IsWhole) (arg3 : Memref sig .tc .vmem S512x4096 .f32) (harg3 : arg3.IsWhole) (arg4 : Memref sig .tc .vmem S1024x512 .bf16) (harg4 : arg4.IsWhole) (arg5 : Memref sig .tc .vmem S512x4096 .bf16) (harg5 : arg5.IsWhole)
    (x0 : Vec Ideal S1024x4096 .bf16) (x1 : Vec Ideal S512x4096 .f32) (xs0 : Vec Ideal S512x4096 .bf16)

theorem out_A (hc : cond0_0 i) : out0_A_2 c i arg2 harg2 arg3 harg3 arg4 harg4 arg5 harg5 hc x0 x1 = k0_pay2 x0 x1 := by
  unfold out0_A_2 kernelRun0_A
  dsimp only
  sl_unfold_words
  refine (read_whole VO0_2 _ _ hz2 _ _ _).trans ?_
  unfold View.readCov
  rw [load_whole arg2.view _ _ hz2, harg2.read_unread, load_whole arg3.view _ _ hz2, harg3.read_unread, load_whole arg5.view _ _ hz2, read_whole _ _ _ hz2, pay1_eq]

theorem sout_A (hc : cond0_0 i) : sout0_A_0 c i arg2 harg2 arg3 harg3 arg4 harg4 arg5 harg5 hc x0 x1 = x1 := by
  unfold sout0_A_0 kernelRun0_A
  dsimp only
  sl_unfold_words
  refine (read_whole VS0_0 _ _ hz2 _ _ _).trans ?_
  rw [load_whole arg3.view _ _ hz2, harg3.read_unread, pay1_eq]

theorem out_B (hc : ¬cond0_0 i) : out0_B_2 c i arg2 harg2 arg3 harg3 arg4 harg4 arg5 harg5 hc x0 x1 xs0 = k0_pay2 x0 xs0 := by
  unfold out0_B_2 kernelRun0_B
  dsimp only
  sl_unfold_words
  refine (read_whole VO0_2 _ _ hz2 _ _ _).trans ?_
  rw [load_whole arg2.view _ _ hz2, harg2.read_unread, load_whole arg5.view _ _ hz2, harg5.read_unread]

end Point

variable (m : (ℓ : Loc nD τ sig) → Buf (Elt Ideal) ℓ) (c : Dev nD)

theorem N32 (t : Fin cfg0.N) : t.val < 32 := lt_of_lt_of_eq t.isLt (show cfg0.N = 32 from N_0)

/-- The arguments as plain functions. -/
abbrev xOf : Fin 8192 → Fin 4096 → EReal := fun t k => m ((c : Thread nD τ).loc main_arg0) (ix2 t k)
abbrev wOf : Fin 4096 → Fin 2048 → EReal := fun k n => m ((c : Thread nD τ).loc main_arg1) (ix2 k ⟨7168 + n.val, by have := n.isLt; omega⟩)

theorem blk0 (t : Fin cfg0.N) (r : Fin 1024) (k : Fin 4096) :
    iblk m c 0 t (ix2 r k) = xOf m c ⟨1024 * (t.val % 8) + r.val, by have := r.isLt; omega⟩ k := by
  have hN := N32 t
  unfold xOf
  blk_ext! [iblk, V, idx0 t]

theorem blk1 (t : Fin cfg0.N) (k : Fin 4096) (e : Fin 512) :
    X0_1 m c t (ix2 e k) = wOf m c k ⟨512 * (t.val / 8) + e.val, by have := e.isLt; have := N32 t; omega⟩ := by
  have hN := N32 t
  unfold wOf X0_1 Pipeline.Window.fill
  rw [dif_pos (moved0_1 t (ix2 e k))]
  blk_ext! [iblk, V, idx0 t]

/-- The product at one row and column. -/
def prodOf (t : Fin 8192) (n : Fin 2048) : EReal := ∑ k : Fin 4096, xOf m c t k * wOf m c k n

/-- What a grid point leaves: the product of its blocks, and the weight's column block. -/
structure Left (t : Fin cfg0.N) : Prop where
  out : ∀ (r : Fin 1024) (e : Fin 512), (outsAt0 m c t.val t.isLt).1 (ix2 r e)
    = prodOf m c ⟨1024 * (t.val % 8) + r.val, by have := r.isLt; omega⟩ ⟨512 * (t.val / 8) + e.val, by have := e.isLt; have := N32 t; omega⟩
  kept : ∀ (k : Fin 4096) (e : Fin 512), (outsAt0 m c t.val t.isLt).2 (ix2 e k) = wOf m c k ⟨512 * (t.val / 8) + e.val, by have := e.isLt; have := N32 t; omega⟩

theorem left_A (t : Fin cfg0.N) (h0 : t.val % 8 = 0) : Left m c t := by
  refine ⟨fun r e => ?_, fun k e => ?_⟩
  · rw [outsAt0_A m c t h0]
    dsimp only
    rw [out_A, pay2_at]
    exact Finset.sum_congr rfl fun k _ => congrArg₂ (· * ·) (blk0 m c t r k) (blk1 m c t k e)
  · rw [outsAt0_A m c t h0]
    dsimp only
    rw [sout_A]
    exact blk1 m c t k e

theorem left_B (t : Fin cfg0.N) (h0 : ¬t.val % 8 = 0) (p : Left m c ⟨t.val - 1, Nat.lt_of_le_of_lt (Nat.sub_le _ _) t.isLt⟩) : Left m c t := by
  have hk : ∀ (k : Fin 4096) (e : Fin 512), (outsAt0 m c (t.val - 1) (Nat.lt_of_le_of_lt (Nat.sub_le _ _) t.isLt)).2 (ix2 e k)
      = wOf m c k ⟨512 * (t.val / 8) + e.val, by have := e.isLt; have := N32 t; omega⟩ := fun k e =>
    (p.kept k e).trans (congrArg (wOf m c k) (Fin.ext (by show 512 * ((t.val - 1) / 8) + e.val = 512 * (t.val / 8) + e.val; omega)))
  refine ⟨fun r e => ?_, fun k e => ?_⟩
  · rw [outsAt0_B m c t h0]
    dsimp only
    rw [out_B, pay2_at]
    exact Finset.sum_congr rfl fun k _ => congrArg₂ (· * ·) (blk0 m c t r k) (hk k e)
  · rw [outsAt0_B m c t h0]
    exact hk k e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-- The result array is the matrix product. -/
theorem G2_at (t : Fin 8192) (n : Fin 2048) : Value.G2 m c (ix2 t n) = prodOf m c t n := by
  have ht := t.isLt
  have hn := n.isLt
  have hN : cfg0.N = 32 := N_0
  have hp : Value.pt2Of (ix2 t n) = t.val / 1024 + 8 * (n.val / 512) := by
    show 1 * (t.val / 1024 - 0) + 8 * (n.val / 512 - 0) = _
    omega
  have hlt : t.val / 1024 + 8 * (n.val / 512) < cfg0.N := by omega
  have hloc : Value.loc2Of (ix2 t n) = ix2 (⟨t.val % 1024, by omega⟩ : Fin 1024) (⟨n.val % 512, by omega⟩ : Fin 512) := by
    funext a
    apply Fin.ext
    match a with
    | ⟨0, _⟩ => rfl
    | ⟨1, _⟩ => rfl
  unfold Value.G2
  rw [dif_pos (by rw [hp]; exact hlt)]
  rw [Value.fold0_congr m c (Value.pt2Of (ix2 t n)) _ (t.val / 1024 + 8 * (n.val / 512)) (by omega) hp, ← Value.outsAt0_sweep m c _ hlt]
  rw [hloc, (left m c ⟨t.val / 1024 + 8 * (n.val / 512), hlt⟩).out]
  refine congrArg₂ (prodOf m c) (Fin.ext ?_) (Fin.ext ?_)
  · show 1024 * ((t.val / 1024 + 8 * (n.val / 512)) % 8) + t.val % 1024 = t.val
    omega
  · show 512 * ((t.val / 1024 + 8 * (n.val / 512)) / 8) + n.val % 512 = n.val
    omega

end Cert.QiIdeal.Mat

namespace Cert.Proof.Qi

open Idealize.ShloMosaic Idealize.SL.Sem

/-- The reference terminates, keeps its arguments, and has no semaphore. -/
theorem frame_ref : Cert.quiescent_QiRefIdeal (hQiRefIdeal := Cert.QiRefIdeal.Gen.facts) := fun m ρ _ =>
  (θ_run Cert.QiRefIdeal.defs _ _).mono (fun r h => ⟨fun c => (h c).2, sem_eq_zero_of_no_sems (by decide) r.2⟩)
    (Cert.QiRefIdeal.Value.run (F := Ideal) m ρ)

theorem ref_at (x : FVec Ideal Cert.QiRefIdeal.S8192x4096 .f32) (w : FVec Ideal Cert.QiRefIdeal.S4096x9360 .f32) (t : Fin 8192) (n : Fin 2048) :
    extractStridedSlice Cert.QiRefIdeal.S8192x2048 ![0, 7168] (Host.dotGeneral Cert.QiRefIdeal.dot_S8192x4096_S4096x9360_S8192x9360_1_0_0_1_n_n none x w) Cert.QiRefIdeal.Gen.slices_S8192x9360_S8192x2048_0_7168 (ix2 t n) = ∑ k : Fin 4096, x (ix2 t k) * w (ix2 k ⟨7168 + n.val, by have := n.isLt; omega⟩) := by
  pointwise

/-- Kernel and reference leave the same product. -/
theorem algebraic : Cert.algebraic_QiIdeal_QiRefIdeal (hQiIdeal := Cert.QiIdeal.Gen.facts) (hQiRefIdeal := Cert.QiRefIdeal.Gen.facts) := by
  intro m g m' g' _ hargs
  refine ⟨fun c => Cert.QiIdeal.Value.G2 m c, Cert.QiIdeal.Value.run (F := Ideal) m g, ?_⟩
  refine (θ_run (Cert.QiRefIdeal.defs (F := Ideal)) _ _).mono (fun r h c => ?_) (Cert.QiRefIdeal.Value.run (F := Ideal) m' g')
  obtain ⟨hy, hrest⟩ := h c
  obtain ⟨e0, e1⟩ := hargs c
  refine ⟨hy.trans ?_, hrest⟩
  funext j
  obtain ⟨t, n, rfl⟩ : ∃ (t : Fin 8192) (n : Fin 2048), j = ix2 t n := ⟨j 0, j 1, by idx_vars j⟩
  refine (ref_at _ _ t n).trans (Eq.trans ?_ (Cert.QiIdeal.Mat.G2_at m c t n).symm)
  unfold Cert.QiIdeal.Mat.prodOf
  rw [e0, e1]

end Cert.Proof.Qi

end
-- ==== Proof.Norm.lean ====
/-
  The layer's norms over the extended reals, as plain functions of one row.
-/
module

public import proofs.«01_k».proof.Proof.Whole

@[expose] public section

noncomputable section

namespace Cert.Norm

open Idealize.ShloMosaic

/-- One, the numbers of the layer's width, of half of it and of a head's width, and the norms' epsilon. -/
abbrev one : EReal := Ideal.ofBits FTy.f32 0x3F800000#32
abbrev width : EReal := Ideal.ofBits FTy.f32 0x45800000#32
abbrev half : EReal := Ideal.ofBits FTy.f32 0x45000000#32
abbrev head : EReal := Ideal.ofBits FTy.f32 0x43000000#32
abbrev eps : EReal := Ideal.ofBits FTy.f32 0x358637BD#32

/-- The root mean square norm of a row of `c` numbers with gain `g`, at one place. -/
def rms {n : ℕ} (c : EReal) (x : Fin n → EReal) (g : EReal) (e : Fin n) : EReal :=
  x e * Ideal.rsqrt (Ideal.div (∑ k, x k * x k) c + eps) * g

/-- A row's mean. -/
def mean {n : ℕ} (c : EReal) (x : Fin n → EReal) : EReal := Ideal.div (∑ k, x k) c

/-- The layer norm of a row of `c` numbers with gain `g` and offset `b`, at one place. -/
def layer {n : ℕ} (c : EReal) (x : Fin n → EReal) (g b : EReal) (e : Fin n) : EReal :=
  (x e - mean c x) * Ideal.rsqrt (mean c (fun k => (x k - mean c x) * (x k - mean c x)) + eps) * g + b

end Cert.Norm

end
-- ==== Proof.IdxKeyValue.lean ====
/-
  The indexer's keys: the normed input times the weight's columns of the keys, and the layer norm of the product.
  Beside them the heads' weights, the product's last columns times a factor.
-/
module

public import proofs.«01_k».proof.Defs
public import proofs.«01_k».proof.Proof.Norm
public import proofs.«01_k».proof.Proof.Gen.IdxKeyIdeal.Value
public import proofs.«01_k».proof.Proof.Gen.IdxKeyRefIdeal.Run

@[expose] public section

set_option maxRecDepth 16384

noncomputable section

namespace Cert.IdxKeyIdeal.Mat

open Cert.IdxKeyIdeal Cert.IdxKeyIdeal.Gen Cert.Whole Idealize.ShloMosaic Idealize.ShloMosaic.TcCoe Idealize.SL.Sem

/-- The second output's blocks: row block `t`. -/
theorem idx5 : ∀ t : Fin cfg0.N, win0_5.index t = ![t.val, 0] ∧ win0_5.flush t = true :=
  (by decide +kernel : ∀ t : Fin grid0.N, _)

/-- Every window's block at a grid point: row block `t`, or the whole array. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_4.flush t = true :=
  (by decide +kernel : ∀ t : Fin grid0.N, _)

theorem out_eq (x0 : Vec Ideal S512x4096 .bf16) (x1 : Vec Ideal S4096x256 .bf16) (x2 x3 : Vec Ideal S1x128 .f32) :
    out0_4 x0 x1 x2 x3 = k0_pay2 x0 x1 x2 x3 := by
  unfold out0_4
  rw [View.canon_unit_zero hz2, View.ld_unit_zero hz2, View.ld_unit_zero hz2, View.ld_unit_zero hz2, View.ld_unit_zero hz2]

theorem out5_eq (x0 : Vec Ideal S512x4096 .bf16) (x1 : Vec Ideal S4096x256 .bf16) (x2 x3 : Vec Ideal S1x128 .f32) :
    out0_5 x0 x1 x2 x3 = k0_pay3 x0 x1 := by
  unfold out0_5
  rw [View.canon_unit_zero hz2, View.ld_unit_zero hz2, View.ld_unit_zero hz2]

theorem pay1_at (x : Vec Ideal S512x4096 .bf16) (w : Vec Ideal S4096x256 .bf16) (r : Fin 512) (e : Fin 256) :
    k0_pay1 x w (ix2 r e) = ∑ k : Fin 4096, x (ix2 r k) * w (ix2 k e) := by
  pointwise [k0_pay1]

/-- The product's first columns, those of the keys. -/
abbrev keys (x : Vec Ideal S512x4096 .bf16) (w : Vec Ideal S4096x256 .bf16) : FVec Ideal S512x128 .f32 :=
  extractStridedSlice S512x128 ![0, 0] (k0_pay1 x w) slices_S512x256_o0_0_S512x128

theorem keys_at (x : Vec Ideal S512x4096 .bf16) (w : Vec Ideal S4096x256 .bf16) (r : Fin 512) (e : Fin 128) :
    keys x w (ix2 r e) = ∑ k : Fin 4096, x (ix2 r k) * w (ix2 k ⟨e.val, by have := e.isLt; omega⟩) := by
  refine Eq.trans ?_ (pay1_at x w r _)
  pointwise

/-- The factor of the heads' weights. -/
abbrev factor : EReal := Ideal.ofBits FTy.f32 0x3CB504F3#32

theorem heads_at (x : Vec Ideal S512x4096 .bf16) (w : Vec Ideal S4096x256 .bf16) (r : Fin 512) (e : Fin 128) :
    k0_pay3 x w (ix2 r e) = (∑ k : Fin 4096, x (ix2 r k) * w (ix2 k ⟨128 + e.val, by have := e.isLt; omega⟩)) * factor := by
  refine Eq.trans ?_ (congrArg (· * factor) (pay1_at x w r _))
  unfold k0_pay3
  pointwise

theorem norm_at (z : FVec Ideal S512x128 .f32) (g b : Vec Ideal S1x128 .f32) (r : Fin 512) (e : Fin 128) :
    addf (mulf (mulf (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128)) (broadcastTo S512x128 (rsqrt (addf (divf (shapeCast S512x1 (multiReduction .add [1] S512 (mulf (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128)) (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128))) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 g broadcasts_S1x128_S512x128)) (broadcastTo S512x128 b broadcasts_S1x128_S512x128) (ix2 r e)
      = Norm.layer Norm.head (fun k => z (ix2 r k)) (g (ix2 0 e)) (b (ix2 0 e)) e := by
  unfold Norm.layer Norm.mean
  pointwise

theorem same (g : Vec Ideal S1x128 .f32) : shapeCast S1x128 g shapeCasts_S1x128_S1x128 = g := by
  funext j
  obtain ⟨a, b, rfl⟩ : ∃ (a : Fin 1) (b : Fin 128), j = ix2 a b := ⟨j 0, j 1, by idx_vars j⟩
  pointwise

theorem pay2_at (x : Vec Ideal S512x4096 .bf16) (w : Vec Ideal S4096x256 .bf16) (g b : Vec Ideal S1x128 .f32) (r : Fin 512) (e : Fin 128) :
    k0_pay2 x w g b (ix2 r e) = Norm.layer Norm.head (fun n => keys x w (ix2 r n)) (g (ix2 0 e)) (b (ix2 0 e)) e := by
  refine Eq.trans ?_ (norm_at (keys x w) g b r e)
  unfold k0_pay2
  dsimp only
  rw [same, same]

variable (m : (ℓ : Loc nD τ sig) → Buf (Elt Ideal) ℓ) (c : Dev nD)

theorem Nlt (t : Fin cfg0.N) : t.val < 16 := lt_of_lt_of_eq t.isLt (show cfg0.N = 16 from N_0)

/-- The arguments as plain functions. -/
abbrev xOf : Fin 8192 → Fin 4096 → EReal := fun t k => m ((c : Thread nD τ).loc main_arg0) (ix2 t k)
abbrev wOf : Fin 4096 → Fin 128 → EReal := fun k n => m ((c : Thread nD τ).loc main_arg1) (ix2 k ⟨9216 + n.val, by have := n.isLt; omega⟩)
/-- The weight's columns of the heads, and zeros beside them. -/
def hOf : Fin 4096 → Fin 128 → EReal := fun k n =>
  if h : n.val < 16 then m ((c : Thread nD τ).loc main_arg1) (ix2 k ⟨9344 + n.val, by omega⟩) else 0
abbrev gOf : Fin 128 → EReal := fun k => m ((c : Thread nD τ).loc main_arg2) (ix1 k)
abbrev bOf : Fin 128 → EReal := fun k => m ((c : Thread nD τ).loc main_arg3) (ix1 k)

theorem blk0 (t : Fin cfg0.N) (r : Fin 512) (k : Fin 4096) :
    iblk m c 0 t (ix2 r k) = xOf m c ⟨512 * t.val + r.val, by have := r.isLt; have := Nlt t; omega⟩ k := by
  have hN := Nlt t
  unfold xOf
  blk_ext! [iblk, V, idx t]

theorem V2 : V m c main_v2 = (pad S4096x256 ![0, 0] ![0, 112] ![0, 0] (extractStridedSlice S4096x144 ![0, 9216] (m ((c : Thread nD τ).loc main_arg1)) slices_S4096x9360_S4096x144_0_9216) (sitofp .f32 (constantI S_ 32 0#32)) pads_S4096x144_S4096x256_000_01120 h_S_ : FVec Ideal S4096x256 .f32) := by
  simp only [V, hostOps0, hostOps0_1, hostOps0_2, List.flatten_cons, List.flatten_nil, List.append_nil, List.cons_append, List.nil_append]
  after_results_simp
  rfl

theorem V4 : V m c main_v4 = (shapeCast S1x128 (m ((c : Thread nD τ).loc main_arg2)) shapeCasts_S128_S1x128 : FVec Ideal S1x128 .f32) := by
  simp only [V, hostOps0, hostOps0_1, hostOps0_2, List.flatten_cons, List.flatten_nil, List.append_nil, List.cons_append, List.nil_append]
  after_results_simp
  rfl

theorem V5 : V m c main_v5 = (shapeCast S1x128 (m ((c : Thread nD τ).loc main_arg3)) shapeCasts_S128_S1x128 : FVec Ideal S1x128 .f32) := by
  simp only [V, hostOps0, hostOps0_1, hostOps0_2, List.flatten_cons, List.flatten_nil, List.append_nil, List.cons_append, List.nil_append]
  after_results_simp
  rfl

theorem blk1 (t : Fin cfg0.N) (k : Fin 4096) (e : Fin 128) :
    iblk m c 1 t (ix2 k ⟨e.val, by have := e.isLt; omega⟩) = wOf m c k e := by
  have he : (win0_1.blk t).view.emb (ix2 k (⟨e.val, by have := e.isLt; omega⟩ : Fin 256)) = ix2 k ⟨e.val, by have := e.isLt; omega⟩ := by
    blk_ext [idx t]
  refine ((congrFun (V2 m c) _).trans (congrArg _ he)).trans ?_
  have h : e.val < 144 := by have := e.isLt; omega
  pointwise
  rw [dif_pos h]

theorem blk1h (t : Fin cfg0.N) (k : Fin 4096) (e : Fin 128) :
    iblk m c 1 t (ix2 k ⟨128 + e.val, by have := e.isLt; omega⟩) = hOf m c k e := by
  have he : (win0_1.blk t).view.emb (ix2 k (⟨128 + e.val, by have := e.isLt; omega⟩ : Fin 256)) = ix2 k ⟨128 + e.val, by have := e.isLt; omega⟩ := by
    blk_ext [idx t]
  refine ((congrFun (V2 m c) _).trans (congrArg _ he)).trans ?_
  unfold hOf
  by_cases h : e.val < 16
  · have h' : 128 + e.val < 144 := by omega
    pointwise
    rw [dif_pos h, dif_pos h']
    refine congrArg _ (congrArg (ix2 k) (Fin.ext ?_))
    show _ + (128 + e.val) = 9344 + e.val
    omega
  · have h' : ¬ 128 + e.val < 144 := by omega
    pointwise
    rw [dif_neg h, dif_neg h']
    exact (by norm_num : (((0#32 : BitVec 32).toInt : ℝ) : EReal) = 0)

theorem blk2 (t : Fin cfg0.N) (k : Fin 128) : iblk m c 2 t (ix2 0 k) = gOf m c k := by
  have he : (win0_2.blk t).view.emb (ix2 (0 : Fin 1) k) = ix2 0 k := by
    blk_ext [idx t]
  refine ((congrFun (V4 m c) _).trans (congrArg _ he)).trans ?_
  pointwise

theorem blk3 (t : Fin cfg0.N) (k : Fin 128) : iblk m c 3 t (ix2 0 k) = bOf m c k := by
  have he : (win0_3.blk t).view.emb (ix2 (0 : Fin 1) k) = ix2 0 k := by
    blk_ext [idx t]
  refine ((congrFun (V5 m c) _).trans (congrArg _ he)).trans ?_
  pointwise

/-- The product at one row and column of the keys. -/
def prodOf (t : Fin 8192) (n : Fin 128) : EReal := ∑ k : Fin 4096, xOf m c t k * wOf m c k n

/-- The output at one row and column. -/
def outOf (t : Fin 8192) (n : Fin 128) : EReal := Norm.layer Norm.head (prodOf m c t) (gOf m c n) (bOf m c n) n

/-- The second output at one row and column. -/
def headOf (t : Fin 8192) (n : Fin 128) : EReal := (∑ k : Fin 4096, xOf m c t k * hOf m c k n) * factor

/-- The second result array. -/
def res5 : S8192x128.Idx → EReal := fun j => headOf m c (j 0) (j 1)

theorem point5 (t : Fin cfg0.N) (r : Fin 512) (e : Fin 128) :
    out0_5 (iblk m c 0 t) (iblk m c 1 t) (iblk m c 2 t) (iblk m c 3 t) (ix2 r e)
      = headOf m c ⟨512 * t.val + r.val, by have := r.isLt; have := Nlt t; omega⟩ e := by
  rw [out5_eq, heads_at]
  exact congrArg (· * factor) (Finset.sum_congr rfl fun k _ => congrArg₂ (· * ·) (blk0 m c t r k) (blk1h m c t k e))

/-- The result array. -/
def res : S8192x128.Idx → EReal := fun j => outOf m c (j 0) (j 1)

theorem keys_blk (t : Fin cfg0.N) (r : Fin 512) (n : Fin 128) :
    keys (iblk m c 0 t) (iblk m c 1 t) (ix2 r n) = prodOf m c ⟨512 * t.val + r.val, by have := r.isLt; have := Nlt t; omega⟩ n := by
  rw [keys_at]
  exact Finset.sum_congr rfl fun k _ => congrArg₂ (· * ·) (blk0 m c t r k) (blk1 m c t k n)

theorem point_at (t : Fin cfg0.N) (r : Fin 512) (e : Fin 128) :
    out0_4 (iblk m c 0 t) (iblk m c 1 t) (iblk m c 2 t) (iblk m c 3 t) (ix2 r e)
      = outOf m c ⟨512 * t.val + r.val, by have := r.isLt; have := Nlt t; omega⟩ e := by
  rw [out_eq, pay2_at, blk2 m c t e, blk3 m c t e, funext fun n => keys_blk m c t r n]
  rfl

theorem mem_blk (t : Fin cfg0.N) (i : S8192x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v6_0).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 512) (e : Fin 128), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 512 * t.val + r.val = win0_4.index t (0 : Fin 2) * 512 + 1 * r.val
    omega
  · show e.val = win0_4.index t (1 : Fin 2) * 128 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 8192 := (i 0).isLt
  have h1 : (i 1).val < 128 := (i 1).isLt
  have hN : cfg0.N = 16 := N_0
  have ht : (i 0).val / 512 < cfg0.N := by omega
  have e0 : win0_4.index ⟨(i 0).val / 512, ht⟩ (0 : Fin 2) = (i 0).val / 512 := congrFun (idx ⟨(i 0).val / 512, ht⟩).2.2.2.2.1 0
  have e1 : win0_4.index ⟨(i 0).val / 512, ht⟩ (1 : Fin 2) = 0 := congrFun (idx ⟨(i 0).val / 512, ht⟩).2.2.2.2.1 1
  refine ⟨⟨(i 0).val / 512, ht⟩, (idx _).2.2.2.2.2, (mem_blk _ i).mpr fun a => ?_⟩
  match a with
  | ⟨0, _⟩ => show win0_4.index _ (0 : Fin 2) * 512 ≤ (i 0).val ∧ (i 0).val < win0_4.index _ (0 : Fin 2) * 512 + 512; rw [e0]; omega
  | ⟨1, _⟩ => show win0_4.index _ (1 : Fin 2) * 128 ≤ (i 1).val ∧ (i 1).val < win0_4.index _ (1 : Fin 2) * 128 + 128; rw [e1]; omega

theorem mem_blk5 (t : Fin cfg0.N) (i : S8192x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v6_1).slice (win0_5.rect t)).set ↔ _
  rw [View.set_slice_whole, Rect.mem_set_unit]
  exact Iff.rfl

/-- Each point writes its block of the second result array. -/
theorem flushed5_eq (t : Fin cfg0.N) : (dats m 0 c).flushed 5 t = ((cfg0.win 5).blk t).view.read (Elt Ideal) (res5 m c) := by
  rw [Value.flushed5]
  funext y
  obtain ⟨r, e, rfl⟩ : ∃ (r : Fin 512) (e : Fin 128), y = ix2 r e := ⟨y 0, y 1, by idx_vars y⟩
  have h0 : win0_5.index t (0 : Fin 2) = t.val := congrFun (idx5 t).1 0
  have h1 : win0_5.index t (1 : Fin 2) = 0 := congrFun (idx5 t).1 1
  refine (point5 m c t r e).trans ?_
  refine congrArg₂ (headOf m c) (Fin.ext ?_) (Fin.ext ?_)
  · show 512 * t.val + r.val = win0_5.index t (0 : Fin 2) * 512 + 1 * r.val
    omega
  · show e.val = win0_5.index t (1 : Fin 2) * 128 + 1 * e.val
    omega

/-- The second result array, whole. -/
theorem final5_eq : (dats m 0 c).arrAt 5 cfg0.N = res5 m c := by
  refine (dats m 0 c).arrAt_eq_of_cover 5 _ (fun t _ => flushed5_eq m c t) fun i => ?_
  have h0 : (i 0).val < 8192 := (i 0).isLt
  have h1 : (i 1).val < 128 := (i 1).isLt
  have hN : cfg0.N = 16 := N_0
  have ht : (i 0).val / 512 < cfg0.N := by omega
  have e0 : win0_5.index ⟨(i 0).val / 512, ht⟩ (0 : Fin 2) = (i 0).val / 512 := congrFun (idx5 ⟨(i 0).val / 512, ht⟩).1 0
  have e1 : win0_5.index ⟨(i 0).val / 512, ht⟩ (1 : Fin 2) = 0 := congrFun (idx5 ⟨(i 0).val / 512, ht⟩).1 1
  refine ⟨⟨(i 0).val / 512, ht⟩, (idx5 _).2, (mem_blk5 _ i).mpr fun a => ?_⟩
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 128 ≤ (i 1).val ∧ (i 1).val < win0_5.index _ (1 : Fin 2) * 128 + 128; rw [e1]; omega

end Cert.IdxKeyIdeal.Mat

namespace Cert.Proof.IdxKey

open Idealize.ShloMosaic Idealize.SL.Sem

/-- The reference terminates, keeps its arguments, and has no semaphore. -/
theorem frame_ref : Cert.quiescent_IdxKeyRefIdeal (hIdxKeyRefIdeal := Cert.IdxKeyRefIdeal.Gen.facts) := fun m ρ _ =>
  (θ_run Cert.IdxKeyRefIdeal.defs _ _).mono (fun r h => ⟨fun c => (h c).2.2, sem_eq_zero_of_no_sems (by decide) r.2⟩)
    (Cert.IdxKeyRefIdeal.Value.run (F := Ideal) m ρ)

section Ref

open Cert.IdxKeyRefIdeal Cert.IdxKeyRefIdeal.Gen

theorem ref_at (z : FVec Ideal S8192x128 .f32) (g b : FVec Ideal S128 .f32) (t : Fin 8192) (n : Fin 128) :
    addf (mulf (mulf (subf z (broadcastInDim S8192x128 ![0, 1] bcast_S8192x1_S8192x128_0_1 (Host.divf (broadcastInDim S8192x1 ![0] bcast_S8192_S8192x1_0 (Host.reduceAdd z (constant S_ .f32 0x00000000#32) reducesTo_S8192x128_S8192_d1 h_S_)) (broadcastInDim S8192x1 ![] bcast_S_S8192x1 (constant S_ .f32 0x43000000#32))))) (broadcastInDim S8192x128 ![0, 1] bcast_S8192x1_S8192x128_0_1 (Host.rsqrt (addf (Host.divf (broadcastInDim S8192x1 ![0] bcast_S8192_S8192x1_0 (Host.reduceAdd (mulf (subf z (broadcastInDim S8192x128 ![0, 1] bcast_S8192x1_S8192x128_0_1 (Host.divf (broadcastInDim S8192x1 ![0] bcast_S8192_S8192x1_0 (Host.reduceAdd z (constant S_ .f32 0x00000000#32) reducesTo_S8192x128_S8192_d1 h_S_)) (broadcastInDim S8192x1 ![] bcast_S_S8192x1 (constant S_ .f32 0x43000000#32))))) (subf z (broadcastInDim S8192x128 ![0, 1] bcast_S8192x1_S8192x128_0_1 (Host.divf (broadcastInDim S8192x1 ![0] bcast_S8192_S8192x1_0 (Host.reduceAdd z (constant S_ .f32 0x00000000#32) reducesTo_S8192x128_S8192_d1 h_S_)) (broadcastInDim S8192x1 ![] bcast_S_S8192x1 (constant S_ .f32 0x43000000#32)))))) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x358637BD#32)))))) (broadcastInDim S8192x128 ![0, 1] bcast_S1x128_S8192x128_0_1 (broadcastInDim S1x128 ![1] bcast_S128_S1x128_1 g))) (broadcastInDim S8192x128 ![0, 1] bcast_S1x128_S8192x128_0_1 (broadcastInDim S1x128 ![1] bcast_S128_S1x128_1 b)) (ix2 t n)
      = Norm.layer Norm.head (fun k => z (ix2 t k)) (g (ix1 n)) (b (ix1 n)) n := by
  unfold Norm.layer Norm.mean
  pointwise

theorem prod_at (x : FVec Ideal S8192x4096 .f32) (w : FVec Ideal S4096x9360 .f32) (t : Fin 8192) (n : Fin 128) :
    extractStridedSlice S8192x128 ![0, 9216] (Host.dotGeneral dot_S8192x4096_S4096x9360_S8192x9360_1_0_0_1_n_n none x w) slices_S8192x9360_S8192x128_0_9216 (ix2 t n)
      = ∑ k : Fin 4096, x (ix2 t k) * w (ix2 k ⟨9216 + n.val, by have := n.isLt; omega⟩) := by
  pointwise

theorem heads_ref (x : FVec Ideal S8192x4096 .f32) (w : FVec Ideal S4096x9360 .f32) (t : Fin 8192) (n : Fin 128) (h : n.val < 16) :
    pad S8192x128 ![0, 0] ![0, 112] ![0, 0] (mulf (extractStridedSlice S8192x16 ![0, 9344] (Host.dotGeneral dot_S8192x4096_S4096x9360_S8192x9360_1_0_0_1_n_n none x w) slices_S8192x9360_S8192x16_0_9344) (broadcastInDim S8192x16 ![] bcast_S_S8192x16 (constant S_ .f32 0x3CB504F3#32))) (sitofp .f32 (constantI S_ 32 0#32)) pads_S8192x16_S8192x128_000_01120 h_S_ (ix2 t n)
      = (∑ k : Fin 4096, x (ix2 t k) * w (ix2 k ⟨9344 + n.val, by omega⟩)) * Cert.IdxKeyIdeal.Mat.factor := by
  pointwise
  rw [dif_pos h]

theorem zeros_ref (x : FVec Ideal S8192x4096 .f32) (w : FVec Ideal S4096x9360 .f32) (t : Fin 8192) (n : Fin 128) (h : ¬ n.val < 16) :
    pad S8192x128 ![0, 0] ![0, 112] ![0, 0] (mulf (extractStridedSlice S8192x16 ![0, 9344] (Host.dotGeneral dot_S8192x4096_S4096x9360_S8192x9360_1_0_0_1_n_n none x w) slices_S8192x9360_S8192x16_0_9344) (broadcastInDim S8192x16 ![] bcast_S_S8192x16 (constant S_ .f32 0x3CB504F3#32))) (sitofp .f32 (constantI S_ 32 0#32)) pads_S8192x16_S8192x128_000_01120 h_S_ (ix2 t n)
      = (0 : EReal) := by
  pointwise
  rw [dif_neg h]
  exact (by norm_num : (((0#32 : BitVec 32).toInt : ℝ) : EReal) = 0)

end Ref

/-- Kernel and reference leave the same keys and heads' weights. -/
theorem algebraic : Cert.algebraic_IdxKeyIdeal_IdxKeyRefIdeal (hIdxKeyIdeal := Cert.IdxKeyIdeal.Gen.facts) (hIdxKeyRefIdeal := Cert.IdxKeyRefIdeal.Gen.facts) := by
  intro m g m' g' _ hargs
  refine ⟨fun c => Cert.IdxKeyIdeal.Mat.res m c, fun c => Cert.IdxKeyIdeal.Mat.res5 m c, (θ_run _ _ _).mono (fun r h c => ⟨(h c).1.trans (Cert.IdxKeyIdeal.Mat.final_eq m c), (h c).2.1.trans (Cert.IdxKeyIdeal.Mat.final5_eq m c), (h c).2.2⟩) (Cert.IdxKeyIdeal.Value.run_blocks (F := Ideal) m g), ?_⟩
  refine (θ_run (Cert.IdxKeyRefIdeal.defs (F := Ideal)) _ _).mono (fun r h c => ?_) (Cert.IdxKeyRefIdeal.Value.run (F := Ideal) m' g')
  obtain ⟨hy, hz, hrest⟩ := h c
  obtain ⟨e0, e1, e2, e3⟩ := hargs c
  refine ⟨hy.trans ?_, hz.trans ?_, hrest⟩
  · funext j
    obtain ⟨t, n, rfl⟩ : ∃ (t : Fin 8192) (n : Fin 128), j = ix2 t n := ⟨j 0, j 1, by idx_vars j⟩
    refine (ref_at _ _ _ t n).trans ?_
    show _ = Cert.IdxKeyIdeal.Mat.outOf m c t n
    unfold Cert.IdxKeyIdeal.Mat.outOf
    rw [funext fun k => prod_at _ _ t k, e0, e1, e2, e3]
    rfl
  · funext j
    obtain ⟨t, n, rfl⟩ : ∃ (t : Fin 8192) (n : Fin 128), j = ix2 t n := ⟨j 0, j 1, by idx_vars j⟩
    show _ = Cert.IdxKeyIdeal.Mat.headOf m c t n
    unfold Cert.IdxKeyIdeal.Mat.headOf Cert.IdxKeyIdeal.Mat.hOf
    by_cases hn : n.val < 16
    · refine (heads_ref _ _ t n hn).trans ?_
      rw [e0, e1]
      refine congrArg (· * Cert.IdxKeyIdeal.Mat.factor) (Finset.sum_congr rfl fun k _ => ?_)
      rw [dif_pos hn]
    · refine (zeros_ref _ _ t n hn).trans ?_
      rw [Finset.sum_eq_zero fun k _ => by rw [dif_neg hn, mul_zero], zero_mul]

end Cert.Proof.IdxKey

end
-- ==== Proof.IdxKeySValue.lean ====
/-
  The indexer's keys of the samples: the normed input times the weight's columns of the keys, and the layer norm of the product.
  Beside them the heads' weights, the product's last columns times a factor.
-/
module

public import proofs.«01_k».proof.Defs
public import proofs.«01_k».proof.Proof.Norm
public import proofs.«01_k».proof.Proof.Gen.IdxKeySIdeal.Value
public import proofs.«01_k».proof.Proof.Gen.IdxKeySRefIdeal.Run

@[expose] public section

set_option maxRecDepth 16384

noncomputable section

namespace Cert.IdxKeySIdeal.Mat

open Cert.IdxKeySIdeal Cert.IdxKeySIdeal.Gen Cert.Whole Idealize.ShloMosaic Idealize.ShloMosaic.TcCoe Idealize.SL.Sem

/-- The second output's blocks: row block `t`. -/
theorem idx5 : ∀ t : Fin cfg0.N, win0_5.index t = ![t.val, 0] ∧ win0_5.flush t = true :=
  (by decide +kernel : ∀ t : Fin grid0.N, _)

/-- Every window's block at a grid point: row block `t`, or the whole array. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_4.flush t = true :=
  (by decide +kernel : ∀ t : Fin grid0.N, _)

theorem out_eq (x0 : Vec Ideal S512x4096 .bf16) (x1 : Vec Ideal S4096x256 .bf16) (x2 x3 : Vec Ideal S1x128 .f32) :
    out0_4 x0 x1 x2 x3 = k0_pay2 x0 x1 x2 x3 := by
  unfold out0_4
  rw [View.canon_unit_zero hz2, View.ld_unit_zero hz2, View.ld_unit_zero hz2, View.ld_unit_zero hz2, View.ld_unit_zero hz2]

theorem out5_eq (x0 : Vec Ideal S512x4096 .bf16) (x1 : Vec Ideal S4096x256 .bf16) (x2 x3 : Vec Ideal S1x128 .f32) :
    out0_5 x0 x1 x2 x3 = k0_pay3 x0 x1 := by
  unfold out0_5
  rw [View.canon_unit_zero hz2, View.ld_unit_zero hz2, View.ld_unit_zero hz2]

theorem pay1_at (x : Vec Ideal S512x4096 .bf16) (w : Vec Ideal S4096x256 .bf16) (r : Fin 512) (e : Fin 256) :
    k0_pay1 x w (ix2 r e) = ∑ k : Fin 4096, x (ix2 r k) * w (ix2 k e) := by
  pointwise [k0_pay1]

/-- The product's first columns, those of the keys. -/
abbrev keys (x : Vec Ideal S512x4096 .bf16) (w : Vec Ideal S4096x256 .bf16) : FVec Ideal S512x128 .f32 :=
  extractStridedSlice S512x128 ![0, 0] (k0_pay1 x w) slices_S512x256_o0_0_S512x128

theorem keys_at (x : Vec Ideal S512x4096 .bf16) (w : Vec Ideal S4096x256 .bf16) (r : Fin 512) (e : Fin 128) :
    keys x w (ix2 r e) = ∑ k : Fin 4096, x (ix2 r k) * w (ix2 k ⟨e.val, by have := e.isLt; omega⟩) := by
  refine Eq.trans ?_ (pay1_at x w r _)
  pointwise

/-- The factor of the heads' weights. -/
abbrev factor : EReal := Ideal.ofBits FTy.f32 0x3CB504F3#32

theorem heads_at (x : Vec Ideal S512x4096 .bf16) (w : Vec Ideal S4096x256 .bf16) (r : Fin 512) (e : Fin 128) :
    k0_pay3 x w (ix2 r e) = (∑ k : Fin 4096, x (ix2 r k) * w (ix2 k ⟨128 + e.val, by have := e.isLt; omega⟩)) * factor := by
  refine Eq.trans ?_ (congrArg (· * factor) (pay1_at x w r _))
  unfold k0_pay3
  pointwise

theorem norm_at (z : FVec Ideal S512x128 .f32) (g b : Vec Ideal S1x128 .f32) (r : Fin 512) (e : Fin 128) :
    addf (mulf (mulf (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128)) (broadcastTo S512x128 (rsqrt (addf (divf (shapeCast S512x1 (multiReduction .add [1] S512 (mulf (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128)) (subf z (broadcastTo S512x128 (divf (shapeCast S512x1 (multiReduction .add [1] S512 z 0x00000000#32 reduces_S512x128_S512 (.inl rfl) rfl) shapeCasts_S512_S512x1) (broadcast S512x1 (Scalar.ofBits .f32 0x43000000#32))) broadcasts_S512x1_S512x128))) 0x00000000#32 reduces_S512x128_S512 (.inl rfl) rfl) shapeCasts_S512_S512x1) (broadcast S512x1 (Scalar.ofBits .f32 0x43000000#32))) (broadcast S512x1 (Scalar.ofBits .f32 0x358637BD#32)))) broadcasts_S512x1_S512x128)) (broadcastTo S512x128 g broadcasts_S1x128_S512x128)) (broadcastTo S512x128 b broadcasts_S1x128_S512x128) (ix2 r e)
      = Norm.layer Norm.head (fun k => z (ix2 r k)) (g (ix2 0 e)) (b (ix2 0 e)) e := by
  unfold Norm.layer Norm.mean
  pointwise

theorem same (g : Vec Ideal S1x128 .f32) : shapeCast S1x128 g shapeCasts_S1x128_S1x128 = g := by
  funext j
  obtain ⟨a, b, rfl⟩ : ∃ (a : Fin 1) (b : Fin 128), j = ix2 a b := ⟨j 0, j 1, by idx_vars j⟩
  pointwise

theorem pay2_at (x : Vec Ideal S512x4096 .bf16) (w : Vec Ideal S4096x256 .bf16) (g b : Vec Ideal S1x128 .f32) (r : Fin 512) (e : Fin 128) :
    k0_pay2 x w g b (ix2 r e) = Norm.layer Norm.head (fun n => keys x w (ix2 r n)) (g (ix2 0 e)) (b (ix2 0 e)) e := by
  refine Eq.trans ?_ (norm_at (keys x w) g b r e)
  unfold k0_pay2
  dsimp only
  rw [same, same]

variable (m : (ℓ : Loc nD τ sig) → Buf (Elt Ideal) ℓ) (c : Dev nD)

theorem Nlt (t : Fin cfg0.N) : t.val < 2 := lt_of_lt_of_eq t.isLt (show cfg0.N = 2 from N_0)

/-- The arguments as plain functions. -/
abbrev xOf : Fin 1024 → Fin 4096 → EReal := fun t k => m ((c : Thread nD τ).loc main_arg0) (ix2 t k)
abbrev wOf : Fin 4096 → Fin 128 → EReal := fun k n => m ((c : Thread nD τ).loc main_arg1) (ix2 k ⟨9216 + n.val, by have := n.isLt; omega⟩)
/-- The weight's columns of the heads, and zeros beside them. -/
def hOf : Fin 4096 → Fin 128 → EReal := fun k n =>
  if h : n.val < 16 then m ((c : Thread nD τ).loc main_arg1) (ix2 k ⟨9344 + n.val, by omega⟩) else 0
abbrev gOf : Fin 128 → EReal := fun k => m ((c : Thread nD τ).loc main_arg2) (ix1 k)
abbrev bOf : Fin 128 → EReal := fun k => m ((c : Thread nD τ).loc main_arg3) (ix1 k)

theorem blk0 (t : Fin cfg0.N) (r : Fin 512) (k : Fin 4096) :
    iblk m c 0 t (ix2 r k) = xOf m c ⟨512 * t.val + r.val, by have := r.isLt; have := Nlt t; omega⟩ k := by
  have hN := Nlt t
  unfold xOf
  blk_ext! [iblk, V, idx t]

theorem V2 : V m c main_v2 = (pad S4096x256 ![0, 0] ![0, 112] ![0, 0] (extractStridedSlice S4096x144 ![0, 9216] (m ((c : Thread nD τ).loc main_arg1)) slices_S4096x9360_S4096x144_0_9216) (sitofp .f32 (constantI S_ 32 0#32)) pads_S4096x144_S4096x256_000_01120 h_S_ : FVec Ideal S4096x256 .f32) := by
  simp only [V, hostOps0, hostOps0_1, hostOps0_2, List.flatten_cons, List.flatten_nil, List.append_nil, List.cons_append, List.nil_append]
  after_results_simp
  rfl

theorem V4 : V m c main_v4 = (shapeCast S1x128 (m ((c : Thread nD τ).loc main_arg2)) shapeCasts_S128_S1x128 : FVec Ideal S1x128 .f32) := by
  simp only [V, hostOps0, hostOps0_1, hostOps0_2, List.flatten_cons, List.flatten_nil, List.append_nil, List.cons_append, List.nil_append]
  after_results_simp
  rfl

theorem V5 : V m c main_v5 = (shapeCast S1x128 (m ((c : Thread nD τ).loc main_arg3)) shapeCasts_S128_S1x128 : FVec Ideal S1x128 .f32) := by
  simp only [V, hostOps0, hostOps0_1, hostOps0_2, List.flatten_cons, List.flatten_nil, List.append_nil, List.cons_append, List.nil_append]
  after_results_simp
  rfl

theorem blk1 (t : Fin cfg0.N) (k : Fin 4096) (e : Fin 128) :
    iblk m c 1 t (ix2 k ⟨e.val, by have := e.isLt; omega⟩) = wOf m c k e := by
  have he : (win0_1.blk t).view.emb (ix2 k (⟨e.val, by have := e.isLt; omega⟩ : Fin 256)) = ix2 k ⟨e.val, by have := e.isLt; omega⟩ := by
    blk_ext [idx t]
  refine ((congrFun (V2 m c) _).trans (congrArg _ he)).trans ?_
  have h : e.val < 144 := by have := e.isLt; omega
  pointwise
  rw [dif_pos h]

theorem blk1h (t : Fin cfg0.N) (k : Fin 4096) (e : Fin 128) :
    iblk m c 1 t (ix2 k ⟨128 + e.val, by have := e.isLt; omega⟩) = hOf m c k e := by
  have he : (win0_1.blk t).view.emb (ix2 k (⟨128 + e.val, by have := e.isLt; omega⟩ : Fin 256)) = ix2 k ⟨128 + e.val, by have := e.isLt; omega⟩ := by
    blk_ext [idx t]
  refine ((congrFun (V2 m c) _).trans (congrArg _ he)).trans ?_
  unfold hOf
  by_cases h : e.val < 16
  · have h' : 128 + e.val < 144 := by omega
    pointwise
    rw [dif_pos h, dif_pos h']
    refine congrArg _ (congrArg (ix2 k) (Fin.ext ?_))
    show _ + (128 + e.val) = 9344 + e.val
    omega
  · have h' : ¬ 128 + e.val < 144 := by omega
    pointwise
    rw [dif_neg h, dif_neg h']
    exact (by norm_num : (((0#32 : BitVec 32).toInt : ℝ) : EReal) = 0)

theorem blk2 (t : Fin cfg0.N) (k : Fin 128) : iblk m c 2 t (ix2 0 k) = gOf m c k := by
  have he : (win0_2.blk t).view.emb (ix2 (0 : Fin 1) k) = ix2 0 k := by
    blk_ext [idx t]
  refine ((congrFun (V4 m c) _).trans (congrArg _ he)).trans ?_
  pointwise

theorem blk3 (t : Fin cfg0.N) (k : Fin 128) : iblk m c 3 t (ix2 0 k) = bOf m c k := by
  have he : (win0_3.blk t).view.emb (ix2 (0 : Fin 1) k) = ix2 0 k := by
    blk_ext [idx t]
  refine ((congrFun (V5 m c) _).trans (congrArg _ he)).trans ?_
  pointwise

/-- The product at one row and column of the keys. -/
def prodOf (t : Fin 1024) (n : Fin 128) : EReal := ∑ k : Fin 4096, xOf m c t k * wOf m c k n

/-- The output at one row and column. -/
def outOf (t : Fin 1024) (n : Fin 128) : EReal := Norm.layer Norm.head (prodOf m c t) (gOf m c n) (bOf m c n) n

/-- The second output at one row and column. -/
def headOf (t : Fin 1024) (n : Fin 128) : EReal := (∑ k : Fin 4096, xOf m c t k * hOf m c k n) * factor

/-- The second result array. -/
def res5 : S1024x128.Idx → EReal := fun j => headOf m c (j 0) (j 1)

theorem point5 (t : Fin cfg0.N) (r : Fin 512) (e : Fin 128) :
    out0_5 (iblk m c 0 t) (iblk m c 1 t) (iblk m c 2 t) (iblk m c 3 t) (ix2 r e)
      = headOf m c ⟨512 * t.val + r.val, by have := r.isLt; have := Nlt t; omega⟩ e := by
  rw [out5_eq, heads_at]
  exact congrArg (· * factor) (Finset.sum_congr rfl fun k _ => congrArg₂ (· * ·) (blk0 m c t r k) (blk1h m c t k e))

/-- The result array. -/
def res : S1024x128.Idx → EReal := fun j => outOf m c (j 0) (j 1)

theorem keys_blk (t : Fin cfg0.N) (r : Fin 512) (n : Fin 128) :
    keys (iblk m c 0 t) (iblk m c 1 t) (ix2 r n) = prodOf m c ⟨512 * t.val + r.val, by have := r.isLt; have := Nlt t; omega⟩ n := by
  rw [keys_at]
  exact Finset.sum_congr rfl fun k _ => congrArg₂ (· * ·) (blk0 m c t r k) (blk1 m c t k n)

theorem point_at (t : Fin cfg0.N) (r : Fin 512) (e : Fin 128) :
    out0_4 (iblk m c 0 t) (iblk m c 1 t) (iblk m c 2 t) (iblk m c 3 t) (ix2 r e)
      = outOf m c ⟨512 * t.val + r.val, by have := r.isLt; have := Nlt t; omega⟩ e := by
  rw [out_eq, pay2_at, blk2 m c t e, blk3 m c t e, funext fun n => keys_blk m c t r n]
  rfl

theorem mem_blk (t : Fin cfg0.N) (i : S1024x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v6_0).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 512) (e : Fin 128), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 512 * t.val + r.val = win0_4.index t (0 : Fin 2) * 512 + 1 * r.val
    omega
  · show e.val = win0_4.index t (1 : Fin 2) * 128 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 1024 := (i 0).isLt
  have h1 : (i 1).val < 128 := (i 1).isLt
  have hN : cfg0.N = 2 := N_0
  have ht : (i 0).val / 512 < cfg0.N := by omega
  have e0 : win0_4.index ⟨(i 0).val / 512, ht⟩ (0 : Fin 2) = (i 0).val / 512 := congrFun (idx ⟨(i 0).val / 512, ht⟩).2.2.2.2.1 0
  have e1 : win0_4.index ⟨(i 0).val / 512, ht⟩ (1 : Fin 2) = 0 := congrFun (idx ⟨(i 0).val / 512, ht⟩).2.2.2.2.1 1
  refine ⟨⟨(i 0).val / 512, ht⟩, (idx _).2.2.2.2.2, (mem_blk _ i).mpr fun a => ?_⟩
  match a with
  | ⟨0, _⟩ => show win0_4.index _ (0 : Fin 2) * 512 ≤ (i 0).val ∧ (i 0).val < win0_4.index _ (0 : Fin 2) * 512 + 512; rw [e0]; omega
  | ⟨1, _⟩ => show win0_4.index _ (1 : Fin 2) * 128 ≤ (i 1).val ∧ (i 1).val < win0_4.index _ (1 : Fin 2) * 128 + 128; rw [e1]; omega

theorem mem_blk5 (t : Fin cfg0.N) (i : S1024x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v6_1).slice (win0_5.rect t)).set ↔ _
  rw [View.set_slice_whole, Rect.mem_set_unit]
  exact Iff.rfl

/-- Each point writes its block of the second result array. -/
theorem flushed5_eq (t : Fin cfg0.N) : (dats m 0 c).flushed 5 t = ((cfg0.win 5).blk t).view.read (Elt Ideal) (res5 m c) := by
  rw [Value.flushed5]
  funext y
  obtain ⟨r, e, rfl⟩ : ∃ (r : Fin 512) (e : Fin 128), y = ix2 r e := ⟨y 0, y 1, by idx_vars y⟩
  have h0 : win0_5.index t (0 : Fin 2) = t.val := congrFun (idx5 t).1 0
  have h1 : win0_5.index t (1 : Fin 2) = 0 := congrFun (idx5 t).1 1
  refine (point5 m c t r e).trans ?_
  refine congrArg₂ (headOf m c) (Fin.ext ?_) (Fin.ext ?_)
  · show 512 * t.val + r.val = win0_5.index t (0 : Fin 2) * 512 + 1 * r.val
    omega
  · show e.val = win0_5.index t (1 : Fin 2) * 128 + 1 * e.val
    omega

/-- The second result array, whole. -/
theorem final5_eq : (dats m 0 c).arrAt 5 cfg0.N = res5 m c := by
  refine (dats m 0 c).arrAt_eq_of_cover 5 _ (fun t _ => flushed5_eq m c t) fun i => ?_
  have h0 : (i 0).val < 1024 := (i 0).isLt
  have h1 : (i 1).val < 128 := (i 1).isLt
  have hN : cfg0.N = 2 := N_0
  have ht : (i 0).val / 512 < cfg0.N := by omega
  have e0 : win0_5.index ⟨(i 0).val / 512, ht⟩ (0 : Fin 2) = (i 0).val / 512 := congrFun (idx5 ⟨(i 0).val / 512, ht⟩).1 0
  have e1 : win0_5.index ⟨(i 0).val / 512, ht⟩ (1 : Fin 2) = 0 := congrFun (idx5 ⟨(i 0).val / 512, ht⟩).1 1
  refine ⟨⟨(i 0).val / 512, ht⟩, (idx5 _).2, (mem_blk5 _ i).mpr fun a => ?_⟩
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 128 ≤ (i 1).val ∧ (i 1).val < win0_5.index _ (1 : Fin 2) * 128 + 128; rw [e1]; omega

end Cert.IdxKeySIdeal.Mat

namespace Cert.Proof.IdxKeyS

open Idealize.ShloMosaic Idealize.SL.Sem

/-- The reference terminates, keeps its arguments, and has no semaphore. -/
theorem frame_ref : Cert.quiescent_IdxKeySRefIdeal (hIdxKeySRefIdeal := Cert.IdxKeySRefIdeal.Gen.facts) := fun m ρ _ =>
  (θ_run Cert.IdxKeySRefIdeal.defs _ _).mono (fun r h => ⟨fun c => (h c).2.2, sem_eq_zero_of_no_sems (by decide) r.2⟩)
    (Cert.IdxKeySRefIdeal.Value.run (F := Ideal) m ρ)

section Ref

open Cert.IdxKeySRefIdeal Cert.IdxKeySRefIdeal.Gen

theorem ref_at (z : FVec Ideal S1024x128 .f32) (g b : FVec Ideal S128 .f32) (t : Fin 1024) (n : Fin 128) :
    addf (mulf (mulf (subf z (broadcastInDim S1024x128 ![0, 1] bcast_S1024x1_S1024x128_0_1 (Host.divf (broadcastInDim S1024x1 ![0] bcast_S1024_S1024x1_0 (Host.reduceAdd z (constant S_ .f32 0x00000000#32) reducesTo_S1024x128_S1024_d1 h_S_)) (broadcastInDim S1024x1 ![] bcast_S_S1024x1 (constant S_ .f32 0x43000000#32))))) (broadcastInDim S1024x128 ![0, 1] bcast_S1024x1_S1024x128_0_1 (Host.rsqrt (addf (Host.divf (broadcastInDim S1024x1 ![0] bcast_S1024_S1024x1_0 (Host.reduceAdd (mulf (subf z (broadcastInDim S1024x128 ![0, 1] bcast_S1024x1_S1024x128_0_1 (Host.divf (broadcastInDim S1024x1 ![0] bcast_S1024_S1024x1_0 (Host.reduceAdd z (constant S_ .f32 0x00000000#32) reducesTo_S1024x128_S1024_d1 h_S_)) (broadcastInDim S1024x1 ![] bcast_S_S1024x1 (constant S_ .f32 0x43000000#32))))) (subf z (broadcastInDim S1024x128 ![0, 1] bcast_S1024x1_S1024x128_0_1 (Host.divf (broadcastInDim S1024x1 ![0] bcast_S1024_S1024x1_0 (Host.reduceAdd z (constant S_ .f32 0x00000000#32) reducesTo_S1024x128_S1024_d1 h_S_)) (broadcastInDim S1024x1 ![] bcast_S_S1024x1 (constant S_ .f32 0x43000000#32)))))) (constant S_ .f32 0x00000000#32) reducesTo_S1024x128_S1024_d1 h_S_)) (broadcastInDim S1024x1 ![] bcast_S_S1024x1 (constant S_ .f32 0x43000000#32))) (broadcastInDim S1024x1 ![] bcast_S_S1024x1 (constant S_ .f32 0x358637BD#32)))))) (broadcastInDim S1024x128 ![0, 1] bcast_S1x128_S1024x128_0_1 (broadcastInDim S1x128 ![1] bcast_S128_S1x128_1 g))) (broadcastInDim S1024x128 ![0, 1] bcast_S1x128_S1024x128_0_1 (broadcastInDim S1x128 ![1] bcast_S128_S1x128_1 b)) (ix2 t n)
      = Norm.layer Norm.head (fun k => z (ix2 t k)) (g (ix1 n)) (b (ix1 n)) n := by
  unfold Norm.layer Norm.mean
  pointwise

theorem prod_at (x : FVec Ideal S1024x4096 .f32) (w : FVec Ideal S4096x9360 .f32) (t : Fin 1024) (n : Fin 128) :
    extractStridedSlice S1024x128 ![0, 9216] (Host.dotGeneral dot_S1024x4096_S4096x9360_S1024x9360_1_0_0_1_n_n none x w) slices_S1024x9360_S1024x128_0_9216 (ix2 t n)
      = ∑ k : Fin 4096, x (ix2 t k) * w (ix2 k ⟨9216 + n.val, by have := n.isLt; omega⟩) := by
  pointwise

theorem heads_ref (x : FVec Ideal S1024x4096 .f32) (w : FVec Ideal S4096x9360 .f32) (t : Fin 1024) (n : Fin 128) (h : n.val < 16) :
    pad S1024x128 ![0, 0] ![0, 112] ![0, 0] (mulf (extractStridedSlice S1024x16 ![0, 9344] (Host.dotGeneral dot_S1024x4096_S4096x9360_S1024x9360_1_0_0_1_n_n none x w) slices_S1024x9360_S1024x16_0_9344) (broadcastInDim S1024x16 ![] bcast_S_S1024x16 (constant S_ .f32 0x3CB504F3#32))) (sitofp .f32 (constantI S_ 32 0#32)) pads_S1024x16_S1024x128_000_01120 h_S_ (ix2 t n)
      = (∑ k : Fin 4096, x (ix2 t k) * w (ix2 k ⟨9344 + n.val, by omega⟩)) * Cert.IdxKeySIdeal.Mat.factor := by
  pointwise
  rw [dif_pos h]

theorem zeros_ref (x : FVec Ideal S1024x4096 .f32) (w : FVec Ideal S4096x9360 .f32) (t : Fin 1024) (n : Fin 128) (h : ¬ n.val < 16) :
    pad S1024x128 ![0, 0] ![0, 112] ![0, 0] (mulf (extractStridedSlice S1024x16 ![0, 9344] (Host.dotGeneral dot_S1024x4096_S4096x9360_S1024x9360_1_0_0_1_n_n none x w) slices_S1024x9360_S1024x16_0_9344) (broadcastInDim S1024x16 ![] bcast_S_S1024x16 (constant S_ .f32 0x3CB504F3#32))) (sitofp .f32 (constantI S_ 32 0#32)) pads_S1024x16_S1024x128_000_01120 h_S_ (ix2 t n)
      = (0 : EReal) := by
  pointwise
  rw [dif_neg h]
  exact (by norm_num : (((0#32 : BitVec 32).toInt : ℝ) : EReal) = 0)

end Ref

/-- Kernel and reference leave the same keys and heads' weights. -/
theorem algebraic : Cert.algebraic_IdxKeySIdeal_IdxKeySRefIdeal (hIdxKeySIdeal := Cert.IdxKeySIdeal.Gen.facts) (hIdxKeySRefIdeal := Cert.IdxKeySRefIdeal.Gen.facts) := by
  intro m g m' g' _ hargs
  refine ⟨fun c => Cert.IdxKeySIdeal.Mat.res m c, fun c => Cert.IdxKeySIdeal.Mat.res5 m c, (θ_run _ _ _).mono (fun r h c => ⟨(h c).1.trans (Cert.IdxKeySIdeal.Mat.final_eq m c), (h c).2.1.trans (Cert.IdxKeySIdeal.Mat.final5_eq m c), (h c).2.2⟩) (Cert.IdxKeySIdeal.Value.run_blocks (F := Ideal) m g), ?_⟩
  refine (θ_run (Cert.IdxKeySRefIdeal.defs (F := Ideal)) _ _).mono (fun r h c => ?_) (Cert.IdxKeySRefIdeal.Value.run (F := Ideal) m' g')
  obtain ⟨hy, hz, hrest⟩ := h c
  obtain ⟨e0, e1, e2, e3⟩ := hargs c
  refine ⟨hy.trans ?_, hz.trans ?_, hrest⟩
  · funext j
    obtain ⟨t, n, rfl⟩ : ∃ (t : Fin 1024) (n : Fin 128), j = ix2 t n := ⟨j 0, j 1, by idx_vars j⟩
    refine (ref_at _ _ _ t n).trans ?_
    show _ = Cert.IdxKeySIdeal.Mat.outOf m c t n
    unfold Cert.IdxKeySIdeal.Mat.outOf
    rw [funext fun k => prod_at _ _ t k, e0, e1, e2, e3]
    rfl
  · funext j
    obtain ⟨t, n, rfl⟩ : ∃ (t : Fin 1024) (n : Fin 128), j = ix2 t n := ⟨j 0, j 1, by idx_vars j⟩
    show _ = Cert.IdxKeySIdeal.Mat.headOf m c t n
    unfold Cert.IdxKeySIdeal.Mat.headOf Cert.IdxKeySIdeal.Mat.hOf
    by_cases hn : n.val < 16
    · refine (heads_ref _ _ t n hn).trans ?_
      rw [e0, e1]
      refine congrArg (· * Cert.IdxKeySIdeal.Mat.factor) (Finset.sum_congr rfl fun k _ => ?_)
      rw [dif_pos hn]
    · refine (zeros_ref _ _ t n hn).trans ?_
      rw [Finset.sum_eq_zero fun k _ => by rw [dif_neg hn, mul_zero], zero_mul]

end Cert.Proof.IdxKeyS

end
-- ==== Proof.FinalValue.lean ====
/-
  The layer's output: the residual, plus the gate times the norm of the feed-forward part, in blocks of rows.
-/
module

public import proofs.«01_k».proof.Defs
public import proofs.«01_k».proof.Proof.Norm
public import proofs.«01_k».proof.Proof.Gen.FinalIdeal.Value
public import proofs.«01_k».proof.Proof.Gen.FinalRefIdeal.Run

@[expose] public section

set_option maxRecDepth 16384

noncomputable section

namespace Cert.FinalIdeal.Mat

open Cert.FinalIdeal Cert.FinalIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_4.flush t = true :=
  (by decide +kernel : ∀ t : Fin grid0.N, _)

theorem out_eq (x0 x1 : Vec Ideal S256x4096 .f32) (x2 x3 : Vec Ideal S1x4096 .f32) : out0_4 x0 x1 x2 x3 = k0_pay1 x0 x3 x1 x2 := by
  unfold out0_4
  rw [View.canon_unit_zero hz2, View.ld_unit_zero hz2, View.ld_unit_zero hz2, View.ld_unit_zero hz2, View.ld_unit_zero hz2]

theorem pay_at (x f : Vec Ideal S256x4096 .f32) (g s : Vec Ideal S1x4096 .f32) (r : Fin 256) (e : Fin 4096) :
    k0_pay1 x s f g (ix2 r e) = x (ix2 r e) + s (ix2 0 e) * Norm.rms Norm.width (fun k => f (ix2 r k)) (g (ix2 0 e)) e := by
  unfold Norm.rms
  pointwise [k0_pay1]

variable (m : (ℓ : Loc nD τ sig) → Buf (Elt Ideal) ℓ) (c : Dev nD)

theorem Nlt (t : Fin cfg0.N) : t.val < 32 := lt_of_lt_of_eq t.isLt (show cfg0.N = 32 from N_0)

/-- The arguments as plain functions. -/
abbrev xOf : Fin 8192 → Fin 4096 → EReal := fun t k => m ((c : Thread nD τ).loc main_arg0) (ix2 t k)
abbrev fOf : Fin 8192 → Fin 4096 → EReal := fun t k => m ((c : Thread nD τ).loc main_arg1) (ix2 t k)
abbrev gOf : Fin 4096 → EReal := fun k => m ((c : Thread nD τ).loc main_arg2) (ix1 k)
abbrev sOf : Fin 4096 → EReal := fun k => m ((c : Thread nD τ).loc main_arg3) (ix2 0 k)

theorem blk0 (t : Fin cfg0.N) (r : Fin 256) (k : Fin 4096) :
    iblk m c 0 t (ix2 r k) = xOf m c ⟨256 * t.val + r.val, by have := r.isLt; have := Nlt t; omega⟩ k := by
  have hN := Nlt t
  unfold xOf
  blk_ext! [iblk, V, idx t]

theorem blk1 (t : Fin cfg0.N) (r : Fin 256) (k : Fin 4096) :
    iblk m c 1 t (ix2 r k) = fOf m c ⟨256 * t.val + r.val, by have := r.isLt; have := Nlt t; omega⟩ k := by
  have hN := Nlt t
  unfold fOf
  blk_ext! [iblk, V, idx t]

theorem blk2 (t : Fin cfg0.N) (k : Fin 4096) : iblk m c 2 t (ix2 0 k) = gOf m c k := by
  unfold gOf
  blk_ext! [iblk, V, idx t]

theorem blk3 (t : Fin cfg0.N) (k : Fin 4096) : iblk m c 3 t (ix2 0 k) = sOf m c k := by
  unfold sOf
  blk_ext! [iblk, V, idx t]

/-- The output at one row and column. -/
def outOf (t : Fin 8192) (n : Fin 4096) : EReal :=
  xOf m c t n + sOf m c n * Norm.rms Norm.width (fOf m c t) (gOf m c n) n

/-- The result array. -/
def res : S8192x4096.Idx → EReal := fun j => outOf m c (j 0) (j 1)

theorem point_at (t : Fin cfg0.N) (r : Fin 256) (e : Fin 4096) :
    out0_4 (iblk m c 0 t) (iblk m c 1 t) (iblk m c 2 t) (iblk m c 3 t) (ix2 r e)
      = outOf m c ⟨256 * t.val + r.val, by have := r.isLt; have := Nlt t; omega⟩ e := by
  rw [out_eq, pay_at, blk0 m c t r e, blk2 m c t e, blk3 m c t e, funext fun k => blk1 m c t r k]
  rfl

theorem mem_blk (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v1).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 256) (e : Fin 4096), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 256 * t.val + r.val = win0_4.index t (0 : Fin 2) * 256 + 1 * r.val
    omega
  · show e.val = win0_4.index t (1 : Fin 2) * 4096 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 8192 := (i 0).isLt
  have h1 : (i 1).val < 4096 := (i 1).isLt
  have hN : cfg0.N = 32 := N_0
  have ht : (i 0).val / 256 < cfg0.N := by omega
  have e0 : win0_4.index ⟨(i 0).val / 256, ht⟩ (0 : Fin 2) = (i 0).val / 256 := congrFun (idx ⟨(i 0).val / 256, ht⟩).2.2.2.2.1 0
  have e1 : win0_4.index ⟨(i 0).val / 256, ht⟩ (1 : Fin 2) = 0 := congrFun (idx ⟨(i 0).val / 256, ht⟩).2.2.2.2.1 1
  refine ⟨⟨(i 0).val / 256, ht⟩, (idx _).2.2.2.2.2, (mem_blk _ i).mpr fun a => ?_⟩
  match a with
  | ⟨0, _⟩ => show win0_4.index _ (0 : Fin 2) * 256 ≤ (i 0).val ∧ (i 0).val < win0_4.index _ (0 : Fin 2) * 256 + 256; rw [e0]; omega
  | ⟨1, _⟩ => show win0_4.index _ (1 : Fin 2) * 4096 ≤ (i 1).val ∧ (i 1).val < win0_4.index _ (1 : Fin 2) * 4096 + 4096; rw [e1]; omega

end Cert.FinalIdeal.Mat

namespace Cert.Proof.Final

open Idealize.ShloMosaic Idealize.SL.Sem

/-- The reference terminates, keeps its arguments, and has no semaphore. -/
theorem frame_ref : Cert.quiescent_FinalRefIdeal (hFinalRefIdeal := Cert.FinalRefIdeal.Gen.facts) := fun m ρ _ =>
  (θ_run Cert.FinalRefIdeal.defs _ _).mono (fun r h => ⟨fun c => (h c).2, sem_eq_zero_of_no_sems (by decide) r.2⟩)
    (Cert.FinalRefIdeal.Value.run (F := Ideal) m ρ)

section Ref

open Cert.FinalRefIdeal Cert.FinalRefIdeal.Gen

theorem ref_at (x f : FVec Ideal S8192x4096 .f32) (g : FVec Ideal S4096 .f32) (s : FVec Ideal S1x4096 .f32) (t : Fin 8192) (n : Fin 4096) :
    addf x (mulf (broadcastInDim S8192x4096 ![0, 1] bcast_S1x4096_S8192x4096_0_1 s) (mulf (mulf f (broadcastInDim S8192x4096 ![0, 1] bcast_S8192x1_S8192x4096_0_1 (Host.rsqrt (addf (Host.divf (broadcastInDim S8192x1 ![0] bcast_S8192_S8192x1_0 (Host.reduceAdd (mulf f f) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)))) (ix2 t n)
      = x (ix2 t n) + s (ix2 0 n) * Norm.rms Norm.width (fun k => f (ix2 t k)) (g (ix1 n)) n := by
  unfold Norm.rms
  pointwise

end Ref

/-- Kernel and reference leave the same output. -/
theorem algebraic : Cert.algebraic_FinalIdeal_FinalRefIdeal (hFinalIdeal := Cert.FinalIdeal.Gen.facts) (hFinalRefIdeal := Cert.FinalRefIdeal.Gen.facts) := by
  intro m g m' g' _ hargs
  refine ⟨fun c => Cert.FinalIdeal.Mat.res m c, (θ_run _ _ _).mono (fun r h c => ⟨(h c).1.trans (Cert.FinalIdeal.Mat.final_eq m c), (h c).2⟩) (Cert.FinalIdeal.Value.run_blocks (F := Ideal) m g), ?_⟩
  refine (θ_run (Cert.FinalRefIdeal.defs (F := Ideal)) _ _).mono (fun r h c => ?_) (Cert.FinalRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 8192) (n : Fin 4096), j = ix2 t n := ⟨j 0, j 1, by idx_vars j⟩
  refine (ref_at _ _ _ _ t n).trans ?_
  show _ = Cert.FinalIdeal.Mat.outOf m c t n
  unfold Cert.FinalIdeal.Mat.outOf
  rw [e0, e1, e2, e3]

end Cert.Proof.Final

end
-- ==== Proof.FinalSValue.lean ====
/-
  The samples' output: as the prompt's, with one row of the gate for each of a sample's eight steps.
-/
module

public import proofs.«01_k».proof.Defs
public import proofs.«01_k».proof.Proof.Norm
public import proofs.«01_k».proof.Proof.Gen.FinalSIdeal.Value
public import proofs.«01_k».proof.Proof.Gen.FinalSRefIdeal.Run

@[expose] public section

set_option maxRecDepth 16384

noncomputable section

namespace Cert.FinalSIdeal.Mat

open Cert.FinalSIdeal Cert.FinalSIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_4.flush t = true :=
  (by decide +kernel : ∀ t : Fin grid0.N, _)

theorem out_eq (x0 x1 : Vec Ideal S256x4096 .f32) (x2 : Vec Ideal S1x4096 .f32) (x3 : Vec Ideal S256x4096 .f32) : out0_4 x0 x1 x2 x3 = k0_pay1 x0 x3 x1 x2 := by
  unfold out0_4
  rw [View.canon_unit_zero hz2, View.ld_unit_zero hz2, View.ld_unit_zero hz2, View.ld_unit_zero hz2, View.ld_unit_zero hz2]

theorem pay_at (x f : Vec Ideal S256x4096 .f32) (g : Vec Ideal S1x4096 .f32) (s : Vec Ideal S256x4096 .f32) (r : Fin 256) (e : Fin 4096) :
    k0_pay1 x s f g (ix2 r e) = x (ix2 r e) + s (ix2 r e) * Norm.rms Norm.width (fun k => f (ix2 r k)) (g (ix2 0 e)) e := by
  unfold Norm.rms
  pointwise [k0_pay1]

variable (m : (ℓ : Loc nD τ sig) → Buf (Elt Ideal) ℓ) (c : Dev nD)

theorem Nlt (t : Fin cfg0.N) : t.val < 4 := lt_of_lt_of_eq t.isLt (show cfg0.N = 4 from N_0)

/-- The arguments as plain functions. -/
abbrev xOf : Fin 1024 → Fin 4096 → EReal := fun t k => m ((c : Thread nD τ).loc main_arg0) (ix3 ⟨t.val / 8, by have := t.isLt; omega⟩ ⟨t.val % 8, by omega⟩ k)
abbrev fOf : Fin 1024 → Fin 4096 → EReal := fun t k => m ((c : Thread nD τ).loc main_arg1) (ix3 ⟨t.val / 8, by have := t.isLt; omega⟩ ⟨t.val % 8, by omega⟩ k)
abbrev gOf : Fin 4096 → EReal := fun k => m ((c : Thread nD τ).loc main_arg2) (ix1 k)
abbrev sOf : Fin 1024 → Fin 4096 → EReal := fun t k => m ((c : Thread nD τ).loc main_arg3) (ix2 ⟨t.val / 8, by have := t.isLt; omega⟩ k)

theorem blk0 (t : Fin cfg0.N) (r : Fin 256) (k : Fin 4096) :
    iblk m c 0 t (ix2 r k) = xOf m c ⟨256 * t.val + r.val, by have := r.isLt; have := Nlt t; omega⟩ k := by
  have hN := Nlt t
  unfold xOf
  blk_ext! [iblk, V, idx t]

theorem blk1 (t : Fin cfg0.N) (r : Fin 256) (k : Fin 4096) :
    iblk m c 1 t (ix2 r k) = fOf m c ⟨256 * t.val + r.val, by have := r.isLt; have := Nlt t; omega⟩ k := by
  have hN := Nlt t
  unfold fOf
  blk_ext! [iblk, V, idx t]

theorem blk2 (t : Fin cfg0.N) (k : Fin 4096) : iblk m c 2 t (ix2 0 k) = gOf m c k := by
  unfold gOf
  blk_ext! [iblk, V, idx t]

theorem blk3 (t : Fin cfg0.N) (r : Fin 256) (k : Fin 4096) :
    iblk m c 3 t (ix2 r k) = sOf m c ⟨256 * t.val + r.val, by have := r.isLt; have := Nlt t; omega⟩ k := by
  have hN := Nlt t
  unfold sOf
  blk_ext! [iblk, V, idx t]

/-- The output at one row and column. -/
def outOf (t : Fin 1024) (n : Fin 4096) : EReal :=
  xOf m c t n + sOf m c t n * Norm.rms Norm.width (fOf m c t) (gOf m c n) n

/-- The result array. -/
def res : S1024x4096.Idx → EReal := fun j => outOf m c (j 0) (j 1)

theorem point_at (t : Fin cfg0.N) (r : Fin 256) (e : Fin 4096) :
    out0_4 (iblk m c 0 t) (iblk m c 1 t) (iblk m c 2 t) (iblk m c 3 t) (ix2 r e)
      = outOf m c ⟨256 * t.val + r.val, by have := r.isLt; have := Nlt t; omega⟩ e := by
  rw [out_eq, pay_at, blk0 m c t r e, blk2 m c t e, blk3 m c t r e, funext fun k => blk1 m c t r k]
  rfl

theorem mem_blk (t : Fin cfg0.N) (i : S1024x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v1).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 256) (e : Fin 4096), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 256 * t.val + r.val = win0_4.index t (0 : Fin 2) * 256 + 1 * r.val
    omega
  · show e.val = win0_4.index t (1 : Fin 2) * 4096 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 1024 := (i 0).isLt
  have h1 : (i 1).val < 4096 := (i 1).isLt
  have hN : cfg0.N = 4 := N_0
  have ht : (i 0).val / 256 < cfg0.N := by omega
  have e0 : win0_4.index ⟨(i 0).val / 256, ht⟩ (0 : Fin 2) = (i 0).val / 256 := congrFun (idx ⟨(i 0).val / 256, ht⟩).2.2.2.2.1 0
  have e1 : win0_4.index ⟨(i 0).val / 256, ht⟩ (1 : Fin 2) = 0 := congrFun (idx ⟨(i 0).val / 256, ht⟩).2.2.2.2.1 1
  refine ⟨⟨(i 0).val / 256, ht⟩, (idx _).2.2.2.2.2, (mem_blk _ i).mpr fun a => ?_⟩
  match a with
  | ⟨0, _⟩ => show win0_4.index _ (0 : Fin 2) * 256 ≤ (i 0).val ∧ (i 0).val < win0_4.index _ (0 : Fin 2) * 256 + 256; rw [e0]; omega
  | ⟨1, _⟩ => show win0_4.index _ (1 : Fin 2) * 4096 ≤ (i 1).val ∧ (i 1).val < win0_4.index _ (1 : Fin 2) * 4096 + 4096; rw [e1]; omega

end Cert.FinalSIdeal.Mat

namespace Cert.Proof.FinalS

open Idealize.ShloMosaic Idealize.SL.Sem

/-- The reference terminates, keeps its arguments, and has no semaphore. -/
theorem frame_ref : Cert.quiescent_FinalSRefIdeal (hFinalSRefIdeal := Cert.FinalSRefIdeal.Gen.facts) := fun m ρ _ =>
  (θ_run Cert.FinalSRefIdeal.defs _ _).mono (fun r h => ⟨fun c => (h c).2, sem_eq_zero_of_no_sems (by decide) r.2⟩)
    (Cert.FinalSRefIdeal.Value.run (F := Ideal) m ρ)

section Ref

open Cert.FinalSRefIdeal Cert.FinalSRefIdeal.Gen

theorem ref_at (x f : FVec Ideal S128x8x4096 .f32) (g : FVec Ideal S4096 .f32) (s : FVec Ideal S128x4096 .f32) (t : Fin 1024) (n : Fin 4096) :
    shapeCast S1024x4096 (addf x (mulf (broadcastInDim S128x8x4096 ![0, 1, 2] bcast_S128x1x4096_S128x8x4096_0_1_2 (broadcastInDim S128x1x4096 ![0, 2] bcast_S128x4096_S128x1x4096_0_2 s)) (mulf (mulf f (broadcastInDim S128x8x4096 ![0, 1, 2] bcast_S128x8x1_S128x8x4096_0_1_2 (Host.rsqrt (addf (Host.divf (broadcastInDim S128x8x1 ![0, 1] bcast_S128x8_S128x8x1_0_1 (Host.reduceAdd (mulf f f) (constant S_ .f32 0x00000000#32) reducesTo_S128x8x4096_S128x8_d2 h_S_)) (broadcastInDim S128x8x1 ![] bcast_S_S128x8x1 (constant S_ .f32 0x45800000#32))) (broadcastInDim S128x8x1 ![] bcast_S_S128x8x1 (constant S_ .f32 0x358637BD#32)))))) (broadcastInDim S128x8x4096 ![0, 1, 2] bcast_S1x1x4096_S128x8x4096_0_1_2 (broadcastInDim S1x1x4096 ![2] bcast_S4096_S1x1x4096_2 g))))) shapeCasts_S128x8x4096_S1024x4096 (ix2 t n)
      = x (ix3 ⟨t.val / 8, by have := t.isLt; omega⟩ ⟨t.val % 8, by omega⟩ n) + s (ix2 ⟨t.val / 8, by have := t.isLt; omega⟩ n) * Norm.rms Norm.width (fun k => f (ix3 ⟨t.val / 8, by have := t.isLt; omega⟩ ⟨t.val % 8, by omega⟩ k)) (g (ix1 n)) n := by
  unfold Norm.rms
  pointwise

end Ref

/-- Kernel and reference leave the same output. -/
theorem algebraic : Cert.algebraic_FinalSIdeal_FinalSRefIdeal (hFinalSIdeal := Cert.FinalSIdeal.Gen.facts) (hFinalSRefIdeal := Cert.FinalSRefIdeal.Gen.facts) := by
  intro m g m' g' _ hargs
  refine ⟨fun c => Cert.FinalSIdeal.Mat.res m c, (θ_run _ _ _).mono (fun r h c => ⟨(h c).1.trans (Cert.FinalSIdeal.Mat.final_eq m c), (h c).2⟩) (Cert.FinalSIdeal.Value.run_blocks (F := Ideal) m g), ?_⟩
  refine (θ_run (Cert.FinalSRefIdeal.defs (F := Ideal)) _ _).mono (fun r h c => ?_) (Cert.FinalSRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 1024) (n : Fin 4096), j = ix2 t n := ⟨j 0, j 1, by idx_vars j⟩
  refine (ref_at _ _ _ _ t n).trans ?_
  show _ = Cert.FinalSIdeal.Mat.outOf m c t n
  unfold Cert.FinalSIdeal.Mat.outOf
  rw [e0, e1, e2, e3]

end Cert.Proof.FinalS

end
-- ==== Proof.StepPoint.lean ====
/-
  What one grid point of the samples' recurrence leaves, as plain functions of what it reads: the convolution
  with the three steps before, the gates, the hidden state, and the steps carried on.
-/
module

public import proofs.«01_k».proof.Proof.Whole
public import proofs.«01_k».proof.Proof.Gen.StepIdeal.Value

@[expose] public section

set_option maxRecDepth 16384

noncomputable section

namespace Cert.StepIdeal.Rglru

open Cert.StepIdeal Cert.StepIdeal.Gen Cert.Whole Idealize.ShloMosaic Idealize.ShloMosaic.TcCoe Idealize.SL.Sem

/-- Step `k` of the three carried. -/
def slab (h : Vec Ideal S3x128x128 .f32) (k : Fin 3) : Vec Ideal S1x128x128 .f32 := fun j => h (ix3 k (j 1 : Fin 128) (j 2 : Fin 128))

/-- Row `k` of the filter. -/
def tap (w : Vec Ideal S4x128 .f32) (k : Fin 4) : Vec Ideal S1x128 .f32 := fun j => w (ix2 k (j 1 : Fin 128))

/-- The convolution of a step with the three before. -/
def convT (h : Vec Ideal S3x128x128 .f32) (x0 : Vec Ideal S1x128x128 .f32) (x4 : Vec Ideal S4x128 .f32) (x5 : Vec Ideal S1x128 .f32) : FVec Ideal S128x128 .f32 :=
  k0_pay5 x0 x5 (slab h 0) (tap x4 0) (slab h 1) (tap x4 1) (slab h 2) (tap x4 2) (tap x4 3)

/-- The hidden states of a step: gates from its convolution `cv`, and the states `h0` before it. -/
def stateT (cv : FVec Ideal S128x128 .f32) (x6 : Vec Ideal S1x128x128 .bf16) (x7 : Vec Ideal S1x128 .f32) (x8 : Vec Ideal S1x128x128 .bf16)
    (x9 x10 : Vec Ideal S1x128 .f32) (h0 : Vec Ideal S128x128 .f32) : FVec Ideal S128x128 .f32 :=
  k0_pay12 cv (k0_pay10 cv x6 x7) (k0_pay11 cv x8 x9) x10 h0

/-- The three steps to carry on: the last two and the one read. -/
def shifted (h : Vec Ideal S3x128x128 .f32) (x0 : Vec Ideal S1x128x128 .f32) : Vec Ideal S3x128x128 .f32 := fun j =>
  if (j 0).val = 0 then h (ix3 1 (j 1 : Fin 128) (j 2 : Fin 128)) else if (j 0).val = 1 then h (ix3 2 (j 1 : Fin 128) (j 2 : Fin 128)) else x0 (ix3 0 (j 1 : Fin 128) (j 2 : Fin 128))

/-- A load of one carried step. -/
theorem load_slab (v : View sig .tc .vmem S3x128x128 .f32) (f : v.ty.Contents (Elt Ideal)) (k : ℕ) (hk : k < 3)
    (inb : ∀ a : Fin 3, (![k, 0, 0] : Fin 3 → ℕ) a + S1x128x128.size a ≤ S3x128x128.size a) :
    v.readAt (Elt Ideal) (Rect.unit (s := S3x128x128) ![k, 0, 0] S1x128x128.size inb).toLoadRect f = slab (v.read (Elt Ideal) f) ⟨k, hk⟩ := by
  funext j
  have hj : (j 0).val < 1 := (j 0).isLt
  refine congrArg (v.read (Elt Ideal) f) (funext fun a => Fin.ext ?_)
  match a with
  | ⟨0, _⟩ => show k + 1 * (j 0).val = k; omega
  | ⟨1, _⟩ => show 0 + 1 * (j 1).val = (j 1).val; omega
  | ⟨2, _⟩ => show 0 + 1 * (j 2).val = (j 2).val; omega

/-- A load of one filter row. -/
theorem load_tap (v : View sig .tc .vmem S4x128 .f32) (f : v.ty.Contents (Elt Ideal)) (k : ℕ) (hk : k < 4)
    (inb : ∀ a : Fin 2, (![k, 0] : Fin 2 → ℕ) a + S1x128.size a ≤ S4x128.size a) :
    v.readAt (Elt Ideal) (Rect.unit (s := S4x128) ![k, 0] S1x128.size inb).toLoadRect f = tap (v.read (Elt Ideal) f) ⟨k, hk⟩ := by
  funext j
  have hj : (j 0).val < 1 := (j 0).isLt
  refine congrArg (v.read (Elt Ideal) f) (funext fun a => Fin.ext ?_)
  match a with
  | ⟨0, _⟩ => show k + 1 * (j 0).val = k; omega
  | ⟨1, _⟩ => show 0 + 1 * (j 1).val = (j 1).val; omega

/-- A carried step read back after a write of step `k`: the written one. -/
theorem read_same (v : View sig .tc .vmem S3x128x128 .f32) (f : v.ty.Contents (Elt Ideal)) (k : ℕ) (hk : k < 3)
    (inb : ∀ a : Fin 3, (![k, 0, 0] : Fin 3 → ℕ) a + S1x128x128.size a ≤ S3x128x128.size a) (w : Vec Ideal S1x128x128 .f32)
    (L : List (View.Piece (Elt Ideal) S3x128x128 .f32)) (b e : Fin 128) :
    v.read (Elt Ideal) (v.writes (Elt Ideal) f (⟨Rect.unit (s := S3x128x128) ![k, 0, 0] S1x128x128.size inb, w⟩ :: L)) (ix3 ⟨k, hk⟩ b e) = w (ix3 0 b e) :=
  View.read_writes_cons_unit_of_mem v f inb w L _ (ix3 0 b e) rfl fun a => by
    match a with
    | ⟨0, _⟩ => rfl
    | ⟨1, _⟩ => exact (Nat.zero_add _).symm
    | ⟨2, _⟩ => exact (Nat.zero_add _).symm

/-- Another carried step is as before the write. -/
theorem read_other (v : View sig .tc .vmem S3x128x128 .f32) (f : v.ty.Contents (Elt Ideal)) (k : ℕ) (q : Fin 3) (hq : q.val ≠ k)
    (inb : ∀ a : Fin 3, (![k, 0, 0] : Fin 3 → ℕ) a + S1x128x128.size a ≤ S3x128x128.size a) (w : Vec Ideal S1x128x128 .f32)
    (L : List (View.Piece (Elt Ideal) S3x128x128 .f32)) (b e : Fin 128) :
    v.read (Elt Ideal) (v.writes (Elt Ideal) f (⟨Rect.unit (s := S3x128x128) ![k, 0, 0] S1x128x128.size inb, w⟩ :: L)) (ix3 q b e)
      = v.read (Elt Ideal) (v.writes (Elt Ideal) f L) (ix3 q b e) :=
  View.read_writes_cons_unit_of_not_mem v f inb w L _ rfl 0 (by show q.val < k ∨ k + 1 ≤ q.val; omega)

theorem pay2_eq (x : Vec Ideal S3x128x128 .f32) : k0_pay2 x = x := (shapeCast_self _ _).trans (shapeCast_self _ _)
theorem pay3_eq (x : Vec Ideal S128x128 .f32) : k0_pay3 x = x := shapeCast_self _ _
theorem pay13_eq (a b d : FVec Ideal S128x128 .f32) (l : Vec Ideal S1x128 .f32) (h : Vec Ideal S128x128 .f32) : k0_pay13 a b d l h = k0_pay12 a b d l h := shapeCast_self _ _
theorem pay6_at (x : Vec Ideal S1x128x128 .f32) (b e : Fin 128) : k0_pay6 x (ix3 0 b e) = x (ix3 0 b e) := by
  pointwise [k0_pay6]
theorem pay7_at (x : Vec Ideal S1x128x128 .f32) (b e : Fin 128) : k0_pay7 x (ix3 0 b e) = x (ix3 0 b e) := by
  pointwise [k0_pay7]
theorem pay8_at (x : Vec Ideal S1x128x128 .f32) (b e : Fin 128) : k0_pay8 (k0_pay4 x) (ix3 0 b e) = x (ix3 0 b e) := by
  pointwise [k0_pay8, k0_pay4]

section Point

variable (c : Dev nD) (i : grid0.Coords) (arg2 : Memref sig .tc .vmem S1x128x128 .f32) (harg2 : arg2.IsWhole) (arg3 : Memref sig .tc .vmem S1x128x128 .f32) (harg3 : arg3.IsWhole) (arg4 : Memref sig .tc .vmem S3x128x128 .f32) (harg4 : arg4.IsWhole) (arg5 : Memref sig .tc .vmem S128x128 .f32) (harg5 : arg5.IsWhole) (arg6 : Memref sig .tc .vmem S4x128 .f32) (harg6 : arg6.IsWhole) (arg7 : Memref sig .tc .vmem S1x128 .f32) (harg7 : arg7.IsWhole) (arg8 : Memref sig .tc .vmem S1x128x128 .bf16) (harg8 : arg8.IsWhole) (arg9 : Memref sig .tc .vmem S1x128 .f32) (harg9 : arg9.IsWhole) (arg10 : Memref sig .tc .vmem S1x128x128 .bf16) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128x128 .f32) (harg13 : arg13.IsWhole) (arg14 : Memref sig .tc .vmem S128x128 .f32) (harg14 : arg14.IsWhole) (arg15 : Memref sig .tc .vmem S3x128x128 .f32) (harg15 : arg15.IsWhole) (arg16 : Memref sig .tc .vmem S128x128 .f32) (harg16 : arg16.IsWhole)
    (x0 x1 : Vec Ideal S1x128x128 .f32) (x2 : Vec Ideal S3x128x128 .f32) (x3 : Vec Ideal S128x128 .f32) (x4 : Vec Ideal S4x128 .f32) (x5 : Vec Ideal S1x128 .f32) (x6 : Vec Ideal S1x128x128 .bf16) (x7 : Vec Ideal S1x128 .f32) (x8 : Vec Ideal S1x128x128 .bf16) (x9 x10 : Vec Ideal S1x128 .f32) (xs0 : Vec Ideal S3x128x128 .f32) (xs1 : Vec Ideal S128x128 .f32)

theorem out_11_A (hc : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = k0_pay1 (stateT (convT x2 x0 x4 x5) x6 x7 x8 x9 x10 x3) (k0_pay14 x1) (k0_pay15 x1) k0_pay16 := by
  unfold out0_A_11 kernelRun0_A
  dsimp only
  sl_unfold_words
  refine (read_whole VO0_11 _ _ hz3 _ _ _).trans ?_
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  unfold View.readCov
  rw [load_slab arg15.view _ 0 (by decide), load_slab arg15.view _ 1 (by decide), load_slab arg15.view _ 2 (by decide), read_whole _ _ _ hz3, pay2_eq,
    load_whole arg4.view _ _ hz3, harg4.read_unread, load_whole arg16.view _ _ hz2, read_whole _ _ _ hz2, pay3_eq, load_whole arg5.view _ _ hz2, harg5.read_unread]
  rw [load_whole arg3.view _ _ hz3, harg3.read_unread]
  rfl

theorem out_12_A (hc : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = stateT (convT x2 x0 x4 x5) x6 x7 x8 x9 x10 x3 := by
  unfold out0_A_12 kernelRun0_A
  dsimp only
  sl_unfold_words
  refine (read_whole VO0_12 _ _ hz2 _ _ _).trans ?_
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  unfold View.readCov
  rw [load_slab arg15.view _ 0 (by decide), load_slab arg15.view _ 1 (by decide), load_slab arg15.view _ 2 (by decide), read_whole _ _ _ hz3, pay2_eq,
    load_whole arg4.view _ _ hz3, harg4.read_unread, load_whole arg16.view _ _ hz2, read_whole _ _ _ hz2, pay3_eq, load_whole arg5.view _ _ hz2, harg5.read_unread]
  rfl

theorem sout_1_A (hc : cond0_0 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = stateT (convT x2 x0 x4 x5) x6 x7 x8 x9 x10 x3 := by
  unfold sout0_A_1 kernelRun0_A
  dsimp only
  sl_unfold_words
  refine (read_whole VS0_1 _ _ hz2 _ _ _).trans ?_
  rw [pay13_eq]
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  unfold View.readCov
  rw [load_slab arg15.view _ 0 (by decide), load_slab arg15.view _ 1 (by decide), load_slab arg15.view _ 2 (by decide), read_whole _ _ _ hz3, pay2_eq,
    load_whole arg4.view _ _ hz3, harg4.read_unread, load_whole arg16.view _ _ hz2, read_whole _ _ _ hz2, pay3_eq, load_whole arg5.view _ _ hz2, harg5.read_unread]
  rfl

theorem sout_0_A (hc : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 = shifted x2 x0 := by
  unfold sout0_A_0 kernelRun0_A
  dsimp only
  sl_unfold_words
  funext j
  obtain ⟨q, b, e, rfl⟩ : ∃ (q : Fin 3) (b e : Fin 128), j = ix3 q b e := ⟨j 0, j 1, j 2, by idx_vars j⟩
  match q with
  | ⟨0, _⟩ =>
    refine (read_other _ _ 2 0 (by decide) _ _ _ b e).trans ?_
    refine (read_other _ _ 1 0 (by decide) _ _ _ b e).trans ?_
    refine (read_same _ _ 0 (by decide) _ _ _ b e).trans ?_
    refine (pay6_at _ b e).trans ?_
    unfold View.readCov
    rw [load_slab arg15.view _ 1 (by decide)]
    refine (congrFun (read_whole _ _ _ hz3 _ _ _) _).trans ?_
    rw [pay2_eq, load_whole arg4.view _ _ hz3, harg4.read_unread]
    rfl
  | ⟨1, _⟩ =>
    refine (read_other _ _ 2 1 (by decide) _ _ _ b e).trans ?_
    refine (read_same _ _ 1 (by decide) _ _ _ b e).trans ?_
    refine (pay7_at _ b e).trans ?_
    unfold View.readCov
    rw [load_slab arg15.view _ 2 (by decide)]
    refine (read_other _ _ 0 2 (by decide) _ _ _ b e).trans ?_
    refine (congrFun (read_whole _ _ _ hz3 _ _ _) _).trans ?_
    rw [pay2_eq, load_whole arg4.view _ _ hz3, harg4.read_unread]
    rfl
  | ⟨2, _⟩ =>
    refine (read_same _ _ 2 (by decide) _ _ _ b e).trans ?_
    refine (pay8_at _ b e).trans ?_
    rw [load_whole arg2.view _ _ hz3, harg2.read_unread]
    rfl

theorem out_11_B (hc : ¬cond0_0 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 xs0 xs1 = k0_pay1 (stateT (convT xs0 x0 x4 x5) x6 x7 x8 x9 x10 xs1) (k0_pay14 x1) (k0_pay15 x1) k0_pay16 := by
  unfold out0_B_11 kernelRun0_B
  dsimp only
  sl_unfold_words
  refine (read_whole VO0_11 _ _ hz3 _ _ _).trans ?_
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  rw [load_slab arg15.view _ 0 (by decide), load_slab arg15.view _ 1 (by decide), load_slab arg15.view _ 2 (by decide), harg15.read_unread,
    load_whole arg16.view _ _ hz2, harg16.read_unread]
  rw [load_whole arg3.view _ _ hz3, harg3.read_unread]
  rfl

theorem out_12_B (hc : ¬cond0_0 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 xs0 xs1 = stateT (convT xs0 x0 x4 x5) x6 x7 x8 x9 x10 xs1 := by
  unfold out0_B_12 kernelRun0_B
  dsimp only
  sl_unfold_words
  refine (read_whole VO0_12 _ _ hz2 _ _ _).trans ?_
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  rw [load_slab arg15.view _ 0 (by decide), load_slab arg15.view _ 1 (by decide), load_slab arg15.view _ 2 (by decide), harg15.read_unread,
    load_whole arg16.view _ _ hz2, harg16.read_unread]
  rfl

theorem sout_1_B (hc : ¬cond0_0 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 xs0 xs1 = stateT (convT xs0 x0 x4 x5) x6 x7 x8 x9 x10 xs1 := by
  unfold sout0_B_1 kernelRun0_B
  dsimp only
  sl_unfold_words
  refine (read_whole VS0_1 _ _ hz2 _ _ _).trans ?_
  rw [pay13_eq]
  rw [load_whole arg2.view _ _ hz3, harg2.read_unread, load_whole arg7.view _ _ hz2, harg7.read_unread, load_whole arg8.view _ _ hz3, harg8.read_unread,
    load_whole arg9.view _ _ hz2, harg9.read_unread, load_whole arg10.view _ _ hz3, harg10.read_unread, load_whole arg11.view _ _ hz2, harg11.read_unread,
    load_whole arg12.view _ _ hz2, harg12.read_unread]
  rw [load_tap arg6.view _ 0 (by decide), load_tap arg6.view _ 1 (by decide), load_tap arg6.view _ 2 (by decide), load_tap arg6.view _ 3 (by decide), harg6.read_unread]
  rw [load_slab arg15.view _ 0 (by decide), load_slab arg15.view _ 1 (by decide), load_slab arg15.view _ 2 (by decide), harg15.read_unread,
    load_whole arg16.view _ _ hz2, harg16.read_unread]
  rfl

theorem sout_0_B (hc : ¬cond0_0 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 x8 x9 x10 xs0 xs1 = shifted xs0 x0 := by
  unfold sout0_B_0 kernelRun0_B
  dsimp only
  sl_unfold_words
  funext j
  obtain ⟨q, b, e, rfl⟩ : ∃ (q : Fin 3) (b e : Fin 128), j = ix3 q b e := ⟨j 0, j 1, j 2, by idx_vars j⟩
  match q with
  | ⟨0, _⟩ =>
    refine (read_other _ _ 2 0 (by decide) _ _ _ b e).trans ?_
    refine (read_other _ _ 1 0 (by decide) _ _ _ b e).trans ?_
    refine (read_same _ _ 0 (by decide) _ _ _ b e).trans ?_
    refine (pay6_at _ b e).trans ?_
    refine (congrFun (load_slab arg15.view _ 1 (by decide) _) _).trans ?_
    rw [harg15.read_unread]
    rfl
  | ⟨1, _⟩ =>
    refine (read_other _ _ 2 1 (by decide) _ _ _ b e).trans ?_
    refine (read_same _ _ 1 (by decide) _ _ _ b e).trans ?_
    refine (pay7_at _ b e).trans ?_
    refine (congrFun (load_slab arg15.view _ 2 (by decide) _) _).trans ?_
    rw [harg15.read_unread]
    rfl
  | ⟨2, _⟩ =>
    refine (read_same _ _ 2 (by decide) _ _ _ b e).trans ?_
    refine (pay8_at _ b e).trans ?_
    rw [load_whole arg2.view _ _ hz3, harg2.read_unread]
    rfl

end Point

end Cert.StepIdeal.Rglru

end
-- ==== Proof.StepSpec.lean ====
/-
  The samples' recurrence over the extended reals, as plain functions of its inputs: for each sample, eight
  steps of the layer from a given state and the three steps before the first.
-/
module

public import proofs.«01_k».proof.Proof.Spec

@[expose] public section

noncomputable section

namespace Cert.Samples

open Idealize.ShloMosaic Cert.Rglru

variable (z : Fin 128 → Fin 8 → Fin 4096 → EReal) (bf : Fin 128 → Fin 3 → Fin 2048 → EReal) (cw : Fin 4 → Fin 2048 → EReal) (cb : Fin 2048 → EReal)
  (wa : Fin 16 → Fin 128 → Fin 128 → EReal) (ba : Fin 2048 → EReal) (wi : Fin 16 → Fin 128 → Fin 128 → EReal) (bi lam : Fin 2048 → EReal)
  (s0 : Fin 128 → Fin 2048 → EReal)

/-- The recurrent half of a sample's input, after the three steps before it. -/
def padS (b : Fin 128) (ch : Fin 2048) (s : ℕ) : EReal :=
  if h : s < 3 then bf b ⟨s, h⟩ ch else if h : s < 11 then z b ⟨s - 3, by omega⟩ ⟨ch.val, by have := ch.isLt; omega⟩ else 0

/-- The causal convolution at step `t`. -/
def convS (b : Fin 128) (ch : Fin 2048) (t : ℕ) : EReal :=
  cb ch + padS z bf b ch t * cw 0 ch + padS z bf b ch (t + 1) * cw 1 ch + padS z bf b ch (t + 2) * cw 2 ch + padS z bf b ch (t + 3) * cw 3 ch

/-- One gate. -/
def gateS (w : Fin 16 → Fin 128 → Fin 128 → EReal) (v : Fin 2048 → EReal) (b : Fin 128) (n : Fin 16) (e : Fin 128) (t : ℕ) : EReal :=
  Ideal.logistic (∑ d, convS z bf cw cb b (chn n d) t * w n d e + v (chn n e))

/-- The logarithm of the decay at step `t`. -/
def laS (b : Fin 128) (n : Fin 16) (e : Fin 128) (t : ℕ) : EReal := logDecay (gateS z bf cw cb wa ba b n e t) (lam (chn n e))

/-- The decay at step `t`. -/
def decS (b : Fin 128) (n : Fin 16) (e : Fin 128) (t : ℕ) : EReal := Ideal.exp (laS z bf cw cb wa ba lam b n e t)

/-- The drive at step `t`. -/
def drvS (b : Fin 128) (n : Fin 16) (e : Fin 128) (t : ℕ) : EReal :=
  rate (laS z bf cw cb wa ba lam b n e t) * (gateS z bf cw cb wi bi b n e t * convS z bf cw cb b (chn n e) t)

/-- The hidden state after `t` steps from the given one. -/
def hidS (b : Fin 128) (n : Fin 16) (e : Fin 128) (t : ℕ) : EReal :=
  Hrec (decS z bf cw cb wa ba lam b n e) (drvS z bf cw cb wa ba wi bi lam b n e) (s0 b (chn n e)) t

theorem laS_nonpos (b : Fin 128) (n : Fin 16) (e : Fin 128) (t : ℕ) : laS z bf cw cb wa ba lam b n e t ≤ 0 :=
  logDecay_nonpos (logistic_nonneg _) _

end Cert.Samples

end
-- ==== Proof.StepCore.lean ====
/-
  One step of the samples' kernel against the samples' recurrence: where the blocks a grid point reads hold
  the layer's arrays, its convolution, gates, hidden states and output are the layer's.
-/
module

public import proofs.«01_k».proof.Proof.StepPoint
public import proofs.«01_k».proof.Proof.StepSpec

@[expose] public section

set_option maxRecDepth 16384

noncomputable section

namespace Cert.StepIdeal.Rglru

open Cert.StepIdeal Cert.StepIdeal.Gen Cert.Rglru Cert.Samples Idealize.ShloMosaic Idealize.ShloMosaic.TcCoe Idealize.SL.Sem

variable (z : Fin 128 → Fin 8 → Fin 4096 → EReal) (bf : Fin 128 → Fin 3 → Fin 2048 → EReal) (cw : Fin 4 → Fin 2048 → EReal) (cb : Fin 2048 → EReal)
  (wa : Fin 16 → Fin 128 → Fin 128 → EReal) (ba : Fin 2048 → EReal) (wi : Fin 16 → Fin 128 → Fin 128 → EReal) (bi lam : Fin 2048 → EReal)

/-- The blocks of channel block `n` at step `i`, with the three steps carried. -/
structure Holds (n : Fin 16) (i : ℕ) (h : Vec Ideal S3x128x128 .f32) (x0 : Vec Ideal S1x128x128 .f32) (x4 : Vec Ideal S4x128 .f32) (x5 : Vec Ideal S1x128 .f32)
    (x6 : Vec Ideal S1x128x128 .bf16) (x7 : Vec Ideal S1x128 .f32) (x8 : Vec Ideal S1x128x128 .bf16) (x9 x10 : Vec Ideal S1x128 .f32) : Prop where
  hh : ∀ (k : Fin 3) (b e : Fin 128), h (ix3 k b e) = padS z bf b (chn n e) (i + k.val)
  hx0 : ∀ b e : Fin 128, x0 (ix3 0 b e) = padS z bf b (chn n e) (i + 3)
  hx4 : ∀ (k : Fin 4) (e : Fin 128), x4 (ix2 k e) = cw k (chn n e)
  hx5 : ∀ e : Fin 128, x5 (ix2 0 e) = cb (chn n e)
  hx6 : ∀ d e : Fin 128, x6 (ix3 0 d e) = wa n d e
  hx7 : ∀ e : Fin 128, x7 (ix2 0 e) = ba (chn n e)
  hx8 : ∀ d e : Fin 128, x8 (ix3 0 d e) = wi n d e
  hx9 : ∀ e : Fin 128, x9 (ix2 0 e) = bi (chn n e)
  hx10 : ∀ e : Fin 128, x10 (ix2 0 e) = lam (chn n e)

variable {z bf cw cb wa ba wi bi lam} {n : Fin 16} {i : ℕ} {h : Vec Ideal S3x128x128 .f32} {x0 : Vec Ideal S1x128x128 .f32} {x4 : Vec Ideal S4x128 .f32} {x5 : Vec Ideal S1x128 .f32}
    {x6 : Vec Ideal S1x128x128 .bf16} {x7 : Vec Ideal S1x128 .f32} {x8 : Vec Ideal S1x128x128 .bf16} {x9 x10 : Vec Ideal S1x128 .f32}

theorem conv_at (g : Holds z bf cw cb wa ba wi bi lam n i h x0 x4 x5 x6 x7 x8 x9 x10) (b e : Fin 128) :
    convT h x0 x4 x5 (ix2 b e) = convS z bf cw cb b (chn n e) i := by
  have key : ∀ (v3 v7 v14 v20 : Vec Ideal S1x128x128 .f32) (v5 v9 v16 v22 v26 : Vec Ideal S1x128 .f32),
      k0_pay5 v3 v5 v7 v9 v14 v16 v20 v22 v26 (ix2 b e)
        = v5 (ix2 0 e) + v7 (ix3 0 b e) * v9 (ix2 0 e) + v14 (ix3 0 b e) * v16 (ix2 0 e) + v20 (ix3 0 b e) * v22 (ix2 0 e) + v3 (ix3 0 b e) * v26 (ix2 0 e) := by
    intro v3 v7 v14 v20 v5 v9 v16 v22 v26
    pointwise [k0_pay5, k0_pay4]
  unfold convT
  refine (key _ _ _ _ _ _ _ _ _).trans ?_
  rw [g.hx5, g.hx0]
  show cb (chn n e) + h (ix3 0 b e) * x4 (ix2 0 e) + h (ix3 1 b e) * x4 (ix2 1 e) + h (ix3 2 b e) * x4 (ix2 2 e) + _ * x4 (ix2 3 e) = _
  rw [g.hx4, g.hx4, g.hx4, g.hx4, g.hh, g.hh, g.hh]
  rfl

theorem gate_r_at (g : Holds z bf cw cb wa ba wi bi lam n i h x0 x4 x5 x6 x7 x8 x9 x10) (b e : Fin 128) :
    k0_pay10 (convT h x0 x4 x5) x6 x7 (ix2 b e) = gateS z bf cw cb wa ba b n e i := by
  have key : ∀ (v29 : FVec Ideal S128x128 .f32) (v43 : Vec Ideal S1x128x128 .bf16) (v46 : Vec Ideal S1x128 .f32),
      k0_pay10 v29 v43 v46 (ix2 b e) = Ideal.logistic (∑ x, v29 (ix2 b x) * v43 (ix3 0 x e) + v46 (ix2 0 e)) := by
    intro v29 v43 v46
    pointwise [k0_pay10, k0_pay9]
  refine (key _ _ _).trans ?_
  unfold gateS
  rw [g.hx7]
  exact congrArg (fun s => Ideal.logistic (s + _)) (Finset.sum_congr rfl fun d _ => by rw [conv_at g, g.hx6])

theorem gate_i_at (g : Holds z bf cw cb wa ba wi bi lam n i h x0 x4 x5 x6 x7 x8 x9 x10) (b e : Fin 128) :
    k0_pay11 (convT h x0 x4 x5) x8 x9 (ix2 b e) = gateS z bf cw cb wi bi b n e i := by
  have key : ∀ (v29 : FVec Ideal S128x128 .f32) (v43 : Vec Ideal S1x128x128 .bf16) (v46 : Vec Ideal S1x128 .f32),
      k0_pay11 v29 v43 v46 (ix2 b e) = Ideal.logistic (∑ x, v29 (ix2 b x) * v43 (ix3 0 x e) + v46 (ix2 0 e)) := by
    intro v29 v43 v46
    pointwise [k0_pay11, k0_pay9]
  refine (key _ _ _).trans ?_
  unfold gateS
  rw [g.hx9]
  exact congrArg (fun s => Ideal.logistic (s + _)) (Finset.sum_congr rfl fun d _ => by rw [conv_at g, g.hx8])

/-- The hidden states after the step, `h0` holding those before it. -/
theorem state_at (g : Holds z bf cw cb wa ba wi bi lam n i h x0 x4 x5 x6 x7 x8 x9 x10) {s0 : Fin 128 → Fin 2048 → EReal} {h0 : Vec Ideal S128x128 .f32}
    (hh0 : ∀ b e : Fin 128, h0 (ix2 b e) = hidS z bf cw cb wa ba wi bi lam s0 b n e i) (b e : Fin 128) :
    stateT (convT h x0 x4 x5) x6 x7 x8 x9 x10 h0 (ix2 b e) = hidS z bf cw cb wa ba wi bi lam s0 b n e (i + 1) := by
  have key : ∀ (v29 v51 v59 : FVec Ideal S128x128 .f32) (v60 : Vec Ideal S1x128 .f32) (v87 : Vec Ideal S128x128 .f32),
      k0_pay12 v29 v51 v59 v60 v87 (ix2 b e)
        = Ideal.exp (logDecay (v51 (ix2 b e)) (v60 (ix2 0 e))) * v87 (ix2 b e)
          + rate (logDecay (v51 (ix2 b e)) (v60 (ix2 0 e))) * (v59 (ix2 b e) * v29 (ix2 b e)) := by
    intro v29 v51 v59 v60 v87
    unfold rate logDecay sp
    pointwise [k0_pay12]
  unfold stateT
  refine (key _ _ _ _ _).trans ?_
  rw [gate_r_at g, gate_i_at g, conv_at g, g.hx10, hh0]
  rfl

/-- The output block: the hidden states times the gating nonlinearity. -/
theorem out_at (s : FVec Ideal S128x128 .f32) (x1 : Vec Ideal S1x128x128 .f32) (b e : Fin 128) :
    k0_pay1 s (k0_pay14 x1) (k0_pay15 x1) k0_pay16 (ix3 0 b e) = s (ix2 b e) * gelu (x1 (ix3 0 b e)) := by
  unfold gelu
  pointwise [k0_pay1, k0_pay14, k0_pay15, k0_pay16]

end Cert.StepIdeal.Rglru

end
-- ==== Proof.StepKernel.lean ====
/-
  The samples' kernel's two results as functions of its arguments: the blocks each grid point reads, what it
  carries to the next by induction along the grid, and the arrays the written blocks fill.
-/
module

public import proofs.«01_k».proof.Proof.StepCore
public import Idealize.ShloMosaic.Lib.Claim
public import Idealize.ShloMosaic.Lib.Pipeline.ValueKit

@[expose] public section

set_option maxRecDepth 16384

noncomputable section

namespace Cert.StepIdeal.Rglru

open Cert.StepIdeal Cert.StepIdeal.Gen Cert.Rglru Cert.Samples Idealize.ShloMosaic Idealize.ShloMosaic.TcCoe Idealize.SL.Sem

/-- Every window's block at a grid point: step `t mod 8`, channel block `t / 8`. -/
theorem idx0 : ∀ t : Fin cfg0.N, win0_0.index t = ![t.val % 8, 0, t.val / 8] ∧ win0_1.index t = ![t.val % 8, 0, t.val / 8 + 16]
    ∧ win0_2.index t = ![0, 0, t.val / 8] ∧ win0_3.index t = ![0, t.val / 8] ∧ win0_4.index t = ![0, t.val / 8] ∧ win0_5.index t = ![0, t.val / 8]
    ∧ win0_6.index t = ![t.val / 8, 0, 0] ∧ win0_7.index t = ![0, t.val / 8] ∧ win0_8.index t = ![t.val / 8, 0, 0] ∧ win0_9.index t = ![0, t.val / 8]
    ∧ win0_10.index t = ![0, t.val / 8] :=
  (by decide +kernel : ∀ t : Fin grid0.N, _)

variable (m : (ℓ : Loc nD τ sig) → Buf (Elt Ideal) ℓ) (c : Dev nD)

/-- The arguments as plain functions. -/
abbrev zOf : Fin 128 → Fin 8 → Fin 4096 → EReal := fun b t k => m ((c : Thread nD τ).loc main_arg0) (ix3 b t k)
abbrev bfOf : Fin 128 → Fin 3 → Fin 2048 → EReal := fun b t ch => m ((c : Thread nD τ).loc main_arg1) (ix3 b t ch)
abbrev s0Of : Fin 128 → Fin 2048 → EReal := fun b ch => m ((c : Thread nD τ).loc main_arg2) (ix2 b ch)
abbrev cwOf : Fin 4 → Fin 2048 → EReal := fun k ch => m ((c : Thread nD τ).loc main_arg3) (ix2 k ch)
abbrev cbOf : Fin 2048 → EReal := fun ch => m ((c : Thread nD τ).loc main_arg4) (ix1 ch)
abbrev waOf : Fin 16 → Fin 128 → Fin 128 → EReal := fun n d e => m ((c : Thread nD τ).loc main_arg5) (ix3 n d e)
abbrev baOf : Fin 2048 → EReal := fun ch => m ((c : Thread nD τ).loc main_arg6) (ix1 ch)
abbrev wiOf : Fin 16 → Fin 128 → Fin 128 → EReal := fun n d e => m ((c : Thread nD τ).loc main_arg7) (ix3 n d e)
abbrev biOf : Fin 2048 → EReal := fun ch => m ((c : Thread nD τ).loc main_arg8) (ix1 ch)
abbrev lamOf : Fin 2048 → EReal := fun ch => m ((c : Thread nD τ).loc main_arg9) (ix1 ch)

theorem N128 (t : Fin cfg0.N) : t.val < 128 := lt_of_lt_of_eq t.isLt (show cfg0.N = 128 from N_0)

/-- The channel block and the step of a grid point. -/
def nOf (t : Fin cfg0.N) : Fin 16 := ⟨t.val / 8, by have := N128 t; omega⟩
def iOf (t : Fin cfg0.N) : Fin 8 := ⟨t.val % 8, by omega⟩

theorem blk0 (t : Fin cfg0.N) (b e : Fin 128) : iblk m c 0 t (ix3 0 b e) = padS (zOf m c) (bfOf m c) b (chn (nOf t) e) ((iOf t).val + 3) := by
  have hN := N128 t
  unfold padS
  rw [dif_neg (by omega), dif_pos (by have := (iOf t).isLt; omega)]
  unfold zOf chn iOf nOf
  blk_ext! [iblk, V, idx0 t]
theorem blk1 (t : Fin cfg0.N) (b e : Fin 128) :
    iblk m c 1 t (ix3 0 b e) = zOf m c b (iOf t) ⟨2048 + (chn (nOf t) e).val, by have := (chn (nOf t) e).isLt; omega⟩ := by
  have hN := N128 t
  unfold zOf chn iOf nOf
  blk_ext! [iblk, V, idx0 t]
theorem blk2 (t : Fin cfg0.N) (k : Fin 3) (b e : Fin 128) : iblk m c 2 t (ix3 k b e) = padS (zOf m c) (bfOf m c) b (chn (nOf t) e) k.val := by
  unfold padS
  rw [dif_pos k.isLt]
  unfold bfOf chn nOf
  blk_ext! [iblk, V, idx0 t]
theorem blk3 (t : Fin cfg0.N) (b e : Fin 128) : iblk m c 3 t (ix2 b e) = s0Of m c b (chn (nOf t) e) := by
  unfold s0Of chn nOf
  blk_ext! [iblk, V, idx0 t]
theorem blk4 (t : Fin cfg0.N) (k : Fin 4) (e : Fin 128) : iblk m c 4 t (ix2 k e) = cwOf m c k (chn (nOf t) e) := by
  unfold cwOf chn nOf
  blk_ext! [iblk, V, idx0 t]
theorem blk5 (t : Fin cfg0.N) (e : Fin 128) : iblk m c 5 t (ix2 0 e) = cbOf m c (chn (nOf t) e) := by
  unfold cbOf chn nOf
  blk_ext! [iblk, V, idx0 t]
theorem blk7 (t : Fin cfg0.N) (e : Fin 128) : iblk m c 7 t (ix2 0 e) = baOf m c (chn (nOf t) e) := by
  unfold baOf chn nOf
  blk_ext! [iblk, V, idx0 t]
theorem blk9 (t : Fin cfg0.N) (e : Fin 128) : iblk m c 9 t (ix2 0 e) = biOf m c (chn (nOf t) e) := by
  unfold biOf chn nOf
  blk_ext! [iblk, V, idx0 t]
theorem blk10 (t : Fin cfg0.N) (e : Fin 128) : iblk m c 10 t (ix2 0 e) = lamOf m c (chn (nOf t) e) := by
  unfold lamOf chn nOf
  blk_ext! [iblk, V, idx0 t]
theorem blk6 (t : Fin cfg0.N) (d e : Fin 128) : iblk m c 6 t (ix3 0 d e) = waOf m c (nOf t) d e := by
  unfold waOf nOf
  blk_ext! [iblk, V, idx0 t]
theorem blk8 (t : Fin cfg0.N) (d e : Fin 128) : iblk m c 8 t (ix3 0 d e) = wiOf m c (nOf t) d e := by
  unfold wiOf nOf
  blk_ext! [iblk, V, idx0 t]

/-! ## Along the grid -/

/-- The samples' hidden state over the arguments. -/
abbrev hidOf (b : Fin 128) (n : Fin 16) (e : Fin 128) (t : ℕ) : EReal := hidS (zOf m c) (bfOf m c) (cwOf m c) (cbOf m c) (waOf m c) (baOf m c) (wiOf m c) (biOf m c) (lamOf m c) (s0Of m c) b n e t

abbrev HoldsAt (t : Fin cfg0.N) (h : Vec Ideal S3x128x128 .f32) : Prop :=
  Holds (zOf m c) (bfOf m c) (cwOf m c) (cbOf m c) (waOf m c) (baOf m c) (wiOf m c) (biOf m c) (lamOf m c) (nOf t) (iOf t).val h
    (iblk m c 0 t) (iblk m c 4 t) (iblk m c 5 t) (iblk m c 6 t) (iblk m c 7 t) (iblk m c 8 t) (iblk m c 9 t) (iblk m c 10 t)

theorem holds_of (t : Fin cfg0.N) (h : Vec Ideal S3x128x128 .f32)
    (hh : ∀ (k : Fin 3) (b e : Fin 128), h (ix3 k b e) = padS (zOf m c) (bfOf m c) b (chn (nOf t) e) ((iOf t).val + k.val)) : HoldsAt m c t h :=
  ⟨hh, blk0 m c t, blk4 m c t, blk5 m c t, blk6 m c t, blk7 m c t, blk8 m c t, blk9 m c t, blk10 m c t⟩

/-- What a grid point leaves: its output block, the hidden states, the steps and the states carried. -/
structure Left (t : Fin cfg0.N) : Prop where
  out : ∀ b e : Fin 128, (outsAt0 m c t.val t.isLt).1 (ix3 0 b e) = hidOf m c b (nOf t) e ((iOf t).val + 1) * gelu (iblk m c 1 t (ix3 0 b e))
  last : ∀ b e : Fin 128, (outsAt0 m c t.val t.isLt).2.1 (ix2 b e) = hidOf m c b (nOf t) e ((iOf t).val + 1)
  hist : ∀ (k : Fin 3) (b e : Fin 128), (outsAt0 m c t.val t.isLt).2.2.1 (ix3 k b e) = padS (zOf m c) (bfOf m c) b (chn (nOf t) e) ((iOf t).val + 1 + k.val)
  carried : ∀ b e : Fin 128, (outsAt0 m c t.val t.isLt).2.2.2 (ix2 b e) = hidOf m c b (nOf t) e ((iOf t).val + 1)

theorem shifted_at {m c} {t : Fin cfg0.N} {h : Vec Ideal S3x128x128 .f32} (g : HoldsAt m c t h) (k : Fin 3) (b e : Fin 128) :
    shifted h (iblk m c 0 t) (ix3 k b e) = padS (zOf m c) (bfOf m c) b (chn (nOf t) e) ((iOf t).val + 1 + k.val) := by
  match k with
  | ⟨0, _⟩ => exact g.hh 1 b e
  | ⟨1, _⟩ => exact g.hh 2 b e
  | ⟨2, _⟩ => exact g.hx0 b e

theorem left_A (t : Fin cfg0.N) (h0 : t.val % 8 = 0) : Left m c t := by
  have hi : (iOf t).val = 0 := h0
  have hH : HoldsAt m c t (iblk m c 2 t) := holds_of m c t _ (fun k b e => by rw [blk2, hi, Nat.zero_add])
  have hs := state_at hH (s0 := s0Of m c) (h0 := iblk m c 3 t) (fun b e => by rw [blk3, hi]; rfl)
  refine ⟨?_, ?_, ?_, ?_⟩
  · intro b e
    rw [outsAt0_A m c t h0]
    dsimp only
    rw [out_11_A]
    exact (out_at _ _ b e).trans (congrArg (· * _) (hs b e))
  · intro b e
    rw [outsAt0_A m c t h0]
    dsimp only
    rw [out_12_A]
    exact hs b e
  · intro k b e
    rw [outsAt0_A m c t h0]
    dsimp only
    rw [sout_0_A]
    exact shifted_at hH k b e
  · intro b e
    rw [outsAt0_A m c t h0]
    dsimp only
    rw [sout_1_A]
    exact hs b e

theorem left_B (t : Fin cfg0.N) (h0 : ¬t.val % 8 = 0) (p : Left m c ⟨t.val - 1, Nat.lt_of_le_of_lt (Nat.sub_le _ _) t.isLt⟩) : Left m c t := by
  have hn : nOf ⟨t.val - 1, Nat.lt_of_le_of_lt (Nat.sub_le _ _) t.isLt⟩ = nOf t := Fin.ext (by show (t.val - 1) / 8 = t.val / 8; omega)
  have hi : (iOf ⟨t.val - 1, Nat.lt_of_le_of_lt (Nat.sub_le _ _) t.isLt⟩).val + 1 = (iOf t).val := by show (t.val - 1) % 8 + 1 = t.val % 8; omega
  have hH : HoldsAt m c t (outsAt0 m c (t.val - 1) (Nat.lt_of_le_of_lt (Nat.sub_le _ _) t.isLt)).2.2.1 := holds_of m c t _ (fun k b e => by
    refine (p.hist k b e).trans ?_
    rw [hn, hi])
  have hs := state_at hH (s0 := s0Of m c) (h0 := (outsAt0 m c (t.val - 1) (Nat.lt_of_le_of_lt (Nat.sub_le _ _) t.isLt)).2.2.2) (fun b e => by
    refine (p.carried b e).trans ?_
    rw [hn, hi])
  refine ⟨?_, ?_, ?_, ?_⟩
  · intro b e
    rw [outsAt0_B m c t h0]
    dsimp only
    rw [out_11_B]
    exact (out_at _ _ b e).trans (congrArg (· * _) (hs b e))
  · intro b e
    rw [outsAt0_B m c t h0]
    dsimp only
    rw [out_12_B]
    exact hs b e
  · intro k b e
    rw [outsAt0_B m c t h0]
    dsimp only
    rw [sout_0_B]
    exact shifted_at hH k b e
  · intro b e
    rw [outsAt0_B m c t h0]
    dsimp only
    rw [sout_1_B]
    exact hs b e

theorem left (t : Fin cfg0.N) : Left m c t := by
  obtain ⟨k, hk⟩ := t
  induction k with
  | zero => exact left_A m c _ rfl
  | succ k ih =>
    by_cases h : (k + 1) % 8 = 0
    · exact left_A m c ⟨k + 1, hk⟩ h
    · exact left_B m c ⟨k + 1, hk⟩ h (ih _)

/-! ## The result arrays -/

theorem G11_at (t : Fin 8) (b : Fin 128) (n : Fin 16) (e : Fin 128) : Value.G11 m c (ix3 t b (chn n e))
    = hidOf m c b n e (t.val + 1) * gelu (zOf m c b t ⟨2048 + (chn n e).val, by have := (chn n e).isLt; omega⟩) := by
  have hn := n.isLt
  have he := e.isLt
  have ht := t.isLt
  have hb := b.isLt
  have hN : cfg0.N = 128 := N_0
  have hp : Value.pt11Of (ix3 t b (chn n e)) = 8 * n.val + t.val := by
    show 1 * (t.val / 1 - 0) + 8 * (b.val / 128 - 0) + 8 * ((128 * n.val + e.val) / 128 - 0) = _
    omega
  have hlt : 8 * n.val + t.val < cfg0.N := by omega
  unfold Value.G11
  rw [dif_pos (by rw [hp]; exact hlt)]
  rw [Value.fold0_congr m c (Value.pt11Of (ix3 t b (chn n e))) _ (8 * n.val + t.val) (by omega) hp, ← Value.outsAt0_sweep m c _ hlt]
  have hloc : Value.loc11Of (ix3 t b (chn n e)) = ix3 (0 : Fin 1) b e := by
    funext a
    apply Fin.ext
    match a with
    | ⟨0, _⟩ => show t.val % 1 = 0; omega
    | ⟨1, _⟩ => show b.val % 128 = b.val; omega
    | ⟨2, _⟩ => show (128 * n.val + e.val) % 128 = e.val; omega
  rw [hloc, (left m c ⟨8 * n.val + t.val, hlt⟩).out b e, blk1]
  have h1 : nOf ⟨8 * n.val + t.val, hlt⟩ = n := Fin.ext (by show (8 * n.val + t.val) / 8 = n.val; omega)
  have h2 : iOf ⟨8 * n.val + t.val, hlt⟩ = t := Fin.ext (by show (8 * n.val + t.val) % 8 = _; omega)
  simp only [h1, h2]

theorem G12_at (b : Fin 128) (n : Fin 16) (e : Fin 128) : Value.G12 m c (ix2 b (chn n e)) = hidOf m c b n e 8 := by
  have hn := n.isLt
  have he := e.isLt
  have hb := b.isLt
  have hN : cfg0.N = 128 := N_0
  have hp : Value.pt12Of (ix2 b (chn n e)) = 8 * n.val + 7 := by
    show 8 * (16 * (b.val / 128 - 0) + 1 * ((128 * n.val + e.val) / 128 - 0)) + 7 = _
    omega
  have hlt : 8 * n.val + 7 < cfg0.N := by omega
  unfold Value.G12
  rw [dif_pos (by rw [hp]; exact hlt)]
  rw [Value.fold0_congr m c (Value.pt12Of (ix2 b (chn n e))) _ (8 * n.val + 7) (by omega) hp, ← Value.outsAt0_sweep m c _ hlt]
  have hloc : Value.loc12Of (ix2 b (chn n e)) = ix2 b e := by
    funext a
    apply Fin.ext
    match a with
    | ⟨0, _⟩ => show b.val % 128 = b.val; omega
    | ⟨1, _⟩ => show (128 * n.val + e.val) % 128 = e.val; omega
  rw [hloc, (left m c ⟨8 * n.val + 7, hlt⟩).last b e]
  have h1 : nOf ⟨8 * n.val + 7, hlt⟩ = n := Fin.ext (by show (8 * n.val + 7) / 8 = n.val; omega)
  have h2 : (iOf ⟨8 * n.val + 7, hlt⟩).val = 7 := by show (8 * n.val + 7) % 8 = _; omega
  simp only [h1, h2]

end Cert.StepIdeal.Rglru

end
-- ==== Proof.StepRef.lean ====
/-
  The reference's results as functions of its arguments: its arrays at an index are the samples' convolution,
  gates, decay and drive, and the loop's states are the samples' hidden states.
-/
module

public import proofs.«01_k».proof.Proof.Gen.StepRefIdeal.Step
public import proofs.«01_k».proof.Proof.StepSpec
public import Idealize.ShloMosaic.Lib.DynamicIndex

@[expose] public section

set_option maxRecDepth 16384

noncomputable section

namespace Cert.StepRefIdeal.Rglru

open Idealize.ShloMosaic Cert.StepRefIdeal Cert.StepRefIdeal.Gen Cert.StepRefIdeal.Step Cert.Rglru Cert.Samples

/-! ## Before the loop -/

section
variable (a0 : Vec Ideal S128x8x4096 .f32) (a1 : Vec Ideal S128x3x2048 .f32) (a3 : Vec Ideal S4x2048 .f32) (a4 : Vec Ideal S2048 .f32) (a5 : Vec Ideal S16x128x128 .f32)
  (a6 : Vec Ideal S2048 .f32) (a7 : Vec Ideal S16x128x128 .f32) (a8 a9 : Vec Ideal S2048 .f32)

theorem pad_at (b : Fin 128) (t : Fin 11) (ch : Fin 2048) :
    A_main_v1 (F := Ideal) a0 a1 a3 a4 a5 a6 a7 a8 a9 (ix3 b t ch) = padS (fun b t k => a0 (ix3 b t k)) (fun b t k => a1 (ix3 b t k)) b ch t.val := by
  have ht := t.isLt
  pointwise [A_main_v1, A_main_v0]
  unfold padS
  by_cases h : t.val < 3
  · rw [dif_pos h, dif_pos h]
  · rw [dif_neg h, dif_neg h, dif_pos ht]

theorem conv_at (b : Fin 128) (t : Fin 8) (ch : Fin 2048) : A_main_v31 (F := Ideal) a0 a1 a3 a4 a5 a6 a7 a8 a9 (ix3 b t ch)
    = convS (fun b t k => a0 (ix3 b t k)) (fun b t k => a1 (ix3 b t k)) (fun k ch => a3 (ix2 k ch)) (fun ch => a4 (ix1 ch)) b ch t.val := by
  pointwise [A_main_v31, A_main_v30, A_main_v29, A_main_v28, A_main_v27, A_main_v26, A_main_v25, A_main_v24, A_main_v23, A_main_v22, A_main_v21,
    A_main_v20, A_main_v19, A_main_v18, A_main_v17, A_main_v16, A_main_v15, A_main_v14, A_main_v13, A_main_v12, A_main_v11, A_main_v10, A_main_v9, A_main_v8, A_main_v7, A_main_v6, A_main_v5,
    A_main_v4, A_main_v3, A_main_v2]
  rw [pad_at, pad_at, pad_at, pad_at]
  unfold convS
  rw [Nat.add_comm t.val 1, Nat.add_comm t.val 2, Nat.add_comm t.val 3]

theorem chn_div (n : Fin 16) (e : Fin 128) (h : (chn n e).val / 128 < 16) : (⟨(chn n e).val / 128, h⟩ : Fin 16) = n :=
  Fin.ext (by show (128 * n.val + e.val) / 128 = n.val; have := e.isLt; omega)
theorem chn_mod (n : Fin 16) (e : Fin 128) (h : (chn n e).val % 128 < 128) : (⟨(chn n e).val % 128, h⟩ : Fin 128) = e :=
  Fin.ext (by show (128 * n.val + e.val) % 128 = e.val; have := e.isLt; omega)
theorem chn_split (n : Fin 16) (e d : Fin 128) (h : (chn n e).val / 128 * 128 + d.val < 2048) : (⟨(chn n e).val / 128 * 128 + d.val, h⟩ : Fin 2048) = chn n d :=
  Fin.ext (by show (128 * n.val + e.val) / 128 * 128 + d.val = 128 * n.val + d.val; have := e.isLt; omega)

/-- A gate from its sum of products, the factors in the reference's order. -/
theorem gate_eq (w : Vec Ideal S16x128x128 .f32) (v : Vec Ideal S2048 .f32) (b : Fin 128) (t : Fin 8) (n : Fin 16) (e : Fin 128) :
    Ideal.div 1 (1 + Ideal.exp (-(∑ x : Fin 128, w (ix3 n x e) * A_main_v31 (F := Ideal) a0 a1 a3 a4 a5 a6 a7 a8 a9 (ix3 b t (chn n x)) + v (ix1 (chn n e)))))
      = gateS (fun b t k => a0 (ix3 b t k)) (fun b t k => a1 (ix3 b t k)) (fun k ch => a3 (ix2 k ch)) (fun ch => a4 (ix1 ch)) (fun n d e => w (ix3 n d e)) (fun ch => v (ix1 ch)) b n e t.val := by
  unfold gateS Ideal.logistic
  exact congrArg (fun s => Ideal.div 1 (1 + Ideal.exp (-(s + _)))) (Finset.sum_congr rfl fun d _ => by rw [conv_at, mul_comm])

theorem gate_r_at (b : Fin 128) (t : Fin 8) (n : Fin 16) (e : Fin 128) : A_main_v44 (F := Ideal) a0 a1 a3 a4 a5 a6 a7 a8 a9 (ix3 b t (chn n e))
    = gateS (fun b t k => a0 (ix3 b t k)) (fun b t k => a1 (ix3 b t k)) (fun k ch => a3 (ix2 k ch)) (fun ch => a4 (ix1 ch)) (fun n d e => a5 (ix3 n d e)) (fun ch => a6 (ix1 ch)) b n e t.val := by
  pointwise [A_main_v44, A_main_v42, A_main_v40, A_main_v39, A_main_v38, A_main_v37, A_main_v36, A_main_v35, A_main_v34, A_main_v33, A_main_v32, K_main_v43, K_main_cst_0, K_main_v41, K_main_cst]
  rw [← gate_eq a0 a1 a3 a4 a5 a6 a7 a8 a9]
  simp only [chn_div, chn_mod, chn_split]

theorem gate_i_at (b : Fin 128) (t : Fin 8) (n : Fin 16) (e : Fin 128) : A_main_v56 (F := Ideal) a0 a1 a3 a4 a5 a6 a7 a8 a9 (ix3 b t (chn n e))
    = gateS (fun b t k => a0 (ix3 b t k)) (fun b t k => a1 (ix3 b t k)) (fun k ch => a3 (ix2 k ch)) (fun ch => a4 (ix1 ch)) (fun n d e => a7 (ix3 n d e)) (fun ch => a8 (ix1 ch)) b n e t.val := by
  pointwise [A_main_v56, A_main_v54, A_main_v52, A_main_v51, A_main_v50, A_main_v49, A_main_v48, A_main_v47, A_main_v46, A_main_v45, A_main_v32, K_main_v55, K_main_cst_2, K_main_v53, K_main_cst_1]
  rw [← gate_eq a0 a1 a3 a4 a5 a6 a7 a8 a9]
  simp only [chn_div, chn_mod, chn_split]

theorem la_at (b : Fin 128) (t : Fin 8) (n : Fin 16) (e : Fin 128) : A_main_v63 (F := Ideal) a0 a1 a3 a4 a5 a6 a7 a8 a9 (ix3 b t (chn n e))
    = laS (fun b t k => a0 (ix3 b t k)) (fun b t k => a1 (ix3 b t k)) (fun k ch => a3 (ix2 k ch)) (fun ch => a4 (ix1 ch)) (fun n d e => a5 (ix3 n d e)) (fun ch => a6 (ix1 ch))
        (fun ch => a9 (ix1 ch)) b n e t.val := by
  have key : A_main_v63 (F := Ideal) a0 a1 a3 a4 a5 a6 a7 a8 a9 (ix3 b t (chn n e))
      = Ideal.ofBits FTy.f32 3238002688#32 * A_main_v44 (F := Ideal) a0 a1 a3 a4 a5 a6 a7 a8 a9 (ix3 b t (chn n e))
        * (if -a9 (ix1 (chn n e)) ≠ -a9 (ix1 (chn n e)) then -a9 (ix1 (chn n e))
           else max (-a9 (ix1 (chn n e))) 0 + Ideal.log1p (Ideal.exp (-FloatOps.absf (F := Ideal) (φ := .f32) (-a9 (ix1 (chn n e)))))) := by
    pointwise [A_main_v63, A_main_v62, A_main_v61, A_main_v60, A_main_v59, A_main_v58, K_main_v57, K_main_cst_3, A_main_call0_v1, A_main_call0_v3, A_main_call0_v4, A_main_call0_v6, A_main_call0_v7,
      A_main_call0_v8, A_main_call0_v9, A_main_call0_v10, A_main_call0_v11, K_main_call0_v0, K_main_call0_v2, K_main_call0_v5, K_main_call0_cst]
  rw [key, sp_eq, gate_r_at]
  rfl

theorem dec_at (b : Fin 128) (t : Fin 8) (n : Fin 16) (e : Fin 128) : A_main_v72 (F := Ideal) a0 a1 a3 a4 a5 a6 a7 a8 a9 (ix3 t b (chn n e))
    = decS (fun b t k => a0 (ix3 b t k)) (fun b t k => a1 (ix3 b t k)) (fun k ch => a3 (ix2 k ch)) (fun ch => a4 (ix1 ch)) (fun n d e => a5 (ix3 n d e)) (fun ch => a6 (ix1 ch))
        (fun ch => a9 (ix1 ch)) b n e t.val := by
  pointwise [A_main_v72, A_main_v64]
  rw [la_at]
  rfl

theorem drv_at (b : Fin 128) (t : Fin 8) (n : Fin 16) (e : Fin 128) : A_main_v73 (F := Ideal) a0 a1 a3 a4 a5 a6 a7 a8 a9 (ix3 t b (chn n e))
    = drvS (fun b t k => a0 (ix3 b t k)) (fun b t k => a1 (ix3 b t k)) (fun k ch => a3 (ix2 k ch)) (fun ch => a4 (ix1 ch)) (fun n d e => a5 (ix3 n d e)) (fun ch => a6 (ix1 ch))
        (fun n d e => a7 (ix3 n d e)) (fun ch => a8 (ix1 ch)) (fun ch => a9 (ix1 ch)) b n e t.val := by
  pointwise [A_main_v73, A_main_v71, A_main_v70, A_main_v69, A_main_v68, A_main_v67, A_main_v66, K_main_v65, K_main_cst_4]
  rw [la_at, gate_i_at, conv_at, ← rate_eq (laS_nonpos ..)]
  rfl

end

/-! ## The loop -/

/-- The starts of the slice one trip reads and writes. -/
abbrev starts (j : ℕ) : Fin 3 → Int := fun k =>
  BitVec.toInt ((![constantI S_ 32 (BitVec.ofNat 32 j), constantI S_ 32 0#32, constantI S_ 32 0#32] : Fin 3 → IVec S_ 32) k (Shape.Idx.first h_S_))

theorem start_0 (j : ℕ) (hj : j < 8) (h : S1x128x2048.rank = S8x128x2048.rank) : Host.clampedStart S8x128x2048 S1x128x2048 h (starts j) 0 = j := by
  refine Host.clampedStart_of_le h _ _ j ?_ ?_
  · show BitVec.toInt (BitVec.ofNat 32 j) = j
    rw [BitVec.toInt_ofNat', Int.bmod_eq_of_le] <;> omega
  · show j + 1 ≤ 8
    omega
theorem start_1 (j : ℕ) (h : S1x128x2048.rank = S8x128x2048.rank) : Host.clampedStart S8x128x2048 S1x128x2048 h (starts j) 1 = 0 :=
  Host.clampedStart_of_le h _ _ 0 rfl (by show 0 + 128 ≤ 128; omega)
theorem start_2 (j : ℕ) (h : S1x128x2048.rank = S8x128x2048.rank) : Host.clampedStart S8x128x2048 S1x128x2048 h (starts j) 2 = 0 :=
  Host.clampedStart_of_le h _ _ 0 rfl (by show 0 + 2048 ≤ 2048; omega)

/-- One trip's hidden states. -/
theorem b9_at (j : ℕ) (hj : j < 8) (s : State Ideal) (b : Fin 128) (ch : Fin 2048) :
    b9 (F := Ideal) j s (ix2 b ch) = s.main_v75_0 (ix3 ⟨j, hj⟩ b ch) * s.main_v75_3 (ix2 b ch) + s.main_v75_1 (ix3 ⟨j, hj⟩ b ch) := by
  have e : ∀ (x : Vec Ideal S8x128x2048 .f32) (p q r) (hp : p = j) (hq : q = 0) (hr : r = 0) (h1 : p < 8) (h2 : q + b.val < 128) (h3 : r + ch.val < 2048),
      x (ix3 ⟨p, h1⟩ ⟨q + b.val, h2⟩ ⟨r + ch.val, h3⟩) = x (ix3 ⟨j, hj⟩ b ch) := by
    intro x p q r hp hq hr h1 h2 h3
    subst hp hq hr
    exact congrArg x (congrArg₂ (ix3 _) (Fin.ext (Nat.zero_add _)) (Fin.ext (Nat.zero_add _)))
  pointwise [b9, b8, b7, b6, b5, b4, b3, b2, b1, b0]
  exact congrArg₂ (· + ·) (congrArg (· * _) (e s.main_v75_0 _ _ _ (start_0 j hj _) (start_1 j _) (start_2 j _) _ _ _))
    (e s.main_v75_1 _ _ _ (start_0 j hj _) (start_1 j _) (start_2 j _) _ _ _)

/-- One trip's array of hidden states: row `j` is written. -/
theorem b13_at (j : ℕ) (hj : j < 8) (s : State Ideal) (t : Fin 8) (b : Fin 128) (ch : Fin 2048) :
    b13 (F := Ideal) j s (ix3 t b ch) = if t.val = j then b9 j s (ix2 b ch) else s.main_v75_4 (ix3 t b ch) := by
  have e : ∀ (N : ℕ) (x : Fin N) (r : ℕ) (hr : r = 0) (h3 : x.val - r < N), (⟨x.val - r, h3⟩ : Fin N) = x := by
    intro N x r hr h3
    subst hr
    rfl
  pointwise [b13, b12, b11, b10]
  split
  · rename_i h
    rw [e _ ch _ (start_2 j _), e _ b _ (start_1 j _), if_pos]
    have h0 := h.1
    rw [start_0 j hj] at h0
    omega
  · rename_i h
    rw [if_neg]
    intro ht
    apply h
    rw [start_0 j hj, start_1, start_2]
    have := b.isLt
    omega

section
variable (a0 : Vec Ideal S128x8x4096 .f32) (a1 : Vec Ideal S128x3x2048 .f32) (a2 : Vec Ideal S128x2048 .f32) (a3 : Vec Ideal S4x2048 .f32) (a4 : Vec Ideal S2048 .f32) (a5 : Vec Ideal S16x128x128 .f32)
  (a6 : Vec Ideal S2048 .f32) (a7 : Vec Ideal S16x128x128 .f32) (a8 a9 : Vec Ideal S2048 .f32)

/-- The samples' hidden state over the reference's arguments. -/
abbrev hidOf (b : Fin 128) (n : Fin 16) (e : Fin 128) (t : ℕ) : EReal :=
  hidS (fun b t k => a0 (ix3 b t k)) (fun b t k => a1 (ix3 b t k)) (fun k ch => a3 (ix2 k ch)) (fun ch => a4 (ix1 ch)) (fun n d e => a5 (ix3 n d e)) (fun ch => a6 (ix1 ch))
    (fun n d e => a7 (ix3 n d e)) (fun ch => a8 (ix1 ch)) (fun ch => a9 (ix1 ch)) (fun b ch => a2 (ix2 b ch)) b n e t

/-- What holds before trip `j`: the decays and drives, the hidden states, and the rows written. -/
structure After (s : State Ideal) (j : ℕ) : Prop where
  a : s.main_v75_0 = A_main_v72 a0 a1 a3 a4 a5 a6 a7 a8 a9
  u : s.main_v75_1 = A_main_v73 a0 a1 a3 a4 a5 a6 a7 a8 a9
  h : ∀ (b : Fin 128) (n : Fin 16) (e : Fin 128), s.main_v75_3 (ix2 b (chn n e)) = hidOf a0 a1 a2 a3 a4 a5 a6 a7 a8 a9 b n e j
  hs : ∀ (t : Fin 8) (b : Fin 128) (n : Fin 16) (e : Fin 128), t.val < j → s.main_v75_4 (ix3 t b (chn n e)) = hidOf a0 a1 a2 a3 a4 a5 a6 a7 a8 a9 b n e (t.val + 1)

theorem after_init : After a0 a1 a2 a3 a4 a5 a6 a7 a8 a9 (init a2 a0 a1 a3 a4 a5 a6 a7 a8 a9) 0 where
  a := rfl
  u := rfl
  h b n e := rfl
  hs t b n e h := absurd h (Nat.not_lt_zero _)

variable {a0 a1 a2 a3 a4 a5 a6 a7 a8 a9}

theorem after_step {s : State Ideal} {j : ℕ} (hj : j < 8) (g : After a0 a1 a2 a3 a4 a5 a6 a7 a8 a9 s j) : After a0 a1 a2 a3 a4 a5 a6 a7 a8 a9 (step j s) (j + 1) := by
  have hh : ∀ (b : Fin 128) (n : Fin 16) (e : Fin 128), b9 j s (ix2 b (chn n e)) = hidOf a0 a1 a2 a3 a4 a5 a6 a7 a8 a9 b n e (j + 1) := by
    intro b n e
    rw [b9_at j hj, g.a, g.u, g.h, dec_at, drv_at]
    rfl
  refine ⟨g.a, g.u, ?_, ?_⟩
  · intro b n e
    rw [step_main_v75_3]
    exact hh b n e
  · intro t b n e ht
    rw [step_main_v75_4, b13_at j hj]
    split
    · rename_i h
      rw [hh, h]
    · rename_i h
      exact g.hs t b n e (by omega)

/-- The gated output at an index. -/
theorem out_at {s : State Ideal} (g : After a0 a1 a2 a3 a4 a5 a6 a7 a8 a9 s 8) (t : Fin 8) (b : Fin 128) (n : Fin 16) (e : Fin 128) :
    R_main_v92 (F := Ideal) s a0 (ix3 t b (chn n e))
      = hidOf a0 a1 a2 a3 a4 a5 a6 a7 a8 a9 b n e (t.val + 1) * gelu (a0 (ix3 b t ⟨2048 + (chn n e).val, by have := (chn n e).isLt; omega⟩)) := by
  rw [← g.hs t b n e t.isLt]
  unfold gelu
  pointwise [R_main_v92]
  rw [mul_assoc]

end

end Cert.StepRefIdeal.Rglru

end
-- ==== Proof.StepRefRun.lean ====
/-
  The reference's loop as a sequence of states: each trip takes the state to `step` of it, so the
  results are read off state 8.
-/
module

public import proofs.«01_k».proof.Proof.Gen.StepRefIdeal.Run
public import proofs.«01_k».proof.Proof.Gen.StepRefIdeal.Step

@[expose] public section

noncomputable section

namespace Cert.StepRefIdeal.Rglru

open Idealize.ShloMosaic Idealize.ShloMosaic.TcCoe Idealize.SL.Sem Idealize.ShloMosaic.StableHlo
open Cert.StepRefIdeal Cert.StepRefIdeal.Gen Cert.StepRefIdeal.Value
open Cert.StepRefIdeal.Step (State step init R_main_v92)

variable {F : FTy → Type} [FloatOps F]

/-- The buffers agree with state `s` before trip `j`. -/
structure Agrees (W : Valuation τ sig (Elt F)) (s : State F) (j : ℕ) : Prop where
  h : W (Proc.devRef .tc main_v75_3) = s.main_v75_3
  hs : W (Proc.devRef .tc main_v75_4) = s.main_v75_4
  a : W (Proc.devRef .tc main_v75_0) = s.main_v75_0
  u : W (Proc.devRef .tc main_v75_1) = s.main_v75_1
  n : W (Proc.devRef .tc main_v75_2) = constantI S_ 32 (BitVec.ofNat 32 j)

variable {W : Valuation τ sig (Elt F)} {s : State F} {j : ℕ}

set_option maxRecDepth 16384 in
theorem trip_h (g : Agrees W s j) : step_main_v75_3 W = (step j s).main_v75_3 := by
  unfold step_main_v75_3 res_main_while0b_v96
  rw [g.h, g.a, g.u, g.n]
  rfl

set_option maxRecDepth 16384 in
theorem trip_hs (g : Agrees W s j) : step_main_v75_4 W = (step j s).main_v75_4 := by
  unfold step_main_v75_4 res_main_while0b_v96
  rw [g.h, g.hs, g.a, g.u, g.n]
  rfl

theorem trip_n (g : Agrees W s j) : step_main_v75_2 W = constantI S_ 32 (BitVec.ofNat 32 (j + 1)) := by
  unfold step_main_v75_2
  rw [g.n]
  exact funext fun _ => (BitVec.ofNat_add j 1).symm

theorem trip (g : Agrees W s j) : Agrees (STEP W) (step j s) (j + 1) where
  h := (STEP_main_v75_3 W).trans (trip_h g)
  hs := (STEP_main_v75_4 W).trans (trip_hs g)
  a := (STEP_main_v75_0 W).trans g.a
  u := (STEP_main_v75_1 W).trans g.u
  n := (STEP_main_v75_2 W).trans (trip_n g)

variable (m : (ℓ : Loc nD τ sig) → Buf (Elt F) ℓ) (c : Dev nD)

/-- The states, from the one the operations before the loop leave. -/
def st : ℕ → State F
  | 0 => init (m ((c.tc : Thread nD τ).loc main_arg2)) (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
  | k + 1 => step k (st k)

set_option maxRecDepth 65536 in
set_option maxHeartbeats 500000 in
theorem entry : Agrees (entryContents preI m c) (st m c 0) 0 := by
  refine ⟨?_, ?_, ?_, ?_, ?_⟩ <;> (simp only [entryContents, afterL_cons, afterL_nil]; after_reads_simp) <;> rfl

theorem agrees (k : ℕ) : Agrees (STEP^[k] (entryContents preI m c)) (st m c k) k := by
  induction k with
  | zero => exact entry m c
  | succ k ih =>
    rw [Function.iterate_succ_apply']
    exact trip ih

set_option maxRecDepth 16384 in
theorem result_eq (g : Agrees W s j) {x : (⟨S128x8x4096, .f32⟩ : BufTy).Contents (Elt F)} (hx : W (Proc.devRef .tc main_arg0) = x) :
    out_main_v92 W = R_main_v92 s x := by
  unfold out_main_v92 R_main_v92
  rw [g.hs, hx]

/-- The reference's run: its two results read off state 8, its arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v92) = R_main_v92 (st m c 8) (m ((c.tc : Thread nD τ).loc main_arg0))
      ∧ r.2.mem ((c.tc : Thread nD τ).loc main_v75_3) = (st m c 8).main_v75_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨⟨(h c).1.trans (result_eq (agrees m c 8) (iter_main_arg0 m c 8)), (h c).2.1.trans (agrees m c 8).h⟩, (h c).2.2⟩) (Value.run m ρ)

end Cert.StepRefIdeal.Rglru

end
-- ==== Proof.StepValue.lean ====
/-
  The two claims about the samples' recurrence that are not generated: the reference's frame, and the equality
  of the kernel's and the reference's results over the extended reals.
-/
module

public import proofs.«01_k».proof.Defs
public import proofs.«01_k».proof.Proof.StepKernel
public import proofs.«01_k».proof.Proof.StepRef
public import proofs.«01_k».proof.Proof.StepRefRun

@[expose] public section

noncomputable section

namespace Cert.Proof.Step

open Idealize.ShloMosaic Idealize.SL.Sem Cert.Rglru

/-- The reference terminates, keeps its arguments, and has no semaphore. -/
theorem frame_ref : Cert.quiescent_StepRefIdeal (hStepRefIdeal := Cert.StepRefIdeal.Gen.facts) := fun m ρ _ =>
  (θ_run Cert.StepRefIdeal.defs _ _).mono (fun r h => ⟨fun c => (h c).2, sem_eq_zero_of_no_sems (by decide) r.2⟩) (Cert.StepRefIdeal.Rglru.run (F := Ideal) m ρ)

/-- Every channel is a channel of a block. -/
theorem chn_surj (ch : Fin 2048) : ∃ (n : Fin 16) (e : Fin 128), ch = chn n e :=
  ⟨⟨ch.val / 128, by have := ch.isLt; omega⟩, ⟨ch.val % 128, by omega⟩, Fin.ext (by show ch.val = 128 * (ch.val / 128) + ch.val % 128; omega)⟩

/-- The states along the loop. -/
theorem after_st (m : (ℓ : Loc Cert.StepRefIdeal.nD Cert.StepRefIdeal.τ Cert.StepRefIdeal.sig) → Buf (Elt Ideal) ℓ) (c : Dev Cert.StepRefIdeal.nD)
    (k : ℕ) (hk : k ≤ 8) :
    Cert.StepRefIdeal.Rglru.After (m ((c.tc : Thread _ _).loc Cert.StepRefIdeal.main_arg0)) (m ((c.tc : Thread _ _).loc Cert.StepRefIdeal.main_arg1)) (m ((c.tc : Thread _ _).loc Cert.StepRefIdeal.main_arg2)) (m ((c.tc : Thread _ _).loc Cert.StepRefIdeal.main_arg3)) (m ((c.tc : Thread _ _).loc Cert.StepRefIdeal.main_arg4)) (m ((c.tc : Thread _ _).loc Cert.StepRefIdeal.main_arg5)) (m ((c.tc : Thread _ _).loc Cert.StepRefIdeal.main_arg6)) (m ((c.tc : Thread _ _).loc Cert.StepRefIdeal.main_arg7)) (m ((c.tc : Thread _ _).loc Cert.StepRefIdeal.main_arg8)) (m ((c.tc : Thread _ _).loc Cert.StepRefIdeal.main_arg9))
      (Cert.StepRefIdeal.Rglru.st m c k) k := by
  induction k with
  | zero => exact Cert.StepRefIdeal.Rglru.after_init _ _ _ _ _ _ _ _ _ _
  | succ k ih => exact Cert.StepRefIdeal.Rglru.after_step (by omega) (ih (by omega))

/-- Kernel and reference leave the same two results. -/
theorem algebraic : Cert.algebraic_StepIdeal_StepRefIdeal (hStepIdeal := Cert.StepIdeal.Gen.facts) (hStepRefIdeal := Cert.StepRefIdeal.Gen.facts) := by
  intro m g m' g' _ hargs
  refine ⟨fun c => Cert.StepIdeal.Value.G11 m c, fun c => Cert.StepIdeal.Value.G12 m c, Cert.StepIdeal.Value.run (F := Ideal) m g, ?_⟩
  refine (θ_run (Cert.StepRefIdeal.defs (F := Ideal)) _ _).mono (fun r h c => ?_) (Cert.StepRefIdeal.Rglru.run (F := Ideal) m' g')
  obtain ⟨⟨hy, hl⟩, hrest⟩ := h c
  have ga := after_st m' c 8 (le_refl _)
  obtain ⟨e0, e1, e2, e3, e4, e5, e6, e7, e8, e9⟩ := hargs c
  refine ⟨hy.trans ?_, hl.trans ?_, hrest⟩
  · funext j
    obtain ⟨t, b, ch, rfl⟩ : ∃ (t : Fin 8) (b : Fin 128) (ch : Fin 2048), j = ix3 t b ch := ⟨j 0, j 1, j 2, by idx_vars j⟩
    obtain ⟨n, e, rfl⟩ := chn_surj ch
    refine (Cert.StepRefIdeal.Rglru.out_at ga t b n e).trans (Eq.trans ?_ (Cert.StepIdeal.Rglru.G11_at m c t b n e).symm)
    rw [e0, e1, e2, e3, e4, e5, e6, e7, e8, e9]
  · funext j
    obtain ⟨b, ch, rfl⟩ : ∃ (b : Fin 128) (ch : Fin 2048), j = ix2 b ch := ⟨j 0, j 1, by idx_vars j⟩
    obtain ⟨n, e, rfl⟩ := chn_surj ch
    refine (ga.h b n e).trans (Eq.trans ?_ (Cert.StepIdeal.Rglru.G12_at m c b n e).symm)
    rw [e0, e1, e2, e3, e4, e5, e6, e7, e8, e9]

end Cert.Proof.Step

end
-- ==== Proof.ModValue.lean ====
/-
  The modulation: the conditioning rows of the samples, of the prompt and of a zero vector, each number times its
  logistic, times the weight, plus the bias, in blocks of columns.
-/
module

public import proofs.«01_k».proof.Defs
public import proofs.«01_k».proof.Proof.Norm
public import proofs.«01_k».proof.Proof.Gen.ModIdeal.Value
public import proofs.«01_k».proof.Proof.Gen.ModRefIdeal.Run

@[expose] public section

set_option maxRecDepth 16384

noncomputable section

namespace Cert.Modulation

open Idealize.ShloMosaic

/-- A number times its logistic. -/
def silu (x : EReal) : EReal := x * Ideal.logistic x

end Cert.Modulation

namespace Cert.ModIdeal.Mat

open Cert.ModIdeal Cert.ModIdeal.Gen Cert.Modulation Cert.Whole Idealize.ShloMosaic Idealize.ShloMosaic.TcCoe Idealize.SL.Sem

/-- Every window's block at a grid point: the whole rows, or column block `t`. -/
theorem idx0 : ∀ t : Fin cfg0.N, win0_0.index t = ![0, 0] ∧ win0_1.index t = ![0, t.val] ∧ win0_2.index t = ![0, t.val] :=
  (by decide +kernel : ∀ t : Fin grid0.N, _)

theorem pay1_at (x : Vec Ideal S144x4096 .f32) (r : Fin 144) (k : Fin 4096) : k0_pay1 x (ix2 r k) = silu (x (ix2 r k)) := by
  unfold silu
  pointwise [k0_pay1]

theorem pay2_at (x : Vec Ideal S144x4096 .bf16) (w : Vec Ideal S4096x512 .f32) (b : Vec Ideal S1x512 .f32) (r : Fin 144) (e : Fin 512) :
    k0_pay2 x w b (ix2 r e) = (∑ k : Fin 4096, x (ix2 r k) * w (ix2 k e)) + b (ix2 0 e) := by
  pointwise [k0_pay2]

section Point

variable (c : Dev nD) (i : grid0.Coords) (arg1 : Memref sig .tc .vmem S144x4096 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S144x512 .f32) (harg4 : arg4.IsWhole) (arg5 : Memref sig .tc .vmem S144x4096 .bf16) (harg5 : arg5.IsWhole)
    (x0 : Vec Ideal S144x4096 .f32) (x1 : Vec Ideal S4096x512 .f32) (x2 : Vec Ideal S1x512 .f32) (xs0 : Vec Ideal S144x4096 .bf16)

theorem out_A (hc : cond0_0 i) : out0_A_3 c i arg1 harg1 arg2 harg2 arg3 harg3 arg4 harg4 arg5 harg5 hc x0 x1 x2 = k0_pay2 (k0_pay1 x0) x1 x2 := by
  unfold out0_A_3 kernelRun0_A
  dsimp only
  sl_unfold_words
  refine (read_whole VO0_3 _ _ hz2 _ _ _).trans ?_
  unfold View.readCov
  rw [load_whole arg2.view _ _ hz2, harg2.read_unread, load_whole arg3.view _ _ hz2, harg3.read_unread, load_whole arg5.view _ _ hz2, read_whole _ _ _ hz2,
    load_whole arg1.view _ _ hz2, harg1.read_unread]

theorem sout_A (hc : cond0_0 i) : sout0_A_0 c i arg1 harg1 arg2 harg2 arg3 harg3 arg4 harg4 arg5 harg5 hc x0 x1 x2 = k0_pay1 x0 := by
  unfold sout0_A_0 kernelRun0_A
  dsimp only
  sl_unfold_words
  refine (read_whole VS0_0 _ _ hz2 _ _ _).trans ?_
  rw [load_whole arg1.view _ _ hz2, harg1.read_unread]

theorem out_B (hc : ¬cond0_0 i) : out0_B_3 c i arg1 harg1 arg2 harg2 arg3 harg3 arg4 harg4 arg5 harg5 hc x0 x1 x2 xs0 = k0_pay2 xs0 x1 x2 := by
  unfold out0_B_3 kernelRun0_B
  dsimp only
  sl_unfold_words
  refine (read_whole VO0_3 _ _ hz2 _ _ _).trans ?_
  rw [load_whole arg2.view _ _ hz2, harg2.read_unread, load_whole arg3.view _ _ hz2, harg3.read_unread, load_whole arg5.view _ _ hz2, harg5.read_unread]

end Point

variable (m : (ℓ : Loc nD τ sig) → Buf (Elt Ideal) ℓ) (c : Dev nD)

theorem Nlt (t : Fin cfg0.N) : t.val < 48 := lt_of_lt_of_eq t.isLt (show cfg0.N = 48 from N_0)

/-- The rows the call is given: the samples', the prompt's, and zeros. -/
def rows : FVec Ideal S144x4096 .f32 :=
  concatenate S144x4096 0 [⟨S128x4096, (m ((c : Thread nD τ).loc main_arg0) : FVec Ideal S128x4096 .f32)⟩, ⟨S1x4096, (m ((c : Thread nD τ).loc main_arg1) : FVec Ideal S1x4096 .f32)⟩,
    ⟨S15x4096, (broadcastInDim S15x4096 ![] bcast_S_S15x4096 (constant S_ .f32 0x00000000#32) : FVec Ideal S15x4096 .f32)⟩] concatenates_S128x4096_S1x4096_S15x4096_S144x4096_d0

/-- The arguments as plain functions. -/
abbrev cOf : Fin 144 → Fin 4096 → EReal := fun t k => rows m c (ix2 t k)
abbrev wOf : Fin 4096 → Fin 24576 → EReal := fun k n => m ((c : Thread nD τ).loc main_arg2) (ix2 k n)
abbrev bOf : Fin 24576 → EReal := fun n => m ((c : Thread nD τ).loc main_arg3) (ix1 n)

theorem V1 : V m c main_v1 = rows m c := by
  simp only [V, hostOps0]
  after_results_simp
  rfl

theorem V2 : V m c main_v2 = (shapeCast S1x24576 (m ((c : Thread nD τ).loc main_arg3)) shapeCasts_S24576_S1x24576 : FVec Ideal S1x24576 .f32) := by
  simp only [V, hostOps0]
  after_results_simp
  rfl

theorem bias_at (b : FVec Ideal S24576 .f32) (n : Fin 24576) : shapeCast S1x24576 b shapeCasts_S24576_S1x24576 (ix2 0 n) = b (ix1 n) := by
  pointwise

theorem blk0 (t : Fin cfg0.N) (r : Fin 144) (k : Fin 4096) : iblk m c 0 t (ix2 r k) = cOf m c r k := by
  have he : (win0_0.blk t).view.emb (ix2 r k) = ix2 r k := by
    blk_ext [idx0 t]
  exact (congrFun (V1 m c) _).trans (congrArg _ he)

theorem blk1 (t : Fin cfg0.N) (k : Fin 4096) (e : Fin 512) :
    iblk m c 1 t (ix2 k e) = wOf m c k ⟨512 * t.val + e.val, by have := e.isLt; have := Nlt t; omega⟩ := by
  have hN := Nlt t
  have he : (win0_1.blk t).view.emb (ix2 k e) = ix2 k ⟨512 * t.val + e.val, by have := e.isLt; omega⟩ := by
    blk_ext [idx0 t]
  exact (congrFun (V_main_arg2 m c) _).trans (congrArg _ he)

theorem blk2 (t : Fin cfg0.N) (e : Fin 512) : iblk m c 2 t (ix2 0 e) = bOf m c ⟨512 * t.val + e.val, by have := e.isLt; have := Nlt t; omega⟩ := by
  have hN := Nlt t
  have he : (win0_2.blk t).view.emb (ix2 (0 : Fin 1) e) = ix2 0 ⟨512 * t.val + e.val, by have := e.isLt; omega⟩ := by
    blk_ext [idx0 t]
  exact ((congrFun (V2 m c) _).trans (congrArg _ he)).trans (bias_at _ _)

/-- The modulation of one row at one column. -/
def modOf (x : Fin 4096 → EReal) (n : Fin 24576) : EReal := (∑ k : Fin 4096, silu (x k) * wOf m c k n) + bOf m c n

/-- What a grid point leaves: its columns of the modulation, and the rows' numbers times their logistics. -/
structure Left (t : Fin cfg0.N) : Prop where
  out : ∀ (r : Fin 144) (e : Fin 512), (outsAt0 m c t.val t.isLt).1 (ix2 r e)
    = modOf m c (cOf m c r) ⟨512 * t.val + e.val, by have := e.isLt; have := Nlt t; omega⟩
  kept : ∀ (r : Fin 144) (k : Fin 4096), (outsAt0 m c t.val t.isLt).2 (ix2 r k) = silu (cOf m c r k)

theorem mod_of (t : Fin cfg0.N) (x : Vec Ideal S144x4096 .bf16) (hx : ∀ (r : Fin 144) (k : Fin 4096), x (ix2 r k) = silu (cOf m c r k)) (r : Fin 144) (e : Fin 512) :
    k0_pay2 x (iblk m c 1 t) (iblk m c 2 t) (ix2 r e) = modOf m c (cOf m c r) ⟨512 * t.val + e.val, by have := e.isLt; have := Nlt t; omega⟩ := by
  rw [pay2_at]
  exact congrArg₂ (· + ·) (Finset.sum_congr rfl fun k _ => congrArg₂ (· * ·) (hx r k) (blk1 m c t k e)) (blk2 m c t e)

theorem silu_blk (t : Fin cfg0.N) (r : Fin 144) (k : Fin 4096) : k0_pay1 (iblk m c 0 t) (ix2 r k) = silu (cOf m c r k) :=
  (pay1_at _ r k).trans (congrArg silu (blk0 m c t r k))

theorem left_A (t : Fin cfg0.N) (h0 : t.val % 48 = 0) : Left m c t := by
  refine ⟨fun r e => ?_, fun r k => ?_⟩
  · rw [outsAt0_A m c t h0]
    dsimp only
    rw [out_A]
    exact mod_of m c t _ (silu_blk m c t) r e
  · rw [outsAt0_A m c t h0]
    dsimp only
    rw [sout_A]
    exact silu_blk m c t r k

theorem left_B (t : Fin cfg0.N) (h0 : ¬t.val % 48 = 0) (p : Left m c ⟨t.val - 1, Nat.lt_of_le_of_lt (Nat.sub_le _ _) t.isLt⟩) : Left m c t := by
  refine ⟨fun r e => ?_, fun r k => ?_⟩
  · rw [outsAt0_B m c t h0]
    dsimp only
    rw [out_B]
    exact mod_of m c t _ p.kept r e
  · rw [outsAt0_B m c t h0]
    exact p.kept r k

theorem left (t : Fin cfg0.N) : Left m c t := by
  obtain ⟨k, hk⟩ := t
  induction k with
  | zero => exact left_A m c _ rfl
  | succ k ih =>
    by_cases h : (k + 1) % 48 = 0
    · exact left_A m c ⟨k + 1, hk⟩ h
    · exact left_B m c ⟨k + 1, hk⟩ h (ih _)

/-- The result array is the modulation. -/
theorem G3_at (t : Fin 144) (n : Fin 24576) : Value.G3 m c (ix2 t n) = modOf m c (cOf m c t) n := by
  have ht := t.isLt
  have hn := n.isLt
  have hN : cfg0.N = 48 := N_0
  have hp : Value.pt3Of (ix2 t n) = n.val / 512 := by
    show 48 * (t.val / 144 - 0) + 1 * (n.val / 512 - 0) = _
    omega
  have hlt : n.val / 512 < cfg0.N := by omega
  have hloc : Value.loc3Of (ix2 t n) = ix2 t (⟨n.val % 512, by omega⟩ : Fin 512) := by
    funext a
    apply Fin.ext
    match a with
    | ⟨0, _⟩ => show t.val % 144 = t.val; omega
    | ⟨1, _⟩ => rfl
  unfold Value.G3
  rw [dif_pos (by rw [hp]; exact hlt)]
  rw [Value.fold0_congr m c (Value.pt3Of (ix2 t n)) _ (n.val / 512) (by omega) hp, ← Value.outsAt0_sweep m c _ hlt]
  rw [hloc, (left m c ⟨n.val / 512, hlt⟩).out]
  refine congrArg (modOf m c (cOf m c t)) (Fin.ext ?_)
  show 512 * (n.val / 512) + n.val % 512 = n.val
  omega

/-- The rows of the samples, of the prompt, and the zeros. -/
theorem rows_sample (t : Fin 128) (k : Fin 4096) : cOf m c ⟨t.val, by have := t.isLt; omega⟩ k = m ((c : Thread nD τ).loc main_arg0) (ix2 t k) := by
  unfold cOf rows
  refine concatenate_apply_piece (t := S144x4096) 0 _ _ (ix2 _ k) 0 (by show 0 < 3; decide) S128x4096 _ rfl rfl 0 rfl (ix2 t k) (fun d hd => ?_) ?_
  · match d with
    | ⟨0, _⟩ => exact absurd rfl hd
    | ⟨1, _⟩ => rfl
  · show 0 + t.val = t.val
    omega

theorem rows_prompt (k : Fin 4096) : cOf m c ⟨128, by decide⟩ k = m ((c : Thread nD τ).loc main_arg1) (ix2 0 k) := by
  unfold cOf rows
  refine concatenate_apply_piece (t := S144x4096) 0 _ _ (ix2 _ k) 1 (by show 1 < 3; decide) S1x4096 _ rfl rfl 128 rfl (ix2 0 k) (fun d hd => ?_) ?_
  · match d with
    | ⟨0, _⟩ => exact absurd rfl hd
    | ⟨1, _⟩ => rfl
  · rfl

theorem rows_zero (t : Fin 15) (k : Fin 4096) : cOf m c ⟨129 + t.val, by have := t.isLt; omega⟩ k = Ideal.ofBits FTy.f32 0x00000000#32 := by
  unfold cOf rows
  refine (concatenate_apply_piece (t := S144x4096) 0 _ _ (ix2 _ k) 2 (by show 2 < 3; decide) S15x4096 _ rfl rfl 129 rfl (ix2 t k) (fun d hd => ?_) ?_).trans ?_
  · match d with
    | ⟨0, _⟩ => exact absurd rfl hd
    | ⟨1, _⟩ => rfl
  · rfl
  · pointwise

end Cert.ModIdeal.Mat

namespace Cert.Proof.Mod

open Idealize.ShloMosaic Idealize.SL.Sem

/-- The reference terminates, keeps its arguments, and has no semaphore. -/
theorem frame_ref : Cert.quiescent_ModRefIdeal (hModRefIdeal := Cert.ModRefIdeal.Gen.facts) := fun m ρ _ =>
  (θ_run Cert.ModRefIdeal.defs _ _).mono (fun r h => ⟨fun c => (h c).2, sem_eq_zero_of_no_sems (by decide) r.2⟩)
    (Cert.ModRefIdeal.Value.run (F := Ideal) m ρ)

section Ref

open Cert.ModRefIdeal Cert.ModRefIdeal.Gen Cert.Modulation

theorem ref_sample (x : FVec Ideal S128x4096 .f32) (w : FVec Ideal S4096x24576 .f32) (b : FVec Ideal S24576 .f32) (t : Fin 128) (n : Fin 24576) :
    (addf (Host.dotGeneral dot_S128x4096_S4096x24576_S128x24576_1_0_0_1_n_n none (mulf x (Host.divf (broadcastInDim S128x4096 ![] bcast_S_S128x4096 (constant S_ .f32 0x3F800000#32)) (addf (broadcastInDim S128x4096 ![] bcast_S_S128x4096 (constant S_ .f32 0x3F800000#32)) (Host.exp (Host.negf x))))) w) (broadcastInDim S128x24576 ![0, 1] bcast_S1x24576_S128x24576_0_1 (broadcastInDim S1x24576 ![1] bcast_S24576_S1x24576_1 b)) : FVec Ideal S128x24576 .f32) (ix2 t n)
      = (∑ k : Fin 4096, silu (x (ix2 t k)) * w (ix2 k n)) + b (ix1 n) := by
  unfold silu Ideal.logistic
  pointwise

theorem ref_prompt (x : FVec Ideal S1x4096 .f32) (w : FVec Ideal S4096x24576 .f32) (b : FVec Ideal S24576 .f32) (n : Fin 24576) :
    (addf (Host.dotGeneral dot_S1x4096_S4096x24576_S1x24576_1_0_0_1_n_n none (mulf x (Host.divf (broadcastInDim S1x4096 ![] bcast_S_S1x4096 (constant S_ .f32 0x3F800000#32)) (addf (broadcastInDim S1x4096 ![] bcast_S_S1x4096 (constant S_ .f32 0x3F800000#32)) (Host.exp (Host.negf x))))) w) (broadcastInDim S1x24576 ![1] bcast_S24576_S1x24576_1 b) : FVec Ideal S1x24576 .f32) (ix2 0 n)
      = (∑ k : Fin 4096, silu (x (ix2 0 k)) * w (ix2 k n)) + b (ix1 n) := by
  unfold silu Ideal.logistic
  pointwise

theorem ref_zero (w : FVec Ideal S4096x24576 .f32) (b : FVec Ideal S24576 .f32) (t : Fin 15) (n : Fin 24576) :
    (addf (Host.dotGeneral dot_S15x4096_S4096x24576_S15x24576_1_0_0_1_n_n none (mulf (broadcastInDim S15x4096 ![] bcast_S_S15x4096 (constant S_ .f32 0x00000000#32)) (Host.divf (broadcastInDim S15x4096 ![] bcast_S_S15x4096 (constant S_ .f32 0x3F800000#32)) (addf (broadcastInDim S15x4096 ![] bcast_S_S15x4096 (constant S_ .f32 0x3F800000#32)) (Host.exp (Host.negf (broadcastInDim S15x4096 ![] bcast_S_S15x4096 (constant S_ .f32 0x00000000#32))))))) w) (broadcastInDim S15x24576 ![0, 1] bcast_S1x24576_S15x24576_0_1 (broadcastInDim S1x24576 ![1] bcast_S24576_S1x24576_1 b)) : FVec Ideal S15x24576 .f32) (ix2 t n)
      = (∑ k : Fin 4096, silu (Ideal.ofBits FTy.f32 0x00000000#32) * w (ix2 k n)) + b (ix1 n) := by
  unfold silu Ideal.logistic
  pointwise

/-- Three arrays of rows, one under the other. -/
theorem stack_sample (a : FVec Ideal S128x24576 .f32) (b : FVec Ideal S1x24576 .f32) (z : FVec Ideal S15x24576 .f32) (t : Fin 128) (n : Fin 24576) :
    concatenate S144x24576 0 [⟨S128x24576, a⟩, ⟨S1x24576, b⟩, ⟨S15x24576, z⟩] concatenates_S128x24576_S1x24576_S15x24576_S144x24576_d0 (ix2 ⟨t.val, by have := t.isLt; omega⟩ n) = a (ix2 t n) := by
  refine concatenate_apply_piece (t := S144x24576) 0 _ _ (ix2 _ n) 0 (by show 0 < 3; decide) S128x24576 _ rfl rfl 0 rfl (ix2 t n) (fun d hd => ?_) ?_
  · match d with
    | ⟨0, _⟩ => exact absurd rfl hd
    | ⟨1, _⟩ => rfl
  · show 0 + t.val = t.val
    omega

theorem stack_prompt (a : FVec Ideal S128x24576 .f32) (b : FVec Ideal S1x24576 .f32) (z : FVec Ideal S15x24576 .f32) (n : Fin 24576) :
    concatenate S144x24576 0 [⟨S128x24576, a⟩, ⟨S1x24576, b⟩, ⟨S15x24576, z⟩] concatenates_S128x24576_S1x24576_S15x24576_S144x24576_d0 (ix2 ⟨128, by decide⟩ n) = b (ix2 0 n) := by
  refine concatenate_apply_piece (t := S144x24576) 0 _ _ (ix2 _ n) 1 (by show 1 < 3; decide) S1x24576 _ rfl rfl 128 rfl (ix2 0 n) (fun d hd => ?_) ?_
  · match d with
    | ⟨0, _⟩ => exact absurd rfl hd
    | ⟨1, _⟩ => rfl
  · rfl

theorem stack_zero (a : FVec Ideal S128x24576 .f32) (b : FVec Ideal S1x24576 .f32) (z : FVec Ideal S15x24576 .f32) (t : Fin 15) (n : Fin 24576) :
    concatenate S144x24576 0 [⟨S128x24576, a⟩, ⟨S1x24576, b⟩, ⟨S15x24576, z⟩] concatenates_S128x24576_S1x24576_S15x24576_S144x24576_d0 (ix2 ⟨129 + t.val, by have := t.isLt; omega⟩ n) = z (ix2 t n) := by
  refine concatenate_apply_piece (t := S144x24576) 0 _ _ (ix2 _ n) 2 (by show 2 < 3; decide) S15x24576 _ rfl rfl 129 rfl (ix2 t n) (fun d hd => ?_) ?_
  · match d with
    | ⟨0, _⟩ => exact absurd rfl hd
    | ⟨1, _⟩ => rfl
  · rfl

end Ref

/-- Kernel and reference leave the same modulation. -/
theorem algebraic : Cert.algebraic_ModIdeal_ModRefIdeal (hModIdeal := Cert.ModIdeal.Gen.facts) (hModRefIdeal := Cert.ModRefIdeal.Gen.facts) := by
  intro m g m' g' _ hargs
  refine ⟨fun c => Cert.ModIdeal.Value.G3 m c, Cert.ModIdeal.Value.run (F := Ideal) m g, ?_⟩
  refine (θ_run (Cert.ModRefIdeal.defs (F := Ideal)) _ _).mono (fun r h c => ?_) (Cert.ModRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 144) (n : Fin 24576), j = ix2 t n := ⟨j 0, j 1, by idx_vars j⟩
  refine Eq.trans ?_ (Cert.ModIdeal.Mat.G3_at m c t n).symm
  have ht := t.isLt
  unfold Cert.ModIdeal.Mat.modOf
  by_cases h1 : t.val < 128
  · obtain ⟨s, rfl⟩ : ∃ s : Fin 128, t = ⟨s.val, Nat.lt_trans s.isLt (by decide)⟩ := ⟨⟨t.val, h1⟩, rfl⟩
    refine (stack_sample _ _ _ s n).trans ((ref_sample _ _ _ s n).trans ?_)
    simp only [Cert.ModIdeal.Mat.rows_sample]
    rw [e0, e2, e3]
  · by_cases h2 : t.val = 128
    · obtain rfl : t = ⟨128, by decide⟩ := Fin.ext h2
      refine (stack_prompt _ _ _ n).trans ((ref_prompt _ _ _ n).trans ?_)
      simp only [Cert.ModIdeal.Mat.rows_prompt]
      rw [e1, e2, e3]
    · obtain ⟨s, rfl⟩ : ∃ s : Fin 15, t = ⟨129 + s.val, Nat.add_lt_add_left s.isLt 129⟩ := ⟨⟨t.val - 129, by omega⟩, Fin.ext (by show t.val = 129 + (t.val - 129); omega)⟩
      refine (stack_zero _ _ _ s n).trans ((ref_zero _ _ s n).trans ?_)
      simp only [Cert.ModIdeal.Mat.rows_zero]
      rw [e2, e3]

end Cert.Proof.Mod

end
-- ==== Proof.PreValue.lean ====
/-
  The norm before the input projection, with the modulation's scale and shift, in blocks of rows.
-/
module

public import proofs.«01_k».proof.Defs
public import proofs.«01_k».proof.Proof.Norm
public import proofs.«01_k».proof.Proof.Gen.PreIdeal.Value
public import proofs.«01_k».proof.Proof.Gen.PreRefIdeal.Run

@[expose] public section

set_option maxRecDepth 16384

noncomputable section

namespace Cert.PreIdeal.Mat

open Cert.PreIdeal Cert.PreIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_4.flush t = true :=
  (by decide +kernel : ∀ t : Fin grid0.N, _)

theorem out_eq (x0 : Vec Ideal S512x4096 .f32) (x1 : Vec Ideal S1x4096 .f32) (x2 x3 : Vec Ideal S1x4096 .f32) : out0_4 x0 x1 x2 x3 = k0_pay1 x0 x1 x2 x3 := by
  unfold out0_4
  rw [View.canon_unit_zero hz2, View.ld_unit_zero hz2, View.ld_unit_zero hz2, View.ld_unit_zero hz2, View.ld_unit_zero hz2]

theorem pay_at (x : Vec Ideal S512x4096 .f32) (g : Vec Ideal S1x4096 .f32) (s b : Vec Ideal S1x4096 .f32) (r : Fin 512) (e : Fin 4096) :
    k0_pay1 x g s b (ix2 r e) = Norm.rms Norm.width (fun k => x (ix2 r k)) (g (ix2 0 e)) e * (Norm.one + s (ix2 0 e)) + b (ix2 0 e) := by
  unfold Norm.rms
  pointwise [k0_pay1]

variable (m : (ℓ : Loc nD τ sig) → Buf (Elt Ideal) ℓ) (c : Dev nD)

theorem Nlt (t : Fin cfg0.N) : t.val < 16 := lt_of_lt_of_eq t.isLt (show cfg0.N = 16 from N_0)

/-- The arguments as plain functions. -/
abbrev xOf : Fin 8192 → Fin 4096 → EReal := fun t k => m ((c : Thread nD τ).loc main_arg0) (ix2 t k)
abbrev gOf : Fin 4096 → EReal := fun k => m ((c : Thread nD τ).loc main_arg1) (ix1 k)
abbrev sOf : Fin 4096 → EReal := fun k => m ((c : Thread nD τ).loc main_arg2) (ix2 0 k)
abbrev bOf : Fin 4096 → EReal := fun k => m ((c : Thread nD τ).loc main_arg3) (ix2 0 k)

theorem blk0 (t : Fin cfg0.N) (r : Fin 512) (k : Fin 4096) : iblk m c 0 t (ix2 r k) = xOf m c ⟨512 * t.val + r.val, by have := r.isLt; have := Nlt t; omega⟩ k := by
  have hN := Nlt t
  unfold xOf
  blk_ext! [iblk, V, idx t]

theorem blk1 (t : Fin cfg0.N) (k : Fin 4096) : iblk m c 1 t (ix2 0 k) = gOf m c k := by
  unfold gOf
  blk_ext! [iblk, V, idx t]

theorem blk2 (t : Fin cfg0.N) (k : Fin 4096) : iblk m c 2 t (ix2 0 k) = sOf m c k := by
  unfold sOf
  blk_ext! [iblk, V, idx t]

theorem blk3 (t : Fin cfg0.N) (k : Fin 4096) : iblk m c 3 t (ix2 0 k) = bOf m c k := by
  unfold bOf
  blk_ext! [iblk, V, idx t]

/-- The output at one row and column. -/
def outOf (t : Fin 8192) (n : Fin 4096) : EReal :=
  Norm.rms Norm.width (xOf m c t) (gOf m c n) n * (Norm.one + sOf m c n) + bOf m c n

/-- The result array. -/
def res : S8192x4096.Idx → EReal := fun j => outOf m c (j 0) (j 1)

theorem point_at (t : Fin cfg0.N) (r : Fin 512) (e : Fin 4096) :
    out0_4 (iblk m c 0 t) (iblk m c 1 t) (iblk m c 2 t) (iblk m c 3 t) (ix2 r e)
      = outOf m c ⟨512 * t.val + r.val, by have := r.isLt; have := Nlt t; omega⟩ e := by
  rw [out_eq, pay_at, blk1 m c t e, blk2 m c t e, blk3 m c t e, funext fun k => blk0 m c t r k]
  rfl

theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v1).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 512) (e : Fin 4096), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 512 * t.val + r.val = win0_4.index t (0 : Fin 2) * 512 + 1 * r.val
    omega
  · show e.val = win0_4.index t (1 : Fin 2) * 4096 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 8192 := (i 0).isLt
  have h1 : (i 1).val < 4096 := (i 1).isLt
  have hN : cfg0.N = 16 := N_0
  have ht : (i 0).val / 512 < cfg0.N := by omega
  have e0 : win0_4.index ⟨(i 0).val / 512, ht⟩ (0 : Fin 2) = (i 0).val / 512 := congrFun (idx ⟨(i 0).val / 512, ht⟩).2.2.2.2.1 0
  have e1 : win0_4.index ⟨(i 0).val / 512, ht⟩ (1 : Fin 2) = 0 := congrFun (idx ⟨(i 0).val / 512, ht⟩).2.2.2.2.1 1
  refine ⟨⟨(i 0).val / 512, ht⟩, (idx _).2.2.2.2.2, (mem_blk _ i).mpr fun a => ?_⟩
  match a with
  | ⟨0, _⟩ => show win0_4.index _ (0 : Fin 2) * 512 ≤ (i 0).val ∧ (i 0).val < win0_4.index _ (0 : Fin 2) * 512 + 512; rw [e0]; omega
  | ⟨1, _⟩ => show win0_4.index _ (1 : Fin 2) * 4096 ≤ (i 1).val ∧ (i 1).val < win0_4.index _ (1 : Fin 2) * 4096 + 4096; rw [e1]; omega

end Cert.PreIdeal.Mat

namespace Cert.Proof.Pre

open Idealize.ShloMosaic Idealize.SL.Sem

/-- The reference terminates, keeps its arguments, and has no semaphore. -/
theorem frame_ref : Cert.quiescent_PreRefIdeal (hPreRefIdeal := Cert.PreRefIdeal.Gen.facts) := fun m ρ _ =>
  (θ_run Cert.PreRefIdeal.defs _ _).mono (fun r h => ⟨fun c => (h c).2, sem_eq_zero_of_no_sems (by decide) r.2⟩)
    (Cert.PreRefIdeal.Value.run (F := Ideal) m ρ)

section Ref

open Cert.PreRefIdeal Cert.PreRefIdeal.Gen

theorem ref_at (x : FVec Ideal S8192x4096 .f32) (g : FVec Ideal S4096 .f32) (s b : FVec Ideal S1x4096 .f32) (t : Fin 8192) (n : Fin 4096) :
    addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (addf (broadcastInDim S1x4096 ![] bcast_S_S1x4096 (constant S_ .f32 0x3F800000#32)) s))) (broadcastInDim S8192x4096 ![0, 1] bcast_S1x4096_S8192x4096_0_1 b) (ix2 t n)
      = Norm.rms Norm.width (fun k => x (ix2 t k)) (g (ix1 n)) n * (Norm.one + s (ix2 0 n)) + b (ix2 0 n) := by
  unfold Norm.rms
  pointwise

end Ref

/-- Kernel and reference leave the same output. -/
theorem algebraic : Cert.algebraic_PreIdeal_PreRefIdeal (hPreIdeal := Cert.PreIdeal.Gen.facts) (hPreRefIdeal := Cert.PreRefIdeal.Gen.facts) := by
  intro m g m' g' _ hargs
  refine ⟨fun c => Cert.PreIdeal.Mat.res m c, (θ_run _ _ _).mono (fun r h c => ⟨(h c).1.trans (Cert.PreIdeal.Mat.final_eq m c), (h c).2⟩) (Cert.PreIdeal.Value.run_blocks (F := Ideal) m g), ?_⟩
  refine (θ_run (Cert.PreRefIdeal.defs (F := Ideal)) _ _).mono (fun r h c => ?_) (Cert.PreRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 8192) (n : Fin 4096), j = ix2 t n := ⟨j 0, j 1, by idx_vars j⟩
  refine (ref_at _ _ _ _ t n).trans ?_
  show _ = Cert.PreIdeal.Mat.outOf m c t n
  unfold Cert.PreIdeal.Mat.outOf
  rw [e0, e1, e2, e3]

end Cert.Proof.Pre

end
-- ==== Proof.PreSValue.lean ====
/-
  The samples' norm before the input projection: as the prompt's, with one row of scale and shift for each of a sample's
  eight steps.
-/
module

public import proofs.«01_k».proof.Defs
public import proofs.«01_k».proof.Proof.Norm
public import proofs.«01_k».proof.Proof.Gen.PreSIdeal.Value
public import proofs.«01_k».proof.Proof.Gen.PreSRefIdeal.Run

@[expose] public section

set_option maxRecDepth 16384

noncomputable section

namespace Cert.PreSIdeal.Mat

open Cert.PreSIdeal Cert.PreSIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_4.flush t = true :=
  (by decide +kernel : ∀ t : Fin grid0.N, _)

theorem out_eq (x0 : Vec Ideal S128x4096 .f32) (x1 : Vec Ideal S1x4096 .f32) (x2 x3 : Vec Ideal S128x4096 .f32) : out0_4 x0 x1 x2 x3 = k0_pay1 x0 x1 x2 x3 := by
  unfold out0_4
  rw [View.canon_unit_zero hz2, View.ld_unit_zero hz2, View.ld_unit_zero hz2, View.ld_unit_zero hz2, View.ld_unit_zero hz2]

theorem pay_at (x : Vec Ideal S128x4096 .f32) (g : Vec Ideal S1x4096 .f32) (s b : Vec Ideal S128x4096 .f32) (r : Fin 128) (e : Fin 4096) :
    k0_pay1 x g s b (ix2 r e) = Norm.rms Norm.width (fun k => x (ix2 r k)) (g (ix2 0 e)) e * (Norm.one + s (ix2 r e)) + b (ix2 r e) := by
  unfold Norm.rms
  pointwise [k0_pay1]

variable (m : (ℓ : Loc nD τ sig) → Buf (Elt Ideal) ℓ) (c : Dev nD)

theorem Nlt (t : Fin cfg0.N) : t.val < 8 := lt_of_lt_of_eq t.isLt (show cfg0.N = 8 from N_0)

/-- The arguments as plain functions. -/
abbrev xOf : Fin 1024 → Fin 4096 → EReal := fun t k => m ((c : Thread nD τ).loc main_arg0) (ix3 ⟨t.val / 8, by have := t.isLt; omega⟩ ⟨t.val % 8, by omega⟩ k)
abbrev gOf : Fin 4096 → EReal := fun k => m ((c : Thread nD τ).loc main_arg1) (ix1 k)
abbrev sOf : Fin 1024 → Fin 4096 → EReal := fun t k => m ((c : Thread nD τ).loc main_arg2) (ix2 ⟨t.val / 8, by have := t.isLt; omega⟩ k)
abbrev bOf : Fin 1024 → Fin 4096 → EReal := fun t k => m ((c : Thread nD τ).loc main_arg3) (ix2 ⟨t.val / 8, by have := t.isLt; omega⟩ k)

theorem blk0 (t : Fin cfg0.N) (r : Fin 128) (k : Fin 4096) : iblk m c 0 t (ix2 r k) = xOf m c ⟨128 * t.val + r.val, by have := r.isLt; have := Nlt t; omega⟩ k := by
  have hN := Nlt t
  unfold xOf
  blk_ext! [iblk, V, idx t]

theorem blk1 (t : Fin cfg0.N) (k : Fin 4096) : iblk m c 1 t (ix2 0 k) = gOf m c k := by
  unfold gOf
  blk_ext! [iblk, V, idx t]

theorem blk2 (t : Fin cfg0.N) (r : Fin 128) (k : Fin 4096) : iblk m c 2 t (ix2 r k) = sOf m c ⟨128 * t.val + r.val, by have := r.isLt; have := Nlt t; omega⟩ k := by
  have hN := Nlt t
  unfold sOf
  blk_ext! [iblk, V, idx t]

theorem blk3 (t : Fin cfg0.N) (r : Fin 128) (k : Fin 4096) : iblk m c 3 t (ix2 r k) = bOf m c ⟨128 * t.val + r.val, by have := r.isLt; have := Nlt t; omega⟩ k := by
  have hN := Nlt t
  unfold bOf
  blk_ext! [iblk, V, idx t]

/-- The output at one row and column. -/
def outOf (t : Fin 1024) (n : Fin 4096) : EReal :=
  Norm.rms Norm.width (xOf m c t) (gOf m c n) n * (Norm.one + sOf m c t n) + bOf m c t n

/-- The result array. -/
def res : S1024x4096.Idx → EReal := fun j => outOf m c (j 0) (j 1)

theorem point_at (t : Fin cfg0.N) (r : Fin 128) (e : Fin 4096) :
    out0_4 (iblk m c 0 t) (iblk m c 1 t) (iblk m c 2 t) (iblk m c 3 t) (ix2 r e)
      = outOf m c ⟨128 * t.val + r.val, by have := r.isLt; have := Nlt t; omega⟩ e := by
  rw [out_eq, pay_at, blk1 m c t e, blk2 m c t r e, blk3 m c t r e, funext fun k => blk0 m c t r k]
  rfl

theorem mem_blk (t : Fin cfg0.N) (i : S1024x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v6).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 128) (e : Fin 4096), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 128 * t.val + r.val = win0_4.index t (0 : Fin 2) * 128 + 1 * r.val
    omega
  · show e.val = win0_4.index t (1 : Fin 2) * 4096 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 1024 := (i 0).isLt
  have h1 : (i 1).val < 4096 := (i 1).isLt
  have hN : cfg0.N = 8 := N_0
  have ht : (i 0).val / 128 < cfg0.N := by omega
  have e0 : win0_4.index ⟨(i 0).val / 128, ht⟩ (0 : Fin 2) = (i 0).val / 128 := congrFun (idx ⟨(i 0).val / 128, ht⟩).2.2.2.2.1 0
  have e1 : win0_4.index ⟨(i 0).val / 128, ht⟩ (1 : Fin 2) = 0 := congrFun (idx ⟨(i 0).val / 128, ht⟩).2.2.2.2.1 1
  refine ⟨⟨(i 0).val / 128, ht⟩, (idx _).2.2.2.2.2, (mem_blk _ i).mpr fun a => ?_⟩
  match a with
  | ⟨0, _⟩ => show win0_4.index _ (0 : Fin 2) * 128 ≤ (i 0).val ∧ (i 0).val < win0_4.index _ (0 : Fin 2) * 128 + 128; rw [e0]; omega
  | ⟨1, _⟩ => show win0_4.index _ (1 : Fin 2) * 4096 ≤ (i 1).val ∧ (i 1).val < win0_4.index _ (1 : Fin 2) * 4096 + 4096; rw [e1]; omega

end Cert.PreSIdeal.Mat

namespace Cert.Proof.PreS

open Idealize.ShloMosaic Idealize.SL.Sem

/-- The reference terminates, keeps its arguments, and has no semaphore. -/
theorem frame_ref : Cert.quiescent_PreSRefIdeal (hPreSRefIdeal := Cert.PreSRefIdeal.Gen.facts) := fun m ρ _ =>
  (θ_run Cert.PreSRefIdeal.defs _ _).mono (fun r h => ⟨fun c => (h c).2, sem_eq_zero_of_no_sems (by decide) r.2⟩)
    (Cert.PreSRefIdeal.Value.run (F := Ideal) m ρ)

section Ref

open Cert.PreSRefIdeal Cert.PreSRefIdeal.Gen

theorem ref_at (x : FVec Ideal S128x8x4096 .f32) (g : FVec Ideal S4096 .f32) (s b : FVec Ideal S128x4096 .f32) (t : Fin 1024) (n : Fin 4096) :
    shapeCast S1024x4096 (addf (mulf (mulf (mulf x (broadcastInDim S128x8x4096 ![0, 1, 2] bcast_S128x8x1_S128x8x4096_0_1_2 (Host.rsqrt (addf (Host.divf (broadcastInDim S128x8x1 ![0, 1] bcast_S128x8_S128x8x1_0_1 (Host.reduceAdd (mulf x x) (constant S_ .f32 0x00000000#32) reducesTo_S128x8x4096_S128x8_d2 h_S_)) (broadcastInDim S128x8x1 ![] bcast_S_S128x8x1 (constant S_ .f32 0x45800000#32))) (broadcastInDim S128x8x1 ![] bcast_S_S128x8x1 (constant S_ .f32 0x358637BD#32)))))) (broadcastInDim S128x8x4096 ![0, 1, 2] bcast_S1x1x4096_S128x8x4096_0_1_2 (broadcastInDim S1x1x4096 ![2] bcast_S4096_S1x1x4096_2 g))) (broadcastInDim S128x8x4096 ![0, 1, 2] bcast_S128x1x4096_S128x8x4096_0_1_2 (addf (broadcastInDim S128x1x4096 ![] bcast_S_S128x1x4096 (constant S_ .f32 0x3F800000#32)) (broadcastInDim S128x1x4096 ![0, 2] bcast_S128x4096_S128x1x4096_0_2 s)))) (broadcastInDim S128x8x4096 ![0, 1, 2] bcast_S128x1x4096_S128x8x4096_0_1_2 (broadcastInDim S128x1x4096 ![0, 2] bcast_S128x4096_S128x1x4096_0_2 b))) shapeCasts_S128x8x4096_S1024x4096 (ix2 t n)
      = Norm.rms Norm.width (fun k => x (ix3 ⟨t.val / 8, by have := t.isLt; omega⟩ ⟨t.val % 8, by omega⟩ k)) (g (ix1 n)) n * (Norm.one + s (ix2 ⟨t.val / 8, by have := t.isLt; omega⟩ n)) + b (ix2 ⟨t.val / 8, by have := t.isLt; omega⟩ n) := by
  unfold Norm.rms
  pointwise

end Ref

/-- Kernel and reference leave the same output. -/
theorem algebraic : Cert.algebraic_PreSIdeal_PreSRefIdeal (hPreSIdeal := Cert.PreSIdeal.Gen.facts) (hPreSRefIdeal := Cert.PreSRefIdeal.Gen.facts) := by
  intro m g m' g' _ hargs
  refine ⟨fun c => Cert.PreSIdeal.Mat.res m c, (θ_run _ _ _).mono (fun r h c => ⟨(h c).1.trans (Cert.PreSIdeal.Mat.final_eq m c), (h c).2⟩) (Cert.PreSIdeal.Value.run_blocks (F := Ideal) m g), ?_⟩
  refine (θ_run (Cert.PreSRefIdeal.defs (F := Ideal)) _ _).mono (fun r h c => ?_) (Cert.PreSRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 1024) (n : Fin 4096), j = ix2 t n := ⟨j 0, j 1, by idx_vars j⟩
  refine (ref_at _ _ _ _ t n).trans ?_
  show _ = Cert.PreSIdeal.Mat.outOf m c t n
  unfold Cert.PreSIdeal.Mat.outOf
  rw [e0, e1, e2, e3]

end Cert.Proof.PreS

end
-- ==== Proof.GroupValue.lean ====
/-
  The norms of the recurrent branch's rows and of the attention's rows, each with its gain, laid side by side, in blocks of
  rows.
-/
module

public import proofs.«01_k».proof.Defs
public import proofs.«01_k».proof.Proof.Norm
public import proofs.«01_k».proof.Proof.Gen.GroupIdeal.Value
public import proofs.«01_k».proof.Proof.Gen.GroupRefIdeal.Run

@[expose] public section

set_option maxRecDepth 16384

noncomputable section

namespace Cert.GroupIdeal.Mat

open Cert.GroupIdeal Cert.GroupIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_4.flush t = true :=
  (by decide +kernel : ∀ t : Fin grid0.N, _)

theorem pay1_at (x : Vec Ideal S512x2048 .f32) (g : Vec Ideal S1x2048 .f32) (r : Fin 512) (e : Fin 2048) :
    k0_pay1 x g (ix2 r e) = Norm.rms Norm.half (fun k => x (ix2 r k)) (g (ix2 0 e)) e := by
  unfold Norm.rms
  pointwise [k0_pay1]

theorem pay2_at (x : Vec Ideal S512x2048 .f32) (g : Vec Ideal S1x2048 .f32) (r : Fin 512) (e : Fin 2048) :
    k0_pay2 x g (ix2 r e) = Norm.rms Norm.half (fun k => x (ix2 r k)) (g (ix2 0 e)) e := by
  unfold Norm.rms
  pointwise [k0_pay2]

theorem emb2 (r : Fin 512) (e : Fin 2048) : r0_2.emb (ix2 r e) = ix2 r ⟨e.val, by have := e.isLt; omega⟩ := by
  funext a
  apply Fin.ext
  match a with
  | ⟨0, _⟩ => show 0 + 1 * r.val = r.val; omega
  | ⟨1, _⟩ => show 0 + 1 * e.val = e.val; omega

theorem emb3 (r : Fin 512) (e : Fin 2048) : r0_3.emb (ix2 r e) = ix2 r ⟨2048 + e.val, by have := e.isLt; omega⟩ := by
  funext a
  apply Fin.ext
  match a with
  | ⟨0, _⟩ => show 0 + 1 * r.val = r.val; omega
  | ⟨1, _⟩ => show 2048 + 1 * e.val = 2048 + e.val; omega

/-- The block's left half is the first rows' norm. -/
theorem out_left (x0 x1 : Vec Ideal S512x2048 .f32) (x2 x3 : Vec Ideal S1x2048 .f32) (r : Fin 512) (e : Fin 2048) :
    out0_4 x0 x1 x2 x3 (ix2 r ⟨e.val, by have := e.isLt; omega⟩) = k0_pay1 x0 x2 (ix2 r e) := by
  unfold out0_4
  rw [View.canon_cons_of_not_mem, ← emb2 r e, View.canon_cons_emb, View.ld_unit_zero hz2, View.ld_unit_zero hz2]
  show ix2 r _ ∉ r0_3.set
  rw [Rect.mem_set_unit]
  intro h
  have h1 : 2048 ≤ e.val ∧ _ := h 1
  have := e.isLt
  omega

/-- Its right half is the second rows' norm. -/
theorem out_right (x0 x1 : Vec Ideal S512x2048 .f32) (x2 x3 : Vec Ideal S1x2048 .f32) (r : Fin 512) (e : Fin 2048) :
    out0_4 x0 x1 x2 x3 (ix2 r ⟨2048 + e.val, by have := e.isLt; omega⟩) = k0_pay2 x1 x3 (ix2 r e) := by
  unfold out0_4
  rw [← emb3 r e, View.canon_cons_emb, View.ld_unit_zero hz2, View.ld_unit_zero hz2]

variable (m : (ℓ : Loc nD τ sig) → Buf (Elt Ideal) ℓ) (c : Dev nD)

theorem Nlt (t : Fin cfg0.N) : t.val < 16 := lt_of_lt_of_eq t.isLt (show cfg0.N = 16 from N_0)

/-- The arguments as plain functions. -/
abbrev xOf : Fin 8192 → Fin 2048 → EReal := fun t k => m ((c : Thread nD τ).loc main_arg0) (ix2 t k)
abbrev yOf : Fin 8192 → Fin 2048 → EReal := fun t k => m ((c : Thread nD τ).loc main_arg1) (ix2 t k)
abbrev gOf : Fin 2048 → EReal := fun k => m ((c : Thread nD τ).loc main_arg2) (ix1 k)
abbrev hOf : Fin 2048 → EReal := fun k => m ((c : Thread nD τ).loc main_arg3) (ix1 k)

theorem blk0 (t : Fin cfg0.N) (r : Fin 512) (k : Fin 2048) : iblk m c 0 t (ix2 r k) = xOf m c ⟨512 * t.val + r.val, by have := r.isLt; have := Nlt t; omega⟩ k := by
  have hN := Nlt t
  unfold xOf
  blk_ext! [iblk, V, idx t]

theorem blk1 (t : Fin cfg0.N) (r : Fin 512) (k : Fin 2048) : iblk m c 1 t (ix2 r k) = yOf m c ⟨512 * t.val + r.val, by have := r.isLt; have := Nlt t; omega⟩ k := by
  have hN := Nlt t
  unfold yOf
  blk_ext! [iblk, V, idx t]

theorem blk2 (t : Fin cfg0.N) (k : Fin 2048) : iblk m c 2 t (ix2 0 k) = gOf m c k := by
  unfold gOf
  blk_ext! [iblk, V, idx t]

theorem blk3 (t : Fin cfg0.N) (k : Fin 2048) : iblk m c 3 t (ix2 0 k) = hOf m c k := by
  unfold hOf
  blk_ext! [iblk, V, idx t]

/-- The output at one row and column. -/
def outOf (t : Fin 8192) (n : Fin 4096) : EReal :=
  if h : n.val < 2048 then Norm.rms Norm.half (xOf m c t) (gOf m c ⟨n.val, h⟩) ⟨n.val, h⟩
  else Norm.rms Norm.half (yOf m c t) (hOf m c ⟨n.val - 2048, by have := n.isLt; omega⟩) ⟨n.val - 2048, by have := n.isLt; omega⟩

theorem outOf_left (t : Fin 8192) (n : Fin 4096) (e : Fin 2048) (h : n.val = e.val) : outOf m c t n = Norm.rms Norm.half (xOf m c t) (gOf m c e) e := by
  have he := e.isLt
  have hn : n.val < 2048 := by omega
  unfold outOf
  rw [dif_pos hn]
  have e1 : (⟨n.val, hn⟩ : Fin 2048) = e := Fin.ext h
  rw [e1]

theorem outOf_right (t : Fin 8192) (n : Fin 4096) (e : Fin 2048) (h : n.val = 2048 + e.val) : outOf m c t n = Norm.rms Norm.half (yOf m c t) (hOf m c e) e := by
  have he := e.isLt
  have hn : ¬n.val < 2048 := by omega
  unfold outOf
  rw [dif_neg hn]
  have e1 : (⟨n.val - 2048, by omega⟩ : Fin 2048) = e := Fin.ext (by show n.val - 2048 = e.val; omega)
  rw [e1]

/-- The result array. -/
def res : S8192x4096.Idx → EReal := fun j => outOf m c (j 0) (j 1)

theorem point_at (t : Fin cfg0.N) (r : Fin 512) (e : Fin 4096) :
    out0_4 (iblk m c 0 t) (iblk m c 1 t) (iblk m c 2 t) (iblk m c 3 t) (ix2 r e) = outOf m c ⟨512 * t.val + r.val, by have := r.isLt; have := Nlt t; omega⟩ e := by
  have he := e.isLt
  by_cases h : e.val < 2048
  · rw [outOf_left m c _ e ⟨e.val, h⟩ rfl]
    refine (out_left _ _ _ _ r ⟨e.val, h⟩).trans ?_
    rw [pay1_at, blk2 m c t, funext fun k => blk0 m c t r k]
  · have h2 : e.val = 2048 + (e.val - 2048) := by omega
    rw [outOf_right m c _ e ⟨e.val - 2048, by omega⟩ h2]
    have h3 : e = ⟨2048 + (⟨e.val - 2048, by omega⟩ : Fin 2048).val, by show 2048 + (e.val - 2048) < 4096; omega⟩ := Fin.ext h2
    refine (congrArg (fun z => out0_4 (iblk m c 0 t) (iblk m c 1 t) (iblk m c 2 t) (iblk m c 3 t) (ix2 r z)) h3).trans ((out_right _ _ _ _ r ⟨e.val - 2048, by omega⟩).trans ?_)
    rw [pay2_at, blk3 m c t, funext fun k => blk1 m c t r k]

theorem mem_blk (t : Fin cfg0.N) (i : S8192x4096.Idx) :
    i ∈ ((cfg0.win 4).blk t).view.set ↔ ∀ a : Fin 2, win0_4.index t a * S512x4096.size a ≤ (i a).val ∧ (i a).val < win0_4.index t a * S512x4096.size a + S512x4096.size a := by
  show i ∈ ((View.whole main_v2).slice (win0_4.rect t)).set ↔ _
  rw [View.set_slice_whole, Rect.mem_set_unit]
  exact Iff.rfl

/-- Each point writes its block of the result array. -/
theorem flushed_eq (t : Fin cfg0.N) : (dats m 0 c).flushed 4 t = ((cfg0.win 4).blk t).view.read (Elt Ideal) (res m c) := by
  rw [Value.flushed4]
  funext y
  obtain ⟨r, e, rfl⟩ : ∃ (r : Fin 512) (e : Fin 4096), y = ix2 r e := ⟨y 0, y 1, by idx_vars y⟩
  have h0 : win0_4.index t (0 : Fin 2) = t.val := congrFun (idx t).2.2.2.2.1 0
  have h1 : win0_4.index t (1 : Fin 2) = 0 := congrFun (idx t).2.2.2.2.1 1
  refine (point_at m c t r e).trans ?_
  refine congrArg₂ (outOf m c) (Fin.ext ?_) (Fin.ext ?_)
  · show 512 * t.val + r.val = win0_4.index t (0 : Fin 2) * 512 + 1 * r.val
    omega
  · show e.val = win0_4.index t (1 : Fin 2) * 4096 + 1 * e.val
    omega

/-- The result array, whole. -/
theorem final_eq : (dats m 0 c).arrAt 4 cfg0.N = res m c := by
  refine (dats m 0 c).arrAt_eq_of_cover 4 _ (fun t _ => flushed_eq m c t) fun i => ?_
  have h0 : (i 0).val < 8192 := (i 0).isLt
  have h1 : (i 1).val < 4096 := (i 1).isLt
  have hN : cfg0.N = 16 := N_0
  have ht : (i 0).val / 512 < cfg0.N := by omega
  have e0 : win0_4.index ⟨(i 0).val / 512, ht⟩ (0 : Fin 2) = (i 0).val / 512 := congrFun (idx ⟨(i 0).val / 512, ht⟩).2.2.2.2.1 0
  have e1 : win0_4.index ⟨(i 0).val / 512, ht⟩ (1 : Fin 2) = 0 := congrFun (idx ⟨(i 0).val / 512, ht⟩).2.2.2.2.1 1
  refine ⟨⟨(i 0).val / 512, ht⟩, (idx _).2.2.2.2.2, (mem_blk _ i).mpr fun a => ?_⟩
  match a with
  | ⟨0, _⟩ => show win0_4.index _ (0 : Fin 2) * 512 ≤ (i 0).val ∧ (i 0).val < win0_4.index _ (0 : Fin 2) * 512 + 512; rw [e0]; omega
  | ⟨1, _⟩ => show win0_4.index _ (1 : Fin 2) * 4096 ≤ (i 1).val ∧ (i 1).val < win0_4.index _ (1 : Fin 2) * 4096 + 4096; rw [e1]; omega

end Cert.GroupIdeal.Mat

namespace Cert.Proof.Group

open Idealize.ShloMosaic Idealize.SL.Sem

/-- The reference terminates, keeps its arguments, and has no semaphore. -/
theorem frame_ref : Cert.quiescent_GroupRefIdeal (hGroupRefIdeal := Cert.GroupRefIdeal.Gen.facts) := fun m ρ _ =>
  (θ_run Cert.GroupRefIdeal.defs _ _).mono (fun r h => ⟨fun c => (h c).2, sem_eq_zero_of_no_sems (by decide) r.2⟩)
    (Cert.GroupRefIdeal.Value.run (F := Ideal) m ρ)

section Ref

open Cert.GroupRefIdeal Cert.GroupRefIdeal.Gen

theorem ref_at (x : FVec Ideal S8192x2048 .f32) (g : FVec Ideal S2048 .f32) (t : Fin 8192) (e : Fin 2048) :
    (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g)) : FVec Ideal S8192x2048 .f32) (ix2 t e)
      = Norm.rms Norm.half (fun k => x (ix2 t k)) (g (ix1 e)) e := by
  unfold Norm.rms
  pointwise

theorem side_left (a b : FVec Ideal S8192x2048 .f32) (t : Fin 8192) (n : Fin 4096) (e : Fin 2048) (h : n.val = e.val) :
    concatenate S8192x4096 1 [⟨S8192x2048, a⟩, ⟨S8192x2048, b⟩] concatenates_S8192x2048_S8192x2048_S8192x4096_d1 (ix2 t n) = a (ix2 t e) := by
  refine concatenate_pair_apply_left (t := S8192x4096) 1 a b _ (ix2 t n) rfl (ix2 t e) fun d => ?_
  match d with
  | ⟨0, _⟩ => rfl
  | ⟨1, _⟩ => exact h.symm

theorem side_right (a b : FVec Ideal S8192x2048 .f32) (t : Fin 8192) (n : Fin 4096) (e : Fin 2048) (h : n.val = 2048 + e.val) :
    concatenate S8192x4096 1 [⟨S8192x2048, a⟩, ⟨S8192x2048, b⟩] concatenates_S8192x2048_S8192x2048_S8192x4096_d1 (ix2 t n) = b (ix2 t e) := by
  refine concatenate_pair_apply_right (t := S8192x4096) 1 a b _ (ix2 t n) rfl rfl (ix2 t e) (fun d hd => ?_) ?_
  · match d with
    | ⟨0, _⟩ => rfl
    | ⟨1, _⟩ => exact absurd rfl hd
  · show e.val + 2048 = n.val
    omega

end Ref

/-- Kernel and reference leave the same output. -/
theorem algebraic : Cert.algebraic_GroupIdeal_GroupRefIdeal (hGroupIdeal := Cert.GroupIdeal.Gen.facts) (hGroupRefIdeal := Cert.GroupRefIdeal.Gen.facts) := by
  intro m g m' g' _ hargs
  refine ⟨fun c => Cert.GroupIdeal.Mat.res m c, (θ_run _ _ _).mono (fun r h c => ⟨(h c).1.trans (Cert.GroupIdeal.Mat.final_eq m c), (h c).2⟩) (Cert.GroupIdeal.Value.run_blocks (F := Ideal) m g), ?_⟩
  refine (θ_run (Cert.GroupRefIdeal.defs (F := Ideal)) _ _).mono (fun r h c => ?_) (Cert.GroupRefIdeal.Value.run (F := Ideal) m' g')
  obtain ⟨hy, hrest⟩ := h c
  obtain ⟨e0, e1, e2, e3⟩ := hargs c
  refine ⟨hy.trans ?_, hrest⟩
  funext j
  obtain ⟨t, n, rfl⟩ : ∃ (t : Fin 8192) (n : Fin 4096), j = ix2 t n := ⟨j 0, j 1, by idx_vars j⟩
  have hn := n.isLt
  show _ = Cert.GroupIdeal.Mat.outOf m c t n
  by_cases h : n.val < 2048
  · rw [Cert.GroupIdeal.Mat.outOf_left m c t n ⟨n.val, h⟩ rfl]
    refine (side_left _ _ t n ⟨n.val, h⟩ rfl).trans ((ref_at _ _ t _).trans ?_)
    rw [e0, e2]
  · have h2 : n.val = 2048 + (n.val - 2048) := by omega
    rw [Cert.GroupIdeal.Mat.outOf_right m c t n ⟨n.val - 2048, by omega⟩ h2]
    refine (side_right _ _ t n ⟨n.val - 2048, by omega⟩ h2).trans ((ref_at _ _ t _).trans ?_)
    rw [e1, e3]

end Cert.Proof.Group

end
-- ==== Proof.MidValue.lean ====
/-
  The step between the mixing and the feed-forward part: the residual plus the gate times the norm of the mixed
  rows, and that sum's own norm with the modulation's scale and shift, in blocks of rows.
-/
module

public import proofs.«01_k».proof.Defs
public import proofs.«01_k».proof.Proof.Norm
public import proofs.«01_k».proof.Proof.Gen.MidIdeal.Value
public import proofs.«01_k».proof.Proof.Gen.MidRefIdeal.Run

@[expose] public section

set_option maxRecDepth 16384

noncomputable section

namespace Cert.MidIdeal.Mat

open Cert.MidIdeal Cert.MidIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Both results' blocks: row block `t`, each written back. -/
theorem idxOut : ∀ t : Fin cfg0.N, win0_7.index t = ![t.val, 0] ∧ win0_7.flush t = true ∧ win0_8.index t = ![t.val, 0] ∧ win0_8.flush t = true :=
  (by decide +kernel : ∀ t : Fin grid0.N, _)

theorem sum_at (x y : Vec Ideal S128x4096 .f32) (g : Vec Ideal S1x4096 .f32) (s : Vec Ideal S1x4096 .f32) (r : Fin 128) (e : Fin 4096) :
    k0_pay2 x s y g (ix2 r e) = x (ix2 r e) + s (ix2 0 e) * Norm.rms Norm.width (fun k => y (ix2 r k)) (g (ix2 0 e)) e := by
  unfold Norm.rms
  pointwise [k0_pay2]

theorem norm_at (x y : Vec Ideal S128x4096 .f32) (g h : Vec Ideal S1x4096 .f32) (s : Vec Ideal S1x4096 .f32) (r : Fin 128) (e : Fin 4096) :
    k0_pay3 x s y g h (ix2 r e) = Norm.rms Norm.width (fun k => k0_pay2 x s y g (ix2 r k)) (h (ix2 0 e)) e := by
  unfold Norm.rms
  pointwise [k0_pay3]

theorem mod_at (n : Vec Ideal S128x4096 .f32) (s b : Vec Ideal S1x4096 .f32) (r : Fin 128) (e : Fin 4096) :
    k0_pay1 n s (k0_pay4 (F := Ideal)) b (ix2 r e) = n (ix2 r e) * (Norm.one + s (ix2 0 e)) + b (ix2 0 e) := by
  pointwise [k0_pay1, k0_pay4]

theorem out7_eq (x0 x1 : Vec Ideal S128x4096 .f32) (x2 : Vec Ideal S1x4096 .f32) (x3 : Vec Ideal S1x4096 .f32) (x4 : Vec Ideal S1x4096 .f32) (x5 x6 : Vec Ideal S1x4096 .f32) :
    out0_7 x0 x1 x2 x3 x4 x5 x6 = k0_pay2 x0 x3 x1 x2 := by
  unfold out0_7
  rw [View.canon_unit_zero hz2, View.ld_unit_zero hz2, View.ld_unit_zero hz2, View.ld_unit_zero hz2, View.ld_unit_zero hz2]

theorem out8_eq (x0 x1 : Vec Ideal S128x4096 .f32) (x2 : Vec Ideal S1x4096 .f32) (x3 : Vec Ideal S1x4096 .f32) (x4 : Vec Ideal S1x4096 .f32) (x5 x6 : Vec Ideal S1x4096 .f32) :
    out0_8 x0 x1 x2 x3 x4 x5 x6 = k0_pay1 (k0_pay3 x0 x3 x1 x2 x4) x5 (k0_pay4 (F := Ideal)) x6 := by
  unfold out0_8
  rw [View.canon_unit_zero hz2, View.ld_unit_zero hz2, View.ld_unit_zero hz2, View.ld_unit_zero hz2, View.ld_unit_zero hz2, View.ld_unit_zero hz2, View.ld_unit_zero hz2, View.ld_unit_zero hz2]

variable (m : (ℓ : Loc nD τ sig) → Buf (Elt Ideal) ℓ) (c : Dev nD)

theorem Nlt (t : Fin cfg0.N) : t.val < 64 := lt_of_lt_of_eq t.isLt (show cfg0.N = 64 from N_0)

/-- The arguments as plain functions. -/
abbrev xOf : Fin 8192 → Fin 4096 → EReal := fun t k => m ((c : Thread nD τ).loc main_arg0) (ix2 t k)
abbrev yOf : Fin 8192 → Fin 4096 → EReal := fun t k => m ((c : Thread nD τ).loc main_arg1) (ix2 t k)
abbrev gOf : Fin 4096 → EReal := fun k => m ((c : Thread nD τ).loc main_arg2) (ix1 k)
abbrev sOf : Fin 4096 → EReal := fun k => m ((c : Thread nD τ).loc main_arg3) (ix2 0 k)
abbrev hOf : Fin 4096 → EReal := fun k => m ((c : Thread nD τ).loc main_arg4) (ix1 k)
abbrev aOf : Fin 4096 → EReal := fun k => m ((c : Thread nD τ).loc main_arg5) (ix2 0 k)
abbrev bOf : Fin 4096 → EReal := fun k => m ((c : Thread nD τ).loc main_arg6) (ix2 0 k)

theorem blk0 (t : Fin cfg0.N) (r : Fin 128) (k : Fin 4096) : iblk m c 0 t (ix2 r k) = xOf m c ⟨128 * t.val + r.val, by have := r.isLt; have := Nlt t; omega⟩ k := by
  have hN := Nlt t
  unfold xOf
  blk_ext! [iblk, V, idx t]

theorem blk1 (t : Fin cfg0.N) (r : Fin 128) (k : Fin 4096) : iblk m c 1 t (ix2 r k) = yOf m c ⟨128 * t.val + r.val, by have := r.isLt; have := Nlt t; omega⟩ k := by
  have hN := Nlt t
  unfold yOf
  blk_ext! [iblk, V, idx t]

theorem blk2 (t : Fin cfg0.N) (k : Fin 4096) : iblk m c 2 t (ix2 0 k) = gOf m c k := by
  unfold gOf
  blk_ext! [iblk, V, idx t]

theorem blk3 (t : Fin cfg0.N) (k : Fin 4096) : iblk m c 3 t (ix2 0 k) = sOf m c k := by
  unfold sOf
  blk_ext! [iblk, V, idx t]

theorem blk4 (t : Fin cfg0.N) (k : Fin 4096) : iblk m c 4 t (ix2 0 k) = hOf m c k := by
  unfold hOf
  blk_ext! [iblk, V, idx t]

theorem blk5 (t : Fin cfg0.N) (k : Fin 4096) : iblk m c 5 t (ix2 0 k) = aOf m c k := by
  unfold aOf
  blk_ext! [iblk, V, idx t]

theorem blk6 (t : Fin cfg0.N) (k : Fin 4096) : iblk m c 6 t (ix2 0 k) = bOf m c k := by
  unfold bOf
  blk_ext! [iblk, V, idx t]

/-- The sum and its modulated norm at one row and column. -/
def sumOf (t : Fin 8192) (n : Fin 4096) : EReal :=
  xOf m c t n + sOf m c n * Norm.rms Norm.width (yOf m c t) (gOf m c n) n
def outOf (t : Fin 8192) (n : Fin 4096) : EReal :=
  Norm.rms Norm.width (sumOf m c t) (hOf m c n) n * (Norm.one + aOf m c n) + bOf m c n

/-- The result arrays. -/
def res7 : S8192x4096.Idx → EReal := fun j => sumOf m c (j 0) (j 1)
def res8 : S8192x4096.Idx → EReal := fun j => outOf m c (j 0) (j 1)

theorem sum_blk (t : Fin cfg0.N) (r : Fin 128) (e : Fin 4096) :
    k0_pay2 (iblk m c 0 t) (iblk m c 3 t) (iblk m c 1 t) (iblk m c 2 t) (ix2 r e) = sumOf m c ⟨128 * t.val + r.val, by have := r.isLt; have := Nlt t; omega⟩ e := by
  rw [sum_at, blk0 m c t r e, blk2 m c t e, blk3 m c t e, funext fun k => blk1 m c t r k]
  rfl

theorem point7 (t : Fin cfg0.N) (r : Fin 128) (e : Fin 4096) :
    out0_7 (iblk m c 0 t) (iblk m c 1 t) (iblk m c 2 t) (iblk m c 3 t) (iblk m c 4 t) (iblk m c 5 t) (iblk m c 6 t) (ix2 r e) = sumOf m c ⟨128 * t.val + r.val, by have := r.isLt; have := Nlt t; omega⟩ e := by
  rw [out7_eq, sum_blk]

theorem point8 (t : Fin cfg0.N) (r : Fin 128) (e : Fin 4096) :
    out0_8 (iblk m c 0 t) (iblk m c 1 t) (iblk m c 2 t) (iblk m c 3 t) (iblk m c 4 t) (iblk m c 5 t) (iblk m c 6 t) (ix2 r e) = outOf m c ⟨128 * t.val + r.val, by have := r.isLt; have := Nlt t; omega⟩ e := by
  rw [out8_eq, mod_at, norm_at, blk4 m c t e, blk5 m c t e, blk6 m c t e, funext fun k => sum_blk m c t r k]
  rfl

theorem mem_blk7 (t : Fin cfg0.N) (i : S8192x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v2_0).slice (win0_7.rect t)).set ↔ _
  rw [View.set_slice_whole, Rect.mem_set_unit]
  exact Iff.rfl

/-- Each point writes its block of the result array. -/
theorem flushed7_eq (t : Fin cfg0.N) : (dats m 0 c).flushed 7 t = ((cfg0.win 7).blk t).view.read (Elt Ideal) (res7 m c) := by
  rw [Value.flushed7]
  funext y
  obtain ⟨r, e, rfl⟩ : ∃ (r : Fin 128) (e : Fin 4096), y = ix2 r e := ⟨y 0, y 1, by idx_vars y⟩
  have h0 : win0_7.index t (0 : Fin 2) = t.val := congrFun (idxOut t).1 0
  have h1 : win0_7.index t (1 : Fin 2) = 0 := congrFun (idxOut t).1 1
  refine (point7 m c t r e).trans ?_
  refine congrArg₂ (sumOf m c) (Fin.ext ?_) (Fin.ext ?_)
  · show 128 * t.val + r.val = win0_7.index t (0 : Fin 2) * 128 + 1 * r.val
    omega
  · show e.val = win0_7.index t (1 : Fin 2) * 4096 + 1 * e.val
    omega

/-- The result array, whole. -/
theorem final7_eq : (dats m 0 c).arrAt 7 cfg0.N = res7 m c := by
  refine (dats m 0 c).arrAt_eq_of_cover 7 _ (fun t _ => flushed7_eq m c t) fun i => ?_
  have h0 : (i 0).val < 8192 := (i 0).isLt
  have h1 : (i 1).val < 4096 := (i 1).isLt
  have hN : cfg0.N = 64 := N_0
  have ht : (i 0).val / 128 < cfg0.N := by omega
  have e0 : win0_7.index ⟨(i 0).val / 128, ht⟩ (0 : Fin 2) = (i 0).val / 128 := congrFun (idxOut ⟨(i 0).val / 128, ht⟩).1 0
  have e1 : win0_7.index ⟨(i 0).val / 128, ht⟩ (1 : Fin 2) = 0 := congrFun (idxOut ⟨(i 0).val / 128, ht⟩).1 1
  refine ⟨⟨(i 0).val / 128, ht⟩, (idxOut _).2.1, (mem_blk7 _ i).mpr fun a => ?_⟩
  match a with
  | ⟨0, _⟩ => show win0_7.index _ (0 : Fin 2) * 128 ≤ (i 0).val ∧ (i 0).val < win0_7.index _ (0 : Fin 2) * 128 + 128; rw [e0]; omega
  | ⟨1, _⟩ => show win0_7.index _ (1 : Fin 2) * 4096 ≤ (i 1).val ∧ (i 1).val < win0_7.index _ (1 : Fin 2) * 4096 + 4096; rw [e1]; omega

theorem mem_blk8 (t : Fin cfg0.N) (i : S8192x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v2_1).slice (win0_8.rect t)).set ↔ _
  rw [View.set_slice_whole, Rect.mem_set_unit]
  exact Iff.rfl

/-- Each point writes its block of the result array. -/
theorem flushed8_eq (t : Fin cfg0.N) : (dats m 0 c).flushed 8 t = ((cfg0.win 8).blk t).view.read (Elt Ideal) (res8 m c) := by
  rw [Value.flushed8]
  funext y
  obtain ⟨r, e, rfl⟩ : ∃ (r : Fin 128) (e : Fin 4096), y = ix2 r e := ⟨y 0, y 1, by idx_vars y⟩
  have h0 : win0_8.index t (0 : Fin 2) = t.val := congrFun (idxOut t).2.2.1 0
  have h1 : win0_8.index t (1 : Fin 2) = 0 := congrFun (idxOut t).2.2.1 1
  refine (point8 m c t r e).trans ?_
  refine congrArg₂ (outOf m c) (Fin.ext ?_) (Fin.ext ?_)
  · show 128 * t.val + r.val = win0_8.index t (0 : Fin 2) * 128 + 1 * r.val
    omega
  · show e.val = win0_8.index t (1 : Fin 2) * 4096 + 1 * e.val
    omega

/-- The result array, whole. -/
theorem final8_eq : (dats m 0 c).arrAt 8 cfg0.N = res8 m c := by
  refine (dats m 0 c).arrAt_eq_of_cover 8 _ (fun t _ => flushed8_eq m c t) fun i => ?_
  have h0 : (i 0).val < 8192 := (i 0).isLt
  have h1 : (i 1).val < 4096 := (i 1).isLt
  have hN : cfg0.N = 64 := N_0
  have ht : (i 0).val / 128 < cfg0.N := by omega
  have e0 : win0_8.index ⟨(i 0).val / 128, ht⟩ (0 : Fin 2) = (i 0).val / 128 := congrFun (idxOut ⟨(i 0).val / 128, ht⟩).2.2.1 0
  have e1 : win0_8.index ⟨(i 0).val / 128, ht⟩ (1 : Fin 2) = 0 := congrFun (idxOut ⟨(i 0).val / 128, ht⟩).2.2.1 1
  refine ⟨⟨(i 0).val / 128, ht⟩, (idxOut _).2.2.2, (mem_blk8 _ i).mpr fun a => ?_⟩
  match a with
  | ⟨0, _⟩ => show win0_8.index _ (0 : Fin 2) * 128 ≤ (i 0).val ∧ (i 0).val < win0_8.index _ (0 : Fin 2) * 128 + 128; rw [e0]; omega
  | ⟨1, _⟩ => show win0_8.index _ (1 : Fin 2) * 4096 ≤ (i 1).val ∧ (i 1).val < win0_8.index _ (1 : Fin 2) * 4096 + 4096; rw [e1]; omega

end Cert.MidIdeal.Mat

namespace Cert.Proof.Mid

open Idealize.ShloMosaic Idealize.SL.Sem

/-- The reference terminates, keeps its arguments, and has no semaphore. -/
theorem frame_ref : Cert.quiescent_MidRefIdeal (hMidRefIdeal := Cert.MidRefIdeal.Gen.facts) := fun m ρ _ =>
  (θ_run Cert.MidRefIdeal.defs _ _).mono (fun r h => ⟨fun c => (h c).2.2, sem_eq_zero_of_no_sems (by decide) r.2⟩)
    (Cert.MidRefIdeal.Value.run (F := Ideal) m ρ)

section Ref

open Cert.MidRefIdeal Cert.MidRefIdeal.Gen

theorem sum_ref (x y : FVec Ideal S8192x4096 .f32) (g : FVec Ideal S4096 .f32) (s : FVec Ideal S1x4096 .f32) (t : Fin 8192) (n : Fin 4096) :
    (addf x (mulf (broadcastInDim S8192x4096 ![0, 1] bcast_S1x4096_S8192x4096_0_1 s) (mulf (mulf y (broadcastInDim S8192x4096 ![0, 1] bcast_S8192x1_S8192x4096_0_1 (Host.rsqrt (addf (Host.divf (broadcastInDim S8192x1 ![0] bcast_S8192_S8192x1_0 (Host.reduceAdd (mulf y y) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)))) : FVec Ideal S8192x4096 .f32) (ix2 t n)
      = x (ix2 t n) + s (ix2 0 n) * Norm.rms Norm.width (fun k => y (ix2 t k)) (g (ix1 n)) n := by
  unfold Norm.rms
  pointwise

theorem out_ref (y : FVec Ideal S8192x4096 .f32) (g : FVec Ideal S4096 .f32) (s b : FVec Ideal S1x4096 .f32) (t : Fin 8192) (n : Fin 4096) :
    (addf (mulf (mulf (mulf y (broadcastInDim S8192x4096 ![0, 1] bcast_S8192x1_S8192x4096_0_1 (Host.rsqrt (addf (Host.divf (broadcastInDim S8192x1 ![0] bcast_S8192_S8192x1_0 (Host.reduceAdd (mulf y y) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))) (broadcastInDim S8192x4096 ![0, 1] bcast_S1x4096_S8192x4096_0_1 (addf (broadcastInDim S1x4096 ![] bcast_S_S1x4096 (constant S_ .f32 0x3F800000#32)) s))) (broadcastInDim S8192x4096 ![0, 1] bcast_S1x4096_S8192x4096_0_1 b) : FVec Ideal S8192x4096 .f32) (ix2 t n)
      = Norm.rms Norm.width (fun k => y (ix2 t k)) (g (ix1 n)) n * (Norm.one + s (ix2 0 n)) + b (ix2 0 n) := by
  unfold Norm.rms
  pointwise

end Ref

/-- Kernel and reference leave the same results. -/
theorem algebraic : Cert.algebraic_MidIdeal_MidRefIdeal (hMidIdeal := Cert.MidIdeal.Gen.facts) (hMidRefIdeal := Cert.MidRefIdeal.Gen.facts) := by
  intro m g m' g' _ hargs
  refine ⟨fun c => Cert.MidIdeal.Mat.res7 m c, fun c => Cert.MidIdeal.Mat.res8 m c, (θ_run _ _ _).mono (fun r h c => ⟨(h c).1.trans (Cert.MidIdeal.Mat.final7_eq m c), (h c).2.1.trans (Cert.MidIdeal.Mat.final8_eq m c), (h c).2.2⟩) (Cert.MidIdeal.Value.run_blocks (F := Ideal) m g), ?_⟩
  refine (θ_run (Cert.MidRefIdeal.defs (F := Ideal)) _ _).mono (fun r h c => ?_) (Cert.MidRefIdeal.Value.run (F := Ideal) m' g')
  obtain ⟨hy, hz, hrest⟩ := h c
  obtain ⟨e0, e1, e2, e3, e4, e5, e6⟩ := hargs c
  refine ⟨hy.trans ?_, hz.trans ?_, hrest⟩
  · funext j
    obtain ⟨t, n, rfl⟩ : ∃ (t : Fin 8192) (n : Fin 4096), j = ix2 t n := ⟨j 0, j 1, by idx_vars j⟩
    refine (sum_ref _ _ _ _ t n).trans ?_
    show _ = Cert.MidIdeal.Mat.sumOf m c t n
    unfold Cert.MidIdeal.Mat.sumOf
    rw [e0, e1, e2, e3]
  · funext j
    obtain ⟨t, n, rfl⟩ : ∃ (t : Fin 8192) (n : Fin 4096), j = ix2 t n := ⟨j 0, j 1, by idx_vars j⟩
    refine (out_ref _ _ _ _ t n).trans ?_
    show _ = Cert.MidIdeal.Mat.outOf m c t n
    unfold Cert.MidIdeal.Mat.outOf Cert.MidIdeal.Mat.sumOf
    rw [funext fun k => sum_ref _ _ _ _ t k, e0, e1, e2, e3, e4, e5, e6]

end Cert.Proof.Mid

end
-- ==== Proof.MidSValue.lean ====
/-
  The samples' step between the mixing and the feed-forward part: the residual plus the gate times the norm of the mixed
  rows, and that sum's own norm with the modulation's scale and shift, in blocks of rows.
-/
module

public import proofs.«01_k».proof.Defs
public import proofs.«01_k».proof.Proof.Norm
public import proofs.«01_k».proof.Proof.Gen.MidSIdeal.Value
public import proofs.«01_k».proof.Proof.Gen.MidSRefIdeal.Run

@[expose] public section

set_option maxRecDepth 16384

noncomputable section

namespace Cert.MidSIdeal.Mat

open Cert.MidSIdeal Cert.MidSIdeal.Gen Cert.Whole Idealize.ShloMosaic Idealize.ShloMosaic.TcCoe Idealize.SL.Sem

/-- Every window's block at a grid point: row block `t`, or the whole row. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

/-- Both results' blocks: row block `t`, each written back. -/
theorem idxOut : ∀ t : Fin cfg0.N, win0_7.index t = ![t.val, 0] ∧ win0_7.flush t = true ∧ win0_8.index t = ![t.val, 0] ∧ win0_8.flush t = true :=
  (by decide +kernel : ∀ t : Fin grid0.N, _)

theorem sum_at (x y : Vec Ideal S128x4096 .f32) (g : Vec Ideal S1x4096 .f32) (s : Vec Ideal S128x4096 .f32) (r : Fin 128) (e : Fin 4096) :
    k0_pay2 x s y g (ix2 r e) = x (ix2 r e) + s (ix2 r e) * Norm.rms Norm.width (fun k => y (ix2 r k)) (g (ix2 0 e)) e := by
  unfold Norm.rms
  pointwise [k0_pay2]

theorem norm_at (x y : Vec Ideal S128x4096 .f32) (g h : Vec Ideal S1x4096 .f32) (s : Vec Ideal S128x4096 .f32) (r : Fin 128) (e : Fin 4096) :
    k0_pay3 x s y g h (ix2 r e) = Norm.rms Norm.width (fun k => k0_pay2 x s y g (ix2 r k)) (h (ix2 0 e)) e := by
  unfold Norm.rms
  pointwise [k0_pay3]

theorem mod_at (n s b : Vec Ideal S128x4096 .f32) (r : Fin 128) (e : Fin 4096) :
    k0_pay1 n s b (ix2 r e) = n (ix2 r e) * (Norm.one + s (ix2 r e)) + b (ix2 r e) := by
  pointwise [k0_pay1]

theorem out7_eq (x0 x1 : Vec Ideal S128x4096 .f32) (x2 : Vec Ideal S1x4096 .f32) (x3 : Vec Ideal S128x4096 .f32) (x4 : Vec Ideal S1x4096 .f32) (x5 x6 : Vec Ideal S128x4096 .f32) :
    out0_7 x0 x1 x2 x3 x4 x5 x6 = k0_pay2 x0 x3 x1 x2 := by
  unfold out0_7
  rw [View.canon_unit_zero hz2, View.ld_unit_zero hz2, View.ld_unit_zero hz2, View.ld_unit_zero hz2, View.ld_unit_zero hz2]

theorem out8_eq (x0 x1 : Vec Ideal S128x4096 .f32) (x2 : Vec Ideal S1x4096 .f32) (x3 : Vec Ideal S128x4096 .f32) (x4 : Vec Ideal S1x4096 .f32) (x5 x6 : Vec Ideal S128x4096 .f32) :
    out0_8 x0 x1 x2 x3 x4 x5 x6 = k0_pay1 (k0_pay3 x0 x3 x1 x2 x4) x5 x6 := by
  unfold out0_8
  rw [View.canon_unit_zero hz2, View.ld_unit_zero hz2, View.ld_unit_zero hz2, View.ld_unit_zero hz2, View.ld_unit_zero hz2, View.ld_unit_zero hz2, View.ld_unit_zero hz2, View.ld_unit_zero hz2]

variable (m : (ℓ : Loc nD τ sig) → Buf (Elt Ideal) ℓ) (c : Dev nD)

theorem Nlt (t : Fin cfg0.N) : t.val < 8 := lt_of_lt_of_eq t.isLt (show cfg0.N = 8 from N_0)

/-- The arguments as plain functions. -/
abbrev xOf : Fin 1024 → Fin 4096 → EReal := fun t k => m ((c : Thread nD τ).loc main_arg0) (ix3 ⟨t.val / 8, by have := t.isLt; omega⟩ ⟨t.val % 8, by omega⟩ k)
abbrev yOf : Fin 1024 → Fin 4096 → EReal := fun t k => m ((c : Thread nD τ).loc main_arg1) (ix3 ⟨t.val / 8, by have := t.isLt; omega⟩ ⟨t.val % 8, by omega⟩ k)
abbrev gOf : Fin 4096 → EReal := fun k => m ((c : Thread nD τ).loc main_arg2) (ix1 k)
abbrev sOf : Fin 1024 → Fin 4096 → EReal := fun t k => m ((c : Thread nD τ).loc main_arg3) (ix2 ⟨t.val / 8, by have := t.isLt; omega⟩ k)
abbrev hOf : Fin 4096 → EReal := fun k => m ((c : Thread nD τ).loc main_arg4) (ix1 k)
abbrev aOf : Fin 1024 → Fin 4096 → EReal := fun t k => m ((c : Thread nD τ).loc main_arg5) (ix2 ⟨t.val / 8, by have := t.isLt; omega⟩ k)
abbrev bOf : Fin 1024 → Fin 4096 → EReal := fun t k => m ((c : Thread nD τ).loc main_arg6) (ix2 ⟨t.val / 8, by have := t.isLt; omega⟩ k)

theorem blk0 (t : Fin cfg0.N) (r : Fin 128) (k : Fin 4096) : iblk m c 0 t (ix2 r k) = xOf m c ⟨128 * t.val + r.val, by have := r.isLt; have := Nlt t; omega⟩ k := by
  have hN := Nlt t
  unfold xOf
  blk_ext! [iblk, V, idx t]

theorem blk1 (t : Fin cfg0.N) (r : Fin 128) (k : Fin 4096) : iblk m c 1 t (ix2 r k) = yOf m c ⟨128 * t.val + r.val, by have := r.isLt; have := Nlt t; omega⟩ k := by
  have hN := Nlt t
  unfold yOf
  blk_ext! [iblk, V, idx t]

theorem blk2 (t : Fin cfg0.N) (k : Fin 4096) : iblk m c 2 t (ix2 0 k) = gOf m c k := by
  unfold gOf
  blk_ext! [iblk, V, idx t]

theorem blk3 (t : Fin cfg0.N) (r : Fin 128) (k : Fin 4096) : iblk m c 3 t (ix2 r k) = sOf m c ⟨128 * t.val + r.val, by have := r.isLt; have := Nlt t; omega⟩ k := by
  have hN := Nlt t
  unfold sOf
  blk_ext! [iblk, V, idx t]

theorem blk4 (t : Fin cfg0.N) (k : Fin 4096) : iblk m c 4 t (ix2 0 k) = hOf m c k := by
  unfold hOf
  blk_ext! [iblk, V, idx t]

theorem blk5 (t : Fin cfg0.N) (r : Fin 128) (k : Fin 4096) : iblk m c 5 t (ix2 r k) = aOf m c ⟨128 * t.val + r.val, by have := r.isLt; have := Nlt t; omega⟩ k := by
  have hN := Nlt t
  unfold aOf
  blk_ext! [iblk, V, idx t]

theorem blk6 (t : Fin cfg0.N) (r : Fin 128) (k : Fin 4096) : iblk m c 6 t (ix2 r k) = bOf m c ⟨128 * t.val + r.val, by have := r.isLt; have := Nlt t; omega⟩ k := by
  have hN := Nlt t
  unfold bOf
  blk_ext! [iblk, V, idx t]

/-- The sum and its modulated norm at one row and column. -/
def sumOf (t : Fin 1024) (n : Fin 4096) : EReal :=
  xOf m c t n + sOf m c t n * Norm.rms Norm.width (yOf m c t) (gOf m c n) n
def outOf (t : Fin 1024) (n : Fin 4096) : EReal :=
  Norm.rms Norm.width (sumOf m c t) (hOf m c n) n * (Norm.one + aOf m c t n) + bOf m c t n

/-- The result arrays. -/
def res7 : S1024x4096.Idx → EReal := fun j => sumOf m c (j 0) (j 1)
def res8 : S1024x4096.Idx → EReal := fun j => outOf m c (j 0) (j 1)

theorem sum_blk (t : Fin cfg0.N) (r : Fin 128) (e : Fin 4096) :
    k0_pay2 (iblk m c 0 t) (iblk m c 3 t) (iblk m c 1 t) (iblk m c 2 t) (ix2 r e) = sumOf m c ⟨128 * t.val + r.val, by have := r.isLt; have := Nlt t; omega⟩ e := by
  rw [sum_at, blk0 m c t r e, blk2 m c t e, blk3 m c t r e, funext fun k => blk1 m c t r k]
  rfl

theorem point7 (t : Fin cfg0.N) (r : Fin 128) (e : Fin 4096) :
    out0_7 (iblk m c 0 t) (iblk m c 1 t) (iblk m c 2 t) (iblk m c 3 t) (iblk m c 4 t) (iblk m c 5 t) (iblk m c 6 t) (ix2 r e) = sumOf m c ⟨128 * t.val + r.val, by have := r.isLt; have := Nlt t; omega⟩ e := by
  rw [out7_eq, sum_blk]

theorem point8 (t : Fin cfg0.N) (r : Fin 128) (e : Fin 4096) :
    out0_8 (iblk m c 0 t) (iblk m c 1 t) (iblk m c 2 t) (iblk m c 3 t) (iblk m c 4 t) (iblk m c 5 t) (iblk m c 6 t) (ix2 r e) = outOf m c ⟨128 * t.val + r.val, by have := r.isLt; have := Nlt t; omega⟩ e := by
  rw [out8_eq, mod_at, norm_at, blk4 m c t e, blk5 m c t r e, blk6 m c t r e, funext fun k => sum_blk m c t r k]
  rfl

theorem mem_blk7 (t : Fin cfg0.N) (i : S1024x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v10_0).slice (win0_7.rect t)).set ↔ _
  rw [View.set_slice_whole, Rect.mem_set_unit]
  exact Iff.rfl

/-- Each point writes its block of the result array. -/
theorem flushed7_eq (t : Fin cfg0.N) : (dats m 0 c).flushed 7 t = ((cfg0.win 7).blk t).view.read (Elt Ideal) (res7 m c) := by
  rw [Value.flushed7]
  funext y
  obtain ⟨r, e, rfl⟩ : ∃ (r : Fin 128) (e : Fin 4096), y = ix2 r e := ⟨y 0, y 1, by idx_vars y⟩
  have h0 : win0_7.index t (0 : Fin 2) = t.val := congrFun (idxOut t).1 0
  have h1 : win0_7.index t (1 : Fin 2) = 0 := congrFun (idxOut t).1 1
  refine (point7 m c t r e).trans ?_
  refine congrArg₂ (sumOf m c) (Fin.ext ?_) (Fin.ext ?_)
  · show 128 * t.val + r.val = win0_7.index t (0 : Fin 2) * 128 + 1 * r.val
    omega
  · show e.val = win0_7.index t (1 : Fin 2) * 4096 + 1 * e.val
    omega

/-- The result array, whole. -/
theorem final7_eq : (dats m 0 c).arrAt 7 cfg0.N = res7 m c := by
  refine (dats m 0 c).arrAt_eq_of_cover 7 _ (fun t _ => flushed7_eq m c t) fun i => ?_
  have h0 : (i 0).val < 1024 := (i 0).isLt
  have h1 : (i 1).val < 4096 := (i 1).isLt
  have hN : cfg0.N = 8 := N_0
  have ht : (i 0).val / 128 < cfg0.N := by omega
  have e0 : win0_7.index ⟨(i 0).val / 128, ht⟩ (0 : Fin 2) = (i 0).val / 128 := congrFun (idxOut ⟨(i 0).val / 128, ht⟩).1 0
  have e1 : win0_7.index ⟨(i 0).val / 128, ht⟩ (1 : Fin 2) = 0 := congrFun (idxOut ⟨(i 0).val / 128, ht⟩).1 1
  refine ⟨⟨(i 0).val / 128, ht⟩, (idxOut _).2.1, (mem_blk7 _ i).mpr fun a => ?_⟩
  match a with
  | ⟨0, _⟩ => show win0_7.index _ (0 : Fin 2) * 128 ≤ (i 0).val ∧ (i 0).val < win0_7.index _ (0 : Fin 2) * 128 + 128; rw [e0]; omega
  | ⟨1, _⟩ => show win0_7.index _ (1 : Fin 2) * 4096 ≤ (i 1).val ∧ (i 1).val < win0_7.index _ (1 : Fin 2) * 4096 + 4096; rw [e1]; omega

theorem mem_blk8 (t : Fin cfg0.N) (i : S1024x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v10_1).slice (win0_8.rect t)).set ↔ _
  rw [View.set_slice_whole, Rect.mem_set_unit]
  exact Iff.rfl

/-- Each point writes its block of the result array. -/
theorem flushed8_eq (t : Fin cfg0.N) : (dats m 0 c).flushed 8 t = ((cfg0.win 8).blk t).view.read (Elt Ideal) (res8 m c) := by
  rw [Value.flushed8]
  funext y
  obtain ⟨r, e, rfl⟩ : ∃ (r : Fin 128) (e : Fin 4096), y = ix2 r e := ⟨y 0, y 1, by idx_vars y⟩
  have h0 : win0_8.index t (0 : Fin 2) = t.val := congrFun (idxOut t).2.2.1 0
  have h1 : win0_8.index t (1 : Fin 2) = 0 := congrFun (idxOut t).2.2.1 1
  refine (point8 m c t r e).trans ?_
  refine congrArg₂ (outOf m c) (Fin.ext ?_) (Fin.ext ?_)
  · show 128 * t.val + r.val = win0_8.index t (0 : Fin 2) * 128 + 1 * r.val
    omega
  · show e.val = win0_8.index t (1 : Fin 2) * 4096 + 1 * e.val
    omega

/-- The result array, whole. -/
theorem final8_eq : (dats m 0 c).arrAt 8 cfg0.N = res8 m c := by
  refine (dats m 0 c).arrAt_eq_of_cover 8 _ (fun t _ => flushed8_eq m c t) fun i => ?_
  have h0 : (i 0).val < 1024 := (i 0).isLt
  have h1 : (i 1).val < 4096 := (i 1).isLt
  have hN : cfg0.N = 8 := N_0
  have ht : (i 0).val / 128 < cfg0.N := by omega
  have e0 : win0_8.index ⟨(i 0).val / 128, ht⟩ (0 : Fin 2) = (i 0).val / 128 := congrFun (idxOut ⟨(i 0).val / 128, ht⟩).2.2.1 0
  have e1 : win0_8.index ⟨(i 0).val / 128, ht⟩ (1 : Fin 2) = 0 := congrFun (idxOut ⟨(i 0).val / 128, ht⟩).2.2.1 1
  refine ⟨⟨(i 0).val / 128, ht⟩, (idxOut _).2.2.2, (mem_blk8 _ i).mpr fun a => ?_⟩
  match a with
  | ⟨0, _⟩ => show win0_8.index _ (0 : Fin 2) * 128 ≤ (i 0).val ∧ (i 0).val < win0_8.index _ (0 : Fin 2) * 128 + 128; rw [e0]; omega
  | ⟨1, _⟩ => show win0_8.index _ (1 : Fin 2) * 4096 ≤ (i 1).val ∧ (i 1).val < win0_8.index _ (1 : Fin 2) * 4096 + 4096; rw [e1]; omega

end Cert.MidSIdeal.Mat

namespace Cert.Proof.MidS

open Idealize.ShloMosaic Idealize.SL.Sem

/-- The reference terminates, keeps its arguments, and has no semaphore. -/
theorem frame_ref : Cert.quiescent_MidSRefIdeal (hMidSRefIdeal := Cert.MidSRefIdeal.Gen.facts) := fun m ρ _ =>
  (θ_run Cert.MidSRefIdeal.defs _ _).mono (fun r h => ⟨fun c => (h c).2.2, sem_eq_zero_of_no_sems (by decide) r.2⟩)
    (Cert.MidSRefIdeal.Value.run (F := Ideal) m ρ)

section Ref

open Cert.MidSRefIdeal Cert.MidSRefIdeal.Gen

theorem cast_at (z : FVec Ideal S128x8x4096 .f32) (t : Fin 1024) (n : Fin 4096) :
    shapeCast S1024x4096 z shapeCasts_S128x8x4096_S1024x4096 (ix2 t n) = z (ix3 ⟨t.val / 8, by have := t.isLt; omega⟩ ⟨t.val % 8, by omega⟩ n) := by
  pointwise

theorem sum_ref (x y : FVec Ideal S128x8x4096 .f32) (g : FVec Ideal S4096 .f32) (s : FVec Ideal S128x4096 .f32) (u : Fin 128) (w : Fin 8) (n : Fin 4096) :
    (addf x (mulf (broadcastInDim S128x8x4096 ![0, 1, 2] bcast_S128x1x4096_S128x8x4096_0_1_2 (broadcastInDim S128x1x4096 ![0, 2] bcast_S128x4096_S128x1x4096_0_2 s)) (mulf (mulf y (broadcastInDim S128x8x4096 ![0, 1, 2] bcast_S128x8x1_S128x8x4096_0_1_2 (Host.rsqrt (addf (Host.divf (broadcastInDim S128x8x1 ![0, 1] bcast_S128x8_S128x8x1_0_1 (Host.reduceAdd (mulf y y) (constant S_ .f32 0x00000000#32) reducesTo_S128x8x4096_S128x8_d2 h_S_)) (broadcastInDim S128x8x1 ![] bcast_S_S128x8x1 (constant S_ .f32 0x45800000#32))) (broadcastInDim S128x8x1 ![] bcast_S_S128x8x1 (constant S_ .f32 0x358637BD#32)))))) (broadcastInDim S128x8x4096 ![0, 1, 2] bcast_S1x1x4096_S128x8x4096_0_1_2 (broadcastInDim S1x1x4096 ![2] bcast_S4096_S1x1x4096_2 g)))) : FVec Ideal S128x8x4096 .f32) (ix3 u w n)
      = x (ix3 u w n) + s (ix2 u n) * Norm.rms Norm.width (fun k => y (ix3 u w k)) (g (ix1 n)) n := by
  unfold Norm.rms
  pointwise

theorem out_ref (y : FVec Ideal S128x8x4096 .f32) (g : FVec Ideal S4096 .f32) (s b : FVec Ideal S128x4096 .f32) (u : Fin 128) (w : Fin 8) (n : Fin 4096) :
    (addf (mulf (mulf (mulf y (broadcastInDim S128x8x4096 ![0, 1, 2] bcast_S128x8x1_S128x8x4096_0_1_2 (Host.rsqrt (addf (Host.divf (broadcastInDim S128x8x1 ![0, 1] bcast_S128x8_S128x8x1_0_1 (Host.reduceAdd (mulf y y) (constant S_ .f32 0x00000000#32) reducesTo_S128x8x4096_S128x8_d2 h_S_)) (broadcastInDim S128x8x1 ![] bcast_S_S128x8x1 (constant S_ .f32 0x45800000#32))) (broadcastInDim S128x8x1 ![] bcast_S_S128x8x1 (constant S_ .f32 0x358637BD#32)))))) (broadcastInDim S128x8x4096 ![0, 1, 2] bcast_S1x1x4096_S128x8x4096_0_1_2 (broadcastInDim S1x1x4096 ![2] bcast_S4096_S1x1x4096_2 g))) (broadcastInDim S128x8x4096 ![0, 1, 2] bcast_S128x1x4096_S128x8x4096_0_1_2 (addf (broadcastInDim S128x1x4096 ![] bcast_S_S128x1x4096 (constant S_ .f32 0x3F800000#32)) (broadcastInDim S128x1x4096 ![0, 2] bcast_S128x4096_S128x1x4096_0_2 s)))) (broadcastInDim S128x8x4096 ![0, 1, 2] bcast_S128x1x4096_S128x8x4096_0_1_2 (broadcastInDim S128x1x4096 ![0, 2] bcast_S128x4096_S128x1x4096_0_2 b)) : FVec Ideal S128x8x4096 .f32) (ix3 u w n)
      = Norm.rms Norm.width (fun k => y (ix3 u w k)) (g (ix1 n)) n * (Norm.one + s (ix2 u n)) + b (ix2 u n) := by
  unfold Norm.rms
  pointwise

end Ref

/-- Kernel and reference leave the same results. -/
theorem algebraic : Cert.algebraic_MidSIdeal_MidSRefIdeal (hMidSIdeal := Cert.MidSIdeal.Gen.facts) (hMidSRefIdeal := Cert.MidSRefIdeal.Gen.facts) := by
  intro m g m' g' _ hargs
  refine ⟨fun c => Cert.MidSIdeal.Mat.res7 m c, fun c => Cert.MidSIdeal.Mat.res8 m c, (θ_run _ _ _).mono (fun r h c => ⟨(h c).1.trans (Cert.MidSIdeal.Mat.final7_eq m c), (h c).2.1.trans (Cert.MidSIdeal.Mat.final8_eq m c), (h c).2.2⟩) (Cert.MidSIdeal.Value.run_blocks (F := Ideal) m g), ?_⟩
  refine (θ_run (Cert.MidSRefIdeal.defs (F := Ideal)) _ _).mono (fun r h c => ?_) (Cert.MidSRefIdeal.Value.run (F := Ideal) m' g')
  obtain ⟨hy, hz, hrest⟩ := h c
  unfold Cert.MidSRefIdeal.Value.res_main_v40 at hz
  obtain ⟨e0, e1, e2, e3, e4, e5, e6⟩ := hargs c
  refine ⟨hy.trans ?_, hz.trans ?_, hrest⟩
  · funext j
    obtain ⟨t, n, rfl⟩ : ∃ (t : Fin 1024) (n : Fin 4096), j = ix2 t n := ⟨j 0, j 1, by idx_vars j⟩
    refine (cast_at _ t n).trans ((sum_ref _ _ _ _ ⟨t.val / 8, by have := t.isLt; omega⟩ ⟨t.val % 8, by omega⟩ n).trans ?_)
    show _ = Cert.MidSIdeal.Mat.sumOf m c t n
    unfold Cert.MidSIdeal.Mat.sumOf
    rw [e0, e1, e2, e3]
  · funext j
    obtain ⟨t, n, rfl⟩ : ∃ (t : Fin 1024) (n : Fin 4096), j = ix2 t n := ⟨j 0, j 1, by idx_vars j⟩
    refine (cast_at _ t n).trans ((out_ref _ _ _ _ ⟨t.val / 8, by have := t.isLt; omega⟩ ⟨t.val % 8, by omega⟩ n).trans ?_)
    show _ = Cert.MidSIdeal.Mat.outOf m c t n
    unfold Cert.MidSIdeal.Mat.outOf Cert.MidSIdeal.Mat.sumOf
    rw [funext fun k => sum_ref _ _ _ _ ⟨t.val / 8, by have := t.isLt; omega⟩ ⟨t.val % 8, by omega⟩ k, e0, e1, e2, e3, e4, e5, e6]

end Cert.Proof.MidS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Gen.ReferenceIdeal.Step
public import proofs.«01_k».proof.Proof.Gen.KernelIdeal.Value
public import proofs.«01_k».proof.Proof.RglruClaim
public import proofs.«01_k».proof.Proof.SwigluValue
public import proofs.«01_k».proof.Proof.DownValue
public import proofs.«01_k».proof.Proof.OutProjValue
public import proofs.«01_k».proof.Proof.InRgValue
public import proofs.«01_k».proof.Proof.KvValue
public import proofs.«01_k».proof.Proof.KvSValue
public import proofs.«01_k».proof.Proof.InRgSValue
public import proofs.«01_k».proof.Proof.QiValue
public import proofs.«01_k».proof.Proof.IdxKeyValue
public import proofs.«01_k».proof.Proof.IdxKeySValue
public import proofs.«01_k».proof.Proof.FinalValue
public import proofs.«01_k».proof.Proof.FinalSValue
public import proofs.«01_k».proof.Proof.StepValue
public import proofs.«01_k».proof.Proof.ModValue
public import proofs.«01_k».proof.Proof.PreValue
public import proofs.«01_k».proof.Proof.PreSValue
public import proofs.«01_k».proof.Proof.GroupValue
public import proofs.«01_k».proof.Proof.MidValue
public import proofs.«01_k».proof.Proof.MidSValue
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluIdeal.Value
public import proofs.«01_k».proof.Proof.Gen.SwigluRefIdeal
public import proofs.«01_k».proof.Proof.Gen.SwigluRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.InRg
public import proofs.«01_k».proof.Proof.Gen.InRg.Skeleton
public import proofs.«01_k».proof.Proof.Gen.InRg.Launch
public import proofs.«01_k».proof.Proof.Gen.InRg.Points
public import proofs.«01_k».proof.Proof.Gen.InRg.Frame
public import proofs.«01_k».proof.Proof.Gen.InRgIdeal
public import proofs.«01_k».proof.Proof.Gen.InRgIdeal.Skeleton
public import proofs.«01_k».proof.Proof.Gen.InRgIdeal.Launch
public import proofs.«01_k».proof.Proof.Gen.InRgIdeal.Points
public import proofs.«01_k».proof.Proof.Gen.InRgIdeal.Frame
public import proofs.«01_k».proof.Proof.Gen.InRgIdeal.Value
public import proofs.«01_k».proof.Proof.Gen.InRgRefIdeal
public import proofs.«01_k».proof.Proof.Gen.InRgRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvS
public import proofs.«01_k».proof.Proof.Gen.KvS.Skeleton
public import proofs.«01_k».proof.Proof.Gen.KvS.Launch
public import proofs.«01_k».proof.Proof.Gen.KvS.Points
public import proofs.«01_k».proof.Proof.Gen.KvS.Frame
public import proofs.«01_k».proof.Proof.Gen.KvSIdeal
public import proofs.«01_k».proof.Proof.Gen.KvSIdeal.Skeleton
public import proofs.«01_k».proof.Proof.Gen.KvSIdeal.Launch
public import proofs.«01_k».proof.Proof.Gen.KvSIdeal.Points
public import proofs.«01_k».proof.Proof.Gen.KvSIdeal.Frame
public import proofs.«01_k».proof.Proof.Gen.KvSIdeal.Value
public import proofs.«01_k».proof.Proof.Gen.KvSRefIdeal
public import proofs.«01_k».proof.Proof.Gen.KvSRefIdeal.Run
public import proofs.«01_k».proof.Proof.Gen.InRgS
public import proofs.«01_k».proof.Proof.Gen.InRgS.Skeleton
public import proofs.«01_k».proof.Proof.Gen.InRgS.Launch
public import proofs.«01_k».proof.Proof.Gen.InRgS.Points
public import proofs.«01_k».proof.Proof.Gen.InRgS.Frame
public import proofs.«01_k».proof.Proof.Gen.InRgSIdeal
public import proofs.«01_k».proof.Proof.Gen.InRgSIdeal.Skeleton
public import proofs.«01_k».proof.Proof.Gen.InRgSIdeal.Launch
public import proofs.«01_k».proof.Proof.Gen.InRgSIdeal.Points
public import proofs.«01_k».proof.Proof.Gen.InRgSIdeal.Frame
public import proofs.«01_k».proof.Proof.Gen.InRgSIdeal.Value
public import proofs.«01_k».proof.Proof.Gen.InRgSRefIdeal
public import proofs.«01_k».proof.Proof.Gen.InRgSRefIdeal.Run
public import proofs.«01_k».proof.Proof.Gen.Qi
public import proofs.«01_k».proof.Proof.Gen.Qi.Skeleton
public import proofs.«01_k».proof.Proof.Gen.Qi.Launch
public import proofs.«01_k».proof.Proof.Gen.Qi.Points
public import proofs.«01_k».proof.Proof.Gen.Qi.Frame
public import proofs.«01_k».proof.Proof.Gen.QiIdeal
public import proofs.«01_k».proof.Proof.Gen.QiIdeal.Skeleton
public import proofs.«01_k».proof.Proof.Gen.QiIdeal.Launch
public import proofs.«01_k».proof.Proof.Gen.QiIdeal.Points
public import proofs.«01_k».proof.Proof.Gen.QiIdeal.Frame
public import proofs.«01_k».proof.Proof.Gen.QiIdeal.Value
public import proofs.«01_k».proof.Proof.Gen.QiRefIdeal
public import proofs.«01_k».proof.Proof.Gen.QiRefIdeal.Run
public import proofs.«01_k».proof.Proof.Gen.IdxKey
public import proofs.«01_k».proof.Proof.Gen.IdxKey.Skeleton
public import proofs.«01_k».proof.Proof.Gen.IdxKey.Launch
public import proofs.«01_k».proof.Proof.Gen.IdxKey.Points
public import proofs.«01_k».proof.Proof.Gen.IdxKey.Frame
public import proofs.«01_k».proof.Proof.Gen.IdxKeyIdeal
public import proofs.«01_k».proof.Proof.Gen.IdxKeyIdeal.Skeleton
public import proofs.«01_k».proof.Proof.Gen.IdxKeyIdeal.Launch
public import proofs.«01_k».proof.Proof.Gen.IdxKeyIdeal.Points
public import proofs.«01_k».proof.Proof.Gen.IdxKeyIdeal.Frame
public import proofs.«01_k».proof.Proof.Gen.IdxKeyIdeal.Value
public import proofs.«01_k».proof.Proof.Gen.IdxKeyRefIdeal
public import proofs.«01_k».proof.Proof.Gen.IdxKeyRefIdeal.Run
public import proofs.«01_k».proof.Proof.Gen.IdxKeyS
public import proofs.«01_k».proof.Proof.Gen.IdxKeyS.Skeleton
public import proofs.«01_k».proof.Proof.Gen.IdxKeyS.Launch
public import proofs.«01_k».proof.Proof.Gen.IdxKeyS.Points
public import proofs.«01_k».proof.Proof.Gen.IdxKeyS.Frame
public import proofs.«01_k».proof.Proof.Gen.IdxKeySIdeal
public import proofs.«01_k».proof.Proof.Gen.IdxKeySIdeal.Skeleton
public import proofs.«01_k».proof.Proof.Gen.IdxKeySIdeal.Launch
public import proofs.«01_k».proof.Proof.Gen.IdxKeySIdeal.Points
public import proofs.«01_k».proof.Proof.Gen.IdxKeySIdeal.Frame
public import proofs.«01_k».proof.Proof.Gen.IdxKeySIdeal.Value
public import proofs.«01_k».proof.Proof.Gen.IdxKeySRefIdeal
public import proofs.«01_k».proof.Proof.Gen.IdxKeySRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSIdeal.Value
public import proofs.«01_k».proof.Proof.Gen.FinalSRefIdeal
public import proofs.«01_k».proof.Proof.Gen.FinalSRefIdeal.Run
public import proofs.«01_k».proof.Proof.Gen.Step
public import proofs.«01_k».proof.Proof.Gen.Step.Skeleton
public import proofs.«01_k».proof.Proof.Gen.Step.Launch
public import proofs.«01_k».proof.Proof.Gen.Step.Points
public import proofs.«01_k».proof.Proof.Gen.Step.Frame
public import proofs.«01_k».proof.Proof.Gen.StepIdeal
public import proofs.«01_k».proof.Proof.Gen.StepIdeal.Skeleton
public import proofs.«01_k».proof.Proof.Gen.StepIdeal.Launch
public import proofs.«01_k».proof.Proof.Gen.StepIdeal.Points
public import proofs.«01_k».proof.Proof.Gen.StepIdeal.Frame
public import proofs.«01_k».proof.Proof.Gen.StepIdeal.Value
public import proofs.«01_k».proof.Proof.Gen.StepRefIdeal
public import proofs.«01_k».proof.Proof.Gen.StepRefIdeal.Run
public import proofs.«01_k».proof.Proof.Gen.StepRefIdeal.Step
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PreS
public import proofs.«01_k».proof.Proof.Gen.PreS.Skeleton
public import proofs.«01_k».proof.Proof.Gen.PreS.Launch
public import proofs.«01_k».proof.Proof.Gen.PreS.Points
public import proofs.«01_k».proof.Proof.Gen.PreS.Frame
public import proofs.«01_k».proof.Proof.Gen.PreSIdeal
public import proofs.«01_k».proof.Proof.Gen.PreSIdeal.Skeleton
public import proofs.«01_k».proof.Proof.Gen.PreSIdeal.Launch
public import proofs.«01_k».proof.Proof.Gen.PreSIdeal.Points
public import proofs.«01_k».proof.Proof.Gen.PreSIdeal.Frame
public import proofs.«01_k».proof.Proof.Gen.PreSIdeal.Value
public import proofs.«01_k».proof.Proof.Gen.PreSRefIdeal
public import proofs.«01_k».proof.Proof.Gen.PreSRefIdeal.Run
public import proofs.«01_k».proof.Proof.Gen.Group
public import proofs.«01_k».proof.Proof.Gen.Group.Skeleton
public import proofs.«01_k».proof.Proof.Gen.Group.Launch
public import proofs.«01_k».proof.Proof.Gen.Group.Points
public import proofs.«01_k».proof.Proof.Gen.Group.Frame
public import proofs.«01_k».proof.Proof.Gen.GroupIdeal
public import proofs.«01_k».proof.Proof.Gen.GroupIdeal.Skeleton
public import proofs.«01_k».proof.Proof.Gen.GroupIdeal.Launch
public import proofs.«01_k».proof.Proof.Gen.GroupIdeal.Points
public import proofs.«01_k».proof.Proof.Gen.GroupIdeal.Frame
public import proofs.«01_k».proof.Proof.Gen.GroupIdeal.Value
public import proofs.«01_k».proof.Proof.Gen.GroupRefIdeal
public import proofs.«01_k».proof.Proof.Gen.GroupRefIdeal.Run
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidIdeal.Value
public import proofs.«01_k».proof.Proof.Gen.MidRefIdeal
public import proofs.«01_k».proof.Proof.Gen.MidRefIdeal.Run
public import proofs.«01_k».proof.Proof.Gen.MidS
public import proofs.«01_k».proof.Proof.Gen.MidS.Skeleton
public import proofs.«01_k».proof.Proof.Gen.MidS.Launch
public import proofs.«01_k».proof.Proof.Gen.MidS.Points
public import proofs.«01_k».proof.Proof.Gen.MidS.Frame
public import proofs.«01_k».proof.Proof.Gen.MidSIdeal
public import proofs.«01_k».proof.Proof.Gen.MidSIdeal.Skeleton
public import proofs.«01_k».proof.Proof.Gen.MidSIdeal.Launch
public import proofs.«01_k».proof.Proof.Gen.MidSIdeal.Points
public import proofs.«01_k».proof.Proof.Gen.MidSIdeal.Frame
public import proofs.«01_k».proof.Proof.Gen.MidSIdeal.Value
public import proofs.«01_k».proof.Proof.Gen.MidSRefIdeal
public import proofs.«01_k».proof.Proof.Gen.MidSRefIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Swiglu.Gen.facts, Cert.SwigluIdeal.Gen.facts, Cert.SwigluRefIdeal.Gen.facts,
  Cert.Down.Gen.facts, Cert.DownIdeal.Gen.facts, Cert.DownRefIdeal.Gen.facts,
  Cert.OutProj.Gen.facts, Cert.OutProjIdeal.Gen.facts, Cert.OutProjRefIdeal.Gen.facts,
  Cert.InRg.Gen.facts, Cert.InRgIdeal.Gen.facts, Cert.InRgRefIdeal.Gen.facts,
  Cert.Kv.Gen.facts, Cert.KvIdeal.Gen.facts, Cert.KvRefIdeal.Gen.facts,
  Cert.KvS.Gen.facts, Cert.KvSIdeal.Gen.facts, Cert.KvSRefIdeal.Gen.facts,
  Cert.InRgS.Gen.facts, Cert.InRgSIdeal.Gen.facts, Cert.InRgSRefIdeal.Gen.facts,
  Cert.Qi.Gen.facts, Cert.QiIdeal.Gen.facts, Cert.QiRefIdeal.Gen.facts,
  Cert.IdxKey.Gen.facts, Cert.IdxKeyIdeal.Gen.facts, Cert.IdxKeyRefIdeal.Gen.facts,
  Cert.IdxKeyS.Gen.facts, Cert.IdxKeySIdeal.Gen.facts, Cert.IdxKeySRefIdeal.Gen.facts,
  Cert.Final.Gen.facts, Cert.FinalIdeal.Gen.facts, Cert.FinalRefIdeal.Gen.facts,
  Cert.FinalS.Gen.facts, Cert.FinalSIdeal.Gen.facts, Cert.FinalSRefIdeal.Gen.facts,
  Cert.Step.Gen.facts, Cert.StepIdeal.Gen.facts, Cert.StepRefIdeal.Gen.facts,
  Cert.Mod.Gen.facts, Cert.ModIdeal.Gen.facts, Cert.ModRefIdeal.Gen.facts,
  Cert.Pre.Gen.facts, Cert.PreIdeal.Gen.facts, Cert.PreRefIdeal.Gen.facts,
  Cert.PreS.Gen.facts, Cert.PreSIdeal.Gen.facts, Cert.PreSRefIdeal.Gen.facts,
  Cert.Group.Gen.facts, Cert.GroupIdeal.Gen.facts, Cert.GroupRefIdeal.Gen.facts,
  Cert.Mid.Gen.facts, Cert.MidIdeal.Gen.facts, Cert.MidRefIdeal.Gen.facts,
  Cert.MidS.Gen.facts, Cert.MidSIdeal.Gen.facts, Cert.MidSRefIdeal.Gen.facts,
  fun m ρ _ => Cert.Kernel.Gen.frame m ρ, fun m ρ _ => Cert.KernelIdeal.Gen.frame m ρ, Cert.Proof.Rglru.frame_ref,
  fun m ρ _ => Cert.Swiglu.Gen.frame m ρ, fun m ρ _ => Cert.SwigluIdeal.Gen.frame m ρ, Cert.Proof.Swiglu.frame_ref,
  fun m ρ _ => Cert.Down.Gen.frame m ρ, fun m ρ _ => Cert.DownIdeal.Gen.frame m ρ, Cert.Proof.Down.frame_ref,
  fun m ρ _ => Cert.OutProj.Gen.frame m ρ, fun m ρ _ => Cert.OutProjIdeal.Gen.frame m ρ, Cert.Proof.OutProj.frame_ref,
  fun m ρ _ => Cert.InRg.Gen.frame m ρ, fun m ρ _ => Cert.InRgIdeal.Gen.frame m ρ, Cert.Proof.InRg.frame_ref,
  fun m ρ _ => Cert.Kv.Gen.frame m ρ, fun m ρ _ => Cert.KvIdeal.Gen.frame m ρ, Cert.Proof.Kv.frame_ref,
  fun m ρ _ => Cert.KvS.Gen.frame m ρ, fun m ρ _ => Cert.KvSIdeal.Gen.frame m ρ, Cert.Proof.KvS.frame_ref,
  fun m ρ _ => Cert.InRgS.Gen.frame m ρ, fun m ρ _ => Cert.InRgSIdeal.Gen.frame m ρ, Cert.Proof.InRgS.frame_ref,
  fun m ρ _ => Cert.Qi.Gen.frame m ρ, fun m ρ _ => Cert.QiIdeal.Gen.frame m ρ, Cert.Proof.Qi.frame_ref,
  fun m ρ _ => Cert.IdxKey.Gen.frame m ρ, fun m ρ _ => Cert.IdxKeyIdeal.Gen.frame m ρ, Cert.Proof.IdxKey.frame_ref,
  fun m ρ _ => Cert.IdxKeyS.Gen.frame m ρ, fun m ρ _ => Cert.IdxKeySIdeal.Gen.frame m ρ, Cert.Proof.IdxKeyS.frame_ref,
  fun m ρ _ => Cert.Final.Gen.frame m ρ, fun m ρ _ => Cert.FinalIdeal.Gen.frame m ρ, Cert.Proof.Final.frame_ref,
  fun m ρ _ => Cert.FinalS.Gen.frame m ρ, fun m ρ _ => Cert.FinalSIdeal.Gen.frame m ρ, Cert.Proof.FinalS.frame_ref,
  fun m ρ _ => Cert.Step.Gen.frame m ρ, fun m ρ _ => Cert.StepIdeal.Gen.frame m ρ, Cert.Proof.Step.frame_ref,
  fun m ρ _ => Cert.Mod.Gen.frame m ρ, fun m ρ _ => Cert.ModIdeal.Gen.frame m ρ, Cert.Proof.Mod.frame_ref,
  fun m ρ _ => Cert.Pre.Gen.frame m ρ, fun m ρ _ => Cert.PreIdeal.Gen.frame m ρ, Cert.Proof.Pre.frame_ref,
  fun m ρ _ => Cert.PreS.Gen.frame m ρ, fun m ρ _ => Cert.PreSIdeal.Gen.frame m ρ, Cert.Proof.PreS.frame_ref,
  fun m ρ _ => Cert.Group.Gen.frame m ρ, fun m ρ _ => Cert.GroupIdeal.Gen.frame m ρ, Cert.Proof.Group.frame_ref,
  fun m ρ _ => Cert.Mid.Gen.frame m ρ, fun m ρ _ => Cert.MidIdeal.Gen.frame m ρ, Cert.Proof.Mid.frame_ref,
  fun m ρ _ => Cert.MidS.Gen.frame m ρ, fun m ρ _ => Cert.MidSIdeal.Gen.frame m ρ, Cert.Proof.MidS.frame_ref,
  trivial, Cert.Proof.Rglru.algebraic,
  trivial, Cert.Proof.Swiglu.algebraic,
  trivial, Cert.Proof.Down.algebraic,
  trivial, Cert.Proof.OutProj.algebraic,
  trivial, Cert.Proof.InRg.algebraic,
  trivial, Cert.Proof.Kv.algebraic,
  trivial, Cert.Proof.KvS.algebraic,
  trivial, Cert.Proof.InRgS.algebraic,
  trivial, Cert.Proof.Qi.algebraic,
  trivial, Cert.Proof.IdxKey.algebraic,
  trivial, Cert.Proof.IdxKeyS.algebraic,
  trivial, Cert.Proof.Final.algebraic,
  trivial, Cert.Proof.FinalS.algebraic,
  trivial, Cert.Proof.Step.algebraic,
  trivial, Cert.Proof.Mod.algebraic,
  trivial, Cert.Proof.Pre.algebraic,
  trivial, Cert.Proof.PreS.algebraic,
  trivial, Cert.Proof.Group.algebraic,
  trivial, Cert.Proof.Mid.algebraic,
  trivial, Cert.Proof.MidS.algebraic⟩

end Cert.Proof

end
